-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v27)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v69_0)) (v1 : (c : Dev Cert.Kernel3Ideal.nD) → Buf (Elt Ideal) ((c.tc : Thread Cert.Kernel3Ideal.nD Cert.Kernel3Ideal.τ).loc Cert.Kernel3Ideal.main_v69_1)) (v2 : (c : Dev Cert.Kernel3Ideal.nD) → Buf (Elt Ideal) ((c.tc : Thread Cert.Kernel3Ideal.nD Cert.Kernel3Ideal.τ).loc Cert.Kernel3Ideal.main_v69_2)) (v3 : (c : Dev Cert.Kernel3Ideal.nD) → Buf (Elt Ideal) ((c.tc : Thread Cert.Kernel3Ideal.nD Cert.Kernel3Ideal.τ).loc Cert.Kernel3Ideal.main_v69_3)) (v4 : (c : Dev Cert.Kernel3Ideal.nD) → Buf (Elt Ideal) ((c.tc : Thread Cert.Kernel3Ideal.nD Cert.Kernel3Ideal.τ).loc Cert.Kernel3Ideal.main_v69_4)) (v5 : (c : Dev Cert.Kernel3Ideal.nD) → Buf (Elt Ideal) ((c.tc : Thread Cert.Kernel3Ideal.nD Cert.Kernel3Ideal.τ).loc Cert.Kernel3Ideal.main_v69_5)) (v6 : (c : Dev Cert.Kernel3Ideal.nD) → Buf (Elt Ideal) ((c.tc : Thread Cert.Kernel3Ideal.nD Cert.Kernel3Ideal.τ).loc Cert.Kernel3Ideal.main_v69_6)) (v7 : (c : Dev Cert.Kernel3Ideal.nD) → Buf (Elt Ideal) ((c.tc : Thread Cert.Kernel3Ideal.nD Cert.Kernel3Ideal.τ).loc Cert.Kernel3Ideal.main_v69_7)) (v8 : (c : Dev Cert.Kernel3Ideal.nD) → Buf (Elt Ideal) ((c.tc : Thread Cert.Kernel3Ideal.nD Cert.Kernel3Ideal.τ).loc Cert.Kernel3Ideal.main_v69_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v69_0) = v0 c
          ∧ r.2.mem ((c.tc : Thread Cert.Kernel3Ideal.nD Cert.Kernel3Ideal.τ).loc Cert.Kernel3Ideal.main_v69_1) = v1 c
          ∧ r.2.mem ((c.tc : Thread Cert.Kernel3Ideal.nD Cert.Kernel3Ideal.τ).loc Cert.Kernel3Ideal.main_v69_2) = v2 c
          ∧ r.2.mem ((c.tc : Thread Cert.Kernel3Ideal.nD Cert.Kernel3Ideal.τ).loc Cert.Kernel3Ideal.main_v69_3) = v3 c
          ∧ r.2.mem ((c.tc : Thread Cert.Kernel3Ideal.nD Cert.Kernel3Ideal.τ).loc Cert.Kernel3Ideal.main_v69_4) = v4 c
          ∧ r.2.mem ((c.tc : Thread Cert.Kernel3Ideal.nD Cert.Kernel3Ideal.τ).loc Cert.Kernel3Ideal.main_v69_5) = v5 c
          ∧ r.2.mem ((c.tc : Thread Cert.Kernel3Ideal.nD Cert.Kernel3Ideal.τ).loc Cert.Kernel3Ideal.main_v69_6) = v6 c
          ∧ r.2.mem ((c.tc : Thread Cert.Kernel3Ideal.nD Cert.Kernel3Ideal.τ).loc Cert.Kernel3Ideal.main_v69_7) = v7 c
          ∧ r.2.mem ((c.tc : Thread Cert.Kernel3Ideal.nD Cert.Kernel3Ideal.τ).loc Cert.Kernel3Ideal.main_v69_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v168) = v0 c
          ∧ r.2.mem ((c.tc : Thread Cert.Reference3Ideal.nD Cert.Reference3Ideal.τ).loc Cert.Reference3Ideal.main_v176) = v1 c
          ∧ r.2.mem ((c.tc : Thread Cert.Reference3Ideal.nD Cert.Reference3Ideal.τ).loc Cert.Reference3Ideal.main_v178) = v2 c
          ∧ r.2.mem ((c.tc : Thread Cert.Reference3Ideal.nD Cert.Reference3Ideal.τ).loc Cert.Reference3Ideal.main_v185) = v3 c
          ∧ r.2.mem ((c.tc : Thread Cert.Reference3Ideal.nD Cert.Reference3Ideal.τ).loc Cert.Reference3Ideal.main_v190) = v4 c
          ∧ r.2.mem ((c.tc : Thread Cert.Reference3Ideal.nD Cert.Reference3Ideal.τ).loc Cert.Reference3Ideal.main_v194) = v5 c
          ∧ r.2.mem ((c.tc : Thread Cert.Reference3Ideal.nD Cert.Reference3Ideal.τ).loc Cert.Reference3Ideal.main_v198) = v6 c
          ∧ r.2.mem ((c.tc : Thread Cert.Reference3Ideal.nD Cert.Reference3Ideal.τ).loc Cert.Reference3Ideal.main_v202) = v7 c
          ∧ r.2.mem ((c.tc : Thread Cert.Reference3Ideal.nD Cert.Reference3Ideal.τ).loc Cert.Reference3Ideal.main_v203) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S256x8x128x128 : Shape := ⟨4, ![256, 8, 128, 128]⟩
abbrev S8x4096x128 : Shape := ⟨3, ![8, 4096, 128]⟩
abbrev S8x4096x512 : Shape := ⟨3, ![8, 4096, 512]⟩
abbrev S1x8x128x128 : Shape := ⟨4, ![1, 8, 128, 128]⟩
abbrev S1x128x128 : Shape := ⟨3, ![1, 128, 128]⟩
abbrev S1x4096x128 : Shape := ⟨3, ![1, 4096, 128]⟩
abbrev S1x128x512 : Shape := ⟨3, ![1, 128, 512]⟩
abbrev S4096x128 : Shape := ⟨2, ![4096, 128]⟩
abbrev S32x128x128 : Shape := ⟨3, ![32, 128, 128]⟩
abbrev S8x128 : Shape := ⟨2, ![8, 128]⟩
abbrev S16x1024x256 : Shape := ⟨3, ![16, 1024, 256]⟩
abbrev S1024x128 : Shape := ⟨2, ![1024, 128]⟩
abbrev S8x128x128 : Shape := ⟨3, ![8, 128, 128]⟩
abbrev S128x128 : Shape := ⟨2, ![128, 128]⟩
abbrev S256x128 : Shape := ⟨2, ![256, 128]⟩
abbrev S1x128 : Shape := ⟨2, ![1, 128]⟩
abbrev S1x256x128 : Shape := ⟨3, ![1, 256, 128]⟩
abbrev S256x1024 : Shape := ⟨2, ![256, 1024]⟩
abbrev S1x8x128 : Shape := ⟨3, ![1, 8, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S1024x256 : Shape := ⟨2, ![1024, 256]⟩
abbrev S128x256 : Shape := ⟨2, ![128, 256]⟩
abbrev S8x128x256 : Shape := ⟨3, ![8, 128, 256]⟩
abbrev S1x128x256 : Shape := ⟨3, ![1, 128, 256]⟩
abbrev S1x1024x256 : Shape := ⟨3, ![1, 1024, 256]⟩
abbrev S1024 : Shape := ⟨1, ![1024]⟩
abbrev S1024x1 : Shape := ⟨2, ![1024, 1]⟩
abbrev S1024x2048 : Shape := ⟨2, ![1024, 2048]⟩
abbrev S1x2048x128 : Shape := ⟨3, ![1, 2048, 128]⟩
abbrev S2048x128 : Shape := ⟨2, ![2048, 128]⟩
abbrev S1024x1024 : Shape := ⟨2, ![1024, 1024]⟩
abbrev S1x1024x128 : Shape := ⟨3, ![1, 1024, 128]⟩
abbrev S1024x512 : Shape := ⟨2, ![1024, 512]⟩
abbrev S1x512x128 : Shape := ⟨3, ![1, 512, 128]⟩
abbrev S512x128 : Shape := ⟨2, ![512, 128]⟩

abbrev nBuf : Space → Nat
  | .hbm => 7
  | .vmem => 20
  | .smem => 0
  | _ => 0

abbrev bufTy : (tb : Table) → Fin (tcTables nBuf tb) → BufTy
  | .hbm, ⟨0, _⟩ => ⟨S256x8x128x128, .bf16⟩
  | .hbm, ⟨1, _⟩ => ⟨S256x8x128x128, .bf16⟩
  | .hbm, ⟨2, _⟩ => ⟨S8x4096x128, .f32⟩
  | .hbm, ⟨3, _⟩ => ⟨S8x4096x128, .bf16⟩
  | .hbm, ⟨4, _⟩ => ⟨S8x4096x128, .bf16⟩
  | .hbm, ⟨5, _⟩ => ⟨S8x4096x128, .bf16⟩
  | .hbm, ⟨6, _⟩ => ⟨S8x4096x512, .f32⟩
  | .local _ .vmem, ⟨0, _⟩ => ⟨S1x8x128x128, .bf16⟩
  | .local _ .vmem, ⟨1, _⟩ => ⟨S1x8x128x128, .bf16⟩
  | .local _ .vmem, ⟨2, _⟩ => ⟨S1x8x128x128, .bf16⟩
  | .local _ .vmem, ⟨3, _⟩ => ⟨S1x8x128x128, .bf16⟩
  | .local _ .vmem, ⟨4, _⟩ => ⟨S1x128x128, .f32⟩
  | .local _ .vmem, ⟨5, _⟩ => ⟨S1x128x128, .f32⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x128x512, .f32⟩
  | .local _ .vmem, ⟨13, _⟩ => ⟨S1x128x512, .f32⟩
  | .local _ .vmem, ⟨14, _⟩ => ⟨S4096x128, .f32⟩
  | .local _ .vmem, ⟨15, _⟩ => ⟨S32x128x128, .i32⟩
  | .local _ .vmem, ⟨16, _⟩ => ⟨S8x128, .f32⟩
  | .local _ .vmem, ⟨17, _⟩ => ⟨S16x1024x256, .f32⟩
  | .local _ .vmem, ⟨18, _⟩ => ⟨S1024x128, .f32⟩
  | .local _ .vmem, ⟨19, _⟩ => ⟨S1024x128, .f32⟩
  | _, _ => ⟨S256x8x128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![8, 32], ![false, false]⟩

@[reducible] def k0_t1_loop (i : grid0.Coords) : Scf.Loop 32 :=
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_30 : BitVec 32 := 1#32
  ⟨c0_i32_28, v63, c1_i32_30⟩
def k0_mult1 (i : grid0.Coords) (k0_t1 : Fin (k0_t1_loop i).trips) : BitVec 32 :=
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let c0_i32_163 : BitVec 32 := 0#32
  let v275 : BitVec 32 := Scalar.addi v274 c0_i32_163
  let c256_i32_164 : BitVec 32 := 256#32
  let v276 : BitVec 32 := Scalar.muli v275 c256_i32_164
  v276
def k0_off1 (i : grid0.Coords) (k0_t1 : Fin (k0_t1_loop i).trips) (c0_i32_163 : BitVec 32) : Fin 3 → Nat :=
  let c0_165 : Index := 0#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v275 : BitVec 32 := Scalar.addi v274 c0_i32_163
  let c256_i32_164 : BitVec 32 := 256#32
  let v276 : BitVec 32 := Scalar.muli v275 c256_i32_164
  let v277 : BitVec 32 := v276
  let v278 : Index := Scalar.indexCast v277
  let c0_166 : Index := 0#32
  ![0, v278.toNat, 0]
def k0_off2 (i : grid0.Coords) (k0_t1 : Fin (k0_t1_loop i).trips) (c0_i32_163 : BitVec 32) : Fin 2 → Nat :=
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v275 : BitVec 32 := Scalar.addi v274 c0_i32_163
  let c256_i32_164 : BitVec 32 := 256#32
  let v276 : BitVec 32 := Scalar.muli v275 c256_i32_164
  let v277 : BitVec 32 := v276
  let v345 : Index := Scalar.indexCast v277
  let c0_178 : Index := 0#32
  ![v345.toNat, 0]
def k0_mult2 (i : grid0.Coords) (k0_t1 : Fin (k0_t1_loop i).trips) : BitVec 32 :=
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let c0_i32_413 : BitVec 32 := 0#32
  let v1109 : BitVec 32 := Scalar.addi v274 c0_i32_413
  let c8_i32_414 : BitVec 32 := 8#32
  let v1110 : BitVec 32 := Scalar.muli v1109 c8_i32_414
  v1110
def k0_off3 (i : grid0.Coords) (k0_t1 : Fin (k0_t1_loop i).trips) (c0_i32_413 : BitVec 32) : Fin 3 → Nat :=
  let c0_415 : Index := 0#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1112 : Index := Scalar.indexCast v1111
  let c0_416 : Index := 0#32
  ![0, v1112.toNat, 0]
def k0_off4 (i : grid0.Coords) (k0_t1 : Fin (k0_t1_loop i).trips) (c0_i32_413 : BitVec 32) : Fin 3 → Nat :=
  let c1_417 : Index := 1#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1116 : Index := Scalar.indexCast v1111
  let c0_418 : Index := 0#32
  ![1, v1116.toNat, 0]
def k0_off5 (i : grid0.Coords) (k0_t1 : Fin (k0_t1_loop i).trips) (c0_i32_413 : BitVec 32) : Fin 3 → Nat :=
  let c2 : Index := 2#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1120 : Index := Scalar.indexCast v1111
  let c0_419 : Index := 0#32
  ![2, v1120.toNat, 0]
def k0_off6 (i : grid0.Coords) (k0_t1 : Fin (k0_t1_loop i).trips) (c0_i32_413 : BitVec 32) : Fin 3 → Nat :=
  let c3 : Index := 3#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1124 : Index := Scalar.indexCast v1111
  let c0_420 : Index := 0#32
  ![3, v1124.toNat, 0]
def k0_off7 (i : grid0.Coords) (k0_t1 : Fin (k0_t1_loop i).trips) (c0_i32_413 : BitVec 32) : Fin 3 → Nat :=
  let c4 : Index := 4#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1128 : Index := Scalar.indexCast v1111
  let c0_421 : Index := 0#32
  ![4, v1128.toNat, 0]
def k0_off8 (i : grid0.Coords) (k0_t1 : Fin (k0_t1_loop i).trips) (c0_i32_413 : BitVec 32) : Fin 3 → Nat :=
  let c5 : Index := 5#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1132 : Index := Scalar.indexCast v1111
  let c0_422 : Index := 0#32
  ![5, v1132.toNat, 0]
def k0_off9 (i : grid0.Coords) (k0_t1 : Fin (k0_t1_loop i).trips) (c0_i32_413 : BitVec 32) : Fin 3 → Nat :=
  let c6 : Index := 6#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1136 : Index := Scalar.indexCast v1111
  let c0_423 : Index := 0#32
  ![6, v1136.toNat, 0]
def k0_off10 (i : grid0.Coords) (k0_t1 : Fin (k0_t1_loop i).trips) (c0_i32_413 : BitVec 32) : Fin 3 → Nat :=
  let c7 : Index := 7#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1140 : Index := Scalar.indexCast v1111
  let c0_424 : Index := 0#32
  ![7, v1140.toNat, 0]
def k0_off11 (i : grid0.Coords) (k0_t1 : Fin (k0_t1_loop i).trips) (c0_i32_413 : BitVec 32) : Fin 3 → Nat :=
  let c8 : Index := 8#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1144 : Index := Scalar.indexCast v1111
  let c0_425 : Index := 0#32
  ![8, v1144.toNat, 0]
def k0_off12 (i : grid0.Coords) (k0_t1 : Fin (k0_t1_loop i).trips) (c0_i32_413 : BitVec 32) : Fin 3 → Nat :=
  let c9 : Index := 9#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1148 : Index := Scalar.indexCast v1111
  let c0_426 : Index := 0#32
  ![9, v1148.toNat, 0]
def k0_off13 (i : grid0.Coords) (k0_t1 : Fin (k0_t1_loop i).trips) (c0_i32_413 : BitVec 32) : Fin 3 → Nat :=
  let c10 : Index := 10#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1152 : Index := Scalar.indexCast v1111
  let c0_427 : Index := 0#32
  ![10, v1152.toNat, 0]
def k0_off14 (i : grid0.Coords) (k0_t1 : Fin (k0_t1_loop i).trips) (c0_i32_413 : BitVec 32) : Fin 3 → Nat :=
  let c11 : Index := 11#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1156 : Index := Scalar.indexCast v1111
  let c0_428 : Index := 0#32
  ![11, v1156.toNat, 0]
def k0_off15 (i : grid0.Coords) (k0_t1 : Fin (k0_t1_loop i).trips) (c0_i32_413 : BitVec 32) : Fin 3 → Nat :=
  let c12 : Index := 12#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1160 : Index := Scalar.indexCast v1111
  let c0_429 : Index := 0#32
  ![12, v1160.toNat, 0]
def k0_off16 (i : grid0.Coords) (k0_t1 : Fin (k0_t1_loop i).trips) (c0_i32_413 : BitVec 32) : Fin 3 → Nat :=
  let c13 : Index := 13#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1164 : Index := Scalar.indexCast v1111
  let c0_430 : Index := 0#32
  ![13, v1164.toNat, 0]
def k0_off17 (i : grid0.Coords) (k0_t1 : Fin (k0_t1_loop i).trips) (c0_i32_413 : BitVec 32) : Fin 3 → Nat :=
  let c14 : Index := 14#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1168 : Index := Scalar.indexCast v1111
  let c0_431 : Index := 0#32
  ![14, v1168.toNat, 0]
def k0_off18 (i : grid0.Coords) (k0_t1 : Fin (k0_t1_loop i).trips) (c0_i32_413 : BitVec 32) : Fin 3 → Nat :=
  let c15 : Index := 15#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1172 : Index := Scalar.indexCast v1111
  let c0_432 : Index := 0#32
  ![15, v1172.toNat, 0]
def k0_off19 (i : grid0.Coords) (k0_t1 : Fin (k0_t1_loop i).trips) (c0_i32_413 : BitVec 32) : Fin 3 → Nat :=
  let c16 : Index := 16#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1176 : Index := Scalar.indexCast v1111
  let c0_433 : Index := 0#32
  ![16, v1176.toNat, 0]
def k0_off20 (i : grid0.Coords) (k0_t1 : Fin (k0_t1_loop i).trips) (c0_i32_413 : BitVec 32) : Fin 3 → Nat :=
  let c17 : Index := 17#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1180 : Index := Scalar.indexCast v1111
  let c0_434 : Index := 0#32
  ![17, v1180.toNat, 0]
def k0_off21 (i : grid0.Coords) (k0_t1 : Fin (k0_t1_loop i).trips) (c0_i32_413 : BitVec 32) : Fin 3 → Nat :=
  let c18 : Index := 18#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1184 : Index := Scalar.indexCast v1111
  let c0_435 : Index := 0#32
  ![18, v1184.toNat, 0]
def k0_off22 (i : grid0.Coords) (k0_t1 : Fin (k0_t1_loop i).trips) (c0_i32_413 : BitVec 32) : Fin 3 → Nat :=
  let c19 : Index := 19#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1188 : Index := Scalar.indexCast v1111
  let c0_436 : Index := 0#32
  ![19, v1188.toNat, 0]
def k0_off23 (i : grid0.Coords) (k0_t1 : Fin (k0_t1_loop i).trips) (c0_i32_413 : BitVec 32) : Fin 3 → Nat :=
  let c20 : Index := 20#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1192 : Index := Scalar.indexCast v1111
  let c0_437 : Index := 0#32
  ![20, v1192.toNat, 0]
def k0_off24 (i : grid0.Coords) (k0_t1 : Fin (k0_t1_loop i).trips) (c0_i32_413 : BitVec 32) : Fin 3 → Nat :=
  let c21 : Index := 21#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1196 : Index := Scalar.indexCast v1111
  let c0_438 : Index := 0#32
  ![21, v1196.toNat, 0]
def k0_off25 (i : grid0.Coords) (k0_t1 : Fin (k0_t1_loop i).trips) (c0_i32_413 : BitVec 32) : Fin 3 → Nat :=
  let c22 : Index := 22#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1200 : Index := Scalar.indexCast v1111
  let c0_439 : Index := 0#32
  ![22, v1200.toNat, 0]
def k0_off26 (i : grid0.Coords) (k0_t1 : Fin (k0_t1_loop i).trips) (c0_i32_413 : BitVec 32) : Fin 3 → Nat :=
  let c23 : Index := 23#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1204 : Index := Scalar.indexCast v1111
  let c0_440 : Index := 0#32
  ![23, v1204.toNat, 0]
def k0_off27 (i : grid0.Coords) (k0_t1 : Fin (k0_t1_loop i).trips) (c0_i32_413 : BitVec 32) : Fin 3 → Nat :=
  let c24 : Index := 24#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1208 : Index := Scalar.indexCast v1111
  let c0_441 : Index := 0#32
  ![24, v1208.toNat, 0]
def k0_off28 (i : grid0.Coords) (k0_t1 : Fin (k0_t1_loop i).trips) (c0_i32_413 : BitVec 32) : Fin 3 → Nat :=
  let c25 : Index := 25#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1212 : Index := Scalar.indexCast v1111
  let c0_442 : Index := 0#32
  ![25, v1212.toNat, 0]
def k0_off29 (i : grid0.Coords) (k0_t1 : Fin (k0_t1_loop i).trips) (c0_i32_413 : BitVec 32) : Fin 3 → Nat :=
  let c26 : Index := 26#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1216 : Index := Scalar.indexCast v1111
  let c0_443 : Index := 0#32
  ![26, v1216.toNat, 0]
def k0_off30 (i : grid0.Coords) (k0_t1 : Fin (k0_t1_loop i).trips) (c0_i32_413 : BitVec 32) : Fin 3 → Nat :=
  let c27 : Index := 27#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1220 : Index := Scalar.indexCast v1111
  let c0_444 : Index := 0#32
  ![27, v1220.toNat, 0]
def k0_off31 (i : grid0.Coords) (k0_t1 : Fin (k0_t1_loop i).trips) (c0_i32_413 : BitVec 32) : Fin 3 → Nat :=
  let c28 : Index := 28#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1224 : Index := Scalar.indexCast v1111
  let c0_445 : Index := 0#32
  ![28, v1224.toNat, 0]
def k0_off32 (i : grid0.Coords) (k0_t1 : Fin (k0_t1_loop i).trips) (c0_i32_413 : BitVec 32) : Fin 3 → Nat :=
  let c29 : Index := 29#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1228 : Index := Scalar.indexCast v1111
  let c0_446 : Index := 0#32
  ![29, v1228.toNat, 0]
def k0_off33 (i : grid0.Coords) (k0_t1 : Fin (k0_t1_loop i).trips) (c0_i32_413 : BitVec 32) : Fin 3 → Nat :=
  let c30 : Index := 30#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1232 : Index := Scalar.indexCast v1111
  let c0_447 : Index := 0#32
  ![30, v1232.toNat, 0]
def k0_off34 (i : grid0.Coords) (k0_t1 : Fin (k0_t1_loop i).trips) (c0_i32_413 : BitVec 32) : Fin 3 → Nat :=
  let c31 : Index := 31#32
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1236 : Index := Scalar.indexCast v1111
  let c0_448 : Index := 0#32
  ![31, v1236.toNat, 0]
def k0_mult3 (i : grid0.Coords) (k0_t1 : Fin (k0_t1_loop i).trips) : BitVec 32 :=
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let c1_i32_449 : BitVec 32 := 1#32
  let v1240 : BitVec 32 := Scalar.addi v274 c1_i32_449
  let c256_i32_450 : BitVec 32 := 256#32
  let v1241 : BitVec 32 := Scalar.muli v1240 c256_i32_450
  v1241
def k0_mult4 (i : grid0.Coords) (k0_t1 : Fin (k0_t1_loop i).trips) : BitVec 32 :=
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let c1_i32_707 : BitVec 32 := 1#32
  let v2074 : BitVec 32 := Scalar.addi v274 c1_i32_707
  let c8_i32_708 : BitVec 32 := 8#32
  let v2075 : BitVec 32 := Scalar.muli v2074 c8_i32_708
  v2075
def k0_mult5 (i : grid0.Coords) (k0_t1 : Fin (k0_t1_loop i).trips) : BitVec 32 :=
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let c2_i32_773 : BitVec 32 := 2#32
  let v2205 : BitVec 32 := Scalar.addi v274 c2_i32_773
  let c256_i32_774 : BitVec 32 := 256#32
  let v2206 : BitVec 32 := Scalar.muli v2205 c256_i32_774
  v2206
def k0_mult6 (i : grid0.Coords) (k0_t1 : Fin (k0_t1_loop i).trips) : BitVec 32 :=
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let c2_i32_1031 : BitVec 32 := 2#32
  let v3039 : BitVec 32 := Scalar.addi v274 c2_i32_1031
  let c8_i32_1032 : BitVec 32 := 8#32
  let v3040 : BitVec 32 := Scalar.muli v3039 c8_i32_1032
  v3040
def k0_mult7 (i : grid0.Coords) (k0_t1 : Fin (k0_t1_loop i).trips) : BitVec 32 :=
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let c3_i32 : BitVec 32 := 3#32
  let v3170 : BitVec 32 := Scalar.addi v274 c3_i32
  let c256_i32_1097 : BitVec 32 := 256#32
  let v3171 : BitVec 32 := Scalar.muli v3170 c256_i32_1097
  v3171
def k0_mult8 (i : grid0.Coords) (k0_t1 : Fin (k0_t1_loop i).trips) : BitVec 32 :=
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let c3_i32_1354 : BitVec 32 := 3#32
  let v4004 : BitVec 32 := Scalar.addi v274 c3_i32_1354
  let c8_i32_1355 : BitVec 32 := 8#32
  let v4005 : BitVec 32 := Scalar.muli v4004 c8_i32_1355
  v4005
def k0_mult9 (i : grid0.Coords) (k0_t1 : Fin (k0_t1_loop i).trips) : BitVec 32 :=
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let c4_i32_1420 : BitVec 32 := 4#32
  let v4135 : BitVec 32 := Scalar.addi v274 c4_i32_1420
  let c256_i32_1421 : BitVec 32 := 256#32
  let v4136 : BitVec 32 := Scalar.muli v4135 c256_i32_1421
  v4136
def k0_mult10 (i : grid0.Coords) (k0_t1 : Fin (k0_t1_loop i).trips) : BitVec 32 :=
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let c4_i32_1678 : BitVec 32 := 4#32
  let v4969 : BitVec 32 := Scalar.addi v274 c4_i32_1678
  let c8_i32_1679 : BitVec 32 := 8#32
  let v4970 : BitVec 32 := Scalar.muli v4969 c8_i32_1679
  v4970
def k0_mult11 (i : grid0.Coords) (k0_t1 : Fin (k0_t1_loop i).trips) : BitVec 32 :=
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let c5_i32 : BitVec 32 := 5#32
  let v5100 : BitVec 32 := Scalar.addi v274 c5_i32
  let c256_i32_1744 : BitVec 32 := 256#32
  let v5101 : BitVec 32 := Scalar.muli v5100 c256_i32_1744
  v5101
def k0_mult12 (i : grid0.Coords) (k0_t1 : Fin (k0_t1_loop i).trips) : BitVec 32 :=
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let c5_i32_2001 : BitVec 32 := 5#32
  let v5934 : BitVec 32 := Scalar.addi v274 c5_i32_2001
  let c8_i32_2002 : BitVec 32 := 8#32
  let v5935 : BitVec 32 := Scalar.muli v5934 c8_i32_2002
  v5935
def k0_mult13 (i : grid0.Coords) (k0_t1 : Fin (k0_t1_loop i).trips) : BitVec 32 :=
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let c6_i32 : BitVec 32 := 6#32
  let v6065 : BitVec 32 := Scalar.addi v274 c6_i32
  let c256_i32_2067 : BitVec 32 := 256#32
  let v6066 : BitVec 32 := Scalar.muli v6065 c256_i32_2067
  v6066
def k0_mult14 (i : grid0.Coords) (k0_t1 : Fin (k0_t1_loop i).trips) : BitVec 32 :=
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let c6_i32_2324 : BitVec 32 := 6#32
  let v6899 : BitVec 32 := Scalar.addi v274 c6_i32_2324
  let c8_i32_2325 : BitVec 32 := 8#32
  let v6900 : BitVec 32 := Scalar.muli v6899 c8_i32_2325
  v6900
def k0_mult15 (i : grid0.Coords) (k0_t1 : Fin (k0_t1_loop i).trips) : BitVec 32 :=
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let c7_i32 : BitVec 32 := 7#32
  let v7030 : BitVec 32 := Scalar.addi v274 c7_i32
  let c256_i32_2390 : BitVec 32 := 256#32
  let v7031 : BitVec 32 := Scalar.muli v7030 c256_i32_2390
  v7031
def k0_mult16 (i : grid0.Coords) (k0_t1 : Fin (k0_t1_loop i).trips) : BitVec 32 :=
  let c0_i32_28 : BitVec 32 := 0#32
  let c1_i32_30 : BitVec 32 := 1#32
  let arg15 : BitVec 32 := Scf.iv c0_i32_28 c1_i32_30 k0_t1
  let c8_i32_162 : BitVec 32 := 8#32
  let v274 : BitVec 32 := Scalar.muli arg15 c8_i32_162
  let c7_i32_2647 : BitVec 32 := 7#32
  let v7864 : BitVec 32 := Scalar.addi v274 c7_i32_2647
  let c8_i32_2648 : BitVec 32 := 8#32
  let v7865 : BitVec 32 := Scalar.muli v7864 c8_i32_2648
  v7865
@[reducible] def k0_t2_loop (i : grid0.Coords) : Scf.Loop 32 :=
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let v60 : BitVec 32 := Scalar.addi c0_i32_28 v59
  let c1_i32_31 : BitVec 32 := 1#32
  ⟨v63, v60, c1_i32_31⟩
def k0_mult17 (i : grid0.Coords) (k0_t2 : Fin (k0_t2_loop i).trips) : BitVec 32 :=
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let c0_i32_163 : BitVec 32 := 0#32
  let v275 : BitVec 32 := Scalar.addi v274 c0_i32_163
  let c256_i32_164 : BitVec 32 := 256#32
  let v276 : BitVec 32 := Scalar.muli v275 c256_i32_164
  v276
def k0_off35 (i : grid0.Coords) (k0_t2 : Fin (k0_t2_loop i).trips) (c0_i32_163 : BitVec 32) : Fin 3 → Nat :=
  let c0_165 : Index := 0#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v275 : BitVec 32 := Scalar.addi v274 c0_i32_163
  let c256_i32_164 : BitVec 32 := 256#32
  let v276 : BitVec 32 := Scalar.muli v275 c256_i32_164
  let v277 : BitVec 32 := v276
  let v278 : Index := Scalar.indexCast v277
  let c0_166 : Index := 0#32
  ![0, v278.toNat, 0]
def k0_off36 (i : grid0.Coords) (k0_t2 : Fin (k0_t2_loop i).trips) (c0_i32_163 : BitVec 32) : Fin 2 → Nat :=
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v275 : BitVec 32 := Scalar.addi v274 c0_i32_163
  let c256_i32_164 : BitVec 32 := 256#32
  let v276 : BitVec 32 := Scalar.muli v275 c256_i32_164
  let v277 : BitVec 32 := v276
  let v345 : Index := Scalar.indexCast v277
  let c0_178 : Index := 0#32
  ![v345.toNat, 0]
def k0_mult18 (i : grid0.Coords) (k0_t2 : Fin (k0_t2_loop i).trips) : BitVec 32 :=
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let c0_i32_413 : BitVec 32 := 0#32
  let v1109 : BitVec 32 := Scalar.addi v274 c0_i32_413
  let c8_i32_414 : BitVec 32 := 8#32
  let v1110 : BitVec 32 := Scalar.muli v1109 c8_i32_414
  v1110
def k0_off37 (i : grid0.Coords) (k0_t2 : Fin (k0_t2_loop i).trips) (c0_i32_413 : BitVec 32) : Fin 3 → Nat :=
  let c0_415 : Index := 0#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1112 : Index := Scalar.indexCast v1111
  let c0_416 : Index := 0#32
  ![0, v1112.toNat, 0]
def k0_off38 (i : grid0.Coords) (k0_t2 : Fin (k0_t2_loop i).trips) (c0_i32_413 : BitVec 32) : Fin 3 → Nat :=
  let c1_417 : Index := 1#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1116 : Index := Scalar.indexCast v1111
  let c0_418 : Index := 0#32
  ![1, v1116.toNat, 0]
def k0_off39 (i : grid0.Coords) (k0_t2 : Fin (k0_t2_loop i).trips) (c0_i32_413 : BitVec 32) : Fin 3 → Nat :=
  let c2 : Index := 2#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1120 : Index := Scalar.indexCast v1111
  let c0_419 : Index := 0#32
  ![2, v1120.toNat, 0]
def k0_off40 (i : grid0.Coords) (k0_t2 : Fin (k0_t2_loop i).trips) (c0_i32_413 : BitVec 32) : Fin 3 → Nat :=
  let c3 : Index := 3#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1124 : Index := Scalar.indexCast v1111
  let c0_420 : Index := 0#32
  ![3, v1124.toNat, 0]
def k0_off41 (i : grid0.Coords) (k0_t2 : Fin (k0_t2_loop i).trips) (c0_i32_413 : BitVec 32) : Fin 3 → Nat :=
  let c4 : Index := 4#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1128 : Index := Scalar.indexCast v1111
  let c0_421 : Index := 0#32
  ![4, v1128.toNat, 0]
def k0_off42 (i : grid0.Coords) (k0_t2 : Fin (k0_t2_loop i).trips) (c0_i32_413 : BitVec 32) : Fin 3 → Nat :=
  let c5 : Index := 5#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1132 : Index := Scalar.indexCast v1111
  let c0_422 : Index := 0#32
  ![5, v1132.toNat, 0]
def k0_off43 (i : grid0.Coords) (k0_t2 : Fin (k0_t2_loop i).trips) (c0_i32_413 : BitVec 32) : Fin 3 → Nat :=
  let c6 : Index := 6#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1136 : Index := Scalar.indexCast v1111
  let c0_423 : Index := 0#32
  ![6, v1136.toNat, 0]
def k0_off44 (i : grid0.Coords) (k0_t2 : Fin (k0_t2_loop i).trips) (c0_i32_413 : BitVec 32) : Fin 3 → Nat :=
  let c7 : Index := 7#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1140 : Index := Scalar.indexCast v1111
  let c0_424 : Index := 0#32
  ![7, v1140.toNat, 0]
def k0_off45 (i : grid0.Coords) (k0_t2 : Fin (k0_t2_loop i).trips) (c0_i32_413 : BitVec 32) : Fin 3 → Nat :=
  let c8 : Index := 8#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1144 : Index := Scalar.indexCast v1111
  let c0_425 : Index := 0#32
  ![8, v1144.toNat, 0]
def k0_off46 (i : grid0.Coords) (k0_t2 : Fin (k0_t2_loop i).trips) (c0_i32_413 : BitVec 32) : Fin 3 → Nat :=
  let c9 : Index := 9#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1148 : Index := Scalar.indexCast v1111
  let c0_426 : Index := 0#32
  ![9, v1148.toNat, 0]
def k0_off47 (i : grid0.Coords) (k0_t2 : Fin (k0_t2_loop i).trips) (c0_i32_413 : BitVec 32) : Fin 3 → Nat :=
  let c10 : Index := 10#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1152 : Index := Scalar.indexCast v1111
  let c0_427 : Index := 0#32
  ![10, v1152.toNat, 0]
def k0_off48 (i : grid0.Coords) (k0_t2 : Fin (k0_t2_loop i).trips) (c0_i32_413 : BitVec 32) : Fin 3 → Nat :=
  let c11 : Index := 11#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1156 : Index := Scalar.indexCast v1111
  let c0_428 : Index := 0#32
  ![11, v1156.toNat, 0]
def k0_off49 (i : grid0.Coords) (k0_t2 : Fin (k0_t2_loop i).trips) (c0_i32_413 : BitVec 32) : Fin 3 → Nat :=
  let c12 : Index := 12#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1160 : Index := Scalar.indexCast v1111
  let c0_429 : Index := 0#32
  ![12, v1160.toNat, 0]
def k0_off50 (i : grid0.Coords) (k0_t2 : Fin (k0_t2_loop i).trips) (c0_i32_413 : BitVec 32) : Fin 3 → Nat :=
  let c13 : Index := 13#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1164 : Index := Scalar.indexCast v1111
  let c0_430 : Index := 0#32
  ![13, v1164.toNat, 0]
def k0_off51 (i : grid0.Coords) (k0_t2 : Fin (k0_t2_loop i).trips) (c0_i32_413 : BitVec 32) : Fin 3 → Nat :=
  let c14 : Index := 14#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1168 : Index := Scalar.indexCast v1111
  let c0_431 : Index := 0#32
  ![14, v1168.toNat, 0]
def k0_off52 (i : grid0.Coords) (k0_t2 : Fin (k0_t2_loop i).trips) (c0_i32_413 : BitVec 32) : Fin 3 → Nat :=
  let c15 : Index := 15#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1172 : Index := Scalar.indexCast v1111
  let c0_432 : Index := 0#32
  ![15, v1172.toNat, 0]
def k0_off53 (i : grid0.Coords) (k0_t2 : Fin (k0_t2_loop i).trips) (c0_i32_413 : BitVec 32) : Fin 3 → Nat :=
  let c16 : Index := 16#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1176 : Index := Scalar.indexCast v1111
  let c0_433 : Index := 0#32
  ![16, v1176.toNat, 0]
def k0_off54 (i : grid0.Coords) (k0_t2 : Fin (k0_t2_loop i).trips) (c0_i32_413 : BitVec 32) : Fin 3 → Nat :=
  let c17 : Index := 17#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1180 : Index := Scalar.indexCast v1111
  let c0_434 : Index := 0#32
  ![17, v1180.toNat, 0]
def k0_off55 (i : grid0.Coords) (k0_t2 : Fin (k0_t2_loop i).trips) (c0_i32_413 : BitVec 32) : Fin 3 → Nat :=
  let c18 : Index := 18#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1184 : Index := Scalar.indexCast v1111
  let c0_435 : Index := 0#32
  ![18, v1184.toNat, 0]
def k0_off56 (i : grid0.Coords) (k0_t2 : Fin (k0_t2_loop i).trips) (c0_i32_413 : BitVec 32) : Fin 3 → Nat :=
  let c19 : Index := 19#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1188 : Index := Scalar.indexCast v1111
  let c0_436 : Index := 0#32
  ![19, v1188.toNat, 0]
def k0_off57 (i : grid0.Coords) (k0_t2 : Fin (k0_t2_loop i).trips) (c0_i32_413 : BitVec 32) : Fin 3 → Nat :=
  let c20 : Index := 20#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1192 : Index := Scalar.indexCast v1111
  let c0_437 : Index := 0#32
  ![20, v1192.toNat, 0]
def k0_off58 (i : grid0.Coords) (k0_t2 : Fin (k0_t2_loop i).trips) (c0_i32_413 : BitVec 32) : Fin 3 → Nat :=
  let c21 : Index := 21#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1196 : Index := Scalar.indexCast v1111
  let c0_438 : Index := 0#32
  ![21, v1196.toNat, 0]
def k0_off59 (i : grid0.Coords) (k0_t2 : Fin (k0_t2_loop i).trips) (c0_i32_413 : BitVec 32) : Fin 3 → Nat :=
  let c22 : Index := 22#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1200 : Index := Scalar.indexCast v1111
  let c0_439 : Index := 0#32
  ![22, v1200.toNat, 0]
def k0_off60 (i : grid0.Coords) (k0_t2 : Fin (k0_t2_loop i).trips) (c0_i32_413 : BitVec 32) : Fin 3 → Nat :=
  let c23 : Index := 23#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1204 : Index := Scalar.indexCast v1111
  let c0_440 : Index := 0#32
  ![23, v1204.toNat, 0]
def k0_off61 (i : grid0.Coords) (k0_t2 : Fin (k0_t2_loop i).trips) (c0_i32_413 : BitVec 32) : Fin 3 → Nat :=
  let c24 : Index := 24#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1208 : Index := Scalar.indexCast v1111
  let c0_441 : Index := 0#32
  ![24, v1208.toNat, 0]
def k0_off62 (i : grid0.Coords) (k0_t2 : Fin (k0_t2_loop i).trips) (c0_i32_413 : BitVec 32) : Fin 3 → Nat :=
  let c25 : Index := 25#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1212 : Index := Scalar.indexCast v1111
  let c0_442 : Index := 0#32
  ![25, v1212.toNat, 0]
def k0_off63 (i : grid0.Coords) (k0_t2 : Fin (k0_t2_loop i).trips) (c0_i32_413 : BitVec 32) : Fin 3 → Nat :=
  let c26 : Index := 26#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1216 : Index := Scalar.indexCast v1111
  let c0_443 : Index := 0#32
  ![26, v1216.toNat, 0]
def k0_off64 (i : grid0.Coords) (k0_t2 : Fin (k0_t2_loop i).trips) (c0_i32_413 : BitVec 32) : Fin 3 → Nat :=
  let c27 : Index := 27#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1220 : Index := Scalar.indexCast v1111
  let c0_444 : Index := 0#32
  ![27, v1220.toNat, 0]
def k0_off65 (i : grid0.Coords) (k0_t2 : Fin (k0_t2_loop i).trips) (c0_i32_413 : BitVec 32) : Fin 3 → Nat :=
  let c28 : Index := 28#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1224 : Index := Scalar.indexCast v1111
  let c0_445 : Index := 0#32
  ![28, v1224.toNat, 0]
def k0_off66 (i : grid0.Coords) (k0_t2 : Fin (k0_t2_loop i).trips) (c0_i32_413 : BitVec 32) : Fin 3 → Nat :=
  let c29 : Index := 29#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1228 : Index := Scalar.indexCast v1111
  let c0_446 : Index := 0#32
  ![29, v1228.toNat, 0]
def k0_off67 (i : grid0.Coords) (k0_t2 : Fin (k0_t2_loop i).trips) (c0_i32_413 : BitVec 32) : Fin 3 → Nat :=
  let c30 : Index := 30#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1232 : Index := Scalar.indexCast v1111
  let c0_447 : Index := 0#32
  ![30, v1232.toNat, 0]
def k0_off68 (i : grid0.Coords) (k0_t2 : Fin (k0_t2_loop i).trips) (c0_i32_413 : BitVec 32) : Fin 3 → Nat :=
  let c31 : Index := 31#32
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let v1109 : BitVec 32 := Scalar.addi v274 c0_i32_413
  let c8_i32_414 : BitVec 32 := 8#32
  let v1110 : BitVec 32 := Scalar.muli v1109 c8_i32_414
  let v1111 : BitVec 32 := v1110
  let v1236 : Index := Scalar.indexCast v1111
  let c0_448 : Index := 0#32
  ![31, v1236.toNat, 0]
def k0_mult19 (i : grid0.Coords) (k0_t2 : Fin (k0_t2_loop i).trips) : BitVec 32 :=
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let c1_i32_449 : BitVec 32 := 1#32
  let v1240 : BitVec 32 := Scalar.addi v274 c1_i32_449
  let c256_i32_450 : BitVec 32 := 256#32
  let v1241 : BitVec 32 := Scalar.muli v1240 c256_i32_450
  v1241
def k0_mult20 (i : grid0.Coords) (k0_t2 : Fin (k0_t2_loop i).trips) : BitVec 32 :=
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let c1_i32_707 : BitVec 32 := 1#32
  let v2074 : BitVec 32 := Scalar.addi v274 c1_i32_707
  let c8_i32_708 : BitVec 32 := 8#32
  let v2075 : BitVec 32 := Scalar.muli v2074 c8_i32_708
  v2075
def k0_mult21 (i : grid0.Coords) (k0_t2 : Fin (k0_t2_loop i).trips) : BitVec 32 :=
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let c2_i32_773 : BitVec 32 := 2#32
  let v2205 : BitVec 32 := Scalar.addi v274 c2_i32_773
  let c256_i32_774 : BitVec 32 := 256#32
  let v2206 : BitVec 32 := Scalar.muli v2205 c256_i32_774
  v2206
def k0_mult22 (i : grid0.Coords) (k0_t2 : Fin (k0_t2_loop i).trips) : BitVec 32 :=
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let c2_i32_1031 : BitVec 32 := 2#32
  let v3039 : BitVec 32 := Scalar.addi v274 c2_i32_1031
  let c8_i32_1032 : BitVec 32 := 8#32
  let v3040 : BitVec 32 := Scalar.muli v3039 c8_i32_1032
  v3040
def k0_mult23 (i : grid0.Coords) (k0_t2 : Fin (k0_t2_loop i).trips) : BitVec 32 :=
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let c3_i32 : BitVec 32 := 3#32
  let v3170 : BitVec 32 := Scalar.addi v274 c3_i32
  let c256_i32_1097 : BitVec 32 := 256#32
  let v3171 : BitVec 32 := Scalar.muli v3170 c256_i32_1097
  v3171
def k0_mult24 (i : grid0.Coords) (k0_t2 : Fin (k0_t2_loop i).trips) : BitVec 32 :=
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let c3_i32_1354 : BitVec 32 := 3#32
  let v4004 : BitVec 32 := Scalar.addi v274 c3_i32_1354
  let c8_i32_1355 : BitVec 32 := 8#32
  let v4005 : BitVec 32 := Scalar.muli v4004 c8_i32_1355
  v4005
def k0_mult25 (i : grid0.Coords) (k0_t2 : Fin (k0_t2_loop i).trips) : BitVec 32 :=
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let c4_i32_1420 : BitVec 32 := 4#32
  let v4135 : BitVec 32 := Scalar.addi v274 c4_i32_1420
  let c256_i32_1421 : BitVec 32 := 256#32
  let v4136 : BitVec 32 := Scalar.muli v4135 c256_i32_1421
  v4136
def k0_mult26 (i : grid0.Coords) (k0_t2 : Fin (k0_t2_loop i).trips) : BitVec 32 :=
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let c4_i32_1678 : BitVec 32 := 4#32
  let v4969 : BitVec 32 := Scalar.addi v274 c4_i32_1678
  let c8_i32_1679 : BitVec 32 := 8#32
  let v4970 : BitVec 32 := Scalar.muli v4969 c8_i32_1679
  v4970
def k0_mult27 (i : grid0.Coords) (k0_t2 : Fin (k0_t2_loop i).trips) : BitVec 32 :=
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let c5_i32 : BitVec 32 := 5#32
  let v5100 : BitVec 32 := Scalar.addi v274 c5_i32
  let c256_i32_1744 : BitVec 32 := 256#32
  let v5101 : BitVec 32 := Scalar.muli v5100 c256_i32_1744
  v5101
def k0_mult28 (i : grid0.Coords) (k0_t2 : Fin (k0_t2_loop i).trips) : BitVec 32 :=
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let c5_i32_2001 : BitVec 32 := 5#32
  let v5934 : BitVec 32 := Scalar.addi v274 c5_i32_2001
  let c8_i32_2002 : BitVec 32 := 8#32
  let v5935 : BitVec 32 := Scalar.muli v5934 c8_i32_2002
  v5935
def k0_mult29 (i : grid0.Coords) (k0_t2 : Fin (k0_t2_loop i).trips) : BitVec 32 :=
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let c6_i32 : BitVec 32 := 6#32
  let v6065 : BitVec 32 := Scalar.addi v274 c6_i32
  let c256_i32_2067 : BitVec 32 := 256#32
  let v6066 : BitVec 32 := Scalar.muli v6065 c256_i32_2067
  v6066
def k0_mult30 (i : grid0.Coords) (k0_t2 : Fin (k0_t2_loop i).trips) : BitVec 32 :=
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let c6_i32_2324 : BitVec 32 := 6#32
  let v6899 : BitVec 32 := Scalar.addi v274 c6_i32_2324
  let c8_i32_2325 : BitVec 32 := 8#32
  let v6900 : BitVec 32 := Scalar.muli v6899 c8_i32_2325
  v6900
def k0_mult31 (i : grid0.Coords) (k0_t2 : Fin (k0_t2_loop i).trips) : BitVec 32 :=
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let c7_i32 : BitVec 32 := 7#32
  let v7030 : BitVec 32 := Scalar.addi v274 c7_i32
  let c256_i32_2390 : BitVec 32 := 256#32
  let v7031 : BitVec 32 := Scalar.muli v7030 c256_i32_2390
  v7031
def k0_mult32 (i : grid0.Coords) (k0_t2 : Fin (k0_t2_loop i).trips) : BitVec 32 :=
  let c0_i32_28 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_21 : BitVec 32 := 0#32
  let v43 : BitVec 1 := Scalar.cmpi .sgt v18 c0_i32_21
  let v44 : BitVec 32 := Scalar.extui v43
  let c0_i32_22 : BitVec 32 := 0#32
  let v45 : BitVec 1 := Scalar.cmpi .slt v18 c0_i32_22
  let v46 : BitVec 32 := Scalar.extui v45
  let v47 : BitVec 32 := Scalar.subi v44 v46
  let c8_i32 : BitVec 32 := 8#32
  let c0_i32_23 : BitVec 32 := 0#32
  let v48 : BitVec 1 := Scalar.cmpi .sgt c8_i32 c0_i32_23
  let v49 : BitVec 32 := Scalar.extui v48
  let c0_i32_24 : BitVec 32 := 0#32
  let v50 : BitVec 1 := Scalar.cmpi .slt c8_i32 c0_i32_24
  let v51 : BitVec 32 := Scalar.extui v50
  let v52 : BitVec 32 := Scalar.subi v49 v51
  let v53 : BitVec 1 := Scalar.cmpi .ne v47 v52
  let v54 : BitVec 32 := Scalar.remsi v18 c8_i32
  let c0_i32_25 : BitVec 32 := 0#32
  let v55 : BitVec 1 := Scalar.cmpi .ne v54 c0_i32_25
  let v56 : BitVec 1 := Scalar.andi v53 v55
  let v42 : BitVec 32 := Scalar.divsi v18 c8_i32
  let c1_i32_26 : BitVec 32 := 1#32
  let v57 : BitVec 32 := Scalar.subi v42 c1_i32_26
  let v58 : BitVec 32 := Scalar.select v56 v57 v42
  let v59 : BitVec 32 := Scalar.subi v58 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg15 : BitVec 32 := Scf.iv v63 c1_i32_31 k0_t2
  let c8_i32_162 : BitVec 32 := 8#32
  let v274 : BitVec 32 := Scalar.muli arg15 c8_i32_162
  let c7_i32_2647 : BitVec 32 := 7#32
  let v7864 : BitVec 32 := Scalar.addi v274 c7_i32_2647
  let c8_i32_2648 : BitVec 32 := 8#32
  let v7865 : BitVec 32 := Scalar.muli v7864 c8_i32_2648
  v7865
def k0_cond2 (i : grid0.Coords) : BitVec 1 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c4_i32 : BitVec 32 := 4#32
  let v64 : BitVec 32 := Scalar.andi v18 c4_i32
  let c0_i32_32 : BitVec 32 := 0#32
  let v65 : BitVec 1 := Scalar.cmpi .ne v64 c0_i32_32
  let v66 : BitVec 32 := Scalar.extui v65
  let c0_i32_34 : BitVec 32 := 0#32
  let v67 : BitVec 1 := Scalar.cmpi .ne v66 c0_i32_34
  v67

def k0_mult33 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let c0_i32_170 : BitVec 32 := 0#32
  let v292 : BitVec 32 := Scalar.addi v291 c0_i32_170
  let c256_i32_171 : BitVec 32 := 256#32
  let v293 : BitVec 32 := Scalar.muli v292 c256_i32_171
  v293
def k0_off69 (i : grid0.Coords) (c0_i32_170 : BitVec 32) : Fin 3 → Nat :=
  let c0_172 : Index := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v292 : BitVec 32 := Scalar.addi v291 c0_i32_170
  let c256_i32_171 : BitVec 32 := 256#32
  let v293 : BitVec 32 := Scalar.muli v292 c256_i32_171
  let v294 : BitVec 32 := v293
  let v295 : Index := Scalar.indexCast v294
  let c0_173 : Index := 0#32
  ![0, v295.toNat, 0]
def k0_off70 (i : grid0.Coords) (c0_i32_170 : BitVec 32) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v292 : BitVec 32 := Scalar.addi v291 c0_i32_170
  let c256_i32_171 : BitVec 32 := 256#32
  let v293 : BitVec 32 := Scalar.muli v292 c256_i32_171
  let v294 : BitVec 32 := v293
  let v362 : Index := Scalar.indexCast v294
  let c0_185 : Index := 0#32
  ![v362.toNat, 0]
def k0_mult34 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let c0_i32_420 : BitVec 32 := 0#32
  let v1126 : BitVec 32 := Scalar.addi v291 c0_i32_420
  let c8_i32_421 : BitVec 32 := 8#32
  let v1127 : BitVec 32 := Scalar.muli v1126 c8_i32_421
  v1127
def k0_off71 (i : grid0.Coords) (c0_i32_420 : BitVec 32) : Fin 3 → Nat :=
  let c0_422 : Index := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1129 : Index := Scalar.indexCast v1128
  let c0_423 : Index := 0#32
  ![0, v1129.toNat, 0]
def k0_off72 (i : grid0.Coords) (c0_i32_420 : BitVec 32) : Fin 3 → Nat :=
  let c1_424 : Index := 1#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1133 : Index := Scalar.indexCast v1128
  let c0_425 : Index := 0#32
  ![1, v1133.toNat, 0]
def k0_off73 (i : grid0.Coords) (c0_i32_420 : BitVec 32) : Fin 3 → Nat :=
  let c2 : Index := 2#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1137 : Index := Scalar.indexCast v1128
  let c0_426 : Index := 0#32
  ![2, v1137.toNat, 0]
def k0_off74 (i : grid0.Coords) (c0_i32_420 : BitVec 32) : Fin 3 → Nat :=
  let c3 : Index := 3#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1141 : Index := Scalar.indexCast v1128
  let c0_427 : Index := 0#32
  ![3, v1141.toNat, 0]
def k0_off75 (i : grid0.Coords) (c0_i32_420 : BitVec 32) : Fin 3 → Nat :=
  let c4 : Index := 4#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1145 : Index := Scalar.indexCast v1128
  let c0_428 : Index := 0#32
  ![4, v1145.toNat, 0]
def k0_off76 (i : grid0.Coords) (c0_i32_420 : BitVec 32) : Fin 3 → Nat :=
  let c5 : Index := 5#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1149 : Index := Scalar.indexCast v1128
  let c0_429 : Index := 0#32
  ![5, v1149.toNat, 0]
def k0_off77 (i : grid0.Coords) (c0_i32_420 : BitVec 32) : Fin 3 → Nat :=
  let c6 : Index := 6#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1153 : Index := Scalar.indexCast v1128
  let c0_430 : Index := 0#32
  ![6, v1153.toNat, 0]
def k0_off78 (i : grid0.Coords) (c0_i32_420 : BitVec 32) : Fin 3 → Nat :=
  let c7 : Index := 7#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1157 : Index := Scalar.indexCast v1128
  let c0_431 : Index := 0#32
  ![7, v1157.toNat, 0]
def k0_off79 (i : grid0.Coords) (c0_i32_420 : BitVec 32) : Fin 3 → Nat :=
  let c8 : Index := 8#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1161 : Index := Scalar.indexCast v1128
  let c0_432 : Index := 0#32
  ![8, v1161.toNat, 0]
def k0_off80 (i : grid0.Coords) (c0_i32_420 : BitVec 32) : Fin 3 → Nat :=
  let c9 : Index := 9#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1165 : Index := Scalar.indexCast v1128
  let c0_433 : Index := 0#32
  ![9, v1165.toNat, 0]
def k0_off81 (i : grid0.Coords) (c0_i32_420 : BitVec 32) : Fin 3 → Nat :=
  let c10 : Index := 10#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1169 : Index := Scalar.indexCast v1128
  let c0_434 : Index := 0#32
  ![10, v1169.toNat, 0]
def k0_off82 (i : grid0.Coords) (c0_i32_420 : BitVec 32) : Fin 3 → Nat :=
  let c11 : Index := 11#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1173 : Index := Scalar.indexCast v1128
  let c0_435 : Index := 0#32
  ![11, v1173.toNat, 0]
def k0_off83 (i : grid0.Coords) (c0_i32_420 : BitVec 32) : Fin 3 → Nat :=
  let c12 : Index := 12#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1177 : Index := Scalar.indexCast v1128
  let c0_436 : Index := 0#32
  ![12, v1177.toNat, 0]
def k0_off84 (i : grid0.Coords) (c0_i32_420 : BitVec 32) : Fin 3 → Nat :=
  let c13 : Index := 13#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1181 : Index := Scalar.indexCast v1128
  let c0_437 : Index := 0#32
  ![13, v1181.toNat, 0]
def k0_off85 (i : grid0.Coords) (c0_i32_420 : BitVec 32) : Fin 3 → Nat :=
  let c14 : Index := 14#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1185 : Index := Scalar.indexCast v1128
  let c0_438 : Index := 0#32
  ![14, v1185.toNat, 0]
def k0_off86 (i : grid0.Coords) (c0_i32_420 : BitVec 32) : Fin 3 → Nat :=
  let c15 : Index := 15#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1189 : Index := Scalar.indexCast v1128
  let c0_439 : Index := 0#32
  ![15, v1189.toNat, 0]
def k0_off87 (i : grid0.Coords) (c0_i32_420 : BitVec 32) : Fin 3 → Nat :=
  let c16 : Index := 16#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1193 : Index := Scalar.indexCast v1128
  let c0_440 : Index := 0#32
  ![16, v1193.toNat, 0]
def k0_off88 (i : grid0.Coords) (c0_i32_420 : BitVec 32) : Fin 3 → Nat :=
  let c17 : Index := 17#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1197 : Index := Scalar.indexCast v1128
  let c0_441 : Index := 0#32
  ![17, v1197.toNat, 0]
def k0_off89 (i : grid0.Coords) (c0_i32_420 : BitVec 32) : Fin 3 → Nat :=
  let c18 : Index := 18#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1201 : Index := Scalar.indexCast v1128
  let c0_442 : Index := 0#32
  ![18, v1201.toNat, 0]
def k0_off90 (i : grid0.Coords) (c0_i32_420 : BitVec 32) : Fin 3 → Nat :=
  let c19 : Index := 19#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1205 : Index := Scalar.indexCast v1128
  let c0_443 : Index := 0#32
  ![19, v1205.toNat, 0]
def k0_off91 (i : grid0.Coords) (c0_i32_420 : BitVec 32) : Fin 3 → Nat :=
  let c20 : Index := 20#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1209 : Index := Scalar.indexCast v1128
  let c0_444 : Index := 0#32
  ![20, v1209.toNat, 0]
def k0_off92 (i : grid0.Coords) (c0_i32_420 : BitVec 32) : Fin 3 → Nat :=
  let c21 : Index := 21#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1213 : Index := Scalar.indexCast v1128
  let c0_445 : Index := 0#32
  ![21, v1213.toNat, 0]
def k0_off93 (i : grid0.Coords) (c0_i32_420 : BitVec 32) : Fin 3 → Nat :=
  let c22 : Index := 22#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1217 : Index := Scalar.indexCast v1128
  let c0_446 : Index := 0#32
  ![22, v1217.toNat, 0]
def k0_off94 (i : grid0.Coords) (c0_i32_420 : BitVec 32) : Fin 3 → Nat :=
  let c23 : Index := 23#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1221 : Index := Scalar.indexCast v1128
  let c0_447 : Index := 0#32
  ![23, v1221.toNat, 0]
def k0_off95 (i : grid0.Coords) (c0_i32_420 : BitVec 32) : Fin 3 → Nat :=
  let c24 : Index := 24#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1225 : Index := Scalar.indexCast v1128
  let c0_448 : Index := 0#32
  ![24, v1225.toNat, 0]
def k0_off96 (i : grid0.Coords) (c0_i32_420 : BitVec 32) : Fin 3 → Nat :=
  let c25 : Index := 25#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1229 : Index := Scalar.indexCast v1128
  let c0_449 : Index := 0#32
  ![25, v1229.toNat, 0]
def k0_off97 (i : grid0.Coords) (c0_i32_420 : BitVec 32) : Fin 3 → Nat :=
  let c26 : Index := 26#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1233 : Index := Scalar.indexCast v1128
  let c0_450 : Index := 0#32
  ![26, v1233.toNat, 0]
def k0_off98 (i : grid0.Coords) (c0_i32_420 : BitVec 32) : Fin 3 → Nat :=
  let c27 : Index := 27#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1237 : Index := Scalar.indexCast v1128
  let c0_451 : Index := 0#32
  ![27, v1237.toNat, 0]
def k0_off99 (i : grid0.Coords) (c0_i32_420 : BitVec 32) : Fin 3 → Nat :=
  let c28 : Index := 28#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1241 : Index := Scalar.indexCast v1128
  let c0_452 : Index := 0#32
  ![28, v1241.toNat, 0]
def k0_off100 (i : grid0.Coords) (c0_i32_420 : BitVec 32) : Fin 3 → Nat :=
  let c29 : Index := 29#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1245 : Index := Scalar.indexCast v1128
  let c0_453 : Index := 0#32
  ![29, v1245.toNat, 0]
def k0_off101 (i : grid0.Coords) (c0_i32_420 : BitVec 32) : Fin 3 → Nat :=
  let c30 : Index := 30#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1249 : Index := Scalar.indexCast v1128
  let c0_454 : Index := 0#32
  ![30, v1249.toNat, 0]
def k0_off102 (i : grid0.Coords) (c0_i32_420 : BitVec 32) : Fin 3 → Nat :=
  let c31 : Index := 31#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v1126 : BitVec 32 := Scalar.addi v291 c0_i32_420
  let c8_i32_421 : BitVec 32 := 8#32
  let v1127 : BitVec 32 := Scalar.muli v1126 c8_i32_421
  let v1128 : BitVec 32 := v1127
  let v1253 : Index := Scalar.indexCast v1128
  let c0_455 : Index := 0#32
  ![31, v1253.toNat, 0]
def k0_mult35 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let c1_i32_456 : BitVec 32 := 1#32
  let v1257 : BitVec 32 := Scalar.addi v291 c1_i32_456
  let c256_i32_457 : BitVec 32 := 256#32
  let v1258 : BitVec 32 := Scalar.muli v1257 c256_i32_457
  v1258
def k0_mult36 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let c1_i32_714 : BitVec 32 := 1#32
  let v2091 : BitVec 32 := Scalar.addi v291 c1_i32_714
  let c8_i32_715 : BitVec 32 := 8#32
  let v2092 : BitVec 32 := Scalar.muli v2091 c8_i32_715
  v2092
def k0_mult37 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let c2_i32_780 : BitVec 32 := 2#32
  let v2222 : BitVec 32 := Scalar.addi v291 c2_i32_780
  let c256_i32_781 : BitVec 32 := 256#32
  let v2223 : BitVec 32 := Scalar.muli v2222 c256_i32_781
  v2223
def k0_mult38 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let c2_i32_1038 : BitVec 32 := 2#32
  let v3056 : BitVec 32 := Scalar.addi v291 c2_i32_1038
  let c8_i32_1039 : BitVec 32 := 8#32
  let v3057 : BitVec 32 := Scalar.muli v3056 c8_i32_1039
  v3057
def k0_mult39 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let c3_i32 : BitVec 32 := 3#32
  let v3187 : BitVec 32 := Scalar.addi v291 c3_i32
  let c256_i32_1104 : BitVec 32 := 256#32
  let v3188 : BitVec 32 := Scalar.muli v3187 c256_i32_1104
  v3188
def k0_mult40 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let c3_i32_1361 : BitVec 32 := 3#32
  let v4021 : BitVec 32 := Scalar.addi v291 c3_i32_1361
  let c8_i32_1362 : BitVec 32 := 8#32
  let v4022 : BitVec 32 := Scalar.muli v4021 c8_i32_1362
  v4022
def k0_cond3 (i : grid0.Coords) : BitVec 1 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c2_i32_43 : BitVec 32 := 2#32
  let v86 : BitVec 32 := Scalar.andi v18 c2_i32_43
  let c0_i32_44 : BitVec 32 := 0#32
  let v87 : BitVec 1 := Scalar.cmpi .ne v86 c0_i32_44
  let v88 : BitVec 32 := Scalar.extui v87
  let c0_i32_46 : BitVec 32 := 0#32
  let v89 : BitVec 1 := Scalar.cmpi .ne v88 c0_i32_46
  v89

def k0_mult41 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let c0_i32_162 : BitVec 32 := 0#32
  let v274 : BitVec 32 := Scalar.addi v85 c0_i32_162
  let c256_i32_163 : BitVec 32 := 256#32
  let v275 : BitVec 32 := Scalar.muli v274 c256_i32_163
  v275
def k0_off103 (i : grid0.Coords) (c0_i32_162 : BitVec 32) : Fin 3 → Nat :=
  let c0_164 : Index := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v274 : BitVec 32 := Scalar.addi v85 c0_i32_162
  let c256_i32_163 : BitVec 32 := 256#32
  let v275 : BitVec 32 := Scalar.muli v274 c256_i32_163
  let v276 : BitVec 32 := v275
  let v277 : Index := Scalar.indexCast v276
  let c0_165 : Index := 0#32
  ![0, v277.toNat, 0]
def k0_off104 (i : grid0.Coords) (c0_i32_162 : BitVec 32) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v274 : BitVec 32 := Scalar.addi v85 c0_i32_162
  let c256_i32_163 : BitVec 32 := 256#32
  let v275 : BitVec 32 := Scalar.muli v274 c256_i32_163
  let v276 : BitVec 32 := v275
  let v344 : Index := Scalar.indexCast v276
  let c0_177 : Index := 0#32
  ![v344.toNat, 0]
def k0_mult42 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let c0_i32_412 : BitVec 32 := 0#32
  let v1108 : BitVec 32 := Scalar.addi v85 c0_i32_412
  let c8_i32_413 : BitVec 32 := 8#32
  let v1109 : BitVec 32 := Scalar.muli v1108 c8_i32_413
  v1109
def k0_off105 (i : grid0.Coords) (c0_i32_412 : BitVec 32) : Fin 3 → Nat :=
  let c0_414 : Index := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1111 : Index := Scalar.indexCast v1110
  let c0_415 : Index := 0#32
  ![0, v1111.toNat, 0]
def k0_off106 (i : grid0.Coords) (c0_i32_412 : BitVec 32) : Fin 3 → Nat :=
  let c1_416 : Index := 1#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1115 : Index := Scalar.indexCast v1110
  let c0_417 : Index := 0#32
  ![1, v1115.toNat, 0]
def k0_off107 (i : grid0.Coords) (c0_i32_412 : BitVec 32) : Fin 3 → Nat :=
  let c2 : Index := 2#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1119 : Index := Scalar.indexCast v1110
  let c0_418 : Index := 0#32
  ![2, v1119.toNat, 0]
def k0_off108 (i : grid0.Coords) (c0_i32_412 : BitVec 32) : Fin 3 → Nat :=
  let c3 : Index := 3#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1123 : Index := Scalar.indexCast v1110
  let c0_419 : Index := 0#32
  ![3, v1123.toNat, 0]
def k0_off109 (i : grid0.Coords) (c0_i32_412 : BitVec 32) : Fin 3 → Nat :=
  let c4 : Index := 4#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1127 : Index := Scalar.indexCast v1110
  let c0_420 : Index := 0#32
  ![4, v1127.toNat, 0]
def k0_off110 (i : grid0.Coords) (c0_i32_412 : BitVec 32) : Fin 3 → Nat :=
  let c5 : Index := 5#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1131 : Index := Scalar.indexCast v1110
  let c0_421 : Index := 0#32
  ![5, v1131.toNat, 0]
def k0_off111 (i : grid0.Coords) (c0_i32_412 : BitVec 32) : Fin 3 → Nat :=
  let c6 : Index := 6#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1135 : Index := Scalar.indexCast v1110
  let c0_422 : Index := 0#32
  ![6, v1135.toNat, 0]
def k0_off112 (i : grid0.Coords) (c0_i32_412 : BitVec 32) : Fin 3 → Nat :=
  let c7 : Index := 7#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1139 : Index := Scalar.indexCast v1110
  let c0_423 : Index := 0#32
  ![7, v1139.toNat, 0]
def k0_off113 (i : grid0.Coords) (c0_i32_412 : BitVec 32) : Fin 3 → Nat :=
  let c8 : Index := 8#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1143 : Index := Scalar.indexCast v1110
  let c0_424 : Index := 0#32
  ![8, v1143.toNat, 0]
def k0_off114 (i : grid0.Coords) (c0_i32_412 : BitVec 32) : Fin 3 → Nat :=
  let c9 : Index := 9#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1147 : Index := Scalar.indexCast v1110
  let c0_425 : Index := 0#32
  ![9, v1147.toNat, 0]
def k0_off115 (i : grid0.Coords) (c0_i32_412 : BitVec 32) : Fin 3 → Nat :=
  let c10 : Index := 10#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1151 : Index := Scalar.indexCast v1110
  let c0_426 : Index := 0#32
  ![10, v1151.toNat, 0]
def k0_off116 (i : grid0.Coords) (c0_i32_412 : BitVec 32) : Fin 3 → Nat :=
  let c11 : Index := 11#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1155 : Index := Scalar.indexCast v1110
  let c0_427 : Index := 0#32
  ![11, v1155.toNat, 0]
def k0_off117 (i : grid0.Coords) (c0_i32_412 : BitVec 32) : Fin 3 → Nat :=
  let c12 : Index := 12#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1159 : Index := Scalar.indexCast v1110
  let c0_428 : Index := 0#32
  ![12, v1159.toNat, 0]
def k0_off118 (i : grid0.Coords) (c0_i32_412 : BitVec 32) : Fin 3 → Nat :=
  let c13 : Index := 13#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1163 : Index := Scalar.indexCast v1110
  let c0_429 : Index := 0#32
  ![13, v1163.toNat, 0]
def k0_off119 (i : grid0.Coords) (c0_i32_412 : BitVec 32) : Fin 3 → Nat :=
  let c14 : Index := 14#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1167 : Index := Scalar.indexCast v1110
  let c0_430 : Index := 0#32
  ![14, v1167.toNat, 0]
def k0_off120 (i : grid0.Coords) (c0_i32_412 : BitVec 32) : Fin 3 → Nat :=
  let c15 : Index := 15#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1171 : Index := Scalar.indexCast v1110
  let c0_431 : Index := 0#32
  ![15, v1171.toNat, 0]
def k0_off121 (i : grid0.Coords) (c0_i32_412 : BitVec 32) : Fin 3 → Nat :=
  let c16 : Index := 16#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1175 : Index := Scalar.indexCast v1110
  let c0_432 : Index := 0#32
  ![16, v1175.toNat, 0]
def k0_off122 (i : grid0.Coords) (c0_i32_412 : BitVec 32) : Fin 3 → Nat :=
  let c17 : Index := 17#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1179 : Index := Scalar.indexCast v1110
  let c0_433 : Index := 0#32
  ![17, v1179.toNat, 0]
def k0_off123 (i : grid0.Coords) (c0_i32_412 : BitVec 32) : Fin 3 → Nat :=
  let c18 : Index := 18#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1183 : Index := Scalar.indexCast v1110
  let c0_434 : Index := 0#32
  ![18, v1183.toNat, 0]
def k0_off124 (i : grid0.Coords) (c0_i32_412 : BitVec 32) : Fin 3 → Nat :=
  let c19 : Index := 19#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1187 : Index := Scalar.indexCast v1110
  let c0_435 : Index := 0#32
  ![19, v1187.toNat, 0]
def k0_off125 (i : grid0.Coords) (c0_i32_412 : BitVec 32) : Fin 3 → Nat :=
  let c20 : Index := 20#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1191 : Index := Scalar.indexCast v1110
  let c0_436 : Index := 0#32
  ![20, v1191.toNat, 0]
def k0_off126 (i : grid0.Coords) (c0_i32_412 : BitVec 32) : Fin 3 → Nat :=
  let c21 : Index := 21#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1195 : Index := Scalar.indexCast v1110
  let c0_437 : Index := 0#32
  ![21, v1195.toNat, 0]
def k0_off127 (i : grid0.Coords) (c0_i32_412 : BitVec 32) : Fin 3 → Nat :=
  let c22 : Index := 22#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1199 : Index := Scalar.indexCast v1110
  let c0_438 : Index := 0#32
  ![22, v1199.toNat, 0]
def k0_off128 (i : grid0.Coords) (c0_i32_412 : BitVec 32) : Fin 3 → Nat :=
  let c23 : Index := 23#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1203 : Index := Scalar.indexCast v1110
  let c0_439 : Index := 0#32
  ![23, v1203.toNat, 0]
def k0_off129 (i : grid0.Coords) (c0_i32_412 : BitVec 32) : Fin 3 → Nat :=
  let c24 : Index := 24#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1207 : Index := Scalar.indexCast v1110
  let c0_440 : Index := 0#32
  ![24, v1207.toNat, 0]
def k0_off130 (i : grid0.Coords) (c0_i32_412 : BitVec 32) : Fin 3 → Nat :=
  let c25 : Index := 25#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1211 : Index := Scalar.indexCast v1110
  let c0_441 : Index := 0#32
  ![25, v1211.toNat, 0]
def k0_off131 (i : grid0.Coords) (c0_i32_412 : BitVec 32) : Fin 3 → Nat :=
  let c26 : Index := 26#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1215 : Index := Scalar.indexCast v1110
  let c0_442 : Index := 0#32
  ![26, v1215.toNat, 0]
def k0_off132 (i : grid0.Coords) (c0_i32_412 : BitVec 32) : Fin 3 → Nat :=
  let c27 : Index := 27#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1219 : Index := Scalar.indexCast v1110
  let c0_443 : Index := 0#32
  ![27, v1219.toNat, 0]
def k0_off133 (i : grid0.Coords) (c0_i32_412 : BitVec 32) : Fin 3 → Nat :=
  let c28 : Index := 28#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1223 : Index := Scalar.indexCast v1110
  let c0_444 : Index := 0#32
  ![28, v1223.toNat, 0]
def k0_off134 (i : grid0.Coords) (c0_i32_412 : BitVec 32) : Fin 3 → Nat :=
  let c29 : Index := 29#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1227 : Index := Scalar.indexCast v1110
  let c0_445 : Index := 0#32
  ![29, v1227.toNat, 0]
def k0_off135 (i : grid0.Coords) (c0_i32_412 : BitVec 32) : Fin 3 → Nat :=
  let c30 : Index := 30#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1231 : Index := Scalar.indexCast v1110
  let c0_446 : Index := 0#32
  ![30, v1231.toNat, 0]
def k0_off136 (i : grid0.Coords) (c0_i32_412 : BitVec 32) : Fin 3 → Nat :=
  let c31 : Index := 31#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let v1108 : BitVec 32 := Scalar.addi v85 c0_i32_412
  let c8_i32_413 : BitVec 32 := 8#32
  let v1109 : BitVec 32 := Scalar.muli v1108 c8_i32_413
  let v1110 : BitVec 32 := v1109
  let v1235 : Index := Scalar.indexCast v1110
  let c0_447 : Index := 0#32
  ![31, v1235.toNat, 0]
def k0_mult43 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let c1_i32_448 : BitVec 32 := 1#32
  let v1239 : BitVec 32 := Scalar.addi v85 c1_i32_448
  let c256_i32_449 : BitVec 32 := 256#32
  let v1240 : BitVec 32 := Scalar.muli v1239 c256_i32_449
  v1240
def k0_mult44 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_36 : BitVec 32 := 0#32
  let v69 : BitVec 1 := Scalar.cmpi .sgt v18 c0_i32_36
  let v70 : BitVec 32 := Scalar.extui v69
  let c0_i32_37 : BitVec 32 := 0#32
  let v71 : BitVec 1 := Scalar.cmpi .slt v18 c0_i32_37
  let v72 : BitVec 32 := Scalar.extui v71
  let v73 : BitVec 32 := Scalar.subi v70 v72
  let c4_i32_35 : BitVec 32 := 4#32
  let c0_i32_38 : BitVec 32 := 0#32
  let v74 : BitVec 1 := Scalar.cmpi .sgt c4_i32_35 c0_i32_38
  let v75 : BitVec 32 := Scalar.extui v74
  let c0_i32_39 : BitVec 32 := 0#32
  let v76 : BitVec 1 := Scalar.cmpi .slt c4_i32_35 c0_i32_39
  let v77 : BitVec 32 := Scalar.extui v76
  let v78 : BitVec 32 := Scalar.subi v75 v77
  let v79 : BitVec 1 := Scalar.cmpi .ne v73 v78
  let v80 : BitVec 32 := Scalar.remsi v18 c4_i32_35
  let c0_i32_40 : BitVec 32 := 0#32
  let v81 : BitVec 1 := Scalar.cmpi .ne v80 c0_i32_40
  let v82 : BitVec 1 := Scalar.andi v79 v81
  let v68 : BitVec 32 := Scalar.divsi v18 c4_i32_35
  let c1_i32_41 : BitVec 32 := 1#32
  let v83 : BitVec 32 := Scalar.subi v68 c1_i32_41
  let v84 : BitVec 32 := Scalar.select v82 v83 v68
  let c4_i32_42 : BitVec 32 := 4#32
  let v85 : BitVec 32 := Scalar.muli v84 c4_i32_42
  let c1_i32_706 : BitVec 32 := 1#32
  let v2073 : BitVec 32 := Scalar.addi v85 c1_i32_706
  let c8_i32_707 : BitVec 32 := 8#32
  let v2074 : BitVec 32 := Scalar.muli v2073 c8_i32_707
  v2074
def k0_cond4 (i : grid0.Coords) : BitVec 1 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_47 : BitVec 32 := 1#32
  let v90 : BitVec 32 := Scalar.andi v18 c1_i32_47
  let c0_i32_48 : BitVec 32 := 0#32
  let v91 : BitVec 1 := Scalar.cmpi .ne v90 c0_i32_48
  let v92 : BitVec 32 := Scalar.extui v91
  let c0_i32_50 : BitVec 32 := 0#32
  let v93 : BitVec 1 := Scalar.cmpi .ne v92 c0_i32_50
  v93

def k0_mult45 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_163 : BitVec 32 := 0#32
  let v275 : BitVec 32 := Scalar.addi v274 c0_i32_163
  let c256_i32_164 : BitVec 32 := 256#32
  let v276 : BitVec 32 := Scalar.muli v275 c256_i32_164
  v276
def k0_off137 (i : grid0.Coords) : Fin 3 → Nat :=
  let c0_165 : Index := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_163 : BitVec 32 := 0#32
  let v275 : BitVec 32 := Scalar.addi v274 c0_i32_163
  let c256_i32_164 : BitVec 32 := 256#32
  let v276 : BitVec 32 := Scalar.muli v275 c256_i32_164
  let v277 : BitVec 32 := v276
  let v278 : Index := Scalar.indexCast v277
  let c0_166 : Index := 0#32
  ![0, v278.toNat, 0]
def k0_off138 (i : grid0.Coords) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_163 : BitVec 32 := 0#32
  let v275 : BitVec 32 := Scalar.addi v274 c0_i32_163
  let c256_i32_164 : BitVec 32 := 256#32
  let v276 : BitVec 32 := Scalar.muli v275 c256_i32_164
  let v277 : BitVec 32 := v276
  let v345 : Index := Scalar.indexCast v277
  let c0_178 : Index := 0#32
  ![v345.toNat, 0]
def k0_mult46 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  v1110
def k0_off139 (i : grid0.Coords) : Fin 3 → Nat :=
  let c0_415 : Index := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1112 : Index := Scalar.indexCast v1111
  let c0_416 : Index := 0#32
  ![0, v1112.toNat, 0]
def k0_off140 (i : grid0.Coords) : Fin 3 → Nat :=
  let c1_417 : Index := 1#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1116 : Index := Scalar.indexCast v1111
  let c0_418 : Index := 0#32
  ![1, v1116.toNat, 0]
def k0_off141 (i : grid0.Coords) : Fin 3 → Nat :=
  let c2 : Index := 2#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1120 : Index := Scalar.indexCast v1111
  let c0_419 : Index := 0#32
  ![2, v1120.toNat, 0]
def k0_off142 (i : grid0.Coords) : Fin 3 → Nat :=
  let c3 : Index := 3#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1124 : Index := Scalar.indexCast v1111
  let c0_420 : Index := 0#32
  ![3, v1124.toNat, 0]
def k0_off143 (i : grid0.Coords) : Fin 3 → Nat :=
  let c4 : Index := 4#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1128 : Index := Scalar.indexCast v1111
  let c0_421 : Index := 0#32
  ![4, v1128.toNat, 0]
def k0_off144 (i : grid0.Coords) : Fin 3 → Nat :=
  let c5 : Index := 5#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1132 : Index := Scalar.indexCast v1111
  let c0_422 : Index := 0#32
  ![5, v1132.toNat, 0]
def k0_off145 (i : grid0.Coords) : Fin 3 → Nat :=
  let c6 : Index := 6#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1136 : Index := Scalar.indexCast v1111
  let c0_423 : Index := 0#32
  ![6, v1136.toNat, 0]
def k0_off146 (i : grid0.Coords) : Fin 3 → Nat :=
  let c7 : Index := 7#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1140 : Index := Scalar.indexCast v1111
  let c0_424 : Index := 0#32
  ![7, v1140.toNat, 0]
def k0_off147 (i : grid0.Coords) : Fin 3 → Nat :=
  let c8 : Index := 8#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1144 : Index := Scalar.indexCast v1111
  let c0_425 : Index := 0#32
  ![8, v1144.toNat, 0]
def k0_off148 (i : grid0.Coords) : Fin 3 → Nat :=
  let c9 : Index := 9#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1148 : Index := Scalar.indexCast v1111
  let c0_426 : Index := 0#32
  ![9, v1148.toNat, 0]
def k0_off149 (i : grid0.Coords) : Fin 3 → Nat :=
  let c10 : Index := 10#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1152 : Index := Scalar.indexCast v1111
  let c0_427 : Index := 0#32
  ![10, v1152.toNat, 0]
def k0_off150 (i : grid0.Coords) : Fin 3 → Nat :=
  let c11 : Index := 11#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1156 : Index := Scalar.indexCast v1111
  let c0_428 : Index := 0#32
  ![11, v1156.toNat, 0]
def k0_off151 (i : grid0.Coords) : Fin 3 → Nat :=
  let c12 : Index := 12#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1160 : Index := Scalar.indexCast v1111
  let c0_429 : Index := 0#32
  ![12, v1160.toNat, 0]
def k0_off152 (i : grid0.Coords) : Fin 3 → Nat :=
  let c13 : Index := 13#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1164 : Index := Scalar.indexCast v1111
  let c0_430 : Index := 0#32
  ![13, v1164.toNat, 0]
def k0_off153 (i : grid0.Coords) : Fin 3 → Nat :=
  let c14 : Index := 14#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1168 : Index := Scalar.indexCast v1111
  let c0_431 : Index := 0#32
  ![14, v1168.toNat, 0]
def k0_off154 (i : grid0.Coords) : Fin 3 → Nat :=
  let c15 : Index := 15#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1172 : Index := Scalar.indexCast v1111
  let c0_432 : Index := 0#32
  ![15, v1172.toNat, 0]
def k0_off155 (i : grid0.Coords) : Fin 3 → Nat :=
  let c16 : Index := 16#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1176 : Index := Scalar.indexCast v1111
  let c0_433 : Index := 0#32
  ![16, v1176.toNat, 0]
def k0_off156 (i : grid0.Coords) : Fin 3 → Nat :=
  let c17 : Index := 17#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1180 : Index := Scalar.indexCast v1111
  let c0_434 : Index := 0#32
  ![17, v1180.toNat, 0]
def k0_off157 (i : grid0.Coords) : Fin 3 → Nat :=
  let c18 : Index := 18#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1184 : Index := Scalar.indexCast v1111
  let c0_435 : Index := 0#32
  ![18, v1184.toNat, 0]
def k0_off158 (i : grid0.Coords) : Fin 3 → Nat :=
  let c19 : Index := 19#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1188 : Index := Scalar.indexCast v1111
  let c0_436 : Index := 0#32
  ![19, v1188.toNat, 0]
def k0_off159 (i : grid0.Coords) : Fin 3 → Nat :=
  let c20 : Index := 20#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1192 : Index := Scalar.indexCast v1111
  let c0_437 : Index := 0#32
  ![20, v1192.toNat, 0]
def k0_off160 (i : grid0.Coords) : Fin 3 → Nat :=
  let c21 : Index := 21#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1196 : Index := Scalar.indexCast v1111
  let c0_438 : Index := 0#32
  ![21, v1196.toNat, 0]
def k0_off161 (i : grid0.Coords) : Fin 3 → Nat :=
  let c22 : Index := 22#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1200 : Index := Scalar.indexCast v1111
  let c0_439 : Index := 0#32
  ![22, v1200.toNat, 0]
def k0_off162 (i : grid0.Coords) : Fin 3 → Nat :=
  let c23 : Index := 23#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1204 : Index := Scalar.indexCast v1111
  let c0_440 : Index := 0#32
  ![23, v1204.toNat, 0]
def k0_off163 (i : grid0.Coords) : Fin 3 → Nat :=
  let c24 : Index := 24#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1208 : Index := Scalar.indexCast v1111
  let c0_441 : Index := 0#32
  ![24, v1208.toNat, 0]
def k0_off164 (i : grid0.Coords) : Fin 3 → Nat :=
  let c25 : Index := 25#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1212 : Index := Scalar.indexCast v1111
  let c0_442 : Index := 0#32
  ![25, v1212.toNat, 0]
def k0_off165 (i : grid0.Coords) : Fin 3 → Nat :=
  let c26 : Index := 26#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1216 : Index := Scalar.indexCast v1111
  let c0_443 : Index := 0#32
  ![26, v1216.toNat, 0]
def k0_off166 (i : grid0.Coords) : Fin 3 → Nat :=
  let c27 : Index := 27#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1220 : Index := Scalar.indexCast v1111
  let c0_444 : Index := 0#32
  ![27, v1220.toNat, 0]
def k0_off167 (i : grid0.Coords) : Fin 3 → Nat :=
  let c28 : Index := 28#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1224 : Index := Scalar.indexCast v1111
  let c0_445 : Index := 0#32
  ![28, v1224.toNat, 0]
def k0_off168 (i : grid0.Coords) : Fin 3 → Nat :=
  let c29 : Index := 29#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1228 : Index := Scalar.indexCast v1111
  let c0_446 : Index := 0#32
  ![29, v1228.toNat, 0]
def k0_off169 (i : grid0.Coords) : Fin 3 → Nat :=
  let c30 : Index := 30#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1232 : Index := Scalar.indexCast v1111
  let c0_447 : Index := 0#32
  ![30, v1232.toNat, 0]
def k0_off170 (i : grid0.Coords) : Fin 3 → Nat :=
  let c31 : Index := 31#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_413 : BitVec 32 := 0#32
  let v1109 : BitVec 32 := Scalar.addi v274 c0_i32_413
  let c8_i32_414 : BitVec 32 := 8#32
  let v1110 : BitVec 32 := Scalar.muli v1109 c8_i32_414
  let v1111 : BitVec 32 := v1110
  let v1236 : Index := Scalar.indexCast v1111
  let c0_448 : Index := 0#32
  ![31, v1236.toNat, 0]
def k0_cond5 (i : grid0.Coords) : BitVec 1 :=
  let arg1 : BitVec 32 := BitVec.ofNat 32 (i 1).val
  let c1_i32 : BitVec 32 := 1#32
  let v0 : BitVec 32 := Scalar.addi arg1 c1_i32
  let c128_i32_55 : BitVec 32 := 128#32
  let v102 : BitVec 32 := Scalar.muli v0 c128_i32_55
  let c64_i32_56 : BitVec 32 := 64#32
  let v103 : BitVec 32 := Scalar.subi v102 c64_i32_56
  let c256_i32 : BitVec 32 := 256#32
  let v104 : BitVec 1 := Scalar.cmpi .sgt v103 c256_i32
  let v105 : BitVec 32 := Scalar.extui v104
  let c0_i32_58 : BitVec 32 := 0#32
  let v106 : BitVec 1 := Scalar.cmpi .ne v105 c0_i32_58
  v106

@[reducible] def k0_t3_loop : Scf.Loop 32 :=
  let c0_i32_166 : BitVec 32 := 0#32
  let c32_i32 : BitVec 32 := 32#32
  let v283 : BitVec 32 := Scalar.addi c0_i32_166 c32_i32
  let c1_i32_167 : BitVec 32 := 1#32
  ⟨c0_i32_166, v283, c1_i32_167⟩
def k0_off171 (k0_t3 : Fin k0_t3_loop.trips) : Fin 3 → Nat :=
  let c0_i32_166 : BitVec 32 := 0#32
  let c1_i32_167 : BitVec 32 := 1#32
  let arg15 : BitVec 32 := Scf.iv c0_i32_166 c1_i32_167 k0_t3
  let v398 : Index := Scalar.indexCast arg15
  let c0_226 : Index := 0#32
  let c0_227 : Index := 0#32
  ![v398.toNat, 0, 0]
@[reducible] def k0_t4_loop (i : grid0.Coords) : Scf.Loop 32 :=
  let c0_i32_177 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_170 : BitVec 32 := 0#32
  let v294 : BitVec 1 := Scalar.cmpi .sgt v18 c0_i32_170
  let v295 : BitVec 32 := Scalar.extui v294
  let c0_i32_171 : BitVec 32 := 0#32
  let v296 : BitVec 1 := Scalar.cmpi .slt v18 c0_i32_171
  let v297 : BitVec 32 := Scalar.extui v296
  let v298 : BitVec 32 := Scalar.subi v295 v297
  let c4_i32_169 : BitVec 32 := 4#32
  let c0_i32_172 : BitVec 32 := 0#32
  let v299 : BitVec 1 := Scalar.cmpi .sgt c4_i32_169 c0_i32_172
  let v300 : BitVec 32 := Scalar.extui v299
  let c0_i32_173 : BitVec 32 := 0#32
  let v301 : BitVec 1 := Scalar.cmpi .slt c4_i32_169 c0_i32_173
  let v302 : BitVec 32 := Scalar.extui v301
  let v303 : BitVec 32 := Scalar.subi v300 v302
  let v304 : BitVec 1 := Scalar.cmpi .ne v298 v303
  let v305 : BitVec 32 := Scalar.remsi v18 c4_i32_169
  let c0_i32_174 : BitVec 32 := 0#32
  let v306 : BitVec 1 := Scalar.cmpi .ne v305 c0_i32_174
  let v307 : BitVec 1 := Scalar.andi v304 v306
  let v293 : BitVec 32 := Scalar.divsi v18 c4_i32_169
  let c1_i32_175 : BitVec 32 := 1#32
  let v308 : BitVec 32 := Scalar.subi v293 c1_i32_175
  let v309 : BitVec 32 := Scalar.select v307 v308 v293
  let v311 : BitVec 32 := Scalar.subi v309 c0_i32_177
  let c1_i32_178 : BitVec 32 := 1#32
  let v313 : BitVec 32 := Scalar.divsi v311 c1_i32_178
  let v314 : BitVec 32 := Scalar.muli v313 c1_i32_178
  let v315 : BitVec 32 := Scalar.addi c0_i32_177 v314
  let c1_i32_179 : BitVec 32 := 1#32
  ⟨c0_i32_177, v315, c1_i32_179⟩
def k0_mult47 (i : grid0.Coords) (k0_t4 : Fin (k0_t4_loop i).trips) : BitVec 32 :=
  let c0_i32_177 : BitVec 32 := 0#32
  let c1_i32_179 : BitVec 32 := 1#32
  let arg15 : BitVec 32 := Scf.iv c0_i32_177 c1_i32_179 k0_t4
  let c4_i32_226 : BitVec 32 := 4#32
  let v398 : BitVec 32 := Scalar.muli arg15 c4_i32_226
  let c0_i32_227 : BitVec 32 := 0#32
  let v399 : BitVec 32 := Scalar.addi v398 c0_i32_227
  let c256_i32_228 : BitVec 32 := 256#32
  let v400 : BitVec 32 := Scalar.muli v399 c256_i32_228
  v400
def k0_off172 (i : grid0.Coords) (k0_t4 : Fin (k0_t4_loop i).trips) (c0_i32_227 : BitVec 32) : Fin 2 → Nat :=
  let c0_i32_177 : BitVec 32 := 0#32
  let c1_i32_179 : BitVec 32 := 1#32
  let arg15 : BitVec 32 := Scf.iv c0_i32_177 c1_i32_179 k0_t4
  let c4_i32_226 : BitVec 32 := 4#32
  let v398 : BitVec 32 := Scalar.muli arg15 c4_i32_226
  let v399 : BitVec 32 := Scalar.addi v398 c0_i32_227
  let c256_i32_228 : BitVec 32 := 256#32
  let v400 : BitVec 32 := Scalar.muli v399 c256_i32_228
  let v401 : BitVec 32 := v400
  let v402 : Index := Scalar.indexCast v401
  let c0_229 : Index := 0#32
  ![v402.toNat, 0]
def k0_mult48 (i : grid0.Coords) (k0_t4 : Fin (k0_t4_loop i).trips) : BitVec 32 :=
  let c0_i32_177 : BitVec 32 := 0#32
  let c1_i32_179 : BitVec 32 := 1#32
  let arg15 : BitVec 32 := Scf.iv c0_i32_177 c1_i32_179 k0_t4
  let c4_i32_232 : BitVec 32 := 4#32
  let v415 : BitVec 32 := Scalar.muli arg15 c4_i32_232
  let c1_i32_233 : BitVec 32 := 1#32
  let v416 : BitVec 32 := Scalar.addi v415 c1_i32_233
  let c256_i32_234 : BitVec 32 := 256#32
  let v417 : BitVec 32 := Scalar.muli v416 c256_i32_234
  v417
def k0_mult49 (i : grid0.Coords) (k0_t4 : Fin (k0_t4_loop i).trips) : BitVec 32 :=
  let c0_i32_177 : BitVec 32 := 0#32
  let c1_i32_179 : BitVec 32 := 1#32
  let arg15 : BitVec 32 := Scf.iv c0_i32_177 c1_i32_179 k0_t4
  let c4_i32_238 : BitVec 32 := 4#32
  let v432 : BitVec 32 := Scalar.muli arg15 c4_i32_238
  let c2_i32_239 : BitVec 32 := 2#32
  let v433 : BitVec 32 := Scalar.addi v432 c2_i32_239
  let c256_i32_240 : BitVec 32 := 256#32
  let v434 : BitVec 32 := Scalar.muli v433 c256_i32_240
  v434
def k0_mult50 (i : grid0.Coords) (k0_t4 : Fin (k0_t4_loop i).trips) : BitVec 32 :=
  let c0_i32_177 : BitVec 32 := 0#32
  let c1_i32_179 : BitVec 32 := 1#32
  let arg15 : BitVec 32 := Scf.iv c0_i32_177 c1_i32_179 k0_t4
  let c4_i32_244 : BitVec 32 := 4#32
  let v449 : BitVec 32 := Scalar.muli arg15 c4_i32_244
  let c3_i32 : BitVec 32 := 3#32
  let v450 : BitVec 32 := Scalar.addi v449 c3_i32
  let c256_i32_245 : BitVec 32 := 256#32
  let v451 : BitVec 32 := Scalar.muli v450 c256_i32_245
  v451
@[reducible] def k0_t5_loop (i : grid0.Coords) : Scf.Loop 32 :=
  let c0_i32_177 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_170 : BitVec 32 := 0#32
  let v294 : BitVec 1 := Scalar.cmpi .sgt v18 c0_i32_170
  let v295 : BitVec 32 := Scalar.extui v294
  let c0_i32_171 : BitVec 32 := 0#32
  let v296 : BitVec 1 := Scalar.cmpi .slt v18 c0_i32_171
  let v297 : BitVec 32 := Scalar.extui v296
  let v298 : BitVec 32 := Scalar.subi v295 v297
  let c4_i32_169 : BitVec 32 := 4#32
  let c0_i32_172 : BitVec 32 := 0#32
  let v299 : BitVec 1 := Scalar.cmpi .sgt c4_i32_169 c0_i32_172
  let v300 : BitVec 32 := Scalar.extui v299
  let c0_i32_173 : BitVec 32 := 0#32
  let v301 : BitVec 1 := Scalar.cmpi .slt c4_i32_169 c0_i32_173
  let v302 : BitVec 32 := Scalar.extui v301
  let v303 : BitVec 32 := Scalar.subi v300 v302
  let v304 : BitVec 1 := Scalar.cmpi .ne v298 v303
  let v305 : BitVec 32 := Scalar.remsi v18 c4_i32_169
  let c0_i32_174 : BitVec 32 := 0#32
  let v306 : BitVec 1 := Scalar.cmpi .ne v305 c0_i32_174
  let v307 : BitVec 1 := Scalar.andi v304 v306
  let v293 : BitVec 32 := Scalar.divsi v18 c4_i32_169
  let c1_i32_175 : BitVec 32 := 1#32
  let v308 : BitVec 32 := Scalar.subi v293 c1_i32_175
  let v309 : BitVec 32 := Scalar.select v307 v308 v293
  let v311 : BitVec 32 := Scalar.subi v309 c0_i32_177
  let c1_i32_178 : BitVec 32 := 1#32
  let v313 : BitVec 32 := Scalar.divsi v311 c1_i32_178
  let v314 : BitVec 32 := Scalar.muli v313 c1_i32_178
  let v315 : BitVec 32 := Scalar.addi c0_i32_177 v314
  let v312 : BitVec 32 := Scalar.addi c0_i32_177 v311
  let c1_i32_180 : BitVec 32 := 1#32
  ⟨v315, v312, c1_i32_180⟩
def k0_mult51 (i : grid0.Coords) (k0_t5 : Fin (k0_t5_loop i).trips) : BitVec 32 :=
  let c0_i32_177 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_170 : BitVec 32 := 0#32
  let v294 : BitVec 1 := Scalar.cmpi .sgt v18 c0_i32_170
  let v295 : BitVec 32 := Scalar.extui v294
  let c0_i32_171 : BitVec 32 := 0#32
  let v296 : BitVec 1 := Scalar.cmpi .slt v18 c0_i32_171
  let v297 : BitVec 32 := Scalar.extui v296
  let v298 : BitVec 32 := Scalar.subi v295 v297
  let c4_i32_169 : BitVec 32 := 4#32
  let c0_i32_172 : BitVec 32 := 0#32
  let v299 : BitVec 1 := Scalar.cmpi .sgt c4_i32_169 c0_i32_172
  let v300 : BitVec 32 := Scalar.extui v299
  let c0_i32_173 : BitVec 32 := 0#32
  let v301 : BitVec 1 := Scalar.cmpi .slt c4_i32_169 c0_i32_173
  let v302 : BitVec 32 := Scalar.extui v301
  let v303 : BitVec 32 := Scalar.subi v300 v302
  let v304 : BitVec 1 := Scalar.cmpi .ne v298 v303
  let v305 : BitVec 32 := Scalar.remsi v18 c4_i32_169
  let c0_i32_174 : BitVec 32 := 0#32
  let v306 : BitVec 1 := Scalar.cmpi .ne v305 c0_i32_174
  let v307 : BitVec 1 := Scalar.andi v304 v306
  let v293 : BitVec 32 := Scalar.divsi v18 c4_i32_169
  let c1_i32_175 : BitVec 32 := 1#32
  let v308 : BitVec 32 := Scalar.subi v293 c1_i32_175
  let v309 : BitVec 32 := Scalar.select v307 v308 v293
  let v311 : BitVec 32 := Scalar.subi v309 c0_i32_177
  let c1_i32_178 : BitVec 32 := 1#32
  let v313 : BitVec 32 := Scalar.divsi v311 c1_i32_178
  let v314 : BitVec 32 := Scalar.muli v313 c1_i32_178
  let v315 : BitVec 32 := Scalar.addi c0_i32_177 v314
  let c1_i32_180 : BitVec 32 := 1#32
  let arg15 : BitVec 32 := Scf.iv v315 c1_i32_180 k0_t5
  let c4_i32_226 : BitVec 32 := 4#32
  let v398 : BitVec 32 := Scalar.muli arg15 c4_i32_226
  let c0_i32_227 : BitVec 32 := 0#32
  let v399 : BitVec 32 := Scalar.addi v398 c0_i32_227
  let c256_i32_228 : BitVec 32 := 256#32
  let v400 : BitVec 32 := Scalar.muli v399 c256_i32_228
  v400
def k0_off173 (i : grid0.Coords) (k0_t5 : Fin (k0_t5_loop i).trips) (c0_i32_227 : BitVec 32) : Fin 2 → Nat :=
  let c0_i32_177 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_170 : BitVec 32 := 0#32
  let v294 : BitVec 1 := Scalar.cmpi .sgt v18 c0_i32_170
  let v295 : BitVec 32 := Scalar.extui v294
  let c0_i32_171 : BitVec 32 := 0#32
  let v296 : BitVec 1 := Scalar.cmpi .slt v18 c0_i32_171
  let v297 : BitVec 32 := Scalar.extui v296
  let v298 : BitVec 32 := Scalar.subi v295 v297
  let c4_i32_169 : BitVec 32 := 4#32
  let c0_i32_172 : BitVec 32 := 0#32
  let v299 : BitVec 1 := Scalar.cmpi .sgt c4_i32_169 c0_i32_172
  let v300 : BitVec 32 := Scalar.extui v299
  let c0_i32_173 : BitVec 32 := 0#32
  let v301 : BitVec 1 := Scalar.cmpi .slt c4_i32_169 c0_i32_173
  let v302 : BitVec 32 := Scalar.extui v301
  let v303 : BitVec 32 := Scalar.subi v300 v302
  let v304 : BitVec 1 := Scalar.cmpi .ne v298 v303
  let v305 : BitVec 32 := Scalar.remsi v18 c4_i32_169
  let c0_i32_174 : BitVec 32 := 0#32
  let v306 : BitVec 1 := Scalar.cmpi .ne v305 c0_i32_174
  let v307 : BitVec 1 := Scalar.andi v304 v306
  let v293 : BitVec 32 := Scalar.divsi v18 c4_i32_169
  let c1_i32_175 : BitVec 32 := 1#32
  let v308 : BitVec 32 := Scalar.subi v293 c1_i32_175
  let v309 : BitVec 32 := Scalar.select v307 v308 v293
  let v311 : BitVec 32 := Scalar.subi v309 c0_i32_177
  let c1_i32_178 : BitVec 32 := 1#32
  let v313 : BitVec 32 := Scalar.divsi v311 c1_i32_178
  let v314 : BitVec 32 := Scalar.muli v313 c1_i32_178
  let v315 : BitVec 32 := Scalar.addi c0_i32_177 v314
  let c1_i32_180 : BitVec 32 := 1#32
  let arg15 : BitVec 32 := Scf.iv v315 c1_i32_180 k0_t5
  let c4_i32_226 : BitVec 32 := 4#32
  let v398 : BitVec 32 := Scalar.muli arg15 c4_i32_226
  let v399 : BitVec 32 := Scalar.addi v398 c0_i32_227
  let c256_i32_228 : BitVec 32 := 256#32
  let v400 : BitVec 32 := Scalar.muli v399 c256_i32_228
  let v401 : BitVec 32 := v400
  let v402 : Index := Scalar.indexCast v401
  let c0_229 : Index := 0#32
  ![v402.toNat, 0]
def k0_mult52 (i : grid0.Coords) (k0_t5 : Fin (k0_t5_loop i).trips) : BitVec 32 :=
  let c0_i32_177 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_170 : BitVec 32 := 0#32
  let v294 : BitVec 1 := Scalar.cmpi .sgt v18 c0_i32_170
  let v295 : BitVec 32 := Scalar.extui v294
  let c0_i32_171 : BitVec 32 := 0#32
  let v296 : BitVec 1 := Scalar.cmpi .slt v18 c0_i32_171
  let v297 : BitVec 32 := Scalar.extui v296
  let v298 : BitVec 32 := Scalar.subi v295 v297
  let c4_i32_169 : BitVec 32 := 4#32
  let c0_i32_172 : BitVec 32 := 0#32
  let v299 : BitVec 1 := Scalar.cmpi .sgt c4_i32_169 c0_i32_172
  let v300 : BitVec 32 := Scalar.extui v299
  let c0_i32_173 : BitVec 32 := 0#32
  let v301 : BitVec 1 := Scalar.cmpi .slt c4_i32_169 c0_i32_173
  let v302 : BitVec 32 := Scalar.extui v301
  let v303 : BitVec 32 := Scalar.subi v300 v302
  let v304 : BitVec 1 := Scalar.cmpi .ne v298 v303
  let v305 : BitVec 32 := Scalar.remsi v18 c4_i32_169
  let c0_i32_174 : BitVec 32 := 0#32
  let v306 : BitVec 1 := Scalar.cmpi .ne v305 c0_i32_174
  let v307 : BitVec 1 := Scalar.andi v304 v306
  let v293 : BitVec 32 := Scalar.divsi v18 c4_i32_169
  let c1_i32_175 : BitVec 32 := 1#32
  let v308 : BitVec 32 := Scalar.subi v293 c1_i32_175
  let v309 : BitVec 32 := Scalar.select v307 v308 v293
  let v311 : BitVec 32 := Scalar.subi v309 c0_i32_177
  let c1_i32_178 : BitVec 32 := 1#32
  let v313 : BitVec 32 := Scalar.divsi v311 c1_i32_178
  let v314 : BitVec 32 := Scalar.muli v313 c1_i32_178
  let v315 : BitVec 32 := Scalar.addi c0_i32_177 v314
  let c1_i32_180 : BitVec 32 := 1#32
  let arg15 : BitVec 32 := Scf.iv v315 c1_i32_180 k0_t5
  let c4_i32_232 : BitVec 32 := 4#32
  let v415 : BitVec 32 := Scalar.muli arg15 c4_i32_232
  let c1_i32_233 : BitVec 32 := 1#32
  let v416 : BitVec 32 := Scalar.addi v415 c1_i32_233
  let c256_i32_234 : BitVec 32 := 256#32
  let v417 : BitVec 32 := Scalar.muli v416 c256_i32_234
  v417
def k0_mult53 (i : grid0.Coords) (k0_t5 : Fin (k0_t5_loop i).trips) : BitVec 32 :=
  let c0_i32_177 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_170 : BitVec 32 := 0#32
  let v294 : BitVec 1 := Scalar.cmpi .sgt v18 c0_i32_170
  let v295 : BitVec 32 := Scalar.extui v294
  let c0_i32_171 : BitVec 32 := 0#32
  let v296 : BitVec 1 := Scalar.cmpi .slt v18 c0_i32_171
  let v297 : BitVec 32 := Scalar.extui v296
  let v298 : BitVec 32 := Scalar.subi v295 v297
  let c4_i32_169 : BitVec 32 := 4#32
  let c0_i32_172 : BitVec 32 := 0#32
  let v299 : BitVec 1 := Scalar.cmpi .sgt c4_i32_169 c0_i32_172
  let v300 : BitVec 32 := Scalar.extui v299
  let c0_i32_173 : BitVec 32 := 0#32
  let v301 : BitVec 1 := Scalar.cmpi .slt c4_i32_169 c0_i32_173
  let v302 : BitVec 32 := Scalar.extui v301
  let v303 : BitVec 32 := Scalar.subi v300 v302
  let v304 : BitVec 1 := Scalar.cmpi .ne v298 v303
  let v305 : BitVec 32 := Scalar.remsi v18 c4_i32_169
  let c0_i32_174 : BitVec 32 := 0#32
  let v306 : BitVec 1 := Scalar.cmpi .ne v305 c0_i32_174
  let v307 : BitVec 1 := Scalar.andi v304 v306
  let v293 : BitVec 32 := Scalar.divsi v18 c4_i32_169
  let c1_i32_175 : BitVec 32 := 1#32
  let v308 : BitVec 32 := Scalar.subi v293 c1_i32_175
  let v309 : BitVec 32 := Scalar.select v307 v308 v293
  let v311 : BitVec 32 := Scalar.subi v309 c0_i32_177
  let c1_i32_178 : BitVec 32 := 1#32
  let v313 : BitVec 32 := Scalar.divsi v311 c1_i32_178
  let v314 : BitVec 32 := Scalar.muli v313 c1_i32_178
  let v315 : BitVec 32 := Scalar.addi c0_i32_177 v314
  let c1_i32_180 : BitVec 32 := 1#32
  let arg15 : BitVec 32 := Scf.iv v315 c1_i32_180 k0_t5
  let c4_i32_238 : BitVec 32 := 4#32
  let v432 : BitVec 32 := Scalar.muli arg15 c4_i32_238
  let c2_i32_239 : BitVec 32 := 2#32
  let v433 : BitVec 32 := Scalar.addi v432 c2_i32_239
  let c256_i32_240 : BitVec 32 := 256#32
  let v434 : BitVec 32 := Scalar.muli v433 c256_i32_240
  v434
def k0_mult54 (i : grid0.Coords) (k0_t5 : Fin (k0_t5_loop i).trips) : BitVec 32 :=
  let c0_i32_177 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_170 : BitVec 32 := 0#32
  let v294 : BitVec 1 := Scalar.cmpi .sgt v18 c0_i32_170
  let v295 : BitVec 32 := Scalar.extui v294
  let c0_i32_171 : BitVec 32 := 0#32
  let v296 : BitVec 1 := Scalar.cmpi .slt v18 c0_i32_171
  let v297 : BitVec 32 := Scalar.extui v296
  let v298 : BitVec 32 := Scalar.subi v295 v297
  let c4_i32_169 : BitVec 32 := 4#32
  let c0_i32_172 : BitVec 32 := 0#32
  let v299 : BitVec 1 := Scalar.cmpi .sgt c4_i32_169 c0_i32_172
  let v300 : BitVec 32 := Scalar.extui v299
  let c0_i32_173 : BitVec 32 := 0#32
  let v301 : BitVec 1 := Scalar.cmpi .slt c4_i32_169 c0_i32_173
  let v302 : BitVec 32 := Scalar.extui v301
  let v303 : BitVec 32 := Scalar.subi v300 v302
  let v304 : BitVec 1 := Scalar.cmpi .ne v298 v303
  let v305 : BitVec 32 := Scalar.remsi v18 c4_i32_169
  let c0_i32_174 : BitVec 32 := 0#32
  let v306 : BitVec 1 := Scalar.cmpi .ne v305 c0_i32_174
  let v307 : BitVec 1 := Scalar.andi v304 v306
  let v293 : BitVec 32 := Scalar.divsi v18 c4_i32_169
  let c1_i32_175 : BitVec 32 := 1#32
  let v308 : BitVec 32 := Scalar.subi v293 c1_i32_175
  let v309 : BitVec 32 := Scalar.select v307 v308 v293
  let v311 : BitVec 32 := Scalar.subi v309 c0_i32_177
  let c1_i32_178 : BitVec 32 := 1#32
  let v313 : BitVec 32 := Scalar.divsi v311 c1_i32_178
  let v314 : BitVec 32 := Scalar.muli v313 c1_i32_178
  let v315 : BitVec 32 := Scalar.addi c0_i32_177 v314
  let c1_i32_180 : BitVec 32 := 1#32
  let arg15 : BitVec 32 := Scf.iv v315 c1_i32_180 k0_t5
  let c4_i32_244 : BitVec 32 := 4#32
  let v449 : BitVec 32 := Scalar.muli arg15 c4_i32_244
  let c3_i32 : BitVec 32 := 3#32
  let v450 : BitVec 32 := Scalar.addi v449 c3_i32
  let c256_i32_245 : BitVec 32 := 256#32
  let v451 : BitVec 32 := Scalar.muli v450 c256_i32_245
  v451
@[reducible] def k0_t6_loop (i : grid0.Coords) : Scf.Loop 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_182 : BitVec 32 := 0#32
  let v319 : BitVec 1 := Scalar.cmpi .sgt v18 c0_i32_182
  let v320 : BitVec 32 := Scalar.extui v319
  let c0_i32_183 : BitVec 32 := 0#32
  let v321 : BitVec 1 := Scalar.cmpi .slt v18 c0_i32_183
  let v322 : BitVec 32 := Scalar.extui v321
  let v323 : BitVec 32 := Scalar.subi v320 v322
  let c4_i32_181 : BitVec 32 := 4#32
  let c0_i32_184 : BitVec 32 := 0#32
  let v324 : BitVec 1 := Scalar.cmpi .sgt c4_i32_181 c0_i32_184
  let v325 : BitVec 32 := Scalar.extui v324
  let c0_i32_185 : BitVec 32 := 0#32
  let v326 : BitVec 1 := Scalar.cmpi .slt c4_i32_181 c0_i32_185
  let v327 : BitVec 32 := Scalar.extui v326
  let v328 : BitVec 32 := Scalar.subi v325 v327
  let v329 : BitVec 1 := Scalar.cmpi .ne v323 v328
  let v330 : BitVec 32 := Scalar.remsi v18 c4_i32_181
  let c0_i32_186 : BitVec 32 := 0#32
  let v331 : BitVec 1 := Scalar.cmpi .ne v330 c0_i32_186
  let v332 : BitVec 1 := Scalar.andi v329 v331
  let v318 : BitVec 32 := Scalar.divsi v18 c4_i32_181
  let c1_i32_187 : BitVec 32 := 1#32
  let v333 : BitVec 32 := Scalar.subi v318 c1_i32_187
  let v334 : BitVec 32 := Scalar.select v332 v333 v318
  let c4_i32_188 : BitVec 32 := 4#32
  let v335 : BitVec 32 := Scalar.muli v334 c4_i32_188
  let v336 : BitVec 32 := Scalar.subi v18 v335
  let c1_i32_189 : BitVec 32 := 1#32
  let v338 : BitVec 32 := Scalar.divsi v336 c1_i32_189
  let v339 : BitVec 32 := Scalar.muli v338 c1_i32_189
  let v340 : BitVec 32 := Scalar.addi v335 v339
  let c1_i32_190 : BitVec 32 := 1#32
  ⟨v335, v340, c1_i32_190⟩
def k0_mult55 (i : grid0.Coords) (k0_t6 : Fin (k0_t6_loop i).trips) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_182 : BitVec 32 := 0#32
  let v319 : BitVec 1 := Scalar.cmpi .sgt v18 c0_i32_182
  let v320 : BitVec 32 := Scalar.extui v319
  let c0_i32_183 : BitVec 32 := 0#32
  let v321 : BitVec 1 := Scalar.cmpi .slt v18 c0_i32_183
  let v322 : BitVec 32 := Scalar.extui v321
  let v323 : BitVec 32 := Scalar.subi v320 v322
  let c4_i32_181 : BitVec 32 := 4#32
  let c0_i32_184 : BitVec 32 := 0#32
  let v324 : BitVec 1 := Scalar.cmpi .sgt c4_i32_181 c0_i32_184
  let v325 : BitVec 32 := Scalar.extui v324
  let c0_i32_185 : BitVec 32 := 0#32
  let v326 : BitVec 1 := Scalar.cmpi .slt c4_i32_181 c0_i32_185
  let v327 : BitVec 32 := Scalar.extui v326
  let v328 : BitVec 32 := Scalar.subi v325 v327
  let v329 : BitVec 1 := Scalar.cmpi .ne v323 v328
  let v330 : BitVec 32 := Scalar.remsi v18 c4_i32_181
  let c0_i32_186 : BitVec 32 := 0#32
  let v331 : BitVec 1 := Scalar.cmpi .ne v330 c0_i32_186
  let v332 : BitVec 1 := Scalar.andi v329 v331
  let v318 : BitVec 32 := Scalar.divsi v18 c4_i32_181
  let c1_i32_187 : BitVec 32 := 1#32
  let v333 : BitVec 32 := Scalar.subi v318 c1_i32_187
  let v334 : BitVec 32 := Scalar.select v332 v333 v318
  let c4_i32_188 : BitVec 32 := 4#32
  let v335 : BitVec 32 := Scalar.muli v334 c4_i32_188
  let c1_i32_190 : BitVec 32 := 1#32
  let arg15 : BitVec 32 := Scf.iv v335 c1_i32_190 k0_t6
  let c256_i32_226 : BitVec 32 := 256#32
  let v398 : BitVec 32 := Scalar.muli arg15 c256_i32_226
  v398
def k0_off174 (i : grid0.Coords) (k0_t6 : Fin (k0_t6_loop i).trips) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_182 : BitVec 32 := 0#32
  let v319 : BitVec 1 := Scalar.cmpi .sgt v18 c0_i32_182
  let v320 : BitVec 32 := Scalar.extui v319
  let c0_i32_183 : BitVec 32 := 0#32
  let v321 : BitVec 1 := Scalar.cmpi .slt v18 c0_i32_183
  let v322 : BitVec 32 := Scalar.extui v321
  let v323 : BitVec 32 := Scalar.subi v320 v322
  let c4_i32_181 : BitVec 32 := 4#32
  let c0_i32_184 : BitVec 32 := 0#32
  let v324 : BitVec 1 := Scalar.cmpi .sgt c4_i32_181 c0_i32_184
  let v325 : BitVec 32 := Scalar.extui v324
  let c0_i32_185 : BitVec 32 := 0#32
  let v326 : BitVec 1 := Scalar.cmpi .slt c4_i32_181 c0_i32_185
  let v327 : BitVec 32 := Scalar.extui v326
  let v328 : BitVec 32 := Scalar.subi v325 v327
  let v329 : BitVec 1 := Scalar.cmpi .ne v323 v328
  let v330 : BitVec 32 := Scalar.remsi v18 c4_i32_181
  let c0_i32_186 : BitVec 32 := 0#32
  let v331 : BitVec 1 := Scalar.cmpi .ne v330 c0_i32_186
  let v332 : BitVec 1 := Scalar.andi v329 v331
  let v318 : BitVec 32 := Scalar.divsi v18 c4_i32_181
  let c1_i32_187 : BitVec 32 := 1#32
  let v333 : BitVec 32 := Scalar.subi v318 c1_i32_187
  let v334 : BitVec 32 := Scalar.select v332 v333 v318
  let c4_i32_188 : BitVec 32 := 4#32
  let v335 : BitVec 32 := Scalar.muli v334 c4_i32_188
  let c1_i32_190 : BitVec 32 := 1#32
  let arg15 : BitVec 32 := Scf.iv v335 c1_i32_190 k0_t6
  let c256_i32_226 : BitVec 32 := 256#32
  let v398 : BitVec 32 := Scalar.muli arg15 c256_i32_226
  let v399 : BitVec 32 := v398
  let v400 : Index := Scalar.indexCast v399
  let c0_227 : Index := 0#32
  ![v400.toNat, 0]
@[reducible] def k0_t7_loop (i : grid0.Coords) : Scf.Loop 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_182 : BitVec 32 := 0#32
  let v319 : BitVec 1 := Scalar.cmpi .sgt v18 c0_i32_182
  let v320 : BitVec 32 := Scalar.extui v319
  let c0_i32_183 : BitVec 32 := 0#32
  let v321 : BitVec 1 := Scalar.cmpi .slt v18 c0_i32_183
  let v322 : BitVec 32 := Scalar.extui v321
  let v323 : BitVec 32 := Scalar.subi v320 v322
  let c4_i32_181 : BitVec 32 := 4#32
  let c0_i32_184 : BitVec 32 := 0#32
  let v324 : BitVec 1 := Scalar.cmpi .sgt c4_i32_181 c0_i32_184
  let v325 : BitVec 32 := Scalar.extui v324
  let c0_i32_185 : BitVec 32 := 0#32
  let v326 : BitVec 1 := Scalar.cmpi .slt c4_i32_181 c0_i32_185
  let v327 : BitVec 32 := Scalar.extui v326
  let v328 : BitVec 32 := Scalar.subi v325 v327
  let v329 : BitVec 1 := Scalar.cmpi .ne v323 v328
  let v330 : BitVec 32 := Scalar.remsi v18 c4_i32_181
  let c0_i32_186 : BitVec 32 := 0#32
  let v331 : BitVec 1 := Scalar.cmpi .ne v330 c0_i32_186
  let v332 : BitVec 1 := Scalar.andi v329 v331
  let v318 : BitVec 32 := Scalar.divsi v18 c4_i32_181
  let c1_i32_187 : BitVec 32 := 1#32
  let v333 : BitVec 32 := Scalar.subi v318 c1_i32_187
  let v334 : BitVec 32 := Scalar.select v332 v333 v318
  let c4_i32_188 : BitVec 32 := 4#32
  let v335 : BitVec 32 := Scalar.muli v334 c4_i32_188
  let v336 : BitVec 32 := Scalar.subi v18 v335
  let c1_i32_189 : BitVec 32 := 1#32
  let v338 : BitVec 32 := Scalar.divsi v336 c1_i32_189
  let v339 : BitVec 32 := Scalar.muli v338 c1_i32_189
  let v340 : BitVec 32 := Scalar.addi v335 v339
  let v337 : BitVec 32 := Scalar.addi v335 v336
  let c1_i32_191 : BitVec 32 := 1#32
  ⟨v340, v337, c1_i32_191⟩
def k0_mult56 (i : grid0.Coords) (k0_t7 : Fin (k0_t7_loop i).trips) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_182 : BitVec 32 := 0#32
  let v319 : BitVec 1 := Scalar.cmpi .sgt v18 c0_i32_182
  let v320 : BitVec 32 := Scalar.extui v319
  let c0_i32_183 : BitVec 32 := 0#32
  let v321 : BitVec 1 := Scalar.cmpi .slt v18 c0_i32_183
  let v322 : BitVec 32 := Scalar.extui v321
  let v323 : BitVec 32 := Scalar.subi v320 v322
  let c4_i32_181 : BitVec 32 := 4#32
  let c0_i32_184 : BitVec 32 := 0#32
  let v324 : BitVec 1 := Scalar.cmpi .sgt c4_i32_181 c0_i32_184
  let v325 : BitVec 32 := Scalar.extui v324
  let c0_i32_185 : BitVec 32 := 0#32
  let v326 : BitVec 1 := Scalar.cmpi .slt c4_i32_181 c0_i32_185
  let v327 : BitVec 32 := Scalar.extui v326
  let v328 : BitVec 32 := Scalar.subi v325 v327
  let v329 : BitVec 1 := Scalar.cmpi .ne v323 v328
  let v330 : BitVec 32 := Scalar.remsi v18 c4_i32_181
  let c0_i32_186 : BitVec 32 := 0#32
  let v331 : BitVec 1 := Scalar.cmpi .ne v330 c0_i32_186
  let v332 : BitVec 1 := Scalar.andi v329 v331
  let v318 : BitVec 32 := Scalar.divsi v18 c4_i32_181
  let c1_i32_187 : BitVec 32 := 1#32
  let v333 : BitVec 32 := Scalar.subi v318 c1_i32_187
  let v334 : BitVec 32 := Scalar.select v332 v333 v318
  let c4_i32_188 : BitVec 32 := 4#32
  let v335 : BitVec 32 := Scalar.muli v334 c4_i32_188
  let v336 : BitVec 32 := Scalar.subi v18 v335
  let c1_i32_189 : BitVec 32 := 1#32
  let v338 : BitVec 32 := Scalar.divsi v336 c1_i32_189
  let v339 : BitVec 32 := Scalar.muli v338 c1_i32_189
  let v340 : BitVec 32 := Scalar.addi v335 v339
  let c1_i32_191 : BitVec 32 := 1#32
  let arg15 : BitVec 32 := Scf.iv v340 c1_i32_191 k0_t7
  let c256_i32_226 : BitVec 32 := 256#32
  let v398 : BitVec 32 := Scalar.muli arg15 c256_i32_226
  v398
def k0_off175 (i : grid0.Coords) (k0_t7 : Fin (k0_t7_loop i).trips) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_182 : BitVec 32 := 0#32
  let v319 : BitVec 1 := Scalar.cmpi .sgt v18 c0_i32_182
  let v320 : BitVec 32 := Scalar.extui v319
  let c0_i32_183 : BitVec 32 := 0#32
  let v321 : BitVec 1 := Scalar.cmpi .slt v18 c0_i32_183
  let v322 : BitVec 32 := Scalar.extui v321
  let v323 : BitVec 32 := Scalar.subi v320 v322
  let c4_i32_181 : BitVec 32 := 4#32
  let c0_i32_184 : BitVec 32 := 0#32
  let v324 : BitVec 1 := Scalar.cmpi .sgt c4_i32_181 c0_i32_184
  let v325 : BitVec 32 := Scalar.extui v324
  let c0_i32_185 : BitVec 32 := 0#32
  let v326 : BitVec 1 := Scalar.cmpi .slt c4_i32_181 c0_i32_185
  let v327 : BitVec 32 := Scalar.extui v326
  let v328 : BitVec 32 := Scalar.subi v325 v327
  let v329 : BitVec 1 := Scalar.cmpi .ne v323 v328
  let v330 : BitVec 32 := Scalar.remsi v18 c4_i32_181
  let c0_i32_186 : BitVec 32 := 0#32
  let v331 : BitVec 1 := Scalar.cmpi .ne v330 c0_i32_186
  let v332 : BitVec 1 := Scalar.andi v329 v331
  let v318 : BitVec 32 := Scalar.divsi v18 c4_i32_181
  let c1_i32_187 : BitVec 32 := 1#32
  let v333 : BitVec 32 := Scalar.subi v318 c1_i32_187
  let v334 : BitVec 32 := Scalar.select v332 v333 v318
  let c4_i32_188 : BitVec 32 := 4#32
  let v335 : BitVec 32 := Scalar.muli v334 c4_i32_188
  let v336 : BitVec 32 := Scalar.subi v18 v335
  let c1_i32_189 : BitVec 32 := 1#32
  let v338 : BitVec 32 := Scalar.divsi v336 c1_i32_189
  let v339 : BitVec 32 := Scalar.muli v338 c1_i32_189
  let v340 : BitVec 32 := Scalar.addi v335 v339
  let c1_i32_191 : BitVec 32 := 1#32
  let arg15 : BitVec 32 := Scf.iv v340 c1_i32_191 k0_t7
  let c256_i32_226 : BitVec 32 := 256#32
  let v398 : BitVec 32 := Scalar.muli arg15 c256_i32_226
  let v399 : BitVec 32 := v398
  let v400 : Index := Scalar.indexCast v399
  let c0_227 : Index := 0#32
  ![v400.toNat, 0]
@[reducible] def k0_t8_loop (i : grid0.Coords) : Scf.Loop 32 :=
  let c0_i32_234 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_227 : BitVec 32 := 0#32
  let v399 : BitVec 1 := Scalar.cmpi .sgt v18 c0_i32_227
  let v400 : BitVec 32 := Scalar.extui v399
  let c0_i32_228 : BitVec 32 := 0#32
  let v401 : BitVec 1 := Scalar.cmpi .slt v18 c0_i32_228
  let v402 : BitVec 32 := Scalar.extui v401
  let v403 : BitVec 32 := Scalar.subi v400 v402
  let c4_i32_226 : BitVec 32 := 4#32
  let c0_i32_229 : BitVec 32 := 0#32
  let v404 : BitVec 1 := Scalar.cmpi .sgt c4_i32_226 c0_i32_229
  let v405 : BitVec 32 := Scalar.extui v404
  let c0_i32_230 : BitVec 32 := 0#32
  let v406 : BitVec 1 := Scalar.cmpi .slt c4_i32_226 c0_i32_230
  let v407 : BitVec 32 := Scalar.extui v406
  let v408 : BitVec 32 := Scalar.subi v405 v407
  let v409 : BitVec 1 := Scalar.cmpi .ne v403 v408
  let v410 : BitVec 32 := Scalar.remsi v18 c4_i32_226
  let c0_i32_231 : BitVec 32 := 0#32
  let v411 : BitVec 1 := Scalar.cmpi .ne v410 c0_i32_231
  let v412 : BitVec 1 := Scalar.andi v409 v411
  let v398 : BitVec 32 := Scalar.divsi v18 c4_i32_226
  let c1_i32_232 : BitVec 32 := 1#32
  let v413 : BitVec 32 := Scalar.subi v398 c1_i32_232
  let v414 : BitVec 32 := Scalar.select v412 v413 v398
  let v416 : BitVec 32 := Scalar.subi v414 c0_i32_234
  let c1_i32_235 : BitVec 32 := 1#32
  let v418 : BitVec 32 := Scalar.divsi v416 c1_i32_235
  let v419 : BitVec 32 := Scalar.muli v418 c1_i32_235
  let v420 : BitVec 32 := Scalar.addi c0_i32_234 v419
  let c1_i32_236 : BitVec 32 := 1#32
  ⟨c0_i32_234, v420, c1_i32_236⟩
def k0_mult57 (i : grid0.Coords) (k0_t8 : Fin (k0_t8_loop i).trips) : BitVec 32 :=
  let c0_i32_234 : BitVec 32 := 0#32
  let c1_i32_236 : BitVec 32 := 1#32
  let arg15 : BitVec 32 := Scf.iv c0_i32_234 c1_i32_236 k0_t8
  let c4_i32_252 : BitVec 32 := 4#32
  let v453 : BitVec 32 := Scalar.muli arg15 c4_i32_252
  let c0_i32_253 : BitVec 32 := 0#32
  let v454 : BitVec 32 := Scalar.addi v453 c0_i32_253
  let c256_i32_254 : BitVec 32 := 256#32
  let v455 : BitVec 32 := Scalar.muli v454 c256_i32_254
  v455
def k0_off176 (i : grid0.Coords) (k0_t8 : Fin (k0_t8_loop i).trips) (c0_i32_253 : BitVec 32) : Fin 2 → Nat :=
  let c0_i32_234 : BitVec 32 := 0#32
  let c1_i32_236 : BitVec 32 := 1#32
  let arg15 : BitVec 32 := Scf.iv c0_i32_234 c1_i32_236 k0_t8
  let c4_i32_252 : BitVec 32 := 4#32
  let v453 : BitVec 32 := Scalar.muli arg15 c4_i32_252
  let v454 : BitVec 32 := Scalar.addi v453 c0_i32_253
  let c256_i32_254 : BitVec 32 := 256#32
  let v455 : BitVec 32 := Scalar.muli v454 c256_i32_254
  let v456 : BitVec 32 := v455
  let v457 : Index := Scalar.indexCast v456
  let c0_255 : Index := 0#32
  ![v457.toNat, 0]
def k0_mult58 (i : grid0.Coords) (k0_t8 : Fin (k0_t8_loop i).trips) : BitVec 32 :=
  let c0_i32_234 : BitVec 32 := 0#32
  let c1_i32_236 : BitVec 32 := 1#32
  let arg15 : BitVec 32 := Scf.iv c0_i32_234 c1_i32_236 k0_t8
  let c4_i32_258 : BitVec 32 := 4#32
  let v470 : BitVec 32 := Scalar.muli arg15 c4_i32_258
  let c1_i32_259 : BitVec 32 := 1#32
  let v471 : BitVec 32 := Scalar.addi v470 c1_i32_259
  let c256_i32_260 : BitVec 32 := 256#32
  let v472 : BitVec 32 := Scalar.muli v471 c256_i32_260
  v472
def k0_mult59 (i : grid0.Coords) (k0_t8 : Fin (k0_t8_loop i).trips) : BitVec 32 :=
  let c0_i32_234 : BitVec 32 := 0#32
  let c1_i32_236 : BitVec 32 := 1#32
  let arg15 : BitVec 32 := Scf.iv c0_i32_234 c1_i32_236 k0_t8
  let c4_i32_264 : BitVec 32 := 4#32
  let v487 : BitVec 32 := Scalar.muli arg15 c4_i32_264
  let c2_i32_265 : BitVec 32 := 2#32
  let v488 : BitVec 32 := Scalar.addi v487 c2_i32_265
  let c256_i32_266 : BitVec 32 := 256#32
  let v489 : BitVec 32 := Scalar.muli v488 c256_i32_266
  v489
def k0_mult60 (i : grid0.Coords) (k0_t8 : Fin (k0_t8_loop i).trips) : BitVec 32 :=
  let c0_i32_234 : BitVec 32 := 0#32
  let c1_i32_236 : BitVec 32 := 1#32
  let arg15 : BitVec 32 := Scf.iv c0_i32_234 c1_i32_236 k0_t8
  let c4_i32_270 : BitVec 32 := 4#32
  let v504 : BitVec 32 := Scalar.muli arg15 c4_i32_270
  let c3_i32 : BitVec 32 := 3#32
  let v505 : BitVec 32 := Scalar.addi v504 c3_i32
  let c256_i32_271 : BitVec 32 := 256#32
  let v506 : BitVec 32 := Scalar.muli v505 c256_i32_271
  v506
@[reducible] def k0_t9_loop (i : grid0.Coords) : Scf.Loop 32 :=
  let c0_i32_234 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_227 : BitVec 32 := 0#32
  let v399 : BitVec 1 := Scalar.cmpi .sgt v18 c0_i32_227
  let v400 : BitVec 32 := Scalar.extui v399
  let c0_i32_228 : BitVec 32 := 0#32
  let v401 : BitVec 1 := Scalar.cmpi .slt v18 c0_i32_228
  let v402 : BitVec 32 := Scalar.extui v401
  let v403 : BitVec 32 := Scalar.subi v400 v402
  let c4_i32_226 : BitVec 32 := 4#32
  let c0_i32_229 : BitVec 32 := 0#32
  let v404 : BitVec 1 := Scalar.cmpi .sgt c4_i32_226 c0_i32_229
  let v405 : BitVec 32 := Scalar.extui v404
  let c0_i32_230 : BitVec 32 := 0#32
  let v406 : BitVec 1 := Scalar.cmpi .slt c4_i32_226 c0_i32_230
  let v407 : BitVec 32 := Scalar.extui v406
  let v408 : BitVec 32 := Scalar.subi v405 v407
  let v409 : BitVec 1 := Scalar.cmpi .ne v403 v408
  let v410 : BitVec 32 := Scalar.remsi v18 c4_i32_226
  let c0_i32_231 : BitVec 32 := 0#32
  let v411 : BitVec 1 := Scalar.cmpi .ne v410 c0_i32_231
  let v412 : BitVec 1 := Scalar.andi v409 v411
  let v398 : BitVec 32 := Scalar.divsi v18 c4_i32_226
  let c1_i32_232 : BitVec 32 := 1#32
  let v413 : BitVec 32 := Scalar.subi v398 c1_i32_232
  let v414 : BitVec 32 := Scalar.select v412 v413 v398
  let v416 : BitVec 32 := Scalar.subi v414 c0_i32_234
  let c1_i32_235 : BitVec 32 := 1#32
  let v418 : BitVec 32 := Scalar.divsi v416 c1_i32_235
  let v419 : BitVec 32 := Scalar.muli v418 c1_i32_235
  let v420 : BitVec 32 := Scalar.addi c0_i32_234 v419
  let v417 : BitVec 32 := Scalar.addi c0_i32_234 v416
  let c1_i32_237 : BitVec 32 := 1#32
  ⟨v420, v417, c1_i32_237⟩
def k0_mult61 (i : grid0.Coords) (k0_t9 : Fin (k0_t9_loop i).trips) : BitVec 32 :=
  let c0_i32_234 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_227 : BitVec 32 := 0#32
  let v399 : BitVec 1 := Scalar.cmpi .sgt v18 c0_i32_227
  let v400 : BitVec 32 := Scalar.extui v399
  let c0_i32_228 : BitVec 32 := 0#32
  let v401 : BitVec 1 := Scalar.cmpi .slt v18 c0_i32_228
  let v402 : BitVec 32 := Scalar.extui v401
  let v403 : BitVec 32 := Scalar.subi v400 v402
  let c4_i32_226 : BitVec 32 := 4#32
  let c0_i32_229 : BitVec 32 := 0#32
  let v404 : BitVec 1 := Scalar.cmpi .sgt c4_i32_226 c0_i32_229
  let v405 : BitVec 32 := Scalar.extui v404
  let c0_i32_230 : BitVec 32 := 0#32
  let v406 : BitVec 1 := Scalar.cmpi .slt c4_i32_226 c0_i32_230
  let v407 : BitVec 32 := Scalar.extui v406
  let v408 : BitVec 32 := Scalar.subi v405 v407
  let v409 : BitVec 1 := Scalar.cmpi .ne v403 v408
  let v410 : BitVec 32 := Scalar.remsi v18 c4_i32_226
  let c0_i32_231 : BitVec 32 := 0#32
  let v411 : BitVec 1 := Scalar.cmpi .ne v410 c0_i32_231
  let v412 : BitVec 1 := Scalar.andi v409 v411
  let v398 : BitVec 32 := Scalar.divsi v18 c4_i32_226
  let c1_i32_232 : BitVec 32 := 1#32
  let v413 : BitVec 32 := Scalar.subi v398 c1_i32_232
  let v414 : BitVec 32 := Scalar.select v412 v413 v398
  let v416 : BitVec 32 := Scalar.subi v414 c0_i32_234
  let c1_i32_235 : BitVec 32 := 1#32
  let v418 : BitVec 32 := Scalar.divsi v416 c1_i32_235
  let v419 : BitVec 32 := Scalar.muli v418 c1_i32_235
  let v420 : BitVec 32 := Scalar.addi c0_i32_234 v419
  let c1_i32_237 : BitVec 32 := 1#32
  let arg15 : BitVec 32 := Scf.iv v420 c1_i32_237 k0_t9
  let c4_i32_252 : BitVec 32 := 4#32
  let v453 : BitVec 32 := Scalar.muli arg15 c4_i32_252
  let c0_i32_253 : BitVec 32 := 0#32
  let v454 : BitVec 32 := Scalar.addi v453 c0_i32_253
  let c256_i32_254 : BitVec 32 := 256#32
  let v455 : BitVec 32 := Scalar.muli v454 c256_i32_254
  v455
def k0_off177 (i : grid0.Coords) (k0_t9 : Fin (k0_t9_loop i).trips) (c0_i32_253 : BitVec 32) : Fin 2 → Nat :=
  let c0_i32_234 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_227 : BitVec 32 := 0#32
  let v399 : BitVec 1 := Scalar.cmpi .sgt v18 c0_i32_227
  let v400 : BitVec 32 := Scalar.extui v399
  let c0_i32_228 : BitVec 32 := 0#32
  let v401 : BitVec 1 := Scalar.cmpi .slt v18 c0_i32_228
  let v402 : BitVec 32 := Scalar.extui v401
  let v403 : BitVec 32 := Scalar.subi v400 v402
  let c4_i32_226 : BitVec 32 := 4#32
  let c0_i32_229 : BitVec 32 := 0#32
  let v404 : BitVec 1 := Scalar.cmpi .sgt c4_i32_226 c0_i32_229
  let v405 : BitVec 32 := Scalar.extui v404
  let c0_i32_230 : BitVec 32 := 0#32
  let v406 : BitVec 1 := Scalar.cmpi .slt c4_i32_226 c0_i32_230
  let v407 : BitVec 32 := Scalar.extui v406
  let v408 : BitVec 32 := Scalar.subi v405 v407
  let v409 : BitVec 1 := Scalar.cmpi .ne v403 v408
  let v410 : BitVec 32 := Scalar.remsi v18 c4_i32_226
  let c0_i32_231 : BitVec 32 := 0#32
  let v411 : BitVec 1 := Scalar.cmpi .ne v410 c0_i32_231
  let v412 : BitVec 1 := Scalar.andi v409 v411
  let v398 : BitVec 32 := Scalar.divsi v18 c4_i32_226
  let c1_i32_232 : BitVec 32 := 1#32
  let v413 : BitVec 32 := Scalar.subi v398 c1_i32_232
  let v414 : BitVec 32 := Scalar.select v412 v413 v398
  let v416 : BitVec 32 := Scalar.subi v414 c0_i32_234
  let c1_i32_235 : BitVec 32 := 1#32
  let v418 : BitVec 32 := Scalar.divsi v416 c1_i32_235
  let v419 : BitVec 32 := Scalar.muli v418 c1_i32_235
  let v420 : BitVec 32 := Scalar.addi c0_i32_234 v419
  let c1_i32_237 : BitVec 32 := 1#32
  let arg15 : BitVec 32 := Scf.iv v420 c1_i32_237 k0_t9
  let c4_i32_252 : BitVec 32 := 4#32
  let v453 : BitVec 32 := Scalar.muli arg15 c4_i32_252
  let v454 : BitVec 32 := Scalar.addi v453 c0_i32_253
  let c256_i32_254 : BitVec 32 := 256#32
  let v455 : BitVec 32 := Scalar.muli v454 c256_i32_254
  let v456 : BitVec 32 := v455
  let v457 : Index := Scalar.indexCast v456
  let c0_255 : Index := 0#32
  ![v457.toNat, 0]
def k0_mult62 (i : grid0.Coords) (k0_t9 : Fin (k0_t9_loop i).trips) : BitVec 32 :=
  let c0_i32_234 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_227 : BitVec 32 := 0#32
  let v399 : BitVec 1 := Scalar.cmpi .sgt v18 c0_i32_227
  let v400 : BitVec 32 := Scalar.extui v399
  let c0_i32_228 : BitVec 32 := 0#32
  let v401 : BitVec 1 := Scalar.cmpi .slt v18 c0_i32_228
  let v402 : BitVec 32 := Scalar.extui v401
  let v403 : BitVec 32 := Scalar.subi v400 v402
  let c4_i32_226 : BitVec 32 := 4#32
  let c0_i32_229 : BitVec 32 := 0#32
  let v404 : BitVec 1 := Scalar.cmpi .sgt c4_i32_226 c0_i32_229
  let v405 : BitVec 32 := Scalar.extui v404
  let c0_i32_230 : BitVec 32 := 0#32
  let v406 : BitVec 1 := Scalar.cmpi .slt c4_i32_226 c0_i32_230
  let v407 : BitVec 32 := Scalar.extui v406
  let v408 : BitVec 32 := Scalar.subi v405 v407
  let v409 : BitVec 1 := Scalar.cmpi .ne v403 v408
  let v410 : BitVec 32 := Scalar.remsi v18 c4_i32_226
  let c0_i32_231 : BitVec 32 := 0#32
  let v411 : BitVec 1 := Scalar.cmpi .ne v410 c0_i32_231
  let v412 : BitVec 1 := Scalar.andi v409 v411
  let v398 : BitVec 32 := Scalar.divsi v18 c4_i32_226
  let c1_i32_232 : BitVec 32 := 1#32
  let v413 : BitVec 32 := Scalar.subi v398 c1_i32_232
  let v414 : BitVec 32 := Scalar.select v412 v413 v398
  let v416 : BitVec 32 := Scalar.subi v414 c0_i32_234
  let c1_i32_235 : BitVec 32 := 1#32
  let v418 : BitVec 32 := Scalar.divsi v416 c1_i32_235
  let v419 : BitVec 32 := Scalar.muli v418 c1_i32_235
  let v420 : BitVec 32 := Scalar.addi c0_i32_234 v419
  let c1_i32_237 : BitVec 32 := 1#32
  let arg15 : BitVec 32 := Scf.iv v420 c1_i32_237 k0_t9
  let c4_i32_258 : BitVec 32 := 4#32
  let v470 : BitVec 32 := Scalar.muli arg15 c4_i32_258
  let c1_i32_259 : BitVec 32 := 1#32
  let v471 : BitVec 32 := Scalar.addi v470 c1_i32_259
  let c256_i32_260 : BitVec 32 := 256#32
  let v472 : BitVec 32 := Scalar.muli v471 c256_i32_260
  v472
def k0_mult63 (i : grid0.Coords) (k0_t9 : Fin (k0_t9_loop i).trips) : BitVec 32 :=
  let c0_i32_234 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_227 : BitVec 32 := 0#32
  let v399 : BitVec 1 := Scalar.cmpi .sgt v18 c0_i32_227
  let v400 : BitVec 32 := Scalar.extui v399
  let c0_i32_228 : BitVec 32 := 0#32
  let v401 : BitVec 1 := Scalar.cmpi .slt v18 c0_i32_228
  let v402 : BitVec 32 := Scalar.extui v401
  let v403 : BitVec 32 := Scalar.subi v400 v402
  let c4_i32_226 : BitVec 32 := 4#32
  let c0_i32_229 : BitVec 32 := 0#32
  let v404 : BitVec 1 := Scalar.cmpi .sgt c4_i32_226 c0_i32_229
  let v405 : BitVec 32 := Scalar.extui v404
  let c0_i32_230 : BitVec 32 := 0#32
  let v406 : BitVec 1 := Scalar.cmpi .slt c4_i32_226 c0_i32_230
  let v407 : BitVec 32 := Scalar.extui v406
  let v408 : BitVec 32 := Scalar.subi v405 v407
  let v409 : BitVec 1 := Scalar.cmpi .ne v403 v408
  let v410 : BitVec 32 := Scalar.remsi v18 c4_i32_226
  let c0_i32_231 : BitVec 32 := 0#32
  let v411 : BitVec 1 := Scalar.cmpi .ne v410 c0_i32_231
  let v412 : BitVec 1 := Scalar.andi v409 v411
  let v398 : BitVec 32 := Scalar.divsi v18 c4_i32_226
  let c1_i32_232 : BitVec 32 := 1#32
  let v413 : BitVec 32 := Scalar.subi v398 c1_i32_232
  let v414 : BitVec 32 := Scalar.select v412 v413 v398
  let v416 : BitVec 32 := Scalar.subi v414 c0_i32_234
  let c1_i32_235 : BitVec 32 := 1#32
  let v418 : BitVec 32 := Scalar.divsi v416 c1_i32_235
  let v419 : BitVec 32 := Scalar.muli v418 c1_i32_235
  let v420 : BitVec 32 := Scalar.addi c0_i32_234 v419
  let c1_i32_237 : BitVec 32 := 1#32
  let arg15 : BitVec 32 := Scf.iv v420 c1_i32_237 k0_t9
  let c4_i32_264 : BitVec 32 := 4#32
  let v487 : BitVec 32 := Scalar.muli arg15 c4_i32_264
  let c2_i32_265 : BitVec 32 := 2#32
  let v488 : BitVec 32 := Scalar.addi v487 c2_i32_265
  let c256_i32_266 : BitVec 32 := 256#32
  let v489 : BitVec 32 := Scalar.muli v488 c256_i32_266
  v489
def k0_mult64 (i : grid0.Coords) (k0_t9 : Fin (k0_t9_loop i).trips) : BitVec 32 :=
  let c0_i32_234 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_227 : BitVec 32 := 0#32
  let v399 : BitVec 1 := Scalar.cmpi .sgt v18 c0_i32_227
  let v400 : BitVec 32 := Scalar.extui v399
  let c0_i32_228 : BitVec 32 := 0#32
  let v401 : BitVec 1 := Scalar.cmpi .slt v18 c0_i32_228
  let v402 : BitVec 32 := Scalar.extui v401
  let v403 : BitVec 32 := Scalar.subi v400 v402
  let c4_i32_226 : BitVec 32 := 4#32
  let c0_i32_229 : BitVec 32 := 0#32
  let v404 : BitVec 1 := Scalar.cmpi .sgt c4_i32_226 c0_i32_229
  let v405 : BitVec 32 := Scalar.extui v404
  let c0_i32_230 : BitVec 32 := 0#32
  let v406 : BitVec 1 := Scalar.cmpi .slt c4_i32_226 c0_i32_230
  let v407 : BitVec 32 := Scalar.extui v406
  let v408 : BitVec 32 := Scalar.subi v405 v407
  let v409 : BitVec 1 := Scalar.cmpi .ne v403 v408
  let v410 : BitVec 32 := Scalar.remsi v18 c4_i32_226
  let c0_i32_231 : BitVec 32 := 0#32
  let v411 : BitVec 1 := Scalar.cmpi .ne v410 c0_i32_231
  let v412 : BitVec 1 := Scalar.andi v409 v411
  let v398 : BitVec 32 := Scalar.divsi v18 c4_i32_226
  let c1_i32_232 : BitVec 32 := 1#32
  let v413 : BitVec 32 := Scalar.subi v398 c1_i32_232
  let v414 : BitVec 32 := Scalar.select v412 v413 v398
  let v416 : BitVec 32 := Scalar.subi v414 c0_i32_234
  let c1_i32_235 : BitVec 32 := 1#32
  let v418 : BitVec 32 := Scalar.divsi v416 c1_i32_235
  let v419 : BitVec 32 := Scalar.muli v418 c1_i32_235
  let v420 : BitVec 32 := Scalar.addi c0_i32_234 v419
  let c1_i32_237 : BitVec 32 := 1#32
  let arg15 : BitVec 32 := Scf.iv v420 c1_i32_237 k0_t9
  let c4_i32_270 : BitVec 32 := 4#32
  let v504 : BitVec 32 := Scalar.muli arg15 c4_i32_270
  let c3_i32 : BitVec 32 := 3#32
  let v505 : BitVec 32 := Scalar.addi v504 c3_i32
  let c256_i32_271 : BitVec 32 := 256#32
  let v506 : BitVec 32 := Scalar.muli v505 c256_i32_271
  v506
@[reducible] def k0_t10_loop (i : grid0.Coords) : Scf.Loop 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_239 : BitVec 32 := 0#32
  let v424 : BitVec 1 := Scalar.cmpi .sgt v18 c0_i32_239
  let v425 : BitVec 32 := Scalar.extui v424
  let c0_i32_240 : BitVec 32 := 0#32
  let v426 : BitVec 1 := Scalar.cmpi .slt v18 c0_i32_240
  let v427 : BitVec 32 := Scalar.extui v426
  let v428 : BitVec 32 := Scalar.subi v425 v427
  let c4_i32_238 : BitVec 32 := 4#32
  let c0_i32_241 : BitVec 32 := 0#32
  let v429 : BitVec 1 := Scalar.cmpi .sgt c4_i32_238 c0_i32_241
  let v430 : BitVec 32 := Scalar.extui v429
  let c0_i32_242 : BitVec 32 := 0#32
  let v431 : BitVec 1 := Scalar.cmpi .slt c4_i32_238 c0_i32_242
  let v432 : BitVec 32 := Scalar.extui v431
  let v433 : BitVec 32 := Scalar.subi v430 v432
  let v434 : BitVec 1 := Scalar.cmpi .ne v428 v433
  let v435 : BitVec 32 := Scalar.remsi v18 c4_i32_238
  let c0_i32_243 : BitVec 32 := 0#32
  let v436 : BitVec 1 := Scalar.cmpi .ne v435 c0_i32_243
  let v437 : BitVec 1 := Scalar.andi v434 v436
  let v423 : BitVec 32 := Scalar.divsi v18 c4_i32_238
  let c1_i32_244 : BitVec 32 := 1#32
  let v438 : BitVec 32 := Scalar.subi v423 c1_i32_244
  let v439 : BitVec 32 := Scalar.select v437 v438 v423
  let c4_i32_245 : BitVec 32 := 4#32
  let v440 : BitVec 32 := Scalar.muli v439 c4_i32_245
  let v441 : BitVec 32 := Scalar.subi v18 v440
  let c1_i32_246 : BitVec 32 := 1#32
  let v443 : BitVec 32 := Scalar.divsi v441 c1_i32_246
  let v444 : BitVec 32 := Scalar.muli v443 c1_i32_246
  let v445 : BitVec 32 := Scalar.addi v440 v444
  let c1_i32_247 : BitVec 32 := 1#32
  ⟨v440, v445, c1_i32_247⟩
def k0_mult65 (i : grid0.Coords) (k0_t10 : Fin (k0_t10_loop i).trips) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_239 : BitVec 32 := 0#32
  let v424 : BitVec 1 := Scalar.cmpi .sgt v18 c0_i32_239
  let v425 : BitVec 32 := Scalar.extui v424
  let c0_i32_240 : BitVec 32 := 0#32
  let v426 : BitVec 1 := Scalar.cmpi .slt v18 c0_i32_240
  let v427 : BitVec 32 := Scalar.extui v426
  let v428 : BitVec 32 := Scalar.subi v425 v427
  let c4_i32_238 : BitVec 32 := 4#32
  let c0_i32_241 : BitVec 32 := 0#32
  let v429 : BitVec 1 := Scalar.cmpi .sgt c4_i32_238 c0_i32_241
  let v430 : BitVec 32 := Scalar.extui v429
  let c0_i32_242 : BitVec 32 := 0#32
  let v431 : BitVec 1 := Scalar.cmpi .slt c4_i32_238 c0_i32_242
  let v432 : BitVec 32 := Scalar.extui v431
  let v433 : BitVec 32 := Scalar.subi v430 v432
  let v434 : BitVec 1 := Scalar.cmpi .ne v428 v433
  let v435 : BitVec 32 := Scalar.remsi v18 c4_i32_238
  let c0_i32_243 : BitVec 32 := 0#32
  let v436 : BitVec 1 := Scalar.cmpi .ne v435 c0_i32_243
  let v437 : BitVec 1 := Scalar.andi v434 v436
  let v423 : BitVec 32 := Scalar.divsi v18 c4_i32_238
  let c1_i32_244 : BitVec 32 := 1#32
  let v438 : BitVec 32 := Scalar.subi v423 c1_i32_244
  let v439 : BitVec 32 := Scalar.select v437 v438 v423
  let c4_i32_245 : BitVec 32 := 4#32
  let v440 : BitVec 32 := Scalar.muli v439 c4_i32_245
  let c1_i32_247 : BitVec 32 := 1#32
  let arg15 : BitVec 32 := Scf.iv v440 c1_i32_247 k0_t10
  let c256_i32_252 : BitVec 32 := 256#32
  let v453 : BitVec 32 := Scalar.muli arg15 c256_i32_252
  v453
def k0_off178 (i : grid0.Coords) (k0_t10 : Fin (k0_t10_loop i).trips) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_239 : BitVec 32 := 0#32
  let v424 : BitVec 1 := Scalar.cmpi .sgt v18 c0_i32_239
  let v425 : BitVec 32 := Scalar.extui v424
  let c0_i32_240 : BitVec 32 := 0#32
  let v426 : BitVec 1 := Scalar.cmpi .slt v18 c0_i32_240
  let v427 : BitVec 32 := Scalar.extui v426
  let v428 : BitVec 32 := Scalar.subi v425 v427
  let c4_i32_238 : BitVec 32 := 4#32
  let c0_i32_241 : BitVec 32 := 0#32
  let v429 : BitVec 1 := Scalar.cmpi .sgt c4_i32_238 c0_i32_241
  let v430 : BitVec 32 := Scalar.extui v429
  let c0_i32_242 : BitVec 32 := 0#32
  let v431 : BitVec 1 := Scalar.cmpi .slt c4_i32_238 c0_i32_242
  let v432 : BitVec 32 := Scalar.extui v431
  let v433 : BitVec 32 := Scalar.subi v430 v432
  let v434 : BitVec 1 := Scalar.cmpi .ne v428 v433
  let v435 : BitVec 32 := Scalar.remsi v18 c4_i32_238
  let c0_i32_243 : BitVec 32 := 0#32
  let v436 : BitVec 1 := Scalar.cmpi .ne v435 c0_i32_243
  let v437 : BitVec 1 := Scalar.andi v434 v436
  let v423 : BitVec 32 := Scalar.divsi v18 c4_i32_238
  let c1_i32_244 : BitVec 32 := 1#32
  let v438 : BitVec 32 := Scalar.subi v423 c1_i32_244
  let v439 : BitVec 32 := Scalar.select v437 v438 v423
  let c4_i32_245 : BitVec 32 := 4#32
  let v440 : BitVec 32 := Scalar.muli v439 c4_i32_245
  let c1_i32_247 : BitVec 32 := 1#32
  let arg15 : BitVec 32 := Scf.iv v440 c1_i32_247 k0_t10
  let c256_i32_252 : BitVec 32 := 256#32
  let v453 : BitVec 32 := Scalar.muli arg15 c256_i32_252
  let v454 : BitVec 32 := v453
  let v455 : Index := Scalar.indexCast v454
  let c0_253 : Index := 0#32
  ![v455.toNat, 0]
@[reducible] def k0_t11_loop (i : grid0.Coords) : Scf.Loop 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_239 : BitVec 32 := 0#32
  let v424 : BitVec 1 := Scalar.cmpi .sgt v18 c0_i32_239
  let v425 : BitVec 32 := Scalar.extui v424
  let c0_i32_240 : BitVec 32 := 0#32
  let v426 : BitVec 1 := Scalar.cmpi .slt v18 c0_i32_240
  let v427 : BitVec 32 := Scalar.extui v426
  let v428 : BitVec 32 := Scalar.subi v425 v427
  let c4_i32_238 : BitVec 32 := 4#32
  let c0_i32_241 : BitVec 32 := 0#32
  let v429 : BitVec 1 := Scalar.cmpi .sgt c4_i32_238 c0_i32_241
  let v430 : BitVec 32 := Scalar.extui v429
  let c0_i32_242 : BitVec 32 := 0#32
  let v431 : BitVec 1 := Scalar.cmpi .slt c4_i32_238 c0_i32_242
  let v432 : BitVec 32 := Scalar.extui v431
  let v433 : BitVec 32 := Scalar.subi v430 v432
  let v434 : BitVec 1 := Scalar.cmpi .ne v428 v433
  let v435 : BitVec 32 := Scalar.remsi v18 c4_i32_238
  let c0_i32_243 : BitVec 32 := 0#32
  let v436 : BitVec 1 := Scalar.cmpi .ne v435 c0_i32_243
  let v437 : BitVec 1 := Scalar.andi v434 v436
  let v423 : BitVec 32 := Scalar.divsi v18 c4_i32_238
  let c1_i32_244 : BitVec 32 := 1#32
  let v438 : BitVec 32 := Scalar.subi v423 c1_i32_244
  let v439 : BitVec 32 := Scalar.select v437 v438 v423
  let c4_i32_245 : BitVec 32 := 4#32
  let v440 : BitVec 32 := Scalar.muli v439 c4_i32_245
  let v441 : BitVec 32 := Scalar.subi v18 v440
  let c1_i32_246 : BitVec 32 := 1#32
  let v443 : BitVec 32 := Scalar.divsi v441 c1_i32_246
  let v444 : BitVec 32 := Scalar.muli v443 c1_i32_246
  let v445 : BitVec 32 := Scalar.addi v440 v444
  let v442 : BitVec 32 := Scalar.addi v440 v441
  let c1_i32_248 : BitVec 32 := 1#32
  ⟨v445, v442, c1_i32_248⟩
def k0_mult66 (i : grid0.Coords) (k0_t11 : Fin (k0_t11_loop i).trips) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_239 : BitVec 32 := 0#32
  let v424 : BitVec 1 := Scalar.cmpi .sgt v18 c0_i32_239
  let v425 : BitVec 32 := Scalar.extui v424
  let c0_i32_240 : BitVec 32 := 0#32
  let v426 : BitVec 1 := Scalar.cmpi .slt v18 c0_i32_240
  let v427 : BitVec 32 := Scalar.extui v426
  let v428 : BitVec 32 := Scalar.subi v425 v427
  let c4_i32_238 : BitVec 32 := 4#32
  let c0_i32_241 : BitVec 32 := 0#32
  let v429 : BitVec 1 := Scalar.cmpi .sgt c4_i32_238 c0_i32_241
  let v430 : BitVec 32 := Scalar.extui v429
  let c0_i32_242 : BitVec 32 := 0#32
  let v431 : BitVec 1 := Scalar.cmpi .slt c4_i32_238 c0_i32_242
  let v432 : BitVec 32 := Scalar.extui v431
  let v433 : BitVec 32 := Scalar.subi v430 v432
  let v434 : BitVec 1 := Scalar.cmpi .ne v428 v433
  let v435 : BitVec 32 := Scalar.remsi v18 c4_i32_238
  let c0_i32_243 : BitVec 32 := 0#32
  let v436 : BitVec 1 := Scalar.cmpi .ne v435 c0_i32_243
  let v437 : BitVec 1 := Scalar.andi v434 v436
  let v423 : BitVec 32 := Scalar.divsi v18 c4_i32_238
  let c1_i32_244 : BitVec 32 := 1#32
  let v438 : BitVec 32 := Scalar.subi v423 c1_i32_244
  let v439 : BitVec 32 := Scalar.select v437 v438 v423
  let c4_i32_245 : BitVec 32 := 4#32
  let v440 : BitVec 32 := Scalar.muli v439 c4_i32_245
  let v441 : BitVec 32 := Scalar.subi v18 v440
  let c1_i32_246 : BitVec 32 := 1#32
  let v443 : BitVec 32 := Scalar.divsi v441 c1_i32_246
  let v444 : BitVec 32 := Scalar.muli v443 c1_i32_246
  let v445 : BitVec 32 := Scalar.addi v440 v444
  let c1_i32_248 : BitVec 32 := 1#32
  let arg15 : BitVec 32 := Scf.iv v445 c1_i32_248 k0_t11
  let c256_i32_252 : BitVec 32 := 256#32
  let v453 : BitVec 32 := Scalar.muli arg15 c256_i32_252
  v453
def k0_off179 (i : grid0.Coords) (k0_t11 : Fin (k0_t11_loop i).trips) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_239 : BitVec 32 := 0#32
  let v424 : BitVec 1 := Scalar.cmpi .sgt v18 c0_i32_239
  let v425 : BitVec 32 := Scalar.extui v424
  let c0_i32_240 : BitVec 32 := 0#32
  let v426 : BitVec 1 := Scalar.cmpi .slt v18 c0_i32_240
  let v427 : BitVec 32 := Scalar.extui v426
  let v428 : BitVec 32 := Scalar.subi v425 v427
  let c4_i32_238 : BitVec 32 := 4#32
  let c0_i32_241 : BitVec 32 := 0#32
  let v429 : BitVec 1 := Scalar.cmpi .sgt c4_i32_238 c0_i32_241
  let v430 : BitVec 32 := Scalar.extui v429
  let c0_i32_242 : BitVec 32 := 0#32
  let v431 : BitVec 1 := Scalar.cmpi .slt c4_i32_238 c0_i32_242
  let v432 : BitVec 32 := Scalar.extui v431
  let v433 : BitVec 32 := Scalar.subi v430 v432
  let v434 : BitVec 1 := Scalar.cmpi .ne v428 v433
  let v435 : BitVec 32 := Scalar.remsi v18 c4_i32_238
  let c0_i32_243 : BitVec 32 := 0#32
  let v436 : BitVec 1 := Scalar.cmpi .ne v435 c0_i32_243
  let v437 : BitVec 1 := Scalar.andi v434 v436
  let v423 : BitVec 32 := Scalar.divsi v18 c4_i32_238
  let c1_i32_244 : BitVec 32 := 1#32
  let v438 : BitVec 32 := Scalar.subi v423 c1_i32_244
  let v439 : BitVec 32 := Scalar.select v437 v438 v423
  let c4_i32_245 : BitVec 32 := 4#32
  let v440 : BitVec 32 := Scalar.muli v439 c4_i32_245
  let v441 : BitVec 32 := Scalar.subi v18 v440
  let c1_i32_246 : BitVec 32 := 1#32
  let v443 : BitVec 32 := Scalar.divsi v441 c1_i32_246
  let v444 : BitVec 32 := Scalar.muli v443 c1_i32_246
  let v445 : BitVec 32 := Scalar.addi v440 v444
  let c1_i32_248 : BitVec 32 := 1#32
  let arg15 : BitVec 32 := Scf.iv v445 c1_i32_248 k0_t11
  let c256_i32_252 : BitVec 32 := 256#32
  let v453 : BitVec 32 := Scalar.muli arg15 c256_i32_252
  let v454 : BitVec 32 := v453
  let v455 : Index := Scalar.indexCast v454
  let c0_253 : Index := 0#32
  ![v455.toNat, 0]
@[reducible] def k0_t12_loop : Scf.Loop 32 :=
  let c0_i32_227 : BitVec 32 := 0#32
  let c32_i32_228 : BitVec 32 := 32#32
  let v399 : BitVec 32 := Scalar.addi c0_i32_227 c32_i32_228
  let c1_i32_229 : BitVec 32 := 1#32
  ⟨c0_i32_227, v399, c1_i32_229⟩
@[reducible] def k0_t13_loop (i : grid0.Coords) : Scf.Loop 32 :=
  let c0_i32_282 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_275 : BitVec 32 := 0#32
  let v492 : BitVec 1 := Scalar.cmpi .sgt v18 c0_i32_275
  let v493 : BitVec 32 := Scalar.extui v492
  let c0_i32_276 : BitVec 32 := 0#32
  let v494 : BitVec 1 := Scalar.cmpi .slt v18 c0_i32_276
  let v495 : BitVec 32 := Scalar.extui v494
  let v496 : BitVec 32 := Scalar.subi v493 v495
  let c4_i32_274 : BitVec 32 := 4#32
  let c0_i32_277 : BitVec 32 := 0#32
  let v497 : BitVec 1 := Scalar.cmpi .sgt c4_i32_274 c0_i32_277
  let v498 : BitVec 32 := Scalar.extui v497
  let c0_i32_278 : BitVec 32 := 0#32
  let v499 : BitVec 1 := Scalar.cmpi .slt c4_i32_274 c0_i32_278
  let v500 : BitVec 32 := Scalar.extui v499
  let v501 : BitVec 32 := Scalar.subi v498 v500
  let v502 : BitVec 1 := Scalar.cmpi .ne v496 v501
  let v503 : BitVec 32 := Scalar.remsi v18 c4_i32_274
  let c0_i32_279 : BitVec 32 := 0#32
  let v504 : BitVec 1 := Scalar.cmpi .ne v503 c0_i32_279
  let v505 : BitVec 1 := Scalar.andi v502 v504
  let v491 : BitVec 32 := Scalar.divsi v18 c4_i32_274
  let c1_i32_280 : BitVec 32 := 1#32
  let v506 : BitVec 32 := Scalar.subi v491 c1_i32_280
  let v507 : BitVec 32 := Scalar.select v505 v506 v491
  let v509 : BitVec 32 := Scalar.subi v507 c0_i32_282
  let c1_i32_283 : BitVec 32 := 1#32
  let v511 : BitVec 32 := Scalar.divsi v509 c1_i32_283
  let v512 : BitVec 32 := Scalar.muli v511 c1_i32_283
  let v513 : BitVec 32 := Scalar.addi c0_i32_282 v512
  let c1_i32_284 : BitVec 32 := 1#32
  ⟨c0_i32_282, v513, c1_i32_284⟩
def k0_mult67 (i : grid0.Coords) (k0_t13 : Fin (k0_t13_loop i).trips) : BitVec 32 :=
  let c0_i32_282 : BitVec 32 := 0#32
  let c1_i32_284 : BitVec 32 := 1#32
  let arg17 : BitVec 32 := Scf.iv c0_i32_282 c1_i32_284 k0_t13
  let c4_i32_299 : BitVec 32 := 4#32
  let v546 : BitVec 32 := Scalar.muli arg17 c4_i32_299
  let c0_i32_300 : BitVec 32 := 0#32
  let v547 : BitVec 32 := Scalar.addi v546 c0_i32_300
  let c256_i32_301 : BitVec 32 := 256#32
  let v548 : BitVec 32 := Scalar.muli v547 c256_i32_301
  v548
def k0_off180 (i : grid0.Coords) (k0_t13 : Fin (k0_t13_loop i).trips) (c0_i32_300 : BitVec 32) : Fin 2 → Nat :=
  let c0_i32_282 : BitVec 32 := 0#32
  let c1_i32_284 : BitVec 32 := 1#32
  let arg17 : BitVec 32 := Scf.iv c0_i32_282 c1_i32_284 k0_t13
  let c4_i32_299 : BitVec 32 := 4#32
  let v546 : BitVec 32 := Scalar.muli arg17 c4_i32_299
  let v547 : BitVec 32 := Scalar.addi v546 c0_i32_300
  let c256_i32_301 : BitVec 32 := 256#32
  let v548 : BitVec 32 := Scalar.muli v547 c256_i32_301
  let v549 : BitVec 32 := v548
  let v550 : Index := Scalar.indexCast v549
  let c0_302 : Index := 0#32
  ![v550.toNat, 0]
def k0_mult68 (i : grid0.Coords) (k0_t13 : Fin (k0_t13_loop i).trips) : BitVec 32 :=
  let c0_i32_282 : BitVec 32 := 0#32
  let c1_i32_284 : BitVec 32 := 1#32
  let arg17 : BitVec 32 := Scf.iv c0_i32_282 c1_i32_284 k0_t13
  let c4_i32_305 : BitVec 32 := 4#32
  let v563 : BitVec 32 := Scalar.muli arg17 c4_i32_305
  let c1_i32_306 : BitVec 32 := 1#32
  let v564 : BitVec 32 := Scalar.addi v563 c1_i32_306
  let c256_i32_307 : BitVec 32 := 256#32
  let v565 : BitVec 32 := Scalar.muli v564 c256_i32_307
  v565
def k0_mult69 (i : grid0.Coords) (k0_t13 : Fin (k0_t13_loop i).trips) : BitVec 32 :=
  let c0_i32_282 : BitVec 32 := 0#32
  let c1_i32_284 : BitVec 32 := 1#32
  let arg17 : BitVec 32 := Scf.iv c0_i32_282 c1_i32_284 k0_t13
  let c4_i32_311 : BitVec 32 := 4#32
  let v580 : BitVec 32 := Scalar.muli arg17 c4_i32_311
  let c2_i32_312 : BitVec 32 := 2#32
  let v581 : BitVec 32 := Scalar.addi v580 c2_i32_312
  let c256_i32_313 : BitVec 32 := 256#32
  let v582 : BitVec 32 := Scalar.muli v581 c256_i32_313
  v582
def k0_mult70 (i : grid0.Coords) (k0_t13 : Fin (k0_t13_loop i).trips) : BitVec 32 :=
  let c0_i32_282 : BitVec 32 := 0#32
  let c1_i32_284 : BitVec 32 := 1#32
  let arg17 : BitVec 32 := Scf.iv c0_i32_282 c1_i32_284 k0_t13
  let c4_i32_317 : BitVec 32 := 4#32
  let v597 : BitVec 32 := Scalar.muli arg17 c4_i32_317
  let c3_i32 : BitVec 32 := 3#32
  let v598 : BitVec 32 := Scalar.addi v597 c3_i32
  let c256_i32_318 : BitVec 32 := 256#32
  let v599 : BitVec 32 := Scalar.muli v598 c256_i32_318
  v599
@[reducible] def k0_t14_loop (i : grid0.Coords) : Scf.Loop 32 :=
  let c0_i32_282 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_275 : BitVec 32 := 0#32
  let v492 : BitVec 1 := Scalar.cmpi .sgt v18 c0_i32_275
  let v493 : BitVec 32 := Scalar.extui v492
  let c0_i32_276 : BitVec 32 := 0#32
  let v494 : BitVec 1 := Scalar.cmpi .slt v18 c0_i32_276
  let v495 : BitVec 32 := Scalar.extui v494
  let v496 : BitVec 32 := Scalar.subi v493 v495
  let c4_i32_274 : BitVec 32 := 4#32
  let c0_i32_277 : BitVec 32 := 0#32
  let v497 : BitVec 1 := Scalar.cmpi .sgt c4_i32_274 c0_i32_277
  let v498 : BitVec 32 := Scalar.extui v497
  let c0_i32_278 : BitVec 32 := 0#32
  let v499 : BitVec 1 := Scalar.cmpi .slt c4_i32_274 c0_i32_278
  let v500 : BitVec 32 := Scalar.extui v499
  let v501 : BitVec 32 := Scalar.subi v498 v500
  let v502 : BitVec 1 := Scalar.cmpi .ne v496 v501
  let v503 : BitVec 32 := Scalar.remsi v18 c4_i32_274
  let c0_i32_279 : BitVec 32 := 0#32
  let v504 : BitVec 1 := Scalar.cmpi .ne v503 c0_i32_279
  let v505 : BitVec 1 := Scalar.andi v502 v504
  let v491 : BitVec 32 := Scalar.divsi v18 c4_i32_274
  let c1_i32_280 : BitVec 32 := 1#32
  let v506 : BitVec 32 := Scalar.subi v491 c1_i32_280
  let v507 : BitVec 32 := Scalar.select v505 v506 v491
  let v509 : BitVec 32 := Scalar.subi v507 c0_i32_282
  let c1_i32_283 : BitVec 32 := 1#32
  let v511 : BitVec 32 := Scalar.divsi v509 c1_i32_283
  let v512 : BitVec 32 := Scalar.muli v511 c1_i32_283
  let v513 : BitVec 32 := Scalar.addi c0_i32_282 v512
  let v510 : BitVec 32 := Scalar.addi c0_i32_282 v509
  let c1_i32_285 : BitVec 32 := 1#32
  ⟨v513, v510, c1_i32_285⟩
def k0_mult71 (i : grid0.Coords) (k0_t14 : Fin (k0_t14_loop i).trips) : BitVec 32 :=
  let c0_i32_282 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_275 : BitVec 32 := 0#32
  let v492 : BitVec 1 := Scalar.cmpi .sgt v18 c0_i32_275
  let v493 : BitVec 32 := Scalar.extui v492
  let c0_i32_276 : BitVec 32 := 0#32
  let v494 : BitVec 1 := Scalar.cmpi .slt v18 c0_i32_276
  let v495 : BitVec 32 := Scalar.extui v494
  let v496 : BitVec 32 := Scalar.subi v493 v495
  let c4_i32_274 : BitVec 32 := 4#32
  let c0_i32_277 : BitVec 32 := 0#32
  let v497 : BitVec 1 := Scalar.cmpi .sgt c4_i32_274 c0_i32_277
  let v498 : BitVec 32 := Scalar.extui v497
  let c0_i32_278 : BitVec 32 := 0#32
  let v499 : BitVec 1 := Scalar.cmpi .slt c4_i32_274 c0_i32_278
  let v500 : BitVec 32 := Scalar.extui v499
  let v501 : BitVec 32 := Scalar.subi v498 v500
  let v502 : BitVec 1 := Scalar.cmpi .ne v496 v501
  let v503 : BitVec 32 := Scalar.remsi v18 c4_i32_274
  let c0_i32_279 : BitVec 32 := 0#32
  let v504 : BitVec 1 := Scalar.cmpi .ne v503 c0_i32_279
  let v505 : BitVec 1 := Scalar.andi v502 v504
  let v491 : BitVec 32 := Scalar.divsi v18 c4_i32_274
  let c1_i32_280 : BitVec 32 := 1#32
  let v506 : BitVec 32 := Scalar.subi v491 c1_i32_280
  let v507 : BitVec 32 := Scalar.select v505 v506 v491
  let v509 : BitVec 32 := Scalar.subi v507 c0_i32_282
  let c1_i32_283 : BitVec 32 := 1#32
  let v511 : BitVec 32 := Scalar.divsi v509 c1_i32_283
  let v512 : BitVec 32 := Scalar.muli v511 c1_i32_283
  let v513 : BitVec 32 := Scalar.addi c0_i32_282 v512
  let c1_i32_285 : BitVec 32 := 1#32
  let arg17 : BitVec 32 := Scf.iv v513 c1_i32_285 k0_t14
  let c4_i32_299 : BitVec 32 := 4#32
  let v546 : BitVec 32 := Scalar.muli arg17 c4_i32_299
  let c0_i32_300 : BitVec 32 := 0#32
  let v547 : BitVec 32 := Scalar.addi v546 c0_i32_300
  let c256_i32_301 : BitVec 32 := 256#32
  let v548 : BitVec 32 := Scalar.muli v547 c256_i32_301
  v548
def k0_off181 (i : grid0.Coords) (k0_t14 : Fin (k0_t14_loop i).trips) (c0_i32_300 : BitVec 32) : Fin 2 → Nat :=
  let c0_i32_282 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_275 : BitVec 32 := 0#32
  let v492 : BitVec 1 := Scalar.cmpi .sgt v18 c0_i32_275
  let v493 : BitVec 32 := Scalar.extui v492
  let c0_i32_276 : BitVec 32 := 0#32
  let v494 : BitVec 1 := Scalar.cmpi .slt v18 c0_i32_276
  let v495 : BitVec 32 := Scalar.extui v494
  let v496 : BitVec 32 := Scalar.subi v493 v495
  let c4_i32_274 : BitVec 32 := 4#32
  let c0_i32_277 : BitVec 32 := 0#32
  let v497 : BitVec 1 := Scalar.cmpi .sgt c4_i32_274 c0_i32_277
  let v498 : BitVec 32 := Scalar.extui v497
  let c0_i32_278 : BitVec 32 := 0#32
  let v499 : BitVec 1 := Scalar.cmpi .slt c4_i32_274 c0_i32_278
  let v500 : BitVec 32 := Scalar.extui v499
  let v501 : BitVec 32 := Scalar.subi v498 v500
  let v502 : BitVec 1 := Scalar.cmpi .ne v496 v501
  let v503 : BitVec 32 := Scalar.remsi v18 c4_i32_274
  let c0_i32_279 : BitVec 32 := 0#32
  let v504 : BitVec 1 := Scalar.cmpi .ne v503 c0_i32_279
  let v505 : BitVec 1 := Scalar.andi v502 v504
  let v491 : BitVec 32 := Scalar.divsi v18 c4_i32_274
  let c1_i32_280 : BitVec 32 := 1#32
  let v506 : BitVec 32 := Scalar.subi v491 c1_i32_280
  let v507 : BitVec 32 := Scalar.select v505 v506 v491
  let v509 : BitVec 32 := Scalar.subi v507 c0_i32_282
  let c1_i32_283 : BitVec 32 := 1#32
  let v511 : BitVec 32 := Scalar.divsi v509 c1_i32_283
  let v512 : BitVec 32 := Scalar.muli v511 c1_i32_283
  let v513 : BitVec 32 := Scalar.addi c0_i32_282 v512
  let c1_i32_285 : BitVec 32 := 1#32
  let arg17 : BitVec 32 := Scf.iv v513 c1_i32_285 k0_t14
  let c4_i32_299 : BitVec 32 := 4#32
  let v546 : BitVec 32 := Scalar.muli arg17 c4_i32_299
  let v547 : BitVec 32 := Scalar.addi v546 c0_i32_300
  let c256_i32_301 : BitVec 32 := 256#32
  let v548 : BitVec 32 := Scalar.muli v547 c256_i32_301
  let v549 : BitVec 32 := v548
  let v550 : Index := Scalar.indexCast v549
  let c0_302 : Index := 0#32
  ![v550.toNat, 0]
def k0_mult72 (i : grid0.Coords) (k0_t14 : Fin (k0_t14_loop i).trips) : BitVec 32 :=
  let c0_i32_282 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_275 : BitVec 32 := 0#32
  let v492 : BitVec 1 := Scalar.cmpi .sgt v18 c0_i32_275
  let v493 : BitVec 32 := Scalar.extui v492
  let c0_i32_276 : BitVec 32 := 0#32
  let v494 : BitVec 1 := Scalar.cmpi .slt v18 c0_i32_276
  let v495 : BitVec 32 := Scalar.extui v494
  let v496 : BitVec 32 := Scalar.subi v493 v495
  let c4_i32_274 : BitVec 32 := 4#32
  let c0_i32_277 : BitVec 32 := 0#32
  let v497 : BitVec 1 := Scalar.cmpi .sgt c4_i32_274 c0_i32_277
  let v498 : BitVec 32 := Scalar.extui v497
  let c0_i32_278 : BitVec 32 := 0#32
  let v499 : BitVec 1 := Scalar.cmpi .slt c4_i32_274 c0_i32_278
  let v500 : BitVec 32 := Scalar.extui v499
  let v501 : BitVec 32 := Scalar.subi v498 v500
  let v502 : BitVec 1 := Scalar.cmpi .ne v496 v501
  let v503 : BitVec 32 := Scalar.remsi v18 c4_i32_274
  let c0_i32_279 : BitVec 32 := 0#32
  let v504 : BitVec 1 := Scalar.cmpi .ne v503 c0_i32_279
  let v505 : BitVec 1 := Scalar.andi v502 v504
  let v491 : BitVec 32 := Scalar.divsi v18 c4_i32_274
  let c1_i32_280 : BitVec 32 := 1#32
  let v506 : BitVec 32 := Scalar.subi v491 c1_i32_280
  let v507 : BitVec 32 := Scalar.select v505 v506 v491
  let v509 : BitVec 32 := Scalar.subi v507 c0_i32_282
  let c1_i32_283 : BitVec 32 := 1#32
  let v511 : BitVec 32 := Scalar.divsi v509 c1_i32_283
  let v512 : BitVec 32 := Scalar.muli v511 c1_i32_283
  let v513 : BitVec 32 := Scalar.addi c0_i32_282 v512
  let c1_i32_285 : BitVec 32 := 1#32
  let arg17 : BitVec 32 := Scf.iv v513 c1_i32_285 k0_t14
  let c4_i32_305 : BitVec 32 := 4#32
  let v563 : BitVec 32 := Scalar.muli arg17 c4_i32_305
  let c1_i32_306 : BitVec 32 := 1#32
  let v564 : BitVec 32 := Scalar.addi v563 c1_i32_306
  let c256_i32_307 : BitVec 32 := 256#32
  let v565 : BitVec 32 := Scalar.muli v564 c256_i32_307
  v565
def k0_mult73 (i : grid0.Coords) (k0_t14 : Fin (k0_t14_loop i).trips) : BitVec 32 :=
  let c0_i32_282 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_275 : BitVec 32 := 0#32
  let v492 : BitVec 1 := Scalar.cmpi .sgt v18 c0_i32_275
  let v493 : BitVec 32 := Scalar.extui v492
  let c0_i32_276 : BitVec 32 := 0#32
  let v494 : BitVec 1 := Scalar.cmpi .slt v18 c0_i32_276
  let v495 : BitVec 32 := Scalar.extui v494
  let v496 : BitVec 32 := Scalar.subi v493 v495
  let c4_i32_274 : BitVec 32 := 4#32
  let c0_i32_277 : BitVec 32 := 0#32
  let v497 : BitVec 1 := Scalar.cmpi .sgt c4_i32_274 c0_i32_277
  let v498 : BitVec 32 := Scalar.extui v497
  let c0_i32_278 : BitVec 32 := 0#32
  let v499 : BitVec 1 := Scalar.cmpi .slt c4_i32_274 c0_i32_278
  let v500 : BitVec 32 := Scalar.extui v499
  let v501 : BitVec 32 := Scalar.subi v498 v500
  let v502 : BitVec 1 := Scalar.cmpi .ne v496 v501
  let v503 : BitVec 32 := Scalar.remsi v18 c4_i32_274
  let c0_i32_279 : BitVec 32 := 0#32
  let v504 : BitVec 1 := Scalar.cmpi .ne v503 c0_i32_279
  let v505 : BitVec 1 := Scalar.andi v502 v504
  let v491 : BitVec 32 := Scalar.divsi v18 c4_i32_274
  let c1_i32_280 : BitVec 32 := 1#32
  let v506 : BitVec 32 := Scalar.subi v491 c1_i32_280
  let v507 : BitVec 32 := Scalar.select v505 v506 v491
  let v509 : BitVec 32 := Scalar.subi v507 c0_i32_282
  let c1_i32_283 : BitVec 32 := 1#32
  let v511 : BitVec 32 := Scalar.divsi v509 c1_i32_283
  let v512 : BitVec 32 := Scalar.muli v511 c1_i32_283
  let v513 : BitVec 32 := Scalar.addi c0_i32_282 v512
  let c1_i32_285 : BitVec 32 := 1#32
  let arg17 : BitVec 32 := Scf.iv v513 c1_i32_285 k0_t14
  let c4_i32_311 : BitVec 32 := 4#32
  let v580 : BitVec 32 := Scalar.muli arg17 c4_i32_311
  let c2_i32_312 : BitVec 32 := 2#32
  let v581 : BitVec 32 := Scalar.addi v580 c2_i32_312
  let c256_i32_313 : BitVec 32 := 256#32
  let v582 : BitVec 32 := Scalar.muli v581 c256_i32_313
  v582
def k0_mult74 (i : grid0.Coords) (k0_t14 : Fin (k0_t14_loop i).trips) : BitVec 32 :=
  let c0_i32_282 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_275 : BitVec 32 := 0#32
  let v492 : BitVec 1 := Scalar.cmpi .sgt v18 c0_i32_275
  let v493 : BitVec 32 := Scalar.extui v492
  let c0_i32_276 : BitVec 32 := 0#32
  let v494 : BitVec 1 := Scalar.cmpi .slt v18 c0_i32_276
  let v495 : BitVec 32 := Scalar.extui v494
  let v496 : BitVec 32 := Scalar.subi v493 v495
  let c4_i32_274 : BitVec 32 := 4#32
  let c0_i32_277 : BitVec 32 := 0#32
  let v497 : BitVec 1 := Scalar.cmpi .sgt c4_i32_274 c0_i32_277
  let v498 : BitVec 32 := Scalar.extui v497
  let c0_i32_278 : BitVec 32 := 0#32
  let v499 : BitVec 1 := Scalar.cmpi .slt c4_i32_274 c0_i32_278
  let v500 : BitVec 32 := Scalar.extui v499
  let v501 : BitVec 32 := Scalar.subi v498 v500
  let v502 : BitVec 1 := Scalar.cmpi .ne v496 v501
  let v503 : BitVec 32 := Scalar.remsi v18 c4_i32_274
  let c0_i32_279 : BitVec 32 := 0#32
  let v504 : BitVec 1 := Scalar.cmpi .ne v503 c0_i32_279
  let v505 : BitVec 1 := Scalar.andi v502 v504
  let v491 : BitVec 32 := Scalar.divsi v18 c4_i32_274
  let c1_i32_280 : BitVec 32 := 1#32
  let v506 : BitVec 32 := Scalar.subi v491 c1_i32_280
  let v507 : BitVec 32 := Scalar.select v505 v506 v491
  let v509 : BitVec 32 := Scalar.subi v507 c0_i32_282
  let c1_i32_283 : BitVec 32 := 1#32
  let v511 : BitVec 32 := Scalar.divsi v509 c1_i32_283
  let v512 : BitVec 32 := Scalar.muli v511 c1_i32_283
  let v513 : BitVec 32 := Scalar.addi c0_i32_282 v512
  let c1_i32_285 : BitVec 32 := 1#32
  let arg17 : BitVec 32 := Scf.iv v513 c1_i32_285 k0_t14
  let c4_i32_317 : BitVec 32 := 4#32
  let v597 : BitVec 32 := Scalar.muli arg17 c4_i32_317
  let c3_i32 : BitVec 32 := 3#32
  let v598 : BitVec 32 := Scalar.addi v597 c3_i32
  let c256_i32_318 : BitVec 32 := 256#32
  let v599 : BitVec 32 := Scalar.muli v598 c256_i32_318
  v599
@[reducible] def k0_t15_loop (i : grid0.Coords) : Scf.Loop 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_287 : BitVec 32 := 0#32
  let v517 : BitVec 1 := Scalar.cmpi .sgt v18 c0_i32_287
  let v518 : BitVec 32 := Scalar.extui v517
  let c0_i32_288 : BitVec 32 := 0#32
  let v519 : BitVec 1 := Scalar.cmpi .slt v18 c0_i32_288
  let v520 : BitVec 32 := Scalar.extui v519
  let v521 : BitVec 32 := Scalar.subi v518 v520
  let c4_i32_286 : BitVec 32 := 4#32
  let c0_i32_289 : BitVec 32 := 0#32
  let v522 : BitVec 1 := Scalar.cmpi .sgt c4_i32_286 c0_i32_289
  let v523 : BitVec 32 := Scalar.extui v522
  let c0_i32_290 : BitVec 32 := 0#32
  let v524 : BitVec 1 := Scalar.cmpi .slt c4_i32_286 c0_i32_290
  let v525 : BitVec 32 := Scalar.extui v524
  let v526 : BitVec 32 := Scalar.subi v523 v525
  let v527 : BitVec 1 := Scalar.cmpi .ne v521 v526
  let v528 : BitVec 32 := Scalar.remsi v18 c4_i32_286
  let c0_i32_291 : BitVec 32 := 0#32
  let v529 : BitVec 1 := Scalar.cmpi .ne v528 c0_i32_291
  let v530 : BitVec 1 := Scalar.andi v527 v529
  let v516 : BitVec 32 := Scalar.divsi v18 c4_i32_286
  let c1_i32_292 : BitVec 32 := 1#32
  let v531 : BitVec 32 := Scalar.subi v516 c1_i32_292
  let v532 : BitVec 32 := Scalar.select v530 v531 v516
  let c4_i32_293 : BitVec 32 := 4#32
  let v533 : BitVec 32 := Scalar.muli v532 c4_i32_293
  let v534 : BitVec 32 := Scalar.subi v18 v533
  let c1_i32_294 : BitVec 32 := 1#32
  let v536 : BitVec 32 := Scalar.divsi v534 c1_i32_294
  let v537 : BitVec 32 := Scalar.muli v536 c1_i32_294
  let v538 : BitVec 32 := Scalar.addi v533 v537
  let c1_i32_295 : BitVec 32 := 1#32
  ⟨v533, v538, c1_i32_295⟩
def k0_mult75 (i : grid0.Coords) (k0_t15 : Fin (k0_t15_loop i).trips) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_287 : BitVec 32 := 0#32
  let v517 : BitVec 1 := Scalar.cmpi .sgt v18 c0_i32_287
  let v518 : BitVec 32 := Scalar.extui v517
  let c0_i32_288 : BitVec 32 := 0#32
  let v519 : BitVec 1 := Scalar.cmpi .slt v18 c0_i32_288
  let v520 : BitVec 32 := Scalar.extui v519
  let v521 : BitVec 32 := Scalar.subi v518 v520
  let c4_i32_286 : BitVec 32 := 4#32
  let c0_i32_289 : BitVec 32 := 0#32
  let v522 : BitVec 1 := Scalar.cmpi .sgt c4_i32_286 c0_i32_289
  let v523 : BitVec 32 := Scalar.extui v522
  let c0_i32_290 : BitVec 32 := 0#32
  let v524 : BitVec 1 := Scalar.cmpi .slt c4_i32_286 c0_i32_290
  let v525 : BitVec 32 := Scalar.extui v524
  let v526 : BitVec 32 := Scalar.subi v523 v525
  let v527 : BitVec 1 := Scalar.cmpi .ne v521 v526
  let v528 : BitVec 32 := Scalar.remsi v18 c4_i32_286
  let c0_i32_291 : BitVec 32 := 0#32
  let v529 : BitVec 1 := Scalar.cmpi .ne v528 c0_i32_291
  let v530 : BitVec 1 := Scalar.andi v527 v529
  let v516 : BitVec 32 := Scalar.divsi v18 c4_i32_286
  let c1_i32_292 : BitVec 32 := 1#32
  let v531 : BitVec 32 := Scalar.subi v516 c1_i32_292
  let v532 : BitVec 32 := Scalar.select v530 v531 v516
  let c4_i32_293 : BitVec 32 := 4#32
  let v533 : BitVec 32 := Scalar.muli v532 c4_i32_293
  let c1_i32_295 : BitVec 32 := 1#32
  let arg17 : BitVec 32 := Scf.iv v533 c1_i32_295 k0_t15
  let c256_i32_299 : BitVec 32 := 256#32
  let v546 : BitVec 32 := Scalar.muli arg17 c256_i32_299
  v546
def k0_off182 (i : grid0.Coords) (k0_t15 : Fin (k0_t15_loop i).trips) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_287 : BitVec 32 := 0#32
  let v517 : BitVec 1 := Scalar.cmpi .sgt v18 c0_i32_287
  let v518 : BitVec 32 := Scalar.extui v517
  let c0_i32_288 : BitVec 32 := 0#32
  let v519 : BitVec 1 := Scalar.cmpi .slt v18 c0_i32_288
  let v520 : BitVec 32 := Scalar.extui v519
  let v521 : BitVec 32 := Scalar.subi v518 v520
  let c4_i32_286 : BitVec 32 := 4#32
  let c0_i32_289 : BitVec 32 := 0#32
  let v522 : BitVec 1 := Scalar.cmpi .sgt c4_i32_286 c0_i32_289
  let v523 : BitVec 32 := Scalar.extui v522
  let c0_i32_290 : BitVec 32 := 0#32
  let v524 : BitVec 1 := Scalar.cmpi .slt c4_i32_286 c0_i32_290
  let v525 : BitVec 32 := Scalar.extui v524
  let v526 : BitVec 32 := Scalar.subi v523 v525
  let v527 : BitVec 1 := Scalar.cmpi .ne v521 v526
  let v528 : BitVec 32 := Scalar.remsi v18 c4_i32_286
  let c0_i32_291 : BitVec 32 := 0#32
  let v529 : BitVec 1 := Scalar.cmpi .ne v528 c0_i32_291
  let v530 : BitVec 1 := Scalar.andi v527 v529
  let v516 : BitVec 32 := Scalar.divsi v18 c4_i32_286
  let c1_i32_292 : BitVec 32 := 1#32
  let v531 : BitVec 32 := Scalar.subi v516 c1_i32_292
  let v532 : BitVec 32 := Scalar.select v530 v531 v516
  let c4_i32_293 : BitVec 32 := 4#32
  let v533 : BitVec 32 := Scalar.muli v532 c4_i32_293
  let c1_i32_295 : BitVec 32 := 1#32
  let arg17 : BitVec 32 := Scf.iv v533 c1_i32_295 k0_t15
  let c256_i32_299 : BitVec 32 := 256#32
  let v546 : BitVec 32 := Scalar.muli arg17 c256_i32_299
  let v547 : BitVec 32 := v546
  let v548 : Index := Scalar.indexCast v547
  let c0_300 : Index := 0#32
  ![v548.toNat, 0]
@[reducible] def k0_t16_loop (i : grid0.Coords) : Scf.Loop 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_287 : BitVec 32 := 0#32
  let v517 : BitVec 1 := Scalar.cmpi .sgt v18 c0_i32_287
  let v518 : BitVec 32 := Scalar.extui v517
  let c0_i32_288 : BitVec 32 := 0#32
  let v519 : BitVec 1 := Scalar.cmpi .slt v18 c0_i32_288
  let v520 : BitVec 32 := Scalar.extui v519
  let v521 : BitVec 32 := Scalar.subi v518 v520
  let c4_i32_286 : BitVec 32 := 4#32
  let c0_i32_289 : BitVec 32 := 0#32
  let v522 : BitVec 1 := Scalar.cmpi .sgt c4_i32_286 c0_i32_289
  let v523 : BitVec 32 := Scalar.extui v522
  let c0_i32_290 : BitVec 32 := 0#32
  let v524 : BitVec 1 := Scalar.cmpi .slt c4_i32_286 c0_i32_290
  let v525 : BitVec 32 := Scalar.extui v524
  let v526 : BitVec 32 := Scalar.subi v523 v525
  let v527 : BitVec 1 := Scalar.cmpi .ne v521 v526
  let v528 : BitVec 32 := Scalar.remsi v18 c4_i32_286
  let c0_i32_291 : BitVec 32 := 0#32
  let v529 : BitVec 1 := Scalar.cmpi .ne v528 c0_i32_291
  let v530 : BitVec 1 := Scalar.andi v527 v529
  let v516 : BitVec 32 := Scalar.divsi v18 c4_i32_286
  let c1_i32_292 : BitVec 32 := 1#32
  let v531 : BitVec 32 := Scalar.subi v516 c1_i32_292
  let v532 : BitVec 32 := Scalar.select v530 v531 v516
  let c4_i32_293 : BitVec 32 := 4#32
  let v533 : BitVec 32 := Scalar.muli v532 c4_i32_293
  let v534 : BitVec 32 := Scalar.subi v18 v533
  let c1_i32_294 : BitVec 32 := 1#32
  let v536 : BitVec 32 := Scalar.divsi v534 c1_i32_294
  let v537 : BitVec 32 := Scalar.muli v536 c1_i32_294
  let v538 : BitVec 32 := Scalar.addi v533 v537
  let v535 : BitVec 32 := Scalar.addi v533 v534
  let c1_i32_296 : BitVec 32 := 1#32
  ⟨v538, v535, c1_i32_296⟩
def k0_mult76 (i : grid0.Coords) (k0_t16 : Fin (k0_t16_loop i).trips) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_287 : BitVec 32 := 0#32
  let v517 : BitVec 1 := Scalar.cmpi .sgt v18 c0_i32_287
  let v518 : BitVec 32 := Scalar.extui v517
  let c0_i32_288 : BitVec 32 := 0#32
  let v519 : BitVec 1 := Scalar.cmpi .slt v18 c0_i32_288
  let v520 : BitVec 32 := Scalar.extui v519
  let v521 : BitVec 32 := Scalar.subi v518 v520
  let c4_i32_286 : BitVec 32 := 4#32
  let c0_i32_289 : BitVec 32 := 0#32
  let v522 : BitVec 1 := Scalar.cmpi .sgt c4_i32_286 c0_i32_289
  let v523 : BitVec 32 := Scalar.extui v522
  let c0_i32_290 : BitVec 32 := 0#32
  let v524 : BitVec 1 := Scalar.cmpi .slt c4_i32_286 c0_i32_290
  let v525 : BitVec 32 := Scalar.extui v524
  let v526 : BitVec 32 := Scalar.subi v523 v525
  let v527 : BitVec 1 := Scalar.cmpi .ne v521 v526
  let v528 : BitVec 32 := Scalar.remsi v18 c4_i32_286
  let c0_i32_291 : BitVec 32 := 0#32
  let v529 : BitVec 1 := Scalar.cmpi .ne v528 c0_i32_291
  let v530 : BitVec 1 := Scalar.andi v527 v529
  let v516 : BitVec 32 := Scalar.divsi v18 c4_i32_286
  let c1_i32_292 : BitVec 32 := 1#32
  let v531 : BitVec 32 := Scalar.subi v516 c1_i32_292
  let v532 : BitVec 32 := Scalar.select v530 v531 v516
  let c4_i32_293 : BitVec 32 := 4#32
  let v533 : BitVec 32 := Scalar.muli v532 c4_i32_293
  let v534 : BitVec 32 := Scalar.subi v18 v533
  let c1_i32_294 : BitVec 32 := 1#32
  let v536 : BitVec 32 := Scalar.divsi v534 c1_i32_294
  let v537 : BitVec 32 := Scalar.muli v536 c1_i32_294
  let v538 : BitVec 32 := Scalar.addi v533 v537
  let c1_i32_296 : BitVec 32 := 1#32
  let arg17 : BitVec 32 := Scf.iv v538 c1_i32_296 k0_t16
  let c256_i32_299 : BitVec 32 := 256#32
  let v546 : BitVec 32 := Scalar.muli arg17 c256_i32_299
  v546
def k0_off183 (i : grid0.Coords) (k0_t16 : Fin (k0_t16_loop i).trips) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_287 : BitVec 32 := 0#32
  let v517 : BitVec 1 := Scalar.cmpi .sgt v18 c0_i32_287
  let v518 : BitVec 32 := Scalar.extui v517
  let c0_i32_288 : BitVec 32 := 0#32
  let v519 : BitVec 1 := Scalar.cmpi .slt v18 c0_i32_288
  let v520 : BitVec 32 := Scalar.extui v519
  let v521 : BitVec 32 := Scalar.subi v518 v520
  let c4_i32_286 : BitVec 32 := 4#32
  let c0_i32_289 : BitVec 32 := 0#32
  let v522 : BitVec 1 := Scalar.cmpi .sgt c4_i32_286 c0_i32_289
  let v523 : BitVec 32 := Scalar.extui v522
  let c0_i32_290 : BitVec 32 := 0#32
  let v524 : BitVec 1 := Scalar.cmpi .slt c4_i32_286 c0_i32_290
  let v525 : BitVec 32 := Scalar.extui v524
  let v526 : BitVec 32 := Scalar.subi v523 v525
  let v527 : BitVec 1 := Scalar.cmpi .ne v521 v526
  let v528 : BitVec 32 := Scalar.remsi v18 c4_i32_286
  let c0_i32_291 : BitVec 32 := 0#32
  let v529 : BitVec 1 := Scalar.cmpi .ne v528 c0_i32_291
  let v530 : BitVec 1 := Scalar.andi v527 v529
  let v516 : BitVec 32 := Scalar.divsi v18 c4_i32_286
  let c1_i32_292 : BitVec 32 := 1#32
  let v531 : BitVec 32 := Scalar.subi v516 c1_i32_292
  let v532 : BitVec 32 := Scalar.select v530 v531 v516
  let c4_i32_293 : BitVec 32 := 4#32
  let v533 : BitVec 32 := Scalar.muli v532 c4_i32_293
  let v534 : BitVec 32 := Scalar.subi v18 v533
  let c1_i32_294 : BitVec 32 := 1#32
  let v536 : BitVec 32 := Scalar.divsi v534 c1_i32_294
  let v537 : BitVec 32 := Scalar.muli v536 c1_i32_294
  let v538 : BitVec 32 := Scalar.addi v533 v537
  let c1_i32_296 : BitVec 32 := 1#32
  let arg17 : BitVec 32 := Scf.iv v538 c1_i32_296 k0_t16
  let c256_i32_299 : BitVec 32 := 256#32
  let v546 : BitVec 32 := Scalar.muli arg17 c256_i32_299
  let v547 : BitVec 32 := v546
  let v548 : Index := Scalar.indexCast v547
  let c0_300 : Index := 0#32
  ![v548.toNat, 0]
@[reducible] def k0_t17_loop (i : grid0.Coords) : Scf.Loop 32 :=
  let c0_i32_242 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_235 : BitVec 32 := 0#32
  let v409 : BitVec 1 := Scalar.cmpi .sgt v18 c0_i32_235
  let v410 : BitVec 32 := Scalar.extui v409
  let c0_i32_236 : BitVec 32 := 0#32
  let v411 : BitVec 1 := Scalar.cmpi .slt v18 c0_i32_236
  let v412 : BitVec 32 := Scalar.extui v411
  let v413 : BitVec 32 := Scalar.subi v410 v412
  let c4_i32_234 : BitVec 32 := 4#32
  let c0_i32_237 : BitVec 32 := 0#32
  let v414 : BitVec 1 := Scalar.cmpi .sgt c4_i32_234 c0_i32_237
  let v415 : BitVec 32 := Scalar.extui v414
  let c0_i32_238 : BitVec 32 := 0#32
  let v416 : BitVec 1 := Scalar.cmpi .slt c4_i32_234 c0_i32_238
  let v417 : BitVec 32 := Scalar.extui v416
  let v418 : BitVec 32 := Scalar.subi v415 v417
  let v419 : BitVec 1 := Scalar.cmpi .ne v413 v418
  let v420 : BitVec 32 := Scalar.remsi v18 c4_i32_234
  let c0_i32_239 : BitVec 32 := 0#32
  let v421 : BitVec 1 := Scalar.cmpi .ne v420 c0_i32_239
  let v422 : BitVec 1 := Scalar.andi v419 v421
  let v408 : BitVec 32 := Scalar.divsi v18 c4_i32_234
  let c1_i32_240 : BitVec 32 := 1#32
  let v423 : BitVec 32 := Scalar.subi v408 c1_i32_240
  let v424 : BitVec 32 := Scalar.select v422 v423 v408
  let v426 : BitVec 32 := Scalar.subi v424 c0_i32_242
  let c1_i32_243 : BitVec 32 := 1#32
  let v428 : BitVec 32 := Scalar.divsi v426 c1_i32_243
  let v429 : BitVec 32 := Scalar.muli v428 c1_i32_243
  let v430 : BitVec 32 := Scalar.addi c0_i32_242 v429
  let c1_i32_244 : BitVec 32 := 1#32
  ⟨c0_i32_242, v430, c1_i32_244⟩
def k0_mult77 (i : grid0.Coords) (k0_t17 : Fin (k0_t17_loop i).trips) : BitVec 32 :=
  let c0_i32_242 : BitVec 32 := 0#32
  let c1_i32_244 : BitVec 32 := 1#32
  let arg15 : BitVec 32 := Scf.iv c0_i32_242 c1_i32_244 k0_t17
  let c4_i32_269 : BitVec 32 := 4#32
  let v480 : BitVec 32 := Scalar.muli arg15 c4_i32_269
  let c0_i32_270 : BitVec 32 := 0#32
  let v481 : BitVec 32 := Scalar.addi v480 c0_i32_270
  let c256_i32_271 : BitVec 32 := 256#32
  let v482 : BitVec 32 := Scalar.muli v481 c256_i32_271
  v482
def k0_off184 (i : grid0.Coords) (k0_t17 : Fin (k0_t17_loop i).trips) (c0_i32_270 : BitVec 32) : Fin 2 → Nat :=
  let c0_i32_242 : BitVec 32 := 0#32
  let c1_i32_244 : BitVec 32 := 1#32
  let arg15 : BitVec 32 := Scf.iv c0_i32_242 c1_i32_244 k0_t17
  let c4_i32_269 : BitVec 32 := 4#32
  let v480 : BitVec 32 := Scalar.muli arg15 c4_i32_269
  let v481 : BitVec 32 := Scalar.addi v480 c0_i32_270
  let c256_i32_271 : BitVec 32 := 256#32
  let v482 : BitVec 32 := Scalar.muli v481 c256_i32_271
  let v483 : BitVec 32 := v482
  let v484 : Index := Scalar.indexCast v483
  let c0_272 : Index := 0#32
  ![v484.toNat, 0]
def k0_mult78 (i : grid0.Coords) (k0_t17 : Fin (k0_t17_loop i).trips) : BitVec 32 :=
  let c0_i32_242 : BitVec 32 := 0#32
  let c1_i32_244 : BitVec 32 := 1#32
  let arg15 : BitVec 32 := Scf.iv c0_i32_242 c1_i32_244 k0_t17
  let c4_i32_275 : BitVec 32 := 4#32
  let v497 : BitVec 32 := Scalar.muli arg15 c4_i32_275
  let c1_i32_276 : BitVec 32 := 1#32
  let v498 : BitVec 32 := Scalar.addi v497 c1_i32_276
  let c256_i32_277 : BitVec 32 := 256#32
  let v499 : BitVec 32 := Scalar.muli v498 c256_i32_277
  v499
def k0_mult79 (i : grid0.Coords) (k0_t17 : Fin (k0_t17_loop i).trips) : BitVec 32 :=
  let c0_i32_242 : BitVec 32 := 0#32
  let c1_i32_244 : BitVec 32 := 1#32
  let arg15 : BitVec 32 := Scf.iv c0_i32_242 c1_i32_244 k0_t17
  let c4_i32_281 : BitVec 32 := 4#32
  let v514 : BitVec 32 := Scalar.muli arg15 c4_i32_281
  let c2_i32_282 : BitVec 32 := 2#32
  let v515 : BitVec 32 := Scalar.addi v514 c2_i32_282
  let c256_i32_283 : BitVec 32 := 256#32
  let v516 : BitVec 32 := Scalar.muli v515 c256_i32_283
  v516
def k0_mult80 (i : grid0.Coords) (k0_t17 : Fin (k0_t17_loop i).trips) : BitVec 32 :=
  let c0_i32_242 : BitVec 32 := 0#32
  let c1_i32_244 : BitVec 32 := 1#32
  let arg15 : BitVec 32 := Scf.iv c0_i32_242 c1_i32_244 k0_t17
  let c4_i32_287 : BitVec 32 := 4#32
  let v531 : BitVec 32 := Scalar.muli arg15 c4_i32_287
  let c3_i32 : BitVec 32 := 3#32
  let v532 : BitVec 32 := Scalar.addi v531 c3_i32
  let c256_i32_288 : BitVec 32 := 256#32
  let v533 : BitVec 32 := Scalar.muli v532 c256_i32_288
  v533
@[reducible] def k0_t18_loop (i : grid0.Coords) : Scf.Loop 32 :=
  let c0_i32_242 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_235 : BitVec 32 := 0#32
  let v409 : BitVec 1 := Scalar.cmpi .sgt v18 c0_i32_235
  let v410 : BitVec 32 := Scalar.extui v409
  let c0_i32_236 : BitVec 32 := 0#32
  let v411 : BitVec 1 := Scalar.cmpi .slt v18 c0_i32_236
  let v412 : BitVec 32 := Scalar.extui v411
  let v413 : BitVec 32 := Scalar.subi v410 v412
  let c4_i32_234 : BitVec 32 := 4#32
  let c0_i32_237 : BitVec 32 := 0#32
  let v414 : BitVec 1 := Scalar.cmpi .sgt c4_i32_234 c0_i32_237
  let v415 : BitVec 32 := Scalar.extui v414
  let c0_i32_238 : BitVec 32 := 0#32
  let v416 : BitVec 1 := Scalar.cmpi .slt c4_i32_234 c0_i32_238
  let v417 : BitVec 32 := Scalar.extui v416
  let v418 : BitVec 32 := Scalar.subi v415 v417
  let v419 : BitVec 1 := Scalar.cmpi .ne v413 v418
  let v420 : BitVec 32 := Scalar.remsi v18 c4_i32_234
  let c0_i32_239 : BitVec 32 := 0#32
  let v421 : BitVec 1 := Scalar.cmpi .ne v420 c0_i32_239
  let v422 : BitVec 1 := Scalar.andi v419 v421
  let v408 : BitVec 32 := Scalar.divsi v18 c4_i32_234
  let c1_i32_240 : BitVec 32 := 1#32
  let v423 : BitVec 32 := Scalar.subi v408 c1_i32_240
  let v424 : BitVec 32 := Scalar.select v422 v423 v408
  let v426 : BitVec 32 := Scalar.subi v424 c0_i32_242
  let c1_i32_243 : BitVec 32 := 1#32
  let v428 : BitVec 32 := Scalar.divsi v426 c1_i32_243
  let v429 : BitVec 32 := Scalar.muli v428 c1_i32_243
  let v430 : BitVec 32 := Scalar.addi c0_i32_242 v429
  let v427 : BitVec 32 := Scalar.addi c0_i32_242 v426
  let c1_i32_245 : BitVec 32 := 1#32
  ⟨v430, v427, c1_i32_245⟩
def k0_mult81 (i : grid0.Coords) (k0_t18 : Fin (k0_t18_loop i).trips) : BitVec 32 :=
  let c0_i32_242 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_235 : BitVec 32 := 0#32
  let v409 : BitVec 1 := Scalar.cmpi .sgt v18 c0_i32_235
  let v410 : BitVec 32 := Scalar.extui v409
  let c0_i32_236 : BitVec 32 := 0#32
  let v411 : BitVec 1 := Scalar.cmpi .slt v18 c0_i32_236
  let v412 : BitVec 32 := Scalar.extui v411
  let v413 : BitVec 32 := Scalar.subi v410 v412
  let c4_i32_234 : BitVec 32 := 4#32
  let c0_i32_237 : BitVec 32 := 0#32
  let v414 : BitVec 1 := Scalar.cmpi .sgt c4_i32_234 c0_i32_237
  let v415 : BitVec 32 := Scalar.extui v414
  let c0_i32_238 : BitVec 32 := 0#32
  let v416 : BitVec 1 := Scalar.cmpi .slt c4_i32_234 c0_i32_238
  let v417 : BitVec 32 := Scalar.extui v416
  let v418 : BitVec 32 := Scalar.subi v415 v417
  let v419 : BitVec 1 := Scalar.cmpi .ne v413 v418
  let v420 : BitVec 32 := Scalar.remsi v18 c4_i32_234
  let c0_i32_239 : BitVec 32 := 0#32
  let v421 : BitVec 1 := Scalar.cmpi .ne v420 c0_i32_239
  let v422 : BitVec 1 := Scalar.andi v419 v421
  let v408 : BitVec 32 := Scalar.divsi v18 c4_i32_234
  let c1_i32_240 : BitVec 32 := 1#32
  let v423 : BitVec 32 := Scalar.subi v408 c1_i32_240
  let v424 : BitVec 32 := Scalar.select v422 v423 v408
  let v426 : BitVec 32 := Scalar.subi v424 c0_i32_242
  let c1_i32_243 : BitVec 32 := 1#32
  let v428 : BitVec 32 := Scalar.divsi v426 c1_i32_243
  let v429 : BitVec 32 := Scalar.muli v428 c1_i32_243
  let v430 : BitVec 32 := Scalar.addi c0_i32_242 v429
  let c1_i32_245 : BitVec 32 := 1#32
  let arg15 : BitVec 32 := Scf.iv v430 c1_i32_245 k0_t18
  let c4_i32_269 : BitVec 32 := 4#32
  let v480 : BitVec 32 := Scalar.muli arg15 c4_i32_269
  let c0_i32_270 : BitVec 32 := 0#32
  let v481 : BitVec 32 := Scalar.addi v480 c0_i32_270
  let c256_i32_271 : BitVec 32 := 256#32
  let v482 : BitVec 32 := Scalar.muli v481 c256_i32_271
  v482
def k0_off185 (i : grid0.Coords) (k0_t18 : Fin (k0_t18_loop i).trips) (c0_i32_270 : BitVec 32) : Fin 2 → Nat :=
  let c0_i32_242 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_235 : BitVec 32 := 0#32
  let v409 : BitVec 1 := Scalar.cmpi .sgt v18 c0_i32_235
  let v410 : BitVec 32 := Scalar.extui v409
  let c0_i32_236 : BitVec 32 := 0#32
  let v411 : BitVec 1 := Scalar.cmpi .slt v18 c0_i32_236
  let v412 : BitVec 32 := Scalar.extui v411
  let v413 : BitVec 32 := Scalar.subi v410 v412
  let c4_i32_234 : BitVec 32 := 4#32
  let c0_i32_237 : BitVec 32 := 0#32
  let v414 : BitVec 1 := Scalar.cmpi .sgt c4_i32_234 c0_i32_237
  let v415 : BitVec 32 := Scalar.extui v414
  let c0_i32_238 : BitVec 32 := 0#32
  let v416 : BitVec 1 := Scalar.cmpi .slt c4_i32_234 c0_i32_238
  let v417 : BitVec 32 := Scalar.extui v416
  let v418 : BitVec 32 := Scalar.subi v415 v417
  let v419 : BitVec 1 := Scalar.cmpi .ne v413 v418
  let v420 : BitVec 32 := Scalar.remsi v18 c4_i32_234
  let c0_i32_239 : BitVec 32 := 0#32
  let v421 : BitVec 1 := Scalar.cmpi .ne v420 c0_i32_239
  let v422 : BitVec 1 := Scalar.andi v419 v421
  let v408 : BitVec 32 := Scalar.divsi v18 c4_i32_234
  let c1_i32_240 : BitVec 32 := 1#32
  let v423 : BitVec 32 := Scalar.subi v408 c1_i32_240
  let v424 : BitVec 32 := Scalar.select v422 v423 v408
  let v426 : BitVec 32 := Scalar.subi v424 c0_i32_242
  let c1_i32_243 : BitVec 32 := 1#32
  let v428 : BitVec 32 := Scalar.divsi v426 c1_i32_243
  let v429 : BitVec 32 := Scalar.muli v428 c1_i32_243
  let v430 : BitVec 32 := Scalar.addi c0_i32_242 v429
  let c1_i32_245 : BitVec 32 := 1#32
  let arg15 : BitVec 32 := Scf.iv v430 c1_i32_245 k0_t18
  let c4_i32_269 : BitVec 32 := 4#32
  let v480 : BitVec 32 := Scalar.muli arg15 c4_i32_269
  let v481 : BitVec 32 := Scalar.addi v480 c0_i32_270
  let c256_i32_271 : BitVec 32 := 256#32
  let v482 : BitVec 32 := Scalar.muli v481 c256_i32_271
  let v483 : BitVec 32 := v482
  let v484 : Index := Scalar.indexCast v483
  let c0_272 : Index := 0#32
  ![v484.toNat, 0]
def k0_mult82 (i : grid0.Coords) (k0_t18 : Fin (k0_t18_loop i).trips) : BitVec 32 :=
  let c0_i32_242 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_235 : BitVec 32 := 0#32
  let v409 : BitVec 1 := Scalar.cmpi .sgt v18 c0_i32_235
  let v410 : BitVec 32 := Scalar.extui v409
  let c0_i32_236 : BitVec 32 := 0#32
  let v411 : BitVec 1 := Scalar.cmpi .slt v18 c0_i32_236
  let v412 : BitVec 32 := Scalar.extui v411
  let v413 : BitVec 32 := Scalar.subi v410 v412
  let c4_i32_234 : BitVec 32 := 4#32
  let c0_i32_237 : BitVec 32 := 0#32
  let v414 : BitVec 1 := Scalar.cmpi .sgt c4_i32_234 c0_i32_237
  let v415 : BitVec 32 := Scalar.extui v414
  let c0_i32_238 : BitVec 32 := 0#32
  let v416 : BitVec 1 := Scalar.cmpi .slt c4_i32_234 c0_i32_238
  let v417 : BitVec 32 := Scalar.extui v416
  let v418 : BitVec 32 := Scalar.subi v415 v417
  let v419 : BitVec 1 := Scalar.cmpi .ne v413 v418
  let v420 : BitVec 32 := Scalar.remsi v18 c4_i32_234
  let c0_i32_239 : BitVec 32 := 0#32
  let v421 : BitVec 1 := Scalar.cmpi .ne v420 c0_i32_239
  let v422 : BitVec 1 := Scalar.andi v419 v421
  let v408 : BitVec 32 := Scalar.divsi v18 c4_i32_234
  let c1_i32_240 : BitVec 32 := 1#32
  let v423 : BitVec 32 := Scalar.subi v408 c1_i32_240
  let v424 : BitVec 32 := Scalar.select v422 v423 v408
  let v426 : BitVec 32 := Scalar.subi v424 c0_i32_242
  let c1_i32_243 : BitVec 32 := 1#32
  let v428 : BitVec 32 := Scalar.divsi v426 c1_i32_243
  let v429 : BitVec 32 := Scalar.muli v428 c1_i32_243
  let v430 : BitVec 32 := Scalar.addi c0_i32_242 v429
  let c1_i32_245 : BitVec 32 := 1#32
  let arg15 : BitVec 32 := Scf.iv v430 c1_i32_245 k0_t18
  let c4_i32_275 : BitVec 32 := 4#32
  let v497 : BitVec 32 := Scalar.muli arg15 c4_i32_275
  let c1_i32_276 : BitVec 32 := 1#32
  let v498 : BitVec 32 := Scalar.addi v497 c1_i32_276
  let c256_i32_277 : BitVec 32 := 256#32
  let v499 : BitVec 32 := Scalar.muli v498 c256_i32_277
  v499
def k0_mult83 (i : grid0.Coords) (k0_t18 : Fin (k0_t18_loop i).trips) : BitVec 32 :=
  let c0_i32_242 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_235 : BitVec 32 := 0#32
  let v409 : BitVec 1 := Scalar.cmpi .sgt v18 c0_i32_235
  let v410 : BitVec 32 := Scalar.extui v409
  let c0_i32_236 : BitVec 32 := 0#32
  let v411 : BitVec 1 := Scalar.cmpi .slt v18 c0_i32_236
  let v412 : BitVec 32 := Scalar.extui v411
  let v413 : BitVec 32 := Scalar.subi v410 v412
  let c4_i32_234 : BitVec 32 := 4#32
  let c0_i32_237 : BitVec 32 := 0#32
  let v414 : BitVec 1 := Scalar.cmpi .sgt c4_i32_234 c0_i32_237
  let v415 : BitVec 32 := Scalar.extui v414
  let c0_i32_238 : BitVec 32 := 0#32
  let v416 : BitVec 1 := Scalar.cmpi .slt c4_i32_234 c0_i32_238
  let v417 : BitVec 32 := Scalar.extui v416
  let v418 : BitVec 32 := Scalar.subi v415 v417
  let v419 : BitVec 1 := Scalar.cmpi .ne v413 v418
  let v420 : BitVec 32 := Scalar.remsi v18 c4_i32_234
  let c0_i32_239 : BitVec 32 := 0#32
  let v421 : BitVec 1 := Scalar.cmpi .ne v420 c0_i32_239
  let v422 : BitVec 1 := Scalar.andi v419 v421
  let v408 : BitVec 32 := Scalar.divsi v18 c4_i32_234
  let c1_i32_240 : BitVec 32 := 1#32
  let v423 : BitVec 32 := Scalar.subi v408 c1_i32_240
  let v424 : BitVec 32 := Scalar.select v422 v423 v408
  let v426 : BitVec 32 := Scalar.subi v424 c0_i32_242
  let c1_i32_243 : BitVec 32 := 1#32
  let v428 : BitVec 32 := Scalar.divsi v426 c1_i32_243
  let v429 : BitVec 32 := Scalar.muli v428 c1_i32_243
  let v430 : BitVec 32 := Scalar.addi c0_i32_242 v429
  let c1_i32_245 : BitVec 32 := 1#32
  let arg15 : BitVec 32 := Scf.iv v430 c1_i32_245 k0_t18
  let c4_i32_281 : BitVec 32 := 4#32
  let v514 : BitVec 32 := Scalar.muli arg15 c4_i32_281
  let c2_i32_282 : BitVec 32 := 2#32
  let v515 : BitVec 32 := Scalar.addi v514 c2_i32_282
  let c256_i32_283 : BitVec 32 := 256#32
  let v516 : BitVec 32 := Scalar.muli v515 c256_i32_283
  v516
def k0_mult84 (i : grid0.Coords) (k0_t18 : Fin (k0_t18_loop i).trips) : BitVec 32 :=
  let c0_i32_242 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_235 : BitVec 32 := 0#32
  let v409 : BitVec 1 := Scalar.cmpi .sgt v18 c0_i32_235
  let v410 : BitVec 32 := Scalar.extui v409
  let c0_i32_236 : BitVec 32 := 0#32
  let v411 : BitVec 1 := Scalar.cmpi .slt v18 c0_i32_236
  let v412 : BitVec 32 := Scalar.extui v411
  let v413 : BitVec 32 := Scalar.subi v410 v412
  let c4_i32_234 : BitVec 32 := 4#32
  let c0_i32_237 : BitVec 32 := 0#32
  let v414 : BitVec 1 := Scalar.cmpi .sgt c4_i32_234 c0_i32_237
  let v415 : BitVec 32 := Scalar.extui v414
  let c0_i32_238 : BitVec 32 := 0#32
  let v416 : BitVec 1 := Scalar.cmpi .slt c4_i32_234 c0_i32_238
  let v417 : BitVec 32 := Scalar.extui v416
  let v418 : BitVec 32 := Scalar.subi v415 v417
  let v419 : BitVec 1 := Scalar.cmpi .ne v413 v418
  let v420 : BitVec 32 := Scalar.remsi v18 c4_i32_234
  let c0_i32_239 : BitVec 32 := 0#32
  let v421 : BitVec 1 := Scalar.cmpi .ne v420 c0_i32_239
  let v422 : BitVec 1 := Scalar.andi v419 v421
  let v408 : BitVec 32 := Scalar.divsi v18 c4_i32_234
  let c1_i32_240 : BitVec 32 := 1#32
  let v423 : BitVec 32 := Scalar.subi v408 c1_i32_240
  let v424 : BitVec 32 := Scalar.select v422 v423 v408
  let v426 : BitVec 32 := Scalar.subi v424 c0_i32_242
  let c1_i32_243 : BitVec 32 := 1#32
  let v428 : BitVec 32 := Scalar.divsi v426 c1_i32_243
  let v429 : BitVec 32 := Scalar.muli v428 c1_i32_243
  let v430 : BitVec 32 := Scalar.addi c0_i32_242 v429
  let c1_i32_245 : BitVec 32 := 1#32
  let arg15 : BitVec 32 := Scf.iv v430 c1_i32_245 k0_t18
  let c4_i32_287 : BitVec 32 := 4#32
  let v531 : BitVec 32 := Scalar.muli arg15 c4_i32_287
  let c3_i32 : BitVec 32 := 3#32
  let v532 : BitVec 32 := Scalar.addi v531 c3_i32
  let c256_i32_288 : BitVec 32 := 256#32
  let v533 : BitVec 32 := Scalar.muli v532 c256_i32_288
  v533
@[reducible] def k0_t19_loop (i : grid0.Coords) : Scf.Loop 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_247 : BitVec 32 := 0#32
  let v434 : BitVec 1 := Scalar.cmpi .sgt v18 c0_i32_247
  let v435 : BitVec 32 := Scalar.extui v434
  let c0_i32_248 : BitVec 32 := 0#32
  let v436 : BitVec 1 := Scalar.cmpi .slt v18 c0_i32_248
  let v437 : BitVec 32 := Scalar.extui v436
  let v438 : BitVec 32 := Scalar.subi v435 v437
  let c4_i32_246 : BitVec 32 := 4#32
  let c0_i32_249 : BitVec 32 := 0#32
  let v439 : BitVec 1 := Scalar.cmpi .sgt c4_i32_246 c0_i32_249
  let v440 : BitVec 32 := Scalar.extui v439
  let c0_i32_250 : BitVec 32 := 0#32
  let v441 : BitVec 1 := Scalar.cmpi .slt c4_i32_246 c0_i32_250
  let v442 : BitVec 32 := Scalar.extui v441
  let v443 : BitVec 32 := Scalar.subi v440 v442
  let v444 : BitVec 1 := Scalar.cmpi .ne v438 v443
  let v445 : BitVec 32 := Scalar.remsi v18 c4_i32_246
  let c0_i32_251 : BitVec 32 := 0#32
  let v446 : BitVec 1 := Scalar.cmpi .ne v445 c0_i32_251
  let v447 : BitVec 1 := Scalar.andi v444 v446
  let v433 : BitVec 32 := Scalar.divsi v18 c4_i32_246
  let c1_i32_252 : BitVec 32 := 1#32
  let v448 : BitVec 32 := Scalar.subi v433 c1_i32_252
  let v449 : BitVec 32 := Scalar.select v447 v448 v433
  let c4_i32_253 : BitVec 32 := 4#32
  let v450 : BitVec 32 := Scalar.muli v449 c4_i32_253
  let v451 : BitVec 32 := Scalar.subi v18 v450
  let c1_i32_254 : BitVec 32 := 1#32
  let v453 : BitVec 32 := Scalar.divsi v451 c1_i32_254
  let v454 : BitVec 32 := Scalar.muli v453 c1_i32_254
  let v455 : BitVec 32 := Scalar.addi v450 v454
  let c1_i32_255 : BitVec 32 := 1#32
  ⟨v450, v455, c1_i32_255⟩
def k0_mult85 (i : grid0.Coords) (k0_t19 : Fin (k0_t19_loop i).trips) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_247 : BitVec 32 := 0#32
  let v434 : BitVec 1 := Scalar.cmpi .sgt v18 c0_i32_247
  let v435 : BitVec 32 := Scalar.extui v434
  let c0_i32_248 : BitVec 32 := 0#32
  let v436 : BitVec 1 := Scalar.cmpi .slt v18 c0_i32_248
  let v437 : BitVec 32 := Scalar.extui v436
  let v438 : BitVec 32 := Scalar.subi v435 v437
  let c4_i32_246 : BitVec 32 := 4#32
  let c0_i32_249 : BitVec 32 := 0#32
  let v439 : BitVec 1 := Scalar.cmpi .sgt c4_i32_246 c0_i32_249
  let v440 : BitVec 32 := Scalar.extui v439
  let c0_i32_250 : BitVec 32 := 0#32
  let v441 : BitVec 1 := Scalar.cmpi .slt c4_i32_246 c0_i32_250
  let v442 : BitVec 32 := Scalar.extui v441
  let v443 : BitVec 32 := Scalar.subi v440 v442
  let v444 : BitVec 1 := Scalar.cmpi .ne v438 v443
  let v445 : BitVec 32 := Scalar.remsi v18 c4_i32_246
  let c0_i32_251 : BitVec 32 := 0#32
  let v446 : BitVec 1 := Scalar.cmpi .ne v445 c0_i32_251
  let v447 : BitVec 1 := Scalar.andi v444 v446
  let v433 : BitVec 32 := Scalar.divsi v18 c4_i32_246
  let c1_i32_252 : BitVec 32 := 1#32
  let v448 : BitVec 32 := Scalar.subi v433 c1_i32_252
  let v449 : BitVec 32 := Scalar.select v447 v448 v433
  let c4_i32_253 : BitVec 32 := 4#32
  let v450 : BitVec 32 := Scalar.muli v449 c4_i32_253
  let c1_i32_255 : BitVec 32 := 1#32
  let arg15 : BitVec 32 := Scf.iv v450 c1_i32_255 k0_t19
  let c256_i32_269 : BitVec 32 := 256#32
  let v480 : BitVec 32 := Scalar.muli arg15 c256_i32_269
  v480
def k0_off186 (i : grid0.Coords) (k0_t19 : Fin (k0_t19_loop i).trips) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_247 : BitVec 32 := 0#32
  let v434 : BitVec 1 := Scalar.cmpi .sgt v18 c0_i32_247
  let v435 : BitVec 32 := Scalar.extui v434
  let c0_i32_248 : BitVec 32 := 0#32
  let v436 : BitVec 1 := Scalar.cmpi .slt v18 c0_i32_248
  let v437 : BitVec 32 := Scalar.extui v436
  let v438 : BitVec 32 := Scalar.subi v435 v437
  let c4_i32_246 : BitVec 32 := 4#32
  let c0_i32_249 : BitVec 32 := 0#32
  let v439 : BitVec 1 := Scalar.cmpi .sgt c4_i32_246 c0_i32_249
  let v440 : BitVec 32 := Scalar.extui v439
  let c0_i32_250 : BitVec 32 := 0#32
  let v441 : BitVec 1 := Scalar.cmpi .slt c4_i32_246 c0_i32_250
  let v442 : BitVec 32 := Scalar.extui v441
  let v443 : BitVec 32 := Scalar.subi v440 v442
  let v444 : BitVec 1 := Scalar.cmpi .ne v438 v443
  let v445 : BitVec 32 := Scalar.remsi v18 c4_i32_246
  let c0_i32_251 : BitVec 32 := 0#32
  let v446 : BitVec 1 := Scalar.cmpi .ne v445 c0_i32_251
  let v447 : BitVec 1 := Scalar.andi v444 v446
  let v433 : BitVec 32 := Scalar.divsi v18 c4_i32_246
  let c1_i32_252 : BitVec 32 := 1#32
  let v448 : BitVec 32 := Scalar.subi v433 c1_i32_252
  let v449 : BitVec 32 := Scalar.select v447 v448 v433
  let c4_i32_253 : BitVec 32 := 4#32
  let v450 : BitVec 32 := Scalar.muli v449 c4_i32_253
  let c1_i32_255 : BitVec 32 := 1#32
  let arg15 : BitVec 32 := Scf.iv v450 c1_i32_255 k0_t19
  let c256_i32_269 : BitVec 32 := 256#32
  let v480 : BitVec 32 := Scalar.muli arg15 c256_i32_269
  let v481 : BitVec 32 := v480
  let v482 : Index := Scalar.indexCast v481
  let c0_270 : Index := 0#32
  ![v482.toNat, 0]
@[reducible] def k0_t20_loop (i : grid0.Coords) : Scf.Loop 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_247 : BitVec 32 := 0#32
  let v434 : BitVec 1 := Scalar.cmpi .sgt v18 c0_i32_247
  let v435 : BitVec 32 := Scalar.extui v434
  let c0_i32_248 : BitVec 32 := 0#32
  let v436 : BitVec 1 := Scalar.cmpi .slt v18 c0_i32_248
  let v437 : BitVec 32 := Scalar.extui v436
  let v438 : BitVec 32 := Scalar.subi v435 v437
  let c4_i32_246 : BitVec 32 := 4#32
  let c0_i32_249 : BitVec 32 := 0#32
  let v439 : BitVec 1 := Scalar.cmpi .sgt c4_i32_246 c0_i32_249
  let v440 : BitVec 32 := Scalar.extui v439
  let c0_i32_250 : BitVec 32 := 0#32
  let v441 : BitVec 1 := Scalar.cmpi .slt c4_i32_246 c0_i32_250
  let v442 : BitVec 32 := Scalar.extui v441
  let v443 : BitVec 32 := Scalar.subi v440 v442
  let v444 : BitVec 1 := Scalar.cmpi .ne v438 v443
  let v445 : BitVec 32 := Scalar.remsi v18 c4_i32_246
  let c0_i32_251 : BitVec 32 := 0#32
  let v446 : BitVec 1 := Scalar.cmpi .ne v445 c0_i32_251
  let v447 : BitVec 1 := Scalar.andi v444 v446
  let v433 : BitVec 32 := Scalar.divsi v18 c4_i32_246
  let c1_i32_252 : BitVec 32 := 1#32
  let v448 : BitVec 32 := Scalar.subi v433 c1_i32_252
  let v449 : BitVec 32 := Scalar.select v447 v448 v433
  let c4_i32_253 : BitVec 32 := 4#32
  let v450 : BitVec 32 := Scalar.muli v449 c4_i32_253
  let v451 : BitVec 32 := Scalar.subi v18 v450
  let c1_i32_254 : BitVec 32 := 1#32
  let v453 : BitVec 32 := Scalar.divsi v451 c1_i32_254
  let v454 : BitVec 32 := Scalar.muli v453 c1_i32_254
  let v455 : BitVec 32 := Scalar.addi v450 v454
  let v452 : BitVec 32 := Scalar.addi v450 v451
  let c1_i32_256 : BitVec 32 := 1#32
  ⟨v455, v452, c1_i32_256⟩
def k0_mult86 (i : grid0.Coords) (k0_t20 : Fin (k0_t20_loop i).trips) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_247 : BitVec 32 := 0#32
  let v434 : BitVec 1 := Scalar.cmpi .sgt v18 c0_i32_247
  let v435 : BitVec 32 := Scalar.extui v434
  let c0_i32_248 : BitVec 32 := 0#32
  let v436 : BitVec 1 := Scalar.cmpi .slt v18 c0_i32_248
  let v437 : BitVec 32 := Scalar.extui v436
  let v438 : BitVec 32 := Scalar.subi v435 v437
  let c4_i32_246 : BitVec 32 := 4#32
  let c0_i32_249 : BitVec 32 := 0#32
  let v439 : BitVec 1 := Scalar.cmpi .sgt c4_i32_246 c0_i32_249
  let v440 : BitVec 32 := Scalar.extui v439
  let c0_i32_250 : BitVec 32 := 0#32
  let v441 : BitVec 1 := Scalar.cmpi .slt c4_i32_246 c0_i32_250
  let v442 : BitVec 32 := Scalar.extui v441
  let v443 : BitVec 32 := Scalar.subi v440 v442
  let v444 : BitVec 1 := Scalar.cmpi .ne v438 v443
  let v445 : BitVec 32 := Scalar.remsi v18 c4_i32_246
  let c0_i32_251 : BitVec 32 := 0#32
  let v446 : BitVec 1 := Scalar.cmpi .ne v445 c0_i32_251
  let v447 : BitVec 1 := Scalar.andi v444 v446
  let v433 : BitVec 32 := Scalar.divsi v18 c4_i32_246
  let c1_i32_252 : BitVec 32 := 1#32
  let v448 : BitVec 32 := Scalar.subi v433 c1_i32_252
  let v449 : BitVec 32 := Scalar.select v447 v448 v433
  let c4_i32_253 : BitVec 32 := 4#32
  let v450 : BitVec 32 := Scalar.muli v449 c4_i32_253
  let v451 : BitVec 32 := Scalar.subi v18 v450
  let c1_i32_254 : BitVec 32 := 1#32
  let v453 : BitVec 32 := Scalar.divsi v451 c1_i32_254
  let v454 : BitVec 32 := Scalar.muli v453 c1_i32_254
  let v455 : BitVec 32 := Scalar.addi v450 v454
  let c1_i32_256 : BitVec 32 := 1#32
  let arg15 : BitVec 32 := Scf.iv v455 c1_i32_256 k0_t20
  let c256_i32_269 : BitVec 32 := 256#32
  let v480 : BitVec 32 := Scalar.muli arg15 c256_i32_269
  v480
def k0_off187 (i : grid0.Coords) (k0_t20 : Fin (k0_t20_loop i).trips) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_247 : BitVec 32 := 0#32
  let v434 : BitVec 1 := Scalar.cmpi .sgt v18 c0_i32_247
  let v435 : BitVec 32 := Scalar.extui v434
  let c0_i32_248 : BitVec 32 := 0#32
  let v436 : BitVec 1 := Scalar.cmpi .slt v18 c0_i32_248
  let v437 : BitVec 32 := Scalar.extui v436
  let v438 : BitVec 32 := Scalar.subi v435 v437
  let c4_i32_246 : BitVec 32 := 4#32
  let c0_i32_249 : BitVec 32 := 0#32
  let v439 : BitVec 1 := Scalar.cmpi .sgt c4_i32_246 c0_i32_249
  let v440 : BitVec 32 := Scalar.extui v439
  let c0_i32_250 : BitVec 32 := 0#32
  let v441 : BitVec 1 := Scalar.cmpi .slt c4_i32_246 c0_i32_250
  let v442 : BitVec 32 := Scalar.extui v441
  let v443 : BitVec 32 := Scalar.subi v440 v442
  let v444 : BitVec 1 := Scalar.cmpi .ne v438 v443
  let v445 : BitVec 32 := Scalar.remsi v18 c4_i32_246
  let c0_i32_251 : BitVec 32 := 0#32
  let v446 : BitVec 1 := Scalar.cmpi .ne v445 c0_i32_251
  let v447 : BitVec 1 := Scalar.andi v444 v446
  let v433 : BitVec 32 := Scalar.divsi v18 c4_i32_246
  let c1_i32_252 : BitVec 32 := 1#32
  let v448 : BitVec 32 := Scalar.subi v433 c1_i32_252
  let v449 : BitVec 32 := Scalar.select v447 v448 v433
  let c4_i32_253 : BitVec 32 := 4#32
  let v450 : BitVec 32 := Scalar.muli v449 c4_i32_253
  let v451 : BitVec 32 := Scalar.subi v18 v450
  let c1_i32_254 : BitVec 32 := 1#32
  let v453 : BitVec 32 := Scalar.divsi v451 c1_i32_254
  let v454 : BitVec 32 := Scalar.muli v453 c1_i32_254
  let v455 : BitVec 32 := Scalar.addi v450 v454
  let c1_i32_256 : BitVec 32 := 1#32
  let arg15 : BitVec 32 := Scf.iv v455 c1_i32_256 k0_t20
  let c256_i32_269 : BitVec 32 := 256#32
  let v480 : BitVec 32 := Scalar.muli arg15 c256_i32_269
  let v481 : BitVec 32 := v480
  let v482 : Index := Scalar.indexCast v481
  let c0_270 : Index := 0#32
  ![v482.toNat, 0]
@[reducible] def k0_t21_loop (i : grid0.Coords) : Scf.Loop 32 :=
  let c0_i32_277 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_270 : BitVec 32 := 0#32
  let v481 : BitVec 1 := Scalar.cmpi .sgt v18 c0_i32_270
  let v482 : BitVec 32 := Scalar.extui v481
  let c0_i32_271 : BitVec 32 := 0#32
  let v483 : BitVec 1 := Scalar.cmpi .slt v18 c0_i32_271
  let v484 : BitVec 32 := Scalar.extui v483
  let v485 : BitVec 32 := Scalar.subi v482 v484
  let c4_i32_269 : BitVec 32 := 4#32
  let c0_i32_272 : BitVec 32 := 0#32
  let v486 : BitVec 1 := Scalar.cmpi .sgt c4_i32_269 c0_i32_272
  let v487 : BitVec 32 := Scalar.extui v486
  let c0_i32_273 : BitVec 32 := 0#32
  let v488 : BitVec 1 := Scalar.cmpi .slt c4_i32_269 c0_i32_273
  let v489 : BitVec 32 := Scalar.extui v488
  let v490 : BitVec 32 := Scalar.subi v487 v489
  let v491 : BitVec 1 := Scalar.cmpi .ne v485 v490
  let v492 : BitVec 32 := Scalar.remsi v18 c4_i32_269
  let c0_i32_274 : BitVec 32 := 0#32
  let v493 : BitVec 1 := Scalar.cmpi .ne v492 c0_i32_274
  let v494 : BitVec 1 := Scalar.andi v491 v493
  let v480 : BitVec 32 := Scalar.divsi v18 c4_i32_269
  let c1_i32_275 : BitVec 32 := 1#32
  let v495 : BitVec 32 := Scalar.subi v480 c1_i32_275
  let v496 : BitVec 32 := Scalar.select v494 v495 v480
  let v498 : BitVec 32 := Scalar.subi v496 c0_i32_277
  let c1_i32_278 : BitVec 32 := 1#32
  let v500 : BitVec 32 := Scalar.divsi v498 c1_i32_278
  let v501 : BitVec 32 := Scalar.muli v500 c1_i32_278
  let v502 : BitVec 32 := Scalar.addi c0_i32_277 v501
  let c1_i32_279 : BitVec 32 := 1#32
  ⟨c0_i32_277, v502, c1_i32_279⟩
def k0_mult87 (i : grid0.Coords) (k0_t21 : Fin (k0_t21_loop i).trips) : BitVec 32 :=
  let c0_i32_277 : BitVec 32 := 0#32
  let c1_i32_279 : BitVec 32 := 1#32
  let arg15 : BitVec 32 := Scf.iv c0_i32_277 c1_i32_279 k0_t21
  let c4_i32_295 : BitVec 32 := 4#32
  let v535 : BitVec 32 := Scalar.muli arg15 c4_i32_295
  let c0_i32_296 : BitVec 32 := 0#32
  let v536 : BitVec 32 := Scalar.addi v535 c0_i32_296
  let c256_i32_297 : BitVec 32 := 256#32
  let v537 : BitVec 32 := Scalar.muli v536 c256_i32_297
  v537
def k0_off188 (i : grid0.Coords) (k0_t21 : Fin (k0_t21_loop i).trips) (c0_i32_296 : BitVec 32) : Fin 2 → Nat :=
  let c0_i32_277 : BitVec 32 := 0#32
  let c1_i32_279 : BitVec 32 := 1#32
  let arg15 : BitVec 32 := Scf.iv c0_i32_277 c1_i32_279 k0_t21
  let c4_i32_295 : BitVec 32 := 4#32
  let v535 : BitVec 32 := Scalar.muli arg15 c4_i32_295
  let v536 : BitVec 32 := Scalar.addi v535 c0_i32_296
  let c256_i32_297 : BitVec 32 := 256#32
  let v537 : BitVec 32 := Scalar.muli v536 c256_i32_297
  let v538 : BitVec 32 := v537
  let v539 : Index := Scalar.indexCast v538
  let c0_298 : Index := 0#32
  ![v539.toNat, 0]
def k0_mult88 (i : grid0.Coords) (k0_t21 : Fin (k0_t21_loop i).trips) : BitVec 32 :=
  let c0_i32_277 : BitVec 32 := 0#32
  let c1_i32_279 : BitVec 32 := 1#32
  let arg15 : BitVec 32 := Scf.iv c0_i32_277 c1_i32_279 k0_t21
  let c4_i32_301 : BitVec 32 := 4#32
  let v552 : BitVec 32 := Scalar.muli arg15 c4_i32_301
  let c1_i32_302 : BitVec 32 := 1#32
  let v553 : BitVec 32 := Scalar.addi v552 c1_i32_302
  let c256_i32_303 : BitVec 32 := 256#32
  let v554 : BitVec 32 := Scalar.muli v553 c256_i32_303
  v554
def k0_mult89 (i : grid0.Coords) (k0_t21 : Fin (k0_t21_loop i).trips) : BitVec 32 :=
  let c0_i32_277 : BitVec 32 := 0#32
  let c1_i32_279 : BitVec 32 := 1#32
  let arg15 : BitVec 32 := Scf.iv c0_i32_277 c1_i32_279 k0_t21
  let c4_i32_307 : BitVec 32 := 4#32
  let v569 : BitVec 32 := Scalar.muli arg15 c4_i32_307
  let c2_i32_308 : BitVec 32 := 2#32
  let v570 : BitVec 32 := Scalar.addi v569 c2_i32_308
  let c256_i32_309 : BitVec 32 := 256#32
  let v571 : BitVec 32 := Scalar.muli v570 c256_i32_309
  v571
def k0_mult90 (i : grid0.Coords) (k0_t21 : Fin (k0_t21_loop i).trips) : BitVec 32 :=
  let c0_i32_277 : BitVec 32 := 0#32
  let c1_i32_279 : BitVec 32 := 1#32
  let arg15 : BitVec 32 := Scf.iv c0_i32_277 c1_i32_279 k0_t21
  let c4_i32_313 : BitVec 32 := 4#32
  let v586 : BitVec 32 := Scalar.muli arg15 c4_i32_313
  let c3_i32 : BitVec 32 := 3#32
  let v587 : BitVec 32 := Scalar.addi v586 c3_i32
  let c256_i32_314 : BitVec 32 := 256#32
  let v588 : BitVec 32 := Scalar.muli v587 c256_i32_314
  v588
@[reducible] def k0_t22_loop (i : grid0.Coords) : Scf.Loop 32 :=
  let c0_i32_277 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_270 : BitVec 32 := 0#32
  let v481 : BitVec 1 := Scalar.cmpi .sgt v18 c0_i32_270
  let v482 : BitVec 32 := Scalar.extui v481
  let c0_i32_271 : BitVec 32 := 0#32
  let v483 : BitVec 1 := Scalar.cmpi .slt v18 c0_i32_271
  let v484 : BitVec 32 := Scalar.extui v483
  let v485 : BitVec 32 := Scalar.subi v482 v484
  let c4_i32_269 : BitVec 32 := 4#32
  let c0_i32_272 : BitVec 32 := 0#32
  let v486 : BitVec 1 := Scalar.cmpi .sgt c4_i32_269 c0_i32_272
  let v487 : BitVec 32 := Scalar.extui v486
  let c0_i32_273 : BitVec 32 := 0#32
  let v488 : BitVec 1 := Scalar.cmpi .slt c4_i32_269 c0_i32_273
  let v489 : BitVec 32 := Scalar.extui v488
  let v490 : BitVec 32 := Scalar.subi v487 v489
  let v491 : BitVec 1 := Scalar.cmpi .ne v485 v490
  let v492 : BitVec 32 := Scalar.remsi v18 c4_i32_269
  let c0_i32_274 : BitVec 32 := 0#32
  let v493 : BitVec 1 := Scalar.cmpi .ne v492 c0_i32_274
  let v494 : BitVec 1 := Scalar.andi v491 v493
  let v480 : BitVec 32 := Scalar.divsi v18 c4_i32_269
  let c1_i32_275 : BitVec 32 := 1#32
  let v495 : BitVec 32 := Scalar.subi v480 c1_i32_275
  let v496 : BitVec 32 := Scalar.select v494 v495 v480
  let v498 : BitVec 32 := Scalar.subi v496 c0_i32_277
  let c1_i32_278 : BitVec 32 := 1#32
  let v500 : BitVec 32 := Scalar.divsi v498 c1_i32_278
  let v501 : BitVec 32 := Scalar.muli v500 c1_i32_278
  let v502 : BitVec 32 := Scalar.addi c0_i32_277 v501
  let v499 : BitVec 32 := Scalar.addi c0_i32_277 v498
  let c1_i32_280 : BitVec 32 := 1#32
  ⟨v502, v499, c1_i32_280⟩
def k0_mult91 (i : grid0.Coords) (k0_t22 : Fin (k0_t22_loop i).trips) : BitVec 32 :=
  let c0_i32_277 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_270 : BitVec 32 := 0#32
  let v481 : BitVec 1 := Scalar.cmpi .sgt v18 c0_i32_270
  let v482 : BitVec 32 := Scalar.extui v481
  let c0_i32_271 : BitVec 32 := 0#32
  let v483 : BitVec 1 := Scalar.cmpi .slt v18 c0_i32_271
  let v484 : BitVec 32 := Scalar.extui v483
  let v485 : BitVec 32 := Scalar.subi v482 v484
  let c4_i32_269 : BitVec 32 := 4#32
  let c0_i32_272 : BitVec 32 := 0#32
  let v486 : BitVec 1 := Scalar.cmpi .sgt c4_i32_269 c0_i32_272
  let v487 : BitVec 32 := Scalar.extui v486
  let c0_i32_273 : BitVec 32 := 0#32
  let v488 : BitVec 1 := Scalar.cmpi .slt c4_i32_269 c0_i32_273
  let v489 : BitVec 32 := Scalar.extui v488
  let v490 : BitVec 32 := Scalar.subi v487 v489
  let v491 : BitVec 1 := Scalar.cmpi .ne v485 v490
  let v492 : BitVec 32 := Scalar.remsi v18 c4_i32_269
  let c0_i32_274 : BitVec 32 := 0#32
  let v493 : BitVec 1 := Scalar.cmpi .ne v492 c0_i32_274
  let v494 : BitVec 1 := Scalar.andi v491 v493
  let v480 : BitVec 32 := Scalar.divsi v18 c4_i32_269
  let c1_i32_275 : BitVec 32 := 1#32
  let v495 : BitVec 32 := Scalar.subi v480 c1_i32_275
  let v496 : BitVec 32 := Scalar.select v494 v495 v480
  let v498 : BitVec 32 := Scalar.subi v496 c0_i32_277
  let c1_i32_278 : BitVec 32 := 1#32
  let v500 : BitVec 32 := Scalar.divsi v498 c1_i32_278
  let v501 : BitVec 32 := Scalar.muli v500 c1_i32_278
  let v502 : BitVec 32 := Scalar.addi c0_i32_277 v501
  let c1_i32_280 : BitVec 32 := 1#32
  let arg15 : BitVec 32 := Scf.iv v502 c1_i32_280 k0_t22
  let c4_i32_295 : BitVec 32 := 4#32
  let v535 : BitVec 32 := Scalar.muli arg15 c4_i32_295
  let c0_i32_296 : BitVec 32 := 0#32
  let v536 : BitVec 32 := Scalar.addi v535 c0_i32_296
  let c256_i32_297 : BitVec 32 := 256#32
  let v537 : BitVec 32 := Scalar.muli v536 c256_i32_297
  v537
def k0_off189 (i : grid0.Coords) (k0_t22 : Fin (k0_t22_loop i).trips) (c0_i32_296 : BitVec 32) : Fin 2 → Nat :=
  let c0_i32_277 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_270 : BitVec 32 := 0#32
  let v481 : BitVec 1 := Scalar.cmpi .sgt v18 c0_i32_270
  let v482 : BitVec 32 := Scalar.extui v481
  let c0_i32_271 : BitVec 32 := 0#32
  let v483 : BitVec 1 := Scalar.cmpi .slt v18 c0_i32_271
  let v484 : BitVec 32 := Scalar.extui v483
  let v485 : BitVec 32 := Scalar.subi v482 v484
  let c4_i32_269 : BitVec 32 := 4#32
  let c0_i32_272 : BitVec 32 := 0#32
  let v486 : BitVec 1 := Scalar.cmpi .sgt c4_i32_269 c0_i32_272
  let v487 : BitVec 32 := Scalar.extui v486
  let c0_i32_273 : BitVec 32 := 0#32
  let v488 : BitVec 1 := Scalar.cmpi .slt c4_i32_269 c0_i32_273
  let v489 : BitVec 32 := Scalar.extui v488
  let v490 : BitVec 32 := Scalar.subi v487 v489
  let v491 : BitVec 1 := Scalar.cmpi .ne v485 v490
  let v492 : BitVec 32 := Scalar.remsi v18 c4_i32_269
  let c0_i32_274 : BitVec 32 := 0#32
  let v493 : BitVec 1 := Scalar.cmpi .ne v492 c0_i32_274
  let v494 : BitVec 1 := Scalar.andi v491 v493
  let v480 : BitVec 32 := Scalar.divsi v18 c4_i32_269
  let c1_i32_275 : BitVec 32 := 1#32
  let v495 : BitVec 32 := Scalar.subi v480 c1_i32_275
  let v496 : BitVec 32 := Scalar.select v494 v495 v480
  let v498 : BitVec 32 := Scalar.subi v496 c0_i32_277
  let c1_i32_278 : BitVec 32 := 1#32
  let v500 : BitVec 32 := Scalar.divsi v498 c1_i32_278
  let v501 : BitVec 32 := Scalar.muli v500 c1_i32_278
  let v502 : BitVec 32 := Scalar.addi c0_i32_277 v501
  let c1_i32_280 : BitVec 32 := 1#32
  let arg15 : BitVec 32 := Scf.iv v502 c1_i32_280 k0_t22
  let c4_i32_295 : BitVec 32 := 4#32
  let v535 : BitVec 32 := Scalar.muli arg15 c4_i32_295
  let v536 : BitVec 32 := Scalar.addi v535 c0_i32_296
  let c256_i32_297 : BitVec 32 := 256#32
  let v537 : BitVec 32 := Scalar.muli v536 c256_i32_297
  let v538 : BitVec 32 := v537
  let v539 : Index := Scalar.indexCast v538
  let c0_298 : Index := 0#32
  ![v539.toNat, 0]
def k0_mult92 (i : grid0.Coords) (k0_t22 : Fin (k0_t22_loop i).trips) : BitVec 32 :=
  let c0_i32_277 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_270 : BitVec 32 := 0#32
  let v481 : BitVec 1 := Scalar.cmpi .sgt v18 c0_i32_270
  let v482 : BitVec 32 := Scalar.extui v481
  let c0_i32_271 : BitVec 32 := 0#32
  let v483 : BitVec 1 := Scalar.cmpi .slt v18 c0_i32_271
  let v484 : BitVec 32 := Scalar.extui v483
  let v485 : BitVec 32 := Scalar.subi v482 v484
  let c4_i32_269 : BitVec 32 := 4#32
  let c0_i32_272 : BitVec 32 := 0#32
  let v486 : BitVec 1 := Scalar.cmpi .sgt c4_i32_269 c0_i32_272
  let v487 : BitVec 32 := Scalar.extui v486
  let c0_i32_273 : BitVec 32 := 0#32
  let v488 : BitVec 1 := Scalar.cmpi .slt c4_i32_269 c0_i32_273
  let v489 : BitVec 32 := Scalar.extui v488
  let v490 : BitVec 32 := Scalar.subi v487 v489
  let v491 : BitVec 1 := Scalar.cmpi .ne v485 v490
  let v492 : BitVec 32 := Scalar.remsi v18 c4_i32_269
  let c0_i32_274 : BitVec 32 := 0#32
  let v493 : BitVec 1 := Scalar.cmpi .ne v492 c0_i32_274
  let v494 : BitVec 1 := Scalar.andi v491 v493
  let v480 : BitVec 32 := Scalar.divsi v18 c4_i32_269
  let c1_i32_275 : BitVec 32 := 1#32
  let v495 : BitVec 32 := Scalar.subi v480 c1_i32_275
  let v496 : BitVec 32 := Scalar.select v494 v495 v480
  let v498 : BitVec 32 := Scalar.subi v496 c0_i32_277
  let c1_i32_278 : BitVec 32 := 1#32
  let v500 : BitVec 32 := Scalar.divsi v498 c1_i32_278
  let v501 : BitVec 32 := Scalar.muli v500 c1_i32_278
  let v502 : BitVec 32 := Scalar.addi c0_i32_277 v501
  let c1_i32_280 : BitVec 32 := 1#32
  let arg15 : BitVec 32 := Scf.iv v502 c1_i32_280 k0_t22
  let c4_i32_301 : BitVec 32 := 4#32
  let v552 : BitVec 32 := Scalar.muli arg15 c4_i32_301
  let c1_i32_302 : BitVec 32 := 1#32
  let v553 : BitVec 32 := Scalar.addi v552 c1_i32_302
  let c256_i32_303 : BitVec 32 := 256#32
  let v554 : BitVec 32 := Scalar.muli v553 c256_i32_303
  v554
def k0_mult93 (i : grid0.Coords) (k0_t22 : Fin (k0_t22_loop i).trips) : BitVec 32 :=
  let c0_i32_277 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_270 : BitVec 32 := 0#32
  let v481 : BitVec 1 := Scalar.cmpi .sgt v18 c0_i32_270
  let v482 : BitVec 32 := Scalar.extui v481
  let c0_i32_271 : BitVec 32 := 0#32
  let v483 : BitVec 1 := Scalar.cmpi .slt v18 c0_i32_271
  let v484 : BitVec 32 := Scalar.extui v483
  let v485 : BitVec 32 := Scalar.subi v482 v484
  let c4_i32_269 : BitVec 32 := 4#32
  let c0_i32_272 : BitVec 32 := 0#32
  let v486 : BitVec 1 := Scalar.cmpi .sgt c4_i32_269 c0_i32_272
  let v487 : BitVec 32 := Scalar.extui v486
  let c0_i32_273 : BitVec 32 := 0#32
  let v488 : BitVec 1 := Scalar.cmpi .slt c4_i32_269 c0_i32_273
  let v489 : BitVec 32 := Scalar.extui v488
  let v490 : BitVec 32 := Scalar.subi v487 v489
  let v491 : BitVec 1 := Scalar.cmpi .ne v485 v490
  let v492 : BitVec 32 := Scalar.remsi v18 c4_i32_269
  let c0_i32_274 : BitVec 32 := 0#32
  let v493 : BitVec 1 := Scalar.cmpi .ne v492 c0_i32_274
  let v494 : BitVec 1 := Scalar.andi v491 v493
  let v480 : BitVec 32 := Scalar.divsi v18 c4_i32_269
  let c1_i32_275 : BitVec 32 := 1#32
  let v495 : BitVec 32 := Scalar.subi v480 c1_i32_275
  let v496 : BitVec 32 := Scalar.select v494 v495 v480
  let v498 : BitVec 32 := Scalar.subi v496 c0_i32_277
  let c1_i32_278 : BitVec 32 := 1#32
  let v500 : BitVec 32 := Scalar.divsi v498 c1_i32_278
  let v501 : BitVec 32 := Scalar.muli v500 c1_i32_278
  let v502 : BitVec 32 := Scalar.addi c0_i32_277 v501
  let c1_i32_280 : BitVec 32 := 1#32
  let arg15 : BitVec 32 := Scf.iv v502 c1_i32_280 k0_t22
  let c4_i32_307 : BitVec 32 := 4#32
  let v569 : BitVec 32 := Scalar.muli arg15 c4_i32_307
  let c2_i32_308 : BitVec 32 := 2#32
  let v570 : BitVec 32 := Scalar.addi v569 c2_i32_308
  let c256_i32_309 : BitVec 32 := 256#32
  let v571 : BitVec 32 := Scalar.muli v570 c256_i32_309
  v571
def k0_mult94 (i : grid0.Coords) (k0_t22 : Fin (k0_t22_loop i).trips) : BitVec 32 :=
  let c0_i32_277 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_270 : BitVec 32 := 0#32
  let v481 : BitVec 1 := Scalar.cmpi .sgt v18 c0_i32_270
  let v482 : BitVec 32 := Scalar.extui v481
  let c0_i32_271 : BitVec 32 := 0#32
  let v483 : BitVec 1 := Scalar.cmpi .slt v18 c0_i32_271
  let v484 : BitVec 32 := Scalar.extui v483
  let v485 : BitVec 32 := Scalar.subi v482 v484
  let c4_i32_269 : BitVec 32 := 4#32
  let c0_i32_272 : BitVec 32 := 0#32
  let v486 : BitVec 1 := Scalar.cmpi .sgt c4_i32_269 c0_i32_272
  let v487 : BitVec 32 := Scalar.extui v486
  let c0_i32_273 : BitVec 32 := 0#32
  let v488 : BitVec 1 := Scalar.cmpi .slt c4_i32_269 c0_i32_273
  let v489 : BitVec 32 := Scalar.extui v488
  let v490 : BitVec 32 := Scalar.subi v487 v489
  let v491 : BitVec 1 := Scalar.cmpi .ne v485 v490
  let v492 : BitVec 32 := Scalar.remsi v18 c4_i32_269
  let c0_i32_274 : BitVec 32 := 0#32
  let v493 : BitVec 1 := Scalar.cmpi .ne v492 c0_i32_274
  let v494 : BitVec 1 := Scalar.andi v491 v493
  let v480 : BitVec 32 := Scalar.divsi v18 c4_i32_269
  let c1_i32_275 : BitVec 32 := 1#32
  let v495 : BitVec 32 := Scalar.subi v480 c1_i32_275
  let v496 : BitVec 32 := Scalar.select v494 v495 v480
  let v498 : BitVec 32 := Scalar.subi v496 c0_i32_277
  let c1_i32_278 : BitVec 32 := 1#32
  let v500 : BitVec 32 := Scalar.divsi v498 c1_i32_278
  let v501 : BitVec 32 := Scalar.muli v500 c1_i32_278
  let v502 : BitVec 32 := Scalar.addi c0_i32_277 v501
  let c1_i32_280 : BitVec 32 := 1#32
  let arg15 : BitVec 32 := Scf.iv v502 c1_i32_280 k0_t22
  let c4_i32_313 : BitVec 32 := 4#32
  let v586 : BitVec 32 := Scalar.muli arg15 c4_i32_313
  let c3_i32 : BitVec 32 := 3#32
  let v587 : BitVec 32 := Scalar.addi v586 c3_i32
  let c256_i32_314 : BitVec 32 := 256#32
  let v588 : BitVec 32 := Scalar.muli v587 c256_i32_314
  v588
@[reducible] def k0_t23_loop (i : grid0.Coords) : Scf.Loop 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_282 : BitVec 32 := 0#32
  let v506 : BitVec 1 := Scalar.cmpi .sgt v18 c0_i32_282
  let v507 : BitVec 32 := Scalar.extui v506
  let c0_i32_283 : BitVec 32 := 0#32
  let v508 : BitVec 1 := Scalar.cmpi .slt v18 c0_i32_283
  let v509 : BitVec 32 := Scalar.extui v508
  let v510 : BitVec 32 := Scalar.subi v507 v509
  let c4_i32_281 : BitVec 32 := 4#32
  let c0_i32_284 : BitVec 32 := 0#32
  let v511 : BitVec 1 := Scalar.cmpi .sgt c4_i32_281 c0_i32_284
  let v512 : BitVec 32 := Scalar.extui v511
  let c0_i32_285 : BitVec 32 := 0#32
  let v513 : BitVec 1 := Scalar.cmpi .slt c4_i32_281 c0_i32_285
  let v514 : BitVec 32 := Scalar.extui v513
  let v515 : BitVec 32 := Scalar.subi v512 v514
  let v516 : BitVec 1 := Scalar.cmpi .ne v510 v515
  let v517 : BitVec 32 := Scalar.remsi v18 c4_i32_281
  let c0_i32_286 : BitVec 32 := 0#32
  let v518 : BitVec 1 := Scalar.cmpi .ne v517 c0_i32_286
  let v519 : BitVec 1 := Scalar.andi v516 v518
  let v505 : BitVec 32 := Scalar.divsi v18 c4_i32_281
  let c1_i32_287 : BitVec 32 := 1#32
  let v520 : BitVec 32 := Scalar.subi v505 c1_i32_287
  let v521 : BitVec 32 := Scalar.select v519 v520 v505
  let c4_i32_288 : BitVec 32 := 4#32
  let v522 : BitVec 32 := Scalar.muli v521 c4_i32_288
  let v523 : BitVec 32 := Scalar.subi v18 v522
  let c1_i32_289 : BitVec 32 := 1#32
  let v525 : BitVec 32 := Scalar.divsi v523 c1_i32_289
  let v526 : BitVec 32 := Scalar.muli v525 c1_i32_289
  let v527 : BitVec 32 := Scalar.addi v522 v526
  let c1_i32_290 : BitVec 32 := 1#32
  ⟨v522, v527, c1_i32_290⟩
def k0_mult95 (i : grid0.Coords) (k0_t23 : Fin (k0_t23_loop i).trips) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_282 : BitVec 32 := 0#32
  let v506 : BitVec 1 := Scalar.cmpi .sgt v18 c0_i32_282
  let v507 : BitVec 32 := Scalar.extui v506
  let c0_i32_283 : BitVec 32 := 0#32
  let v508 : BitVec 1 := Scalar.cmpi .slt v18 c0_i32_283
  let v509 : BitVec 32 := Scalar.extui v508
  let v510 : BitVec 32 := Scalar.subi v507 v509
  let c4_i32_281 : BitVec 32 := 4#32
  let c0_i32_284 : BitVec 32 := 0#32
  let v511 : BitVec 1 := Scalar.cmpi .sgt c4_i32_281 c0_i32_284
  let v512 : BitVec 32 := Scalar.extui v511
  let c0_i32_285 : BitVec 32 := 0#32
  let v513 : BitVec 1 := Scalar.cmpi .slt c4_i32_281 c0_i32_285
  let v514 : BitVec 32 := Scalar.extui v513
  let v515 : BitVec 32 := Scalar.subi v512 v514
  let v516 : BitVec 1 := Scalar.cmpi .ne v510 v515
  let v517 : BitVec 32 := Scalar.remsi v18 c4_i32_281
  let c0_i32_286 : BitVec 32 := 0#32
  let v518 : BitVec 1 := Scalar.cmpi .ne v517 c0_i32_286
  let v519 : BitVec 1 := Scalar.andi v516 v518
  let v505 : BitVec 32 := Scalar.divsi v18 c4_i32_281
  let c1_i32_287 : BitVec 32 := 1#32
  let v520 : BitVec 32 := Scalar.subi v505 c1_i32_287
  let v521 : BitVec 32 := Scalar.select v519 v520 v505
  let c4_i32_288 : BitVec 32 := 4#32
  let v522 : BitVec 32 := Scalar.muli v521 c4_i32_288
  let c1_i32_290 : BitVec 32 := 1#32
  let arg15 : BitVec 32 := Scf.iv v522 c1_i32_290 k0_t23
  let c256_i32_295 : BitVec 32 := 256#32
  let v535 : BitVec 32 := Scalar.muli arg15 c256_i32_295
  v535
def k0_off190 (i : grid0.Coords) (k0_t23 : Fin (k0_t23_loop i).trips) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_282 : BitVec 32 := 0#32
  let v506 : BitVec 1 := Scalar.cmpi .sgt v18 c0_i32_282
  let v507 : BitVec 32 := Scalar.extui v506
  let c0_i32_283 : BitVec 32 := 0#32
  let v508 : BitVec 1 := Scalar.cmpi .slt v18 c0_i32_283
  let v509 : BitVec 32 := Scalar.extui v508
  let v510 : BitVec 32 := Scalar.subi v507 v509
  let c4_i32_281 : BitVec 32 := 4#32
  let c0_i32_284 : BitVec 32 := 0#32
  let v511 : BitVec 1 := Scalar.cmpi .sgt c4_i32_281 c0_i32_284
  let v512 : BitVec 32 := Scalar.extui v511
  let c0_i32_285 : BitVec 32 := 0#32
  let v513 : BitVec 1 := Scalar.cmpi .slt c4_i32_281 c0_i32_285
  let v514 : BitVec 32 := Scalar.extui v513
  let v515 : BitVec 32 := Scalar.subi v512 v514
  let v516 : BitVec 1 := Scalar.cmpi .ne v510 v515
  let v517 : BitVec 32 := Scalar.remsi v18 c4_i32_281
  let c0_i32_286 : BitVec 32 := 0#32
  let v518 : BitVec 1 := Scalar.cmpi .ne v517 c0_i32_286
  let v519 : BitVec 1 := Scalar.andi v516 v518
  let v505 : BitVec 32 := Scalar.divsi v18 c4_i32_281
  let c1_i32_287 : BitVec 32 := 1#32
  let v520 : BitVec 32 := Scalar.subi v505 c1_i32_287
  let v521 : BitVec 32 := Scalar.select v519 v520 v505
  let c4_i32_288 : BitVec 32 := 4#32
  let v522 : BitVec 32 := Scalar.muli v521 c4_i32_288
  let c1_i32_290 : BitVec 32 := 1#32
  let arg15 : BitVec 32 := Scf.iv v522 c1_i32_290 k0_t23
  let c256_i32_295 : BitVec 32 := 256#32
  let v535 : BitVec 32 := Scalar.muli arg15 c256_i32_295
  let v536 : BitVec 32 := v535
  let v537 : Index := Scalar.indexCast v536
  let c0_296 : Index := 0#32
  ![v537.toNat, 0]
@[reducible] def k0_t24_loop (i : grid0.Coords) : Scf.Loop 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_282 : BitVec 32 := 0#32
  let v506 : BitVec 1 := Scalar.cmpi .sgt v18 c0_i32_282
  let v507 : BitVec 32 := Scalar.extui v506
  let c0_i32_283 : BitVec 32 := 0#32
  let v508 : BitVec 1 := Scalar.cmpi .slt v18 c0_i32_283
  let v509 : BitVec 32 := Scalar.extui v508
  let v510 : BitVec 32 := Scalar.subi v507 v509
  let c4_i32_281 : BitVec 32 := 4#32
  let c0_i32_284 : BitVec 32 := 0#32
  let v511 : BitVec 1 := Scalar.cmpi .sgt c4_i32_281 c0_i32_284
  let v512 : BitVec 32 := Scalar.extui v511
  let c0_i32_285 : BitVec 32 := 0#32
  let v513 : BitVec 1 := Scalar.cmpi .slt c4_i32_281 c0_i32_285
  let v514 : BitVec 32 := Scalar.extui v513
  let v515 : BitVec 32 := Scalar.subi v512 v514
  let v516 : BitVec 1 := Scalar.cmpi .ne v510 v515
  let v517 : BitVec 32 := Scalar.remsi v18 c4_i32_281
  let c0_i32_286 : BitVec 32 := 0#32
  let v518 : BitVec 1 := Scalar.cmpi .ne v517 c0_i32_286
  let v519 : BitVec 1 := Scalar.andi v516 v518
  let v505 : BitVec 32 := Scalar.divsi v18 c4_i32_281
  let c1_i32_287 : BitVec 32 := 1#32
  let v520 : BitVec 32 := Scalar.subi v505 c1_i32_287
  let v521 : BitVec 32 := Scalar.select v519 v520 v505
  let c4_i32_288 : BitVec 32 := 4#32
  let v522 : BitVec 32 := Scalar.muli v521 c4_i32_288
  let v523 : BitVec 32 := Scalar.subi v18 v522
  let c1_i32_289 : BitVec 32 := 1#32
  let v525 : BitVec 32 := Scalar.divsi v523 c1_i32_289
  let v526 : BitVec 32 := Scalar.muli v525 c1_i32_289
  let v527 : BitVec 32 := Scalar.addi v522 v526
  let v524 : BitVec 32 := Scalar.addi v522 v523
  let c1_i32_291 : BitVec 32 := 1#32
  ⟨v527, v524, c1_i32_291⟩
def k0_mult96 (i : grid0.Coords) (k0_t24 : Fin (k0_t24_loop i).trips) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_282 : BitVec 32 := 0#32
  let v506 : BitVec 1 := Scalar.cmpi .sgt v18 c0_i32_282
  let v507 : BitVec 32 := Scalar.extui v506
  let c0_i32_283 : BitVec 32 := 0#32
  let v508 : BitVec 1 := Scalar.cmpi .slt v18 c0_i32_283
  let v509 : BitVec 32 := Scalar.extui v508
  let v510 : BitVec 32 := Scalar.subi v507 v509
  let c4_i32_281 : BitVec 32 := 4#32
  let c0_i32_284 : BitVec 32 := 0#32
  let v511 : BitVec 1 := Scalar.cmpi .sgt c4_i32_281 c0_i32_284
  let v512 : BitVec 32 := Scalar.extui v511
  let c0_i32_285 : BitVec 32 := 0#32
  let v513 : BitVec 1 := Scalar.cmpi .slt c4_i32_281 c0_i32_285
  let v514 : BitVec 32 := Scalar.extui v513
  let v515 : BitVec 32 := Scalar.subi v512 v514
  let v516 : BitVec 1 := Scalar.cmpi .ne v510 v515
  let v517 : BitVec 32 := Scalar.remsi v18 c4_i32_281
  let c0_i32_286 : BitVec 32 := 0#32
  let v518 : BitVec 1 := Scalar.cmpi .ne v517 c0_i32_286
  let v519 : BitVec 1 := Scalar.andi v516 v518
  let v505 : BitVec 32 := Scalar.divsi v18 c4_i32_281
  let c1_i32_287 : BitVec 32 := 1#32
  let v520 : BitVec 32 := Scalar.subi v505 c1_i32_287
  let v521 : BitVec 32 := Scalar.select v519 v520 v505
  let c4_i32_288 : BitVec 32 := 4#32
  let v522 : BitVec 32 := Scalar.muli v521 c4_i32_288
  let v523 : BitVec 32 := Scalar.subi v18 v522
  let c1_i32_289 : BitVec 32 := 1#32
  let v525 : BitVec 32 := Scalar.divsi v523 c1_i32_289
  let v526 : BitVec 32 := Scalar.muli v525 c1_i32_289
  let v527 : BitVec 32 := Scalar.addi v522 v526
  let c1_i32_291 : BitVec 32 := 1#32
  let arg15 : BitVec 32 := Scf.iv v527 c1_i32_291 k0_t24
  let c256_i32_295 : BitVec 32 := 256#32
  let v535 : BitVec 32 := Scalar.muli arg15 c256_i32_295
  v535
def k0_off191 (i : grid0.Coords) (k0_t24 : Fin (k0_t24_loop i).trips) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_282 : BitVec 32 := 0#32
  let v506 : BitVec 1 := Scalar.cmpi .sgt v18 c0_i32_282
  let v507 : BitVec 32 := Scalar.extui v506
  let c0_i32_283 : BitVec 32 := 0#32
  let v508 : BitVec 1 := Scalar.cmpi .slt v18 c0_i32_283
  let v509 : BitVec 32 := Scalar.extui v508
  let v510 : BitVec 32 := Scalar.subi v507 v509
  let c4_i32_281 : BitVec 32 := 4#32
  let c0_i32_284 : BitVec 32 := 0#32
  let v511 : BitVec 1 := Scalar.cmpi .sgt c4_i32_281 c0_i32_284
  let v512 : BitVec 32 := Scalar.extui v511
  let c0_i32_285 : BitVec 32 := 0#32
  let v513 : BitVec 1 := Scalar.cmpi .slt c4_i32_281 c0_i32_285
  let v514 : BitVec 32 := Scalar.extui v513
  let v515 : BitVec 32 := Scalar.subi v512 v514
  let v516 : BitVec 1 := Scalar.cmpi .ne v510 v515
  let v517 : BitVec 32 := Scalar.remsi v18 c4_i32_281
  let c0_i32_286 : BitVec 32 := 0#32
  let v518 : BitVec 1 := Scalar.cmpi .ne v517 c0_i32_286
  let v519 : BitVec 1 := Scalar.andi v516 v518
  let v505 : BitVec 32 := Scalar.divsi v18 c4_i32_281
  let c1_i32_287 : BitVec 32 := 1#32
  let v520 : BitVec 32 := Scalar.subi v505 c1_i32_287
  let v521 : BitVec 32 := Scalar.select v519 v520 v505
  let c4_i32_288 : BitVec 32 := 4#32
  let v522 : BitVec 32 := Scalar.muli v521 c4_i32_288
  let v523 : BitVec 32 := Scalar.subi v18 v522
  let c1_i32_289 : BitVec 32 := 1#32
  let v525 : BitVec 32 := Scalar.divsi v523 c1_i32_289
  let v526 : BitVec 32 := Scalar.muli v525 c1_i32_289
  let v527 : BitVec 32 := Scalar.addi v522 v526
  let c1_i32_291 : BitVec 32 := 1#32
  let arg15 : BitVec 32 := Scf.iv v527 c1_i32_291 k0_t24
  let c256_i32_295 : BitVec 32 := 256#32
  let v535 : BitVec 32 := Scalar.muli arg15 c256_i32_295
  let v536 : BitVec 32 := v535
  let v537 : Index := Scalar.indexCast v536
  let c0_296 : Index := 0#32
  ![v537.toNat, 0]
@[reducible] def k0_t25_loop : Scf.Loop 32 :=
  let c0_i32_242 : BitVec 32 := 0#32
  let c12_i32 : BitVec 32 := 12#32
  let v443 : BitVec 32 := Scalar.addi c0_i32_242 c12_i32
  let c1_i32_243 : BitVec 32 := 1#32
  ⟨c0_i32_242, v443, c1_i32_243⟩
@[reducible] def k0_t26_loop (i : grid0.Coords) : Scf.Loop 32 :=
  let c0_i32_255 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_248 : BitVec 32 := 0#32
  let v450 : BitVec 1 := Scalar.cmpi .sgt v18 c0_i32_248
  let v451 : BitVec 32 := Scalar.extui v450
  let c0_i32_249 : BitVec 32 := 0#32
  let v452 : BitVec 1 := Scalar.cmpi .slt v18 c0_i32_249
  let v453 : BitVec 32 := Scalar.extui v452
  let v454 : BitVec 32 := Scalar.subi v451 v453
  let c4_i32_247 : BitVec 32 := 4#32
  let c0_i32_250 : BitVec 32 := 0#32
  let v455 : BitVec 1 := Scalar.cmpi .sgt c4_i32_247 c0_i32_250
  let v456 : BitVec 32 := Scalar.extui v455
  let c0_i32_251 : BitVec 32 := 0#32
  let v457 : BitVec 1 := Scalar.cmpi .slt c4_i32_247 c0_i32_251
  let v458 : BitVec 32 := Scalar.extui v457
  let v459 : BitVec 32 := Scalar.subi v456 v458
  let v460 : BitVec 1 := Scalar.cmpi .ne v454 v459
  let v461 : BitVec 32 := Scalar.remsi v18 c4_i32_247
  let c0_i32_252 : BitVec 32 := 0#32
  let v462 : BitVec 1 := Scalar.cmpi .ne v461 c0_i32_252
  let v463 : BitVec 1 := Scalar.andi v460 v462
  let v449 : BitVec 32 := Scalar.divsi v18 c4_i32_247
  let c1_i32_253 : BitVec 32 := 1#32
  let v464 : BitVec 32 := Scalar.subi v449 c1_i32_253
  let v465 : BitVec 32 := Scalar.select v463 v464 v449
  let v467 : BitVec 32 := Scalar.subi v465 c0_i32_255
  let c1_i32_256 : BitVec 32 := 1#32
  let v469 : BitVec 32 := Scalar.divsi v467 c1_i32_256
  let v470 : BitVec 32 := Scalar.muli v469 c1_i32_256
  let v471 : BitVec 32 := Scalar.addi c0_i32_255 v470
  let c1_i32_257 : BitVec 32 := 1#32
  ⟨c0_i32_255, v471, c1_i32_257⟩
def k0_mult97 (i : grid0.Coords) (k0_t26 : Fin (k0_t26_loop i).trips) : BitVec 32 :=
  let c0_i32_255 : BitVec 32 := 0#32
  let c1_i32_257 : BitVec 32 := 1#32
  let arg15 : BitVec 32 := Scf.iv c0_i32_255 c1_i32_257 k0_t26
  let c4_i32_276 : BitVec 32 := 4#32
  let v512 : BitVec 32 := Scalar.muli arg15 c4_i32_276
  let c0_i32_277 : BitVec 32 := 0#32
  let v513 : BitVec 32 := Scalar.addi v512 c0_i32_277
  let c256_i32_278 : BitVec 32 := 256#32
  let v514 : BitVec 32 := Scalar.muli v513 c256_i32_278
  v514
def k0_off192 (i : grid0.Coords) (k0_t26 : Fin (k0_t26_loop i).trips) (c0_i32_277 : BitVec 32) : Fin 2 → Nat :=
  let c0_i32_255 : BitVec 32 := 0#32
  let c1_i32_257 : BitVec 32 := 1#32
  let arg15 : BitVec 32 := Scf.iv c0_i32_255 c1_i32_257 k0_t26
  let c4_i32_276 : BitVec 32 := 4#32
  let v512 : BitVec 32 := Scalar.muli arg15 c4_i32_276
  let v513 : BitVec 32 := Scalar.addi v512 c0_i32_277
  let c256_i32_278 : BitVec 32 := 256#32
  let v514 : BitVec 32 := Scalar.muli v513 c256_i32_278
  let v515 : BitVec 32 := v514
  let v516 : Index := Scalar.indexCast v515
  let c0_279 : Index := 0#32
  ![v516.toNat, 0]
def k0_mult98 (i : grid0.Coords) (k0_t26 : Fin (k0_t26_loop i).trips) : BitVec 32 :=
  let c0_i32_255 : BitVec 32 := 0#32
  let c1_i32_257 : BitVec 32 := 1#32
  let arg15 : BitVec 32 := Scf.iv c0_i32_255 c1_i32_257 k0_t26
  let c4_i32_282 : BitVec 32 := 4#32
  let v532 : BitVec 32 := Scalar.muli arg15 c4_i32_282
  let c1_i32_283 : BitVec 32 := 1#32
  let v533 : BitVec 32 := Scalar.addi v532 c1_i32_283
  let c256_i32_284 : BitVec 32 := 256#32
  let v534 : BitVec 32 := Scalar.muli v533 c256_i32_284
  v534
def k0_mult99 (i : grid0.Coords) (k0_t26 : Fin (k0_t26_loop i).trips) : BitVec 32 :=
  let c0_i32_255 : BitVec 32 := 0#32
  let c1_i32_257 : BitVec 32 := 1#32
  let arg15 : BitVec 32 := Scf.iv c0_i32_255 c1_i32_257 k0_t26
  let c4_i32_288 : BitVec 32 := 4#32
  let v552 : BitVec 32 := Scalar.muli arg15 c4_i32_288
  let c2_i32_289 : BitVec 32 := 2#32
  let v553 : BitVec 32 := Scalar.addi v552 c2_i32_289
  let c256_i32_290 : BitVec 32 := 256#32
  let v554 : BitVec 32 := Scalar.muli v553 c256_i32_290
  v554
def k0_mult100 (i : grid0.Coords) (k0_t26 : Fin (k0_t26_loop i).trips) : BitVec 32 :=
  let c0_i32_255 : BitVec 32 := 0#32
  let c1_i32_257 : BitVec 32 := 1#32
  let arg15 : BitVec 32 := Scf.iv c0_i32_255 c1_i32_257 k0_t26
  let c4_i32_294 : BitVec 32 := 4#32
  let v572 : BitVec 32 := Scalar.muli arg15 c4_i32_294
  let c3_i32 : BitVec 32 := 3#32
  let v573 : BitVec 32 := Scalar.addi v572 c3_i32
  let c256_i32_295 : BitVec 32 := 256#32
  let v574 : BitVec 32 := Scalar.muli v573 c256_i32_295
  v574
@[reducible] def k0_t27_loop (i : grid0.Coords) : Scf.Loop 32 :=
  let c0_i32_255 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_248 : BitVec 32 := 0#32
  let v450 : BitVec 1 := Scalar.cmpi .sgt v18 c0_i32_248
  let v451 : BitVec 32 := Scalar.extui v450
  let c0_i32_249 : BitVec 32 := 0#32
  let v452 : BitVec 1 := Scalar.cmpi .slt v18 c0_i32_249
  let v453 : BitVec 32 := Scalar.extui v452
  let v454 : BitVec 32 := Scalar.subi v451 v453
  let c4_i32_247 : BitVec 32 := 4#32
  let c0_i32_250 : BitVec 32 := 0#32
  let v455 : BitVec 1 := Scalar.cmpi .sgt c4_i32_247 c0_i32_250
  let v456 : BitVec 32 := Scalar.extui v455
  let c0_i32_251 : BitVec 32 := 0#32
  let v457 : BitVec 1 := Scalar.cmpi .slt c4_i32_247 c0_i32_251
  let v458 : BitVec 32 := Scalar.extui v457
  let v459 : BitVec 32 := Scalar.subi v456 v458
  let v460 : BitVec 1 := Scalar.cmpi .ne v454 v459
  let v461 : BitVec 32 := Scalar.remsi v18 c4_i32_247
  let c0_i32_252 : BitVec 32 := 0#32
  let v462 : BitVec 1 := Scalar.cmpi .ne v461 c0_i32_252
  let v463 : BitVec 1 := Scalar.andi v460 v462
  let v449 : BitVec 32 := Scalar.divsi v18 c4_i32_247
  let c1_i32_253 : BitVec 32 := 1#32
  let v464 : BitVec 32 := Scalar.subi v449 c1_i32_253
  let v465 : BitVec 32 := Scalar.select v463 v464 v449
  let v467 : BitVec 32 := Scalar.subi v465 c0_i32_255
  let c1_i32_256 : BitVec 32 := 1#32
  let v469 : BitVec 32 := Scalar.divsi v467 c1_i32_256
  let v470 : BitVec 32 := Scalar.muli v469 c1_i32_256
  let v471 : BitVec 32 := Scalar.addi c0_i32_255 v470
  let v468 : BitVec 32 := Scalar.addi c0_i32_255 v467
  let c1_i32_258 : BitVec 32 := 1#32
  ⟨v471, v468, c1_i32_258⟩
def k0_mult101 (i : grid0.Coords) (k0_t27 : Fin (k0_t27_loop i).trips) : BitVec 32 :=
  let c0_i32_255 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_248 : BitVec 32 := 0#32
  let v450 : BitVec 1 := Scalar.cmpi .sgt v18 c0_i32_248
  let v451 : BitVec 32 := Scalar.extui v450
  let c0_i32_249 : BitVec 32 := 0#32
  let v452 : BitVec 1 := Scalar.cmpi .slt v18 c0_i32_249
  let v453 : BitVec 32 := Scalar.extui v452
  let v454 : BitVec 32 := Scalar.subi v451 v453
  let c4_i32_247 : BitVec 32 := 4#32
  let c0_i32_250 : BitVec 32 := 0#32
  let v455 : BitVec 1 := Scalar.cmpi .sgt c4_i32_247 c0_i32_250
  let v456 : BitVec 32 := Scalar.extui v455
  let c0_i32_251 : BitVec 32 := 0#32
  let v457 : BitVec 1 := Scalar.cmpi .slt c4_i32_247 c0_i32_251
  let v458 : BitVec 32 := Scalar.extui v457
  let v459 : BitVec 32 := Scalar.subi v456 v458
  let v460 : BitVec 1 := Scalar.cmpi .ne v454 v459
  let v461 : BitVec 32 := Scalar.remsi v18 c4_i32_247
  let c0_i32_252 : BitVec 32 := 0#32
  let v462 : BitVec 1 := Scalar.cmpi .ne v461 c0_i32_252
  let v463 : BitVec 1 := Scalar.andi v460 v462
  let v449 : BitVec 32 := Scalar.divsi v18 c4_i32_247
  let c1_i32_253 : BitVec 32 := 1#32
  let v464 : BitVec 32 := Scalar.subi v449 c1_i32_253
  let v465 : BitVec 32 := Scalar.select v463 v464 v449
  let v467 : BitVec 32 := Scalar.subi v465 c0_i32_255
  let c1_i32_256 : BitVec 32 := 1#32
  let v469 : BitVec 32 := Scalar.divsi v467 c1_i32_256
  let v470 : BitVec 32 := Scalar.muli v469 c1_i32_256
  let v471 : BitVec 32 := Scalar.addi c0_i32_255 v470
  let c1_i32_258 : BitVec 32 := 1#32
  let arg15 : BitVec 32 := Scf.iv v471 c1_i32_258 k0_t27
  let c4_i32_276 : BitVec 32 := 4#32
  let v512 : BitVec 32 := Scalar.muli arg15 c4_i32_276
  let c0_i32_277 : BitVec 32 := 0#32
  let v513 : BitVec 32 := Scalar.addi v512 c0_i32_277
  let c256_i32_278 : BitVec 32 := 256#32
  let v514 : BitVec 32 := Scalar.muli v513 c256_i32_278
  v514
def k0_off193 (i : grid0.Coords) (k0_t27 : Fin (k0_t27_loop i).trips) (c0_i32_277 : BitVec 32) : Fin 2 → Nat :=
  let c0_i32_255 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_248 : BitVec 32 := 0#32
  let v450 : BitVec 1 := Scalar.cmpi .sgt v18 c0_i32_248
  let v451 : BitVec 32 := Scalar.extui v450
  let c0_i32_249 : BitVec 32 := 0#32
  let v452 : BitVec 1 := Scalar.cmpi .slt v18 c0_i32_249
  let v453 : BitVec 32 := Scalar.extui v452
  let v454 : BitVec 32 := Scalar.subi v451 v453
  let c4_i32_247 : BitVec 32 := 4#32
  let c0_i32_250 : BitVec 32 := 0#32
  let v455 : BitVec 1 := Scalar.cmpi .sgt c4_i32_247 c0_i32_250
  let v456 : BitVec 32 := Scalar.extui v455
  let c0_i32_251 : BitVec 32 := 0#32
  let v457 : BitVec 1 := Scalar.cmpi .slt c4_i32_247 c0_i32_251
  let v458 : BitVec 32 := Scalar.extui v457
  let v459 : BitVec 32 := Scalar.subi v456 v458
  let v460 : BitVec 1 := Scalar.cmpi .ne v454 v459
  let v461 : BitVec 32 := Scalar.remsi v18 c4_i32_247
  let c0_i32_252 : BitVec 32 := 0#32
  let v462 : BitVec 1 := Scalar.cmpi .ne v461 c0_i32_252
  let v463 : BitVec 1 := Scalar.andi v460 v462
  let v449 : BitVec 32 := Scalar.divsi v18 c4_i32_247
  let c1_i32_253 : BitVec 32 := 1#32
  let v464 : BitVec 32 := Scalar.subi v449 c1_i32_253
  let v465 : BitVec 32 := Scalar.select v463 v464 v449
  let v467 : BitVec 32 := Scalar.subi v465 c0_i32_255
  let c1_i32_256 : BitVec 32 := 1#32
  let v469 : BitVec 32 := Scalar.divsi v467 c1_i32_256
  let v470 : BitVec 32 := Scalar.muli v469 c1_i32_256
  let v471 : BitVec 32 := Scalar.addi c0_i32_255 v470
  let c1_i32_258 : BitVec 32 := 1#32
  let arg15 : BitVec 32 := Scf.iv v471 c1_i32_258 k0_t27
  let c4_i32_276 : BitVec 32 := 4#32
  let v512 : BitVec 32 := Scalar.muli arg15 c4_i32_276
  let v513 : BitVec 32 := Scalar.addi v512 c0_i32_277
  let c256_i32_278 : BitVec 32 := 256#32
  let v514 : BitVec 32 := Scalar.muli v513 c256_i32_278
  let v515 : BitVec 32 := v514
  let v516 : Index := Scalar.indexCast v515
  let c0_279 : Index := 0#32
  ![v516.toNat, 0]
def k0_mult102 (i : grid0.Coords) (k0_t27 : Fin (k0_t27_loop i).trips) : BitVec 32 :=
  let c0_i32_255 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_248 : BitVec 32 := 0#32
  let v450 : BitVec 1 := Scalar.cmpi .sgt v18 c0_i32_248
  let v451 : BitVec 32 := Scalar.extui v450
  let c0_i32_249 : BitVec 32 := 0#32
  let v452 : BitVec 1 := Scalar.cmpi .slt v18 c0_i32_249
  let v453 : BitVec 32 := Scalar.extui v452
  let v454 : BitVec 32 := Scalar.subi v451 v453
  let c4_i32_247 : BitVec 32 := 4#32
  let c0_i32_250 : BitVec 32 := 0#32
  let v455 : BitVec 1 := Scalar.cmpi .sgt c4_i32_247 c0_i32_250
  let v456 : BitVec 32 := Scalar.extui v455
  let c0_i32_251 : BitVec 32 := 0#32
  let v457 : BitVec 1 := Scalar.cmpi .slt c4_i32_247 c0_i32_251
  let v458 : BitVec 32 := Scalar.extui v457
  let v459 : BitVec 32 := Scalar.subi v456 v458
  let v460 : BitVec 1 := Scalar.cmpi .ne v454 v459
  let v461 : BitVec 32 := Scalar.remsi v18 c4_i32_247
  let c0_i32_252 : BitVec 32 := 0#32
  let v462 : BitVec 1 := Scalar.cmpi .ne v461 c0_i32_252
  let v463 : BitVec 1 := Scalar.andi v460 v462
  let v449 : BitVec 32 := Scalar.divsi v18 c4_i32_247
  let c1_i32_253 : BitVec 32 := 1#32
  let v464 : BitVec 32 := Scalar.subi v449 c1_i32_253
  let v465 : BitVec 32 := Scalar.select v463 v464 v449
  let v467 : BitVec 32 := Scalar.subi v465 c0_i32_255
  let c1_i32_256 : BitVec 32 := 1#32
  let v469 : BitVec 32 := Scalar.divsi v467 c1_i32_256
  let v470 : BitVec 32 := Scalar.muli v469 c1_i32_256
  let v471 : BitVec 32 := Scalar.addi c0_i32_255 v470
  let c1_i32_258 : BitVec 32 := 1#32
  let arg15 : BitVec 32 := Scf.iv v471 c1_i32_258 k0_t27
  let c4_i32_282 : BitVec 32 := 4#32
  let v532 : BitVec 32 := Scalar.muli arg15 c4_i32_282
  let c1_i32_283 : BitVec 32 := 1#32
  let v533 : BitVec 32 := Scalar.addi v532 c1_i32_283
  let c256_i32_284 : BitVec 32 := 256#32
  let v534 : BitVec 32 := Scalar.muli v533 c256_i32_284
  v534
def k0_mult103 (i : grid0.Coords) (k0_t27 : Fin (k0_t27_loop i).trips) : BitVec 32 :=
  let c0_i32_255 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_248 : BitVec 32 := 0#32
  let v450 : BitVec 1 := Scalar.cmpi .sgt v18 c0_i32_248
  let v451 : BitVec 32 := Scalar.extui v450
  let c0_i32_249 : BitVec 32 := 0#32
  let v452 : BitVec 1 := Scalar.cmpi .slt v18 c0_i32_249
  let v453 : BitVec 32 := Scalar.extui v452
  let v454 : BitVec 32 := Scalar.subi v451 v453
  let c4_i32_247 : BitVec 32 := 4#32
  let c0_i32_250 : BitVec 32 := 0#32
  let v455 : BitVec 1 := Scalar.cmpi .sgt c4_i32_247 c0_i32_250
  let v456 : BitVec 32 := Scalar.extui v455
  let c0_i32_251 : BitVec 32 := 0#32
  let v457 : BitVec 1 := Scalar.cmpi .slt c4_i32_247 c0_i32_251
  let v458 : BitVec 32 := Scalar.extui v457
  let v459 : BitVec 32 := Scalar.subi v456 v458
  let v460 : BitVec 1 := Scalar.cmpi .ne v454 v459
  let v461 : BitVec 32 := Scalar.remsi v18 c4_i32_247
  let c0_i32_252 : BitVec 32 := 0#32
  let v462 : BitVec 1 := Scalar.cmpi .ne v461 c0_i32_252
  let v463 : BitVec 1 := Scalar.andi v460 v462
  let v449 : BitVec 32 := Scalar.divsi v18 c4_i32_247
  let c1_i32_253 : BitVec 32 := 1#32
  let v464 : BitVec 32 := Scalar.subi v449 c1_i32_253
  let v465 : BitVec 32 := Scalar.select v463 v464 v449
  let v467 : BitVec 32 := Scalar.subi v465 c0_i32_255
  let c1_i32_256 : BitVec 32 := 1#32
  let v469 : BitVec 32 := Scalar.divsi v467 c1_i32_256
  let v470 : BitVec 32 := Scalar.muli v469 c1_i32_256
  let v471 : BitVec 32 := Scalar.addi c0_i32_255 v470
  let c1_i32_258 : BitVec 32 := 1#32
  let arg15 : BitVec 32 := Scf.iv v471 c1_i32_258 k0_t27
  let c4_i32_288 : BitVec 32 := 4#32
  let v552 : BitVec 32 := Scalar.muli arg15 c4_i32_288
  let c2_i32_289 : BitVec 32 := 2#32
  let v553 : BitVec 32 := Scalar.addi v552 c2_i32_289
  let c256_i32_290 : BitVec 32 := 256#32
  let v554 : BitVec 32 := Scalar.muli v553 c256_i32_290
  v554
def k0_mult104 (i : grid0.Coords) (k0_t27 : Fin (k0_t27_loop i).trips) : BitVec 32 :=
  let c0_i32_255 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_248 : BitVec 32 := 0#32
  let v450 : BitVec 1 := Scalar.cmpi .sgt v18 c0_i32_248
  let v451 : BitVec 32 := Scalar.extui v450
  let c0_i32_249 : BitVec 32 := 0#32
  let v452 : BitVec 1 := Scalar.cmpi .slt v18 c0_i32_249
  let v453 : BitVec 32 := Scalar.extui v452
  let v454 : BitVec 32 := Scalar.subi v451 v453
  let c4_i32_247 : BitVec 32 := 4#32
  let c0_i32_250 : BitVec 32 := 0#32
  let v455 : BitVec 1 := Scalar.cmpi .sgt c4_i32_247 c0_i32_250
  let v456 : BitVec 32 := Scalar.extui v455
  let c0_i32_251 : BitVec 32 := 0#32
  let v457 : BitVec 1 := Scalar.cmpi .slt c4_i32_247 c0_i32_251
  let v458 : BitVec 32 := Scalar.extui v457
  let v459 : BitVec 32 := Scalar.subi v456 v458
  let v460 : BitVec 1 := Scalar.cmpi .ne v454 v459
  let v461 : BitVec 32 := Scalar.remsi v18 c4_i32_247
  let c0_i32_252 : BitVec 32 := 0#32
  let v462 : BitVec 1 := Scalar.cmpi .ne v461 c0_i32_252
  let v463 : BitVec 1 := Scalar.andi v460 v462
  let v449 : BitVec 32 := Scalar.divsi v18 c4_i32_247
  let c1_i32_253 : BitVec 32 := 1#32
  let v464 : BitVec 32 := Scalar.subi v449 c1_i32_253
  let v465 : BitVec 32 := Scalar.select v463 v464 v449
  let v467 : BitVec 32 := Scalar.subi v465 c0_i32_255
  let c1_i32_256 : BitVec 32 := 1#32
  let v469 : BitVec 32 := Scalar.divsi v467 c1_i32_256
  let v470 : BitVec 32 := Scalar.muli v469 c1_i32_256
  let v471 : BitVec 32 := Scalar.addi c0_i32_255 v470
  let c1_i32_258 : BitVec 32 := 1#32
  let arg15 : BitVec 32 := Scf.iv v471 c1_i32_258 k0_t27
  let c4_i32_294 : BitVec 32 := 4#32
  let v572 : BitVec 32 := Scalar.muli arg15 c4_i32_294
  let c3_i32 : BitVec 32 := 3#32
  let v573 : BitVec 32 := Scalar.addi v572 c3_i32
  let c256_i32_295 : BitVec 32 := 256#32
  let v574 : BitVec 32 := Scalar.muli v573 c256_i32_295
  v574
@[reducible] def k0_t28_loop (i : grid0.Coords) : Scf.Loop 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_260 : BitVec 32 := 0#32
  let v475 : BitVec 1 := Scalar.cmpi .sgt v18 c0_i32_260
  let v476 : BitVec 32 := Scalar.extui v475
  let c0_i32_261 : BitVec 32 := 0#32
  let v477 : BitVec 1 := Scalar.cmpi .slt v18 c0_i32_261
  let v478 : BitVec 32 := Scalar.extui v477
  let v479 : BitVec 32 := Scalar.subi v476 v478
  let c4_i32_259 : BitVec 32 := 4#32
  let c0_i32_262 : BitVec 32 := 0#32
  let v480 : BitVec 1 := Scalar.cmpi .sgt c4_i32_259 c0_i32_262
  let v481 : BitVec 32 := Scalar.extui v480
  let c0_i32_263 : BitVec 32 := 0#32
  let v482 : BitVec 1 := Scalar.cmpi .slt c4_i32_259 c0_i32_263
  let v483 : BitVec 32 := Scalar.extui v482
  let v484 : BitVec 32 := Scalar.subi v481 v483
  let v485 : BitVec 1 := Scalar.cmpi .ne v479 v484
  let v486 : BitVec 32 := Scalar.remsi v18 c4_i32_259
  let c0_i32_264 : BitVec 32 := 0#32
  let v487 : BitVec 1 := Scalar.cmpi .ne v486 c0_i32_264
  let v488 : BitVec 1 := Scalar.andi v485 v487
  let v474 : BitVec 32 := Scalar.divsi v18 c4_i32_259
  let c1_i32_265 : BitVec 32 := 1#32
  let v489 : BitVec 32 := Scalar.subi v474 c1_i32_265
  let v490 : BitVec 32 := Scalar.select v488 v489 v474
  let c4_i32_266 : BitVec 32 := 4#32
  let v491 : BitVec 32 := Scalar.muli v490 c4_i32_266
  let v492 : BitVec 32 := Scalar.subi v18 v491
  let c1_i32_267 : BitVec 32 := 1#32
  let v494 : BitVec 32 := Scalar.divsi v492 c1_i32_267
  let v495 : BitVec 32 := Scalar.muli v494 c1_i32_267
  let v496 : BitVec 32 := Scalar.addi v491 v495
  let c1_i32_268 : BitVec 32 := 1#32
  ⟨v491, v496, c1_i32_268⟩
def k0_mult105 (i : grid0.Coords) (k0_t28 : Fin (k0_t28_loop i).trips) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_260 : BitVec 32 := 0#32
  let v475 : BitVec 1 := Scalar.cmpi .sgt v18 c0_i32_260
  let v476 : BitVec 32 := Scalar.extui v475
  let c0_i32_261 : BitVec 32 := 0#32
  let v477 : BitVec 1 := Scalar.cmpi .slt v18 c0_i32_261
  let v478 : BitVec 32 := Scalar.extui v477
  let v479 : BitVec 32 := Scalar.subi v476 v478
  let c4_i32_259 : BitVec 32 := 4#32
  let c0_i32_262 : BitVec 32 := 0#32
  let v480 : BitVec 1 := Scalar.cmpi .sgt c4_i32_259 c0_i32_262
  let v481 : BitVec 32 := Scalar.extui v480
  let c0_i32_263 : BitVec 32 := 0#32
  let v482 : BitVec 1 := Scalar.cmpi .slt c4_i32_259 c0_i32_263
  let v483 : BitVec 32 := Scalar.extui v482
  let v484 : BitVec 32 := Scalar.subi v481 v483
  let v485 : BitVec 1 := Scalar.cmpi .ne v479 v484
  let v486 : BitVec 32 := Scalar.remsi v18 c4_i32_259
  let c0_i32_264 : BitVec 32 := 0#32
  let v487 : BitVec 1 := Scalar.cmpi .ne v486 c0_i32_264
  let v488 : BitVec 1 := Scalar.andi v485 v487
  let v474 : BitVec 32 := Scalar.divsi v18 c4_i32_259
  let c1_i32_265 : BitVec 32 := 1#32
  let v489 : BitVec 32 := Scalar.subi v474 c1_i32_265
  let v490 : BitVec 32 := Scalar.select v488 v489 v474
  let c4_i32_266 : BitVec 32 := 4#32
  let v491 : BitVec 32 := Scalar.muli v490 c4_i32_266
  let c1_i32_268 : BitVec 32 := 1#32
  let arg15 : BitVec 32 := Scf.iv v491 c1_i32_268 k0_t28
  let c256_i32_276 : BitVec 32 := 256#32
  let v512 : BitVec 32 := Scalar.muli arg15 c256_i32_276
  v512
def k0_off194 (i : grid0.Coords) (k0_t28 : Fin (k0_t28_loop i).trips) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_260 : BitVec 32 := 0#32
  let v475 : BitVec 1 := Scalar.cmpi .sgt v18 c0_i32_260
  let v476 : BitVec 32 := Scalar.extui v475
  let c0_i32_261 : BitVec 32 := 0#32
  let v477 : BitVec 1 := Scalar.cmpi .slt v18 c0_i32_261
  let v478 : BitVec 32 := Scalar.extui v477
  let v479 : BitVec 32 := Scalar.subi v476 v478
  let c4_i32_259 : BitVec 32 := 4#32
  let c0_i32_262 : BitVec 32 := 0#32
  let v480 : BitVec 1 := Scalar.cmpi .sgt c4_i32_259 c0_i32_262
  let v481 : BitVec 32 := Scalar.extui v480
  let c0_i32_263 : BitVec 32 := 0#32
  let v482 : BitVec 1 := Scalar.cmpi .slt c4_i32_259 c0_i32_263
  let v483 : BitVec 32 := Scalar.extui v482
  let v484 : BitVec 32 := Scalar.subi v481 v483
  let v485 : BitVec 1 := Scalar.cmpi .ne v479 v484
  let v486 : BitVec 32 := Scalar.remsi v18 c4_i32_259
  let c0_i32_264 : BitVec 32 := 0#32
  let v487 : BitVec 1 := Scalar.cmpi .ne v486 c0_i32_264
  let v488 : BitVec 1 := Scalar.andi v485 v487
  let v474 : BitVec 32 := Scalar.divsi v18 c4_i32_259
  let c1_i32_265 : BitVec 32 := 1#32
  let v489 : BitVec 32 := Scalar.subi v474 c1_i32_265
  let v490 : BitVec 32 := Scalar.select v488 v489 v474
  let c4_i32_266 : BitVec 32 := 4#32
  let v491 : BitVec 32 := Scalar.muli v490 c4_i32_266
  let c1_i32_268 : BitVec 32 := 1#32
  let arg15 : BitVec 32 := Scf.iv v491 c1_i32_268 k0_t28
  let c256_i32_276 : BitVec 32 := 256#32
  let v512 : BitVec 32 := Scalar.muli arg15 c256_i32_276
  let v513 : BitVec 32 := v512
  let v514 : Index := Scalar.indexCast v513
  let c0_277 : Index := 0#32
  ![v514.toNat, 0]
@[reducible] def k0_t29_loop (i : grid0.Coords) : Scf.Loop 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_260 : BitVec 32 := 0#32
  let v475 : BitVec 1 := Scalar.cmpi .sgt v18 c0_i32_260
  let v476 : BitVec 32 := Scalar.extui v475
  let c0_i32_261 : BitVec 32 := 0#32
  let v477 : BitVec 1 := Scalar.cmpi .slt v18 c0_i32_261
  let v478 : BitVec 32 := Scalar.extui v477
  let v479 : BitVec 32 := Scalar.subi v476 v478
  let c4_i32_259 : BitVec 32 := 4#32
  let c0_i32_262 : BitVec 32 := 0#32
  let v480 : BitVec 1 := Scalar.cmpi .sgt c4_i32_259 c0_i32_262
  let v481 : BitVec 32 := Scalar.extui v480
  let c0_i32_263 : BitVec 32 := 0#32
  let v482 : BitVec 1 := Scalar.cmpi .slt c4_i32_259 c0_i32_263
  let v483 : BitVec 32 := Scalar.extui v482
  let v484 : BitVec 32 := Scalar.subi v481 v483
  let v485 : BitVec 1 := Scalar.cmpi .ne v479 v484
  let v486 : BitVec 32 := Scalar.remsi v18 c4_i32_259
  let c0_i32_264 : BitVec 32 := 0#32
  let v487 : BitVec 1 := Scalar.cmpi .ne v486 c0_i32_264
  let v488 : BitVec 1 := Scalar.andi v485 v487
  let v474 : BitVec 32 := Scalar.divsi v18 c4_i32_259
  let c1_i32_265 : BitVec 32 := 1#32
  let v489 : BitVec 32 := Scalar.subi v474 c1_i32_265
  let v490 : BitVec 32 := Scalar.select v488 v489 v474
  let c4_i32_266 : BitVec 32 := 4#32
  let v491 : BitVec 32 := Scalar.muli v490 c4_i32_266
  let v492 : BitVec 32 := Scalar.subi v18 v491
  let c1_i32_267 : BitVec 32 := 1#32
  let v494 : BitVec 32 := Scalar.divsi v492 c1_i32_267
  let v495 : BitVec 32 := Scalar.muli v494 c1_i32_267
  let v496 : BitVec 32 := Scalar.addi v491 v495
  let v493 : BitVec 32 := Scalar.addi v491 v492
  let c1_i32_269 : BitVec 32 := 1#32
  ⟨v496, v493, c1_i32_269⟩
def k0_mult106 (i : grid0.Coords) (k0_t29 : Fin (k0_t29_loop i).trips) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_260 : BitVec 32 := 0#32
  let v475 : BitVec 1 := Scalar.cmpi .sgt v18 c0_i32_260
  let v476 : BitVec 32 := Scalar.extui v475
  let c0_i32_261 : BitVec 32 := 0#32
  let v477 : BitVec 1 := Scalar.cmpi .slt v18 c0_i32_261
  let v478 : BitVec 32 := Scalar.extui v477
  let v479 : BitVec 32 := Scalar.subi v476 v478
  let c4_i32_259 : BitVec 32 := 4#32
  let c0_i32_262 : BitVec 32 := 0#32
  let v480 : BitVec 1 := Scalar.cmpi .sgt c4_i32_259 c0_i32_262
  let v481 : BitVec 32 := Scalar.extui v480
  let c0_i32_263 : BitVec 32 := 0#32
  let v482 : BitVec 1 := Scalar.cmpi .slt c4_i32_259 c0_i32_263
  let v483 : BitVec 32 := Scalar.extui v482
  let v484 : BitVec 32 := Scalar.subi v481 v483
  let v485 : BitVec 1 := Scalar.cmpi .ne v479 v484
  let v486 : BitVec 32 := Scalar.remsi v18 c4_i32_259
  let c0_i32_264 : BitVec 32 := 0#32
  let v487 : BitVec 1 := Scalar.cmpi .ne v486 c0_i32_264
  let v488 : BitVec 1 := Scalar.andi v485 v487
  let v474 : BitVec 32 := Scalar.divsi v18 c4_i32_259
  let c1_i32_265 : BitVec 32 := 1#32
  let v489 : BitVec 32 := Scalar.subi v474 c1_i32_265
  let v490 : BitVec 32 := Scalar.select v488 v489 v474
  let c4_i32_266 : BitVec 32 := 4#32
  let v491 : BitVec 32 := Scalar.muli v490 c4_i32_266
  let v492 : BitVec 32 := Scalar.subi v18 v491
  let c1_i32_267 : BitVec 32 := 1#32
  let v494 : BitVec 32 := Scalar.divsi v492 c1_i32_267
  let v495 : BitVec 32 := Scalar.muli v494 c1_i32_267
  let v496 : BitVec 32 := Scalar.addi v491 v495
  let c1_i32_269 : BitVec 32 := 1#32
  let arg15 : BitVec 32 := Scf.iv v496 c1_i32_269 k0_t29
  let c256_i32_276 : BitVec 32 := 256#32
  let v512 : BitVec 32 := Scalar.muli arg15 c256_i32_276
  v512
def k0_off195 (i : grid0.Coords) (k0_t29 : Fin (k0_t29_loop i).trips) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_260 : BitVec 32 := 0#32
  let v475 : BitVec 1 := Scalar.cmpi .sgt v18 c0_i32_260
  let v476 : BitVec 32 := Scalar.extui v475
  let c0_i32_261 : BitVec 32 := 0#32
  let v477 : BitVec 1 := Scalar.cmpi .slt v18 c0_i32_261
  let v478 : BitVec 32 := Scalar.extui v477
  let v479 : BitVec 32 := Scalar.subi v476 v478
  let c4_i32_259 : BitVec 32 := 4#32
  let c0_i32_262 : BitVec 32 := 0#32
  let v480 : BitVec 1 := Scalar.cmpi .sgt c4_i32_259 c0_i32_262
  let v481 : BitVec 32 := Scalar.extui v480
  let c0_i32_263 : BitVec 32 := 0#32
  let v482 : BitVec 1 := Scalar.cmpi .slt c4_i32_259 c0_i32_263
  let v483 : BitVec 32 := Scalar.extui v482
  let v484 : BitVec 32 := Scalar.subi v481 v483
  let v485 : BitVec 1 := Scalar.cmpi .ne v479 v484
  let v486 : BitVec 32 := Scalar.remsi v18 c4_i32_259
  let c0_i32_264 : BitVec 32 := 0#32
  let v487 : BitVec 1 := Scalar.cmpi .ne v486 c0_i32_264
  let v488 : BitVec 1 := Scalar.andi v485 v487
  let v474 : BitVec 32 := Scalar.divsi v18 c4_i32_259
  let c1_i32_265 : BitVec 32 := 1#32
  let v489 : BitVec 32 := Scalar.subi v474 c1_i32_265
  let v490 : BitVec 32 := Scalar.select v488 v489 v474
  let c4_i32_266 : BitVec 32 := 4#32
  let v491 : BitVec 32 := Scalar.muli v490 c4_i32_266
  let v492 : BitVec 32 := Scalar.subi v18 v491
  let c1_i32_267 : BitVec 32 := 1#32
  let v494 : BitVec 32 := Scalar.divsi v492 c1_i32_267
  let v495 : BitVec 32 := Scalar.muli v494 c1_i32_267
  let v496 : BitVec 32 := Scalar.addi v491 v495
  let c1_i32_269 : BitVec 32 := 1#32
  let arg15 : BitVec 32 := Scf.iv v496 c1_i32_269 k0_t29
  let c256_i32_276 : BitVec 32 := 256#32
  let v512 : BitVec 32 := Scalar.muli arg15 c256_i32_276
  let v513 : BitVec 32 := v512
  let v514 : Index := Scalar.indexCast v513
  let c0_277 : Index := 0#32
  ![v514.toNat, 0]
@[reducible] def k0_t30_loop : Scf.Loop 32 :=
  let c0_i32_277 : BitVec 32 := 0#32
  let c12_i32_278 : BitVec 32 := 12#32
  let v513 : BitVec 32 := Scalar.addi c0_i32_277 c12_i32_278
  let c1_i32_279 : BitVec 32 := 1#32
  ⟨c0_i32_277, v513, c1_i32_279⟩
@[reducible] def k0_t31_loop (i : grid0.Coords) : Scf.Loop 32 :=
  let c0_i32_292 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_285 : BitVec 32 := 0#32
  let v524 : BitVec 1 := Scalar.cmpi .sgt v18 c0_i32_285
  let v525 : BitVec 32 := Scalar.extui v524
  let c0_i32_286 : BitVec 32 := 0#32
  let v526 : BitVec 1 := Scalar.cmpi .slt v18 c0_i32_286
  let v527 : BitVec 32 := Scalar.extui v526
  let v528 : BitVec 32 := Scalar.subi v525 v527
  let c4_i32_284 : BitVec 32 := 4#32
  let c0_i32_287 : BitVec 32 := 0#32
  let v529 : BitVec 1 := Scalar.cmpi .sgt c4_i32_284 c0_i32_287
  let v530 : BitVec 32 := Scalar.extui v529
  let c0_i32_288 : BitVec 32 := 0#32
  let v531 : BitVec 1 := Scalar.cmpi .slt c4_i32_284 c0_i32_288
  let v532 : BitVec 32 := Scalar.extui v531
  let v533 : BitVec 32 := Scalar.subi v530 v532
  let v534 : BitVec 1 := Scalar.cmpi .ne v528 v533
  let v535 : BitVec 32 := Scalar.remsi v18 c4_i32_284
  let c0_i32_289 : BitVec 32 := 0#32
  let v536 : BitVec 1 := Scalar.cmpi .ne v535 c0_i32_289
  let v537 : BitVec 1 := Scalar.andi v534 v536
  let v523 : BitVec 32 := Scalar.divsi v18 c4_i32_284
  let c1_i32_290 : BitVec 32 := 1#32
  let v538 : BitVec 32 := Scalar.subi v523 c1_i32_290
  let v539 : BitVec 32 := Scalar.select v537 v538 v523
  let v541 : BitVec 32 := Scalar.subi v539 c0_i32_292
  let c1_i32_293 : BitVec 32 := 1#32
  let v543 : BitVec 32 := Scalar.divsi v541 c1_i32_293
  let v544 : BitVec 32 := Scalar.muli v543 c1_i32_293
  let v545 : BitVec 32 := Scalar.addi c0_i32_292 v544
  let c1_i32_294 : BitVec 32 := 1#32
  ⟨c0_i32_292, v545, c1_i32_294⟩
def k0_mult107 (i : grid0.Coords) (k0_t31 : Fin (k0_t31_loop i).trips) : BitVec 32 :=
  let c0_i32_292 : BitVec 32 := 0#32
  let c1_i32_294 : BitVec 32 := 1#32
  let arg17 : BitVec 32 := Scf.iv c0_i32_292 c1_i32_294 k0_t31
  let c4_i32_308 : BitVec 32 := 4#32
  let v577 : BitVec 32 := Scalar.muli arg17 c4_i32_308
  let c0_i32_309 : BitVec 32 := 0#32
  let v578 : BitVec 32 := Scalar.addi v577 c0_i32_309
  let c256_i32_310 : BitVec 32 := 256#32
  let v579 : BitVec 32 := Scalar.muli v578 c256_i32_310
  v579
def k0_off196 (i : grid0.Coords) (k0_t31 : Fin (k0_t31_loop i).trips) (c0_i32_309 : BitVec 32) : Fin 2 → Nat :=
  let c0_i32_292 : BitVec 32 := 0#32
  let c1_i32_294 : BitVec 32 := 1#32
  let arg17 : BitVec 32 := Scf.iv c0_i32_292 c1_i32_294 k0_t31
  let c4_i32_308 : BitVec 32 := 4#32
  let v577 : BitVec 32 := Scalar.muli arg17 c4_i32_308
  let v578 : BitVec 32 := Scalar.addi v577 c0_i32_309
  let c256_i32_310 : BitVec 32 := 256#32
  let v579 : BitVec 32 := Scalar.muli v578 c256_i32_310
  let v580 : BitVec 32 := v579
  let v581 : Index := Scalar.indexCast v580
  let c0_311 : Index := 0#32
  ![v581.toNat, 0]
def k0_mult108 (i : grid0.Coords) (k0_t31 : Fin (k0_t31_loop i).trips) : BitVec 32 :=
  let c0_i32_292 : BitVec 32 := 0#32
  let c1_i32_294 : BitVec 32 := 1#32
  let arg17 : BitVec 32 := Scf.iv c0_i32_292 c1_i32_294 k0_t31
  let c4_i32_314 : BitVec 32 := 4#32
  let v597 : BitVec 32 := Scalar.muli arg17 c4_i32_314
  let c1_i32_315 : BitVec 32 := 1#32
  let v598 : BitVec 32 := Scalar.addi v597 c1_i32_315
  let c256_i32_316 : BitVec 32 := 256#32
  let v599 : BitVec 32 := Scalar.muli v598 c256_i32_316
  v599
def k0_mult109 (i : grid0.Coords) (k0_t31 : Fin (k0_t31_loop i).trips) : BitVec 32 :=
  let c0_i32_292 : BitVec 32 := 0#32
  let c1_i32_294 : BitVec 32 := 1#32
  let arg17 : BitVec 32 := Scf.iv c0_i32_292 c1_i32_294 k0_t31
  let c4_i32_320 : BitVec 32 := 4#32
  let v617 : BitVec 32 := Scalar.muli arg17 c4_i32_320
  let c2_i32_321 : BitVec 32 := 2#32
  let v618 : BitVec 32 := Scalar.addi v617 c2_i32_321
  let c256_i32_322 : BitVec 32 := 256#32
  let v619 : BitVec 32 := Scalar.muli v618 c256_i32_322
  v619
def k0_mult110 (i : grid0.Coords) (k0_t31 : Fin (k0_t31_loop i).trips) : BitVec 32 :=
  let c0_i32_292 : BitVec 32 := 0#32
  let c1_i32_294 : BitVec 32 := 1#32
  let arg17 : BitVec 32 := Scf.iv c0_i32_292 c1_i32_294 k0_t31
  let c4_i32_326 : BitVec 32 := 4#32
  let v637 : BitVec 32 := Scalar.muli arg17 c4_i32_326
  let c3_i32 : BitVec 32 := 3#32
  let v638 : BitVec 32 := Scalar.addi v637 c3_i32
  let c256_i32_327 : BitVec 32 := 256#32
  let v639 : BitVec 32 := Scalar.muli v638 c256_i32_327
  v639
@[reducible] def k0_t32_loop (i : grid0.Coords) : Scf.Loop 32 :=
  let c0_i32_292 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_285 : BitVec 32 := 0#32
  let v524 : BitVec 1 := Scalar.cmpi .sgt v18 c0_i32_285
  let v525 : BitVec 32 := Scalar.extui v524
  let c0_i32_286 : BitVec 32 := 0#32
  let v526 : BitVec 1 := Scalar.cmpi .slt v18 c0_i32_286
  let v527 : BitVec 32 := Scalar.extui v526
  let v528 : BitVec 32 := Scalar.subi v525 v527
  let c4_i32_284 : BitVec 32 := 4#32
  let c0_i32_287 : BitVec 32 := 0#32
  let v529 : BitVec 1 := Scalar.cmpi .sgt c4_i32_284 c0_i32_287
  let v530 : BitVec 32 := Scalar.extui v529
  let c0_i32_288 : BitVec 32 := 0#32
  let v531 : BitVec 1 := Scalar.cmpi .slt c4_i32_284 c0_i32_288
  let v532 : BitVec 32 := Scalar.extui v531
  let v533 : BitVec 32 := Scalar.subi v530 v532
  let v534 : BitVec 1 := Scalar.cmpi .ne v528 v533
  let v535 : BitVec 32 := Scalar.remsi v18 c4_i32_284
  let c0_i32_289 : BitVec 32 := 0#32
  let v536 : BitVec 1 := Scalar.cmpi .ne v535 c0_i32_289
  let v537 : BitVec 1 := Scalar.andi v534 v536
  let v523 : BitVec 32 := Scalar.divsi v18 c4_i32_284
  let c1_i32_290 : BitVec 32 := 1#32
  let v538 : BitVec 32 := Scalar.subi v523 c1_i32_290
  let v539 : BitVec 32 := Scalar.select v537 v538 v523
  let v541 : BitVec 32 := Scalar.subi v539 c0_i32_292
  let c1_i32_293 : BitVec 32 := 1#32
  let v543 : BitVec 32 := Scalar.divsi v541 c1_i32_293
  let v544 : BitVec 32 := Scalar.muli v543 c1_i32_293
  let v545 : BitVec 32 := Scalar.addi c0_i32_292 v544
  let v542 : BitVec 32 := Scalar.addi c0_i32_292 v541
  let c1_i32_295 : BitVec 32 := 1#32
  ⟨v545, v542, c1_i32_295⟩
def k0_mult111 (i : grid0.Coords) (k0_t32 : Fin (k0_t32_loop i).trips) : BitVec 32 :=
  let c0_i32_292 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_285 : BitVec 32 := 0#32
  let v524 : BitVec 1 := Scalar.cmpi .sgt v18 c0_i32_285
  let v525 : BitVec 32 := Scalar.extui v524
  let c0_i32_286 : BitVec 32 := 0#32
  let v526 : BitVec 1 := Scalar.cmpi .slt v18 c0_i32_286
  let v527 : BitVec 32 := Scalar.extui v526
  let v528 : BitVec 32 := Scalar.subi v525 v527
  let c4_i32_284 : BitVec 32 := 4#32
  let c0_i32_287 : BitVec 32 := 0#32
  let v529 : BitVec 1 := Scalar.cmpi .sgt c4_i32_284 c0_i32_287
  let v530 : BitVec 32 := Scalar.extui v529
  let c0_i32_288 : BitVec 32 := 0#32
  let v531 : BitVec 1 := Scalar.cmpi .slt c4_i32_284 c0_i32_288
  let v532 : BitVec 32 := Scalar.extui v531
  let v533 : BitVec 32 := Scalar.subi v530 v532
  let v534 : BitVec 1 := Scalar.cmpi .ne v528 v533
  let v535 : BitVec 32 := Scalar.remsi v18 c4_i32_284
  let c0_i32_289 : BitVec 32 := 0#32
  let v536 : BitVec 1 := Scalar.cmpi .ne v535 c0_i32_289
  let v537 : BitVec 1 := Scalar.andi v534 v536
  let v523 : BitVec 32 := Scalar.divsi v18 c4_i32_284
  let c1_i32_290 : BitVec 32 := 1#32
  let v538 : BitVec 32 := Scalar.subi v523 c1_i32_290
  let v539 : BitVec 32 := Scalar.select v537 v538 v523
  let v541 : BitVec 32 := Scalar.subi v539 c0_i32_292
  let c1_i32_293 : BitVec 32 := 1#32
  let v543 : BitVec 32 := Scalar.divsi v541 c1_i32_293
  let v544 : BitVec 32 := Scalar.muli v543 c1_i32_293
  let v545 : BitVec 32 := Scalar.addi c0_i32_292 v544
  let c1_i32_295 : BitVec 32 := 1#32
  let arg17 : BitVec 32 := Scf.iv v545 c1_i32_295 k0_t32
  let c4_i32_308 : BitVec 32 := 4#32
  let v577 : BitVec 32 := Scalar.muli arg17 c4_i32_308
  let c0_i32_309 : BitVec 32 := 0#32
  let v578 : BitVec 32 := Scalar.addi v577 c0_i32_309
  let c256_i32_310 : BitVec 32 := 256#32
  let v579 : BitVec 32 := Scalar.muli v578 c256_i32_310
  v579
def k0_off197 (i : grid0.Coords) (k0_t32 : Fin (k0_t32_loop i).trips) (c0_i32_309 : BitVec 32) : Fin 2 → Nat :=
  let c0_i32_292 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_285 : BitVec 32 := 0#32
  let v524 : BitVec 1 := Scalar.cmpi .sgt v18 c0_i32_285
  let v525 : BitVec 32 := Scalar.extui v524
  let c0_i32_286 : BitVec 32 := 0#32
  let v526 : BitVec 1 := Scalar.cmpi .slt v18 c0_i32_286
  let v527 : BitVec 32 := Scalar.extui v526
  let v528 : BitVec 32 := Scalar.subi v525 v527
  let c4_i32_284 : BitVec 32 := 4#32
  let c0_i32_287 : BitVec 32 := 0#32
  let v529 : BitVec 1 := Scalar.cmpi .sgt c4_i32_284 c0_i32_287
  let v530 : BitVec 32 := Scalar.extui v529
  let c0_i32_288 : BitVec 32 := 0#32
  let v531 : BitVec 1 := Scalar.cmpi .slt c4_i32_284 c0_i32_288
  let v532 : BitVec 32 := Scalar.extui v531
  let v533 : BitVec 32 := Scalar.subi v530 v532
  let v534 : BitVec 1 := Scalar.cmpi .ne v528 v533
  let v535 : BitVec 32 := Scalar.remsi v18 c4_i32_284
  let c0_i32_289 : BitVec 32 := 0#32
  let v536 : BitVec 1 := Scalar.cmpi .ne v535 c0_i32_289
  let v537 : BitVec 1 := Scalar.andi v534 v536
  let v523 : BitVec 32 := Scalar.divsi v18 c4_i32_284
  let c1_i32_290 : BitVec 32 := 1#32
  let v538 : BitVec 32 := Scalar.subi v523 c1_i32_290
  let v539 : BitVec 32 := Scalar.select v537 v538 v523
  let v541 : BitVec 32 := Scalar.subi v539 c0_i32_292
  let c1_i32_293 : BitVec 32 := 1#32
  let v543 : BitVec 32 := Scalar.divsi v541 c1_i32_293
  let v544 : BitVec 32 := Scalar.muli v543 c1_i32_293
  let v545 : BitVec 32 := Scalar.addi c0_i32_292 v544
  let c1_i32_295 : BitVec 32 := 1#32
  let arg17 : BitVec 32 := Scf.iv v545 c1_i32_295 k0_t32
  let c4_i32_308 : BitVec 32 := 4#32
  let v577 : BitVec 32 := Scalar.muli arg17 c4_i32_308
  let v578 : BitVec 32 := Scalar.addi v577 c0_i32_309
  let c256_i32_310 : BitVec 32 := 256#32
  let v579 : BitVec 32 := Scalar.muli v578 c256_i32_310
  let v580 : BitVec 32 := v579
  let v581 : Index := Scalar.indexCast v580
  let c0_311 : Index := 0#32
  ![v581.toNat, 0]
def k0_mult112 (i : grid0.Coords) (k0_t32 : Fin (k0_t32_loop i).trips) : BitVec 32 :=
  let c0_i32_292 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_285 : BitVec 32 := 0#32
  let v524 : BitVec 1 := Scalar.cmpi .sgt v18 c0_i32_285
  let v525 : BitVec 32 := Scalar.extui v524
  let c0_i32_286 : BitVec 32 := 0#32
  let v526 : BitVec 1 := Scalar.cmpi .slt v18 c0_i32_286
  let v527 : BitVec 32 := Scalar.extui v526
  let v528 : BitVec 32 := Scalar.subi v525 v527
  let c4_i32_284 : BitVec 32 := 4#32
  let c0_i32_287 : BitVec 32 := 0#32
  let v529 : BitVec 1 := Scalar.cmpi .sgt c4_i32_284 c0_i32_287
  let v530 : BitVec 32 := Scalar.extui v529
  let c0_i32_288 : BitVec 32 := 0#32
  let v531 : BitVec 1 := Scalar.cmpi .slt c4_i32_284 c0_i32_288
  let v532 : BitVec 32 := Scalar.extui v531
  let v533 : BitVec 32 := Scalar.subi v530 v532
  let v534 : BitVec 1 := Scalar.cmpi .ne v528 v533
  let v535 : BitVec 32 := Scalar.remsi v18 c4_i32_284
  let c0_i32_289 : BitVec 32 := 0#32
  let v536 : BitVec 1 := Scalar.cmpi .ne v535 c0_i32_289
  let v537 : BitVec 1 := Scalar.andi v534 v536
  let v523 : BitVec 32 := Scalar.divsi v18 c4_i32_284
  let c1_i32_290 : BitVec 32 := 1#32
  let v538 : BitVec 32 := Scalar.subi v523 c1_i32_290
  let v539 : BitVec 32 := Scalar.select v537 v538 v523
  let v541 : BitVec 32 := Scalar.subi v539 c0_i32_292
  let c1_i32_293 : BitVec 32 := 1#32
  let v543 : BitVec 32 := Scalar.divsi v541 c1_i32_293
  let v544 : BitVec 32 := Scalar.muli v543 c1_i32_293
  let v545 : BitVec 32 := Scalar.addi c0_i32_292 v544
  let c1_i32_295 : BitVec 32 := 1#32
  let arg17 : BitVec 32 := Scf.iv v545 c1_i32_295 k0_t32
  let c4_i32_314 : BitVec 32 := 4#32
  let v597 : BitVec 32 := Scalar.muli arg17 c4_i32_314
  let c1_i32_315 : BitVec 32 := 1#32
  let v598 : BitVec 32 := Scalar.addi v597 c1_i32_315
  let c256_i32_316 : BitVec 32 := 256#32
  let v599 : BitVec 32 := Scalar.muli v598 c256_i32_316
  v599
def k0_mult113 (i : grid0.Coords) (k0_t32 : Fin (k0_t32_loop i).trips) : BitVec 32 :=
  let c0_i32_292 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_285 : BitVec 32 := 0#32
  let v524 : BitVec 1 := Scalar.cmpi .sgt v18 c0_i32_285
  let v525 : BitVec 32 := Scalar.extui v524
  let c0_i32_286 : BitVec 32 := 0#32
  let v526 : BitVec 1 := Scalar.cmpi .slt v18 c0_i32_286
  let v527 : BitVec 32 := Scalar.extui v526
  let v528 : BitVec 32 := Scalar.subi v525 v527
  let c4_i32_284 : BitVec 32 := 4#32
  let c0_i32_287 : BitVec 32 := 0#32
  let v529 : BitVec 1 := Scalar.cmpi .sgt c4_i32_284 c0_i32_287
  let v530 : BitVec 32 := Scalar.extui v529
  let c0_i32_288 : BitVec 32 := 0#32
  let v531 : BitVec 1 := Scalar.cmpi .slt c4_i32_284 c0_i32_288
  let v532 : BitVec 32 := Scalar.extui v531
  let v533 : BitVec 32 := Scalar.subi v530 v532
  let v534 : BitVec 1 := Scalar.cmpi .ne v528 v533
  let v535 : BitVec 32 := Scalar.remsi v18 c4_i32_284
  let c0_i32_289 : BitVec 32 := 0#32
  let v536 : BitVec 1 := Scalar.cmpi .ne v535 c0_i32_289
  let v537 : BitVec 1 := Scalar.andi v534 v536
  let v523 : BitVec 32 := Scalar.divsi v18 c4_i32_284
  let c1_i32_290 : BitVec 32 := 1#32
  let v538 : BitVec 32 := Scalar.subi v523 c1_i32_290
  let v539 : BitVec 32 := Scalar.select v537 v538 v523
  let v541 : BitVec 32 := Scalar.subi v539 c0_i32_292
  let c1_i32_293 : BitVec 32 := 1#32
  let v543 : BitVec 32 := Scalar.divsi v541 c1_i32_293
  let v544 : BitVec 32 := Scalar.muli v543 c1_i32_293
  let v545 : BitVec 32 := Scalar.addi c0_i32_292 v544
  let c1_i32_295 : BitVec 32 := 1#32
  let arg17 : BitVec 32 := Scf.iv v545 c1_i32_295 k0_t32
  let c4_i32_320 : BitVec 32 := 4#32
  let v617 : BitVec 32 := Scalar.muli arg17 c4_i32_320
  let c2_i32_321 : BitVec 32 := 2#32
  let v618 : BitVec 32 := Scalar.addi v617 c2_i32_321
  let c256_i32_322 : BitVec 32 := 256#32
  let v619 : BitVec 32 := Scalar.muli v618 c256_i32_322
  v619
def k0_mult114 (i : grid0.Coords) (k0_t32 : Fin (k0_t32_loop i).trips) : BitVec 32 :=
  let c0_i32_292 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_285 : BitVec 32 := 0#32
  let v524 : BitVec 1 := Scalar.cmpi .sgt v18 c0_i32_285
  let v525 : BitVec 32 := Scalar.extui v524
  let c0_i32_286 : BitVec 32 := 0#32
  let v526 : BitVec 1 := Scalar.cmpi .slt v18 c0_i32_286
  let v527 : BitVec 32 := Scalar.extui v526
  let v528 : BitVec 32 := Scalar.subi v525 v527
  let c4_i32_284 : BitVec 32 := 4#32
  let c0_i32_287 : BitVec 32 := 0#32
  let v529 : BitVec 1 := Scalar.cmpi .sgt c4_i32_284 c0_i32_287
  let v530 : BitVec 32 := Scalar.extui v529
  let c0_i32_288 : BitVec 32 := 0#32
  let v531 : BitVec 1 := Scalar.cmpi .slt c4_i32_284 c0_i32_288
  let v532 : BitVec 32 := Scalar.extui v531
  let v533 : BitVec 32 := Scalar.subi v530 v532
  let v534 : BitVec 1 := Scalar.cmpi .ne v528 v533
  let v535 : BitVec 32 := Scalar.remsi v18 c4_i32_284
  let c0_i32_289 : BitVec 32 := 0#32
  let v536 : BitVec 1 := Scalar.cmpi .ne v535 c0_i32_289
  let v537 : BitVec 1 := Scalar.andi v534 v536
  let v523 : BitVec 32 := Scalar.divsi v18 c4_i32_284
  let c1_i32_290 : BitVec 32 := 1#32
  let v538 : BitVec 32 := Scalar.subi v523 c1_i32_290
  let v539 : BitVec 32 := Scalar.select v537 v538 v523
  let v541 : BitVec 32 := Scalar.subi v539 c0_i32_292
  let c1_i32_293 : BitVec 32 := 1#32
  let v543 : BitVec 32 := Scalar.divsi v541 c1_i32_293
  let v544 : BitVec 32 := Scalar.muli v543 c1_i32_293
  let v545 : BitVec 32 := Scalar.addi c0_i32_292 v544
  let c1_i32_295 : BitVec 32 := 1#32
  let arg17 : BitVec 32 := Scf.iv v545 c1_i32_295 k0_t32
  let c4_i32_326 : BitVec 32 := 4#32
  let v637 : BitVec 32 := Scalar.muli arg17 c4_i32_326
  let c3_i32 : BitVec 32 := 3#32
  let v638 : BitVec 32 := Scalar.addi v637 c3_i32
  let c256_i32_327 : BitVec 32 := 256#32
  let v639 : BitVec 32 := Scalar.muli v638 c256_i32_327
  v639
@[reducible] def k0_t33_loop (i : grid0.Coords) : Scf.Loop 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_297 : BitVec 32 := 0#32
  let v549 : BitVec 1 := Scalar.cmpi .sgt v18 c0_i32_297
  let v550 : BitVec 32 := Scalar.extui v549
  let c0_i32_298 : BitVec 32 := 0#32
  let v551 : BitVec 1 := Scalar.cmpi .slt v18 c0_i32_298
  let v552 : BitVec 32 := Scalar.extui v551
  let v553 : BitVec 32 := Scalar.subi v550 v552
  let c4_i32_296 : BitVec 32 := 4#32
  let c0_i32_299 : BitVec 32 := 0#32
  let v554 : BitVec 1 := Scalar.cmpi .sgt c4_i32_296 c0_i32_299
  let v555 : BitVec 32 := Scalar.extui v554
  let c0_i32_300 : BitVec 32 := 0#32
  let v556 : BitVec 1 := Scalar.cmpi .slt c4_i32_296 c0_i32_300
  let v557 : BitVec 32 := Scalar.extui v556
  let v558 : BitVec 32 := Scalar.subi v555 v557
  let v559 : BitVec 1 := Scalar.cmpi .ne v553 v558
  let v560 : BitVec 32 := Scalar.remsi v18 c4_i32_296
  let c0_i32_301 : BitVec 32 := 0#32
  let v561 : BitVec 1 := Scalar.cmpi .ne v560 c0_i32_301
  let v562 : BitVec 1 := Scalar.andi v559 v561
  let v548 : BitVec 32 := Scalar.divsi v18 c4_i32_296
  let c1_i32_302 : BitVec 32 := 1#32
  let v563 : BitVec 32 := Scalar.subi v548 c1_i32_302
  let v564 : BitVec 32 := Scalar.select v562 v563 v548
  let c4_i32_303 : BitVec 32 := 4#32
  let v565 : BitVec 32 := Scalar.muli v564 c4_i32_303
  let v566 : BitVec 32 := Scalar.subi v18 v565
  let c1_i32_304 : BitVec 32 := 1#32
  let v568 : BitVec 32 := Scalar.divsi v566 c1_i32_304
  let v569 : BitVec 32 := Scalar.muli v568 c1_i32_304
  let v570 : BitVec 32 := Scalar.addi v565 v569
  let c1_i32_305 : BitVec 32 := 1#32
  ⟨v565, v570, c1_i32_305⟩
def k0_mult115 (i : grid0.Coords) (k0_t33 : Fin (k0_t33_loop i).trips) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_297 : BitVec 32 := 0#32
  let v549 : BitVec 1 := Scalar.cmpi .sgt v18 c0_i32_297
  let v550 : BitVec 32 := Scalar.extui v549
  let c0_i32_298 : BitVec 32 := 0#32
  let v551 : BitVec 1 := Scalar.cmpi .slt v18 c0_i32_298
  let v552 : BitVec 32 := Scalar.extui v551
  let v553 : BitVec 32 := Scalar.subi v550 v552
  let c4_i32_296 : BitVec 32 := 4#32
  let c0_i32_299 : BitVec 32 := 0#32
  let v554 : BitVec 1 := Scalar.cmpi .sgt c4_i32_296 c0_i32_299
  let v555 : BitVec 32 := Scalar.extui v554
  let c0_i32_300 : BitVec 32 := 0#32
  let v556 : BitVec 1 := Scalar.cmpi .slt c4_i32_296 c0_i32_300
  let v557 : BitVec 32 := Scalar.extui v556
  let v558 : BitVec 32 := Scalar.subi v555 v557
  let v559 : BitVec 1 := Scalar.cmpi .ne v553 v558
  let v560 : BitVec 32 := Scalar.remsi v18 c4_i32_296
  let c0_i32_301 : BitVec 32 := 0#32
  let v561 : BitVec 1 := Scalar.cmpi .ne v560 c0_i32_301
  let v562 : BitVec 1 := Scalar.andi v559 v561
  let v548 : BitVec 32 := Scalar.divsi v18 c4_i32_296
  let c1_i32_302 : BitVec 32 := 1#32
  let v563 : BitVec 32 := Scalar.subi v548 c1_i32_302
  let v564 : BitVec 32 := Scalar.select v562 v563 v548
  let c4_i32_303 : BitVec 32 := 4#32
  let v565 : BitVec 32 := Scalar.muli v564 c4_i32_303
  let c1_i32_305 : BitVec 32 := 1#32
  let arg17 : BitVec 32 := Scf.iv v565 c1_i32_305 k0_t33
  let c256_i32_308 : BitVec 32 := 256#32
  let v577 : BitVec 32 := Scalar.muli arg17 c256_i32_308
  v577
def k0_off198 (i : grid0.Coords) (k0_t33 : Fin (k0_t33_loop i).trips) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_297 : BitVec 32 := 0#32
  let v549 : BitVec 1 := Scalar.cmpi .sgt v18 c0_i32_297
  let v550 : BitVec 32 := Scalar.extui v549
  let c0_i32_298 : BitVec 32 := 0#32
  let v551 : BitVec 1 := Scalar.cmpi .slt v18 c0_i32_298
  let v552 : BitVec 32 := Scalar.extui v551
  let v553 : BitVec 32 := Scalar.subi v550 v552
  let c4_i32_296 : BitVec 32 := 4#32
  let c0_i32_299 : BitVec 32 := 0#32
  let v554 : BitVec 1 := Scalar.cmpi .sgt c4_i32_296 c0_i32_299
  let v555 : BitVec 32 := Scalar.extui v554
  let c0_i32_300 : BitVec 32 := 0#32
  let v556 : BitVec 1 := Scalar.cmpi .slt c4_i32_296 c0_i32_300
  let v557 : BitVec 32 := Scalar.extui v556
  let v558 : BitVec 32 := Scalar.subi v555 v557
  let v559 : BitVec 1 := Scalar.cmpi .ne v553 v558
  let v560 : BitVec 32 := Scalar.remsi v18 c4_i32_296
  let c0_i32_301 : BitVec 32 := 0#32
  let v561 : BitVec 1 := Scalar.cmpi .ne v560 c0_i32_301
  let v562 : BitVec 1 := Scalar.andi v559 v561
  let v548 : BitVec 32 := Scalar.divsi v18 c4_i32_296
  let c1_i32_302 : BitVec 32 := 1#32
  let v563 : BitVec 32 := Scalar.subi v548 c1_i32_302
  let v564 : BitVec 32 := Scalar.select v562 v563 v548
  let c4_i32_303 : BitVec 32 := 4#32
  let v565 : BitVec 32 := Scalar.muli v564 c4_i32_303
  let c1_i32_305 : BitVec 32 := 1#32
  let arg17 : BitVec 32 := Scf.iv v565 c1_i32_305 k0_t33
  let c256_i32_308 : BitVec 32 := 256#32
  let v577 : BitVec 32 := Scalar.muli arg17 c256_i32_308
  let v578 : BitVec 32 := v577
  let v579 : Index := Scalar.indexCast v578
  let c0_309 : Index := 0#32
  ![v579.toNat, 0]
@[reducible] def k0_t34_loop (i : grid0.Coords) : Scf.Loop 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_297 : BitVec 32 := 0#32
  let v549 : BitVec 1 := Scalar.cmpi .sgt v18 c0_i32_297
  let v550 : BitVec 32 := Scalar.extui v549
  let c0_i32_298 : BitVec 32 := 0#32
  let v551 : BitVec 1 := Scalar.cmpi .slt v18 c0_i32_298
  let v552 : BitVec 32 := Scalar.extui v551
  let v553 : BitVec 32 := Scalar.subi v550 v552
  let c4_i32_296 : BitVec 32 := 4#32
  let c0_i32_299 : BitVec 32 := 0#32
  let v554 : BitVec 1 := Scalar.cmpi .sgt c4_i32_296 c0_i32_299
  let v555 : BitVec 32 := Scalar.extui v554
  let c0_i32_300 : BitVec 32 := 0#32
  let v556 : BitVec 1 := Scalar.cmpi .slt c4_i32_296 c0_i32_300
  let v557 : BitVec 32 := Scalar.extui v556
  let v558 : BitVec 32 := Scalar.subi v555 v557
  let v559 : BitVec 1 := Scalar.cmpi .ne v553 v558
  let v560 : BitVec 32 := Scalar.remsi v18 c4_i32_296
  let c0_i32_301 : BitVec 32 := 0#32
  let v561 : BitVec 1 := Scalar.cmpi .ne v560 c0_i32_301
  let v562 : BitVec 1 := Scalar.andi v559 v561
  let v548 : BitVec 32 := Scalar.divsi v18 c4_i32_296
  let c1_i32_302 : BitVec 32 := 1#32
  let v563 : BitVec 32 := Scalar.subi v548 c1_i32_302
  let v564 : BitVec 32 := Scalar.select v562 v563 v548
  let c4_i32_303 : BitVec 32 := 4#32
  let v565 : BitVec 32 := Scalar.muli v564 c4_i32_303
  let v566 : BitVec 32 := Scalar.subi v18 v565
  let c1_i32_304 : BitVec 32 := 1#32
  let v568 : BitVec 32 := Scalar.divsi v566 c1_i32_304
  let v569 : BitVec 32 := Scalar.muli v568 c1_i32_304
  let v570 : BitVec 32 := Scalar.addi v565 v569
  let v567 : BitVec 32 := Scalar.addi v565 v566
  let c1_i32_306 : BitVec 32 := 1#32
  ⟨v570, v567, c1_i32_306⟩
def k0_mult116 (i : grid0.Coords) (k0_t34 : Fin (k0_t34_loop i).trips) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_297 : BitVec 32 := 0#32
  let v549 : BitVec 1 := Scalar.cmpi .sgt v18 c0_i32_297
  let v550 : BitVec 32 := Scalar.extui v549
  let c0_i32_298 : BitVec 32 := 0#32
  let v551 : BitVec 1 := Scalar.cmpi .slt v18 c0_i32_298
  let v552 : BitVec 32 := Scalar.extui v551
  let v553 : BitVec 32 := Scalar.subi v550 v552
  let c4_i32_296 : BitVec 32 := 4#32
  let c0_i32_299 : BitVec 32 := 0#32
  let v554 : BitVec 1 := Scalar.cmpi .sgt c4_i32_296 c0_i32_299
  let v555 : BitVec 32 := Scalar.extui v554
  let c0_i32_300 : BitVec 32 := 0#32
  let v556 : BitVec 1 := Scalar.cmpi .slt c4_i32_296 c0_i32_300
  let v557 : BitVec 32 := Scalar.extui v556
  let v558 : BitVec 32 := Scalar.subi v555 v557
  let v559 : BitVec 1 := Scalar.cmpi .ne v553 v558
  let v560 : BitVec 32 := Scalar.remsi v18 c4_i32_296
  let c0_i32_301 : BitVec 32 := 0#32
  let v561 : BitVec 1 := Scalar.cmpi .ne v560 c0_i32_301
  let v562 : BitVec 1 := Scalar.andi v559 v561
  let v548 : BitVec 32 := Scalar.divsi v18 c4_i32_296
  let c1_i32_302 : BitVec 32 := 1#32
  let v563 : BitVec 32 := Scalar.subi v548 c1_i32_302
  let v564 : BitVec 32 := Scalar.select v562 v563 v548
  let c4_i32_303 : BitVec 32 := 4#32
  let v565 : BitVec 32 := Scalar.muli v564 c4_i32_303
  let v566 : BitVec 32 := Scalar.subi v18 v565
  let c1_i32_304 : BitVec 32 := 1#32
  let v568 : BitVec 32 := Scalar.divsi v566 c1_i32_304
  let v569 : BitVec 32 := Scalar.muli v568 c1_i32_304
  let v570 : BitVec 32 := Scalar.addi v565 v569
  let c1_i32_306 : BitVec 32 := 1#32
  let arg17 : BitVec 32 := Scf.iv v570 c1_i32_306 k0_t34
  let c256_i32_308 : BitVec 32 := 256#32
  let v577 : BitVec 32 := Scalar.muli arg17 c256_i32_308
  v577
def k0_off199 (i : grid0.Coords) (k0_t34 : Fin (k0_t34_loop i).trips) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_297 : BitVec 32 := 0#32
  let v549 : BitVec 1 := Scalar.cmpi .sgt v18 c0_i32_297
  let v550 : BitVec 32 := Scalar.extui v549
  let c0_i32_298 : BitVec 32 := 0#32
  let v551 : BitVec 1 := Scalar.cmpi .slt v18 c0_i32_298
  let v552 : BitVec 32 := Scalar.extui v551
  let v553 : BitVec 32 := Scalar.subi v550 v552
  let c4_i32_296 : BitVec 32 := 4#32
  let c0_i32_299 : BitVec 32 := 0#32
  let v554 : BitVec 1 := Scalar.cmpi .sgt c4_i32_296 c0_i32_299
  let v555 : BitVec 32 := Scalar.extui v554
  let c0_i32_300 : BitVec 32 := 0#32
  let v556 : BitVec 1 := Scalar.cmpi .slt c4_i32_296 c0_i32_300
  let v557 : BitVec 32 := Scalar.extui v556
  let v558 : BitVec 32 := Scalar.subi v555 v557
  let v559 : BitVec 1 := Scalar.cmpi .ne v553 v558
  let v560 : BitVec 32 := Scalar.remsi v18 c4_i32_296
  let c0_i32_301 : BitVec 32 := 0#32
  let v561 : BitVec 1 := Scalar.cmpi .ne v560 c0_i32_301
  let v562 : BitVec 1 := Scalar.andi v559 v561
  let v548 : BitVec 32 := Scalar.divsi v18 c4_i32_296
  let c1_i32_302 : BitVec 32 := 1#32
  let v563 : BitVec 32 := Scalar.subi v548 c1_i32_302
  let v564 : BitVec 32 := Scalar.select v562 v563 v548
  let c4_i32_303 : BitVec 32 := 4#32
  let v565 : BitVec 32 := Scalar.muli v564 c4_i32_303
  let v566 : BitVec 32 := Scalar.subi v18 v565
  let c1_i32_304 : BitVec 32 := 1#32
  let v568 : BitVec 32 := Scalar.divsi v566 c1_i32_304
  let v569 : BitVec 32 := Scalar.muli v568 c1_i32_304
  let v570 : BitVec 32 := Scalar.addi v565 v569
  let c1_i32_306 : BitVec 32 := 1#32
  let arg17 : BitVec 32 := Scf.iv v570 c1_i32_306 k0_t34
  let c256_i32_308 : BitVec 32 := 256#32
  let v577 : BitVec 32 := Scalar.muli arg17 c256_i32_308
  let v578 : BitVec 32 := v577
  let v579 : Index := Scalar.indexCast v578
  let c0_309 : Index := 0#32
  ![v579.toNat, 0]
@[reducible] def k0_t35_loop (i : grid0.Coords) : Scf.Loop 32 :=
  let c0_i32_74 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_67 : BitVec 32 := 0#32
  let v116 : BitVec 1 := Scalar.cmpi .sgt v18 c0_i32_67
  let v117 : BitVec 32 := Scalar.extui v116
  let c0_i32_68 : BitVec 32 := 0#32
  let v118 : BitVec 1 := Scalar.cmpi .slt v18 c0_i32_68
  let v119 : BitVec 32 := Scalar.extui v118
  let v120 : BitVec 32 := Scalar.subi v117 v119
  let c8_i32_66 : BitVec 32 := 8#32
  let c0_i32_69 : BitVec 32 := 0#32
  let v121 : BitVec 1 := Scalar.cmpi .sgt c8_i32_66 c0_i32_69
  let v122 : BitVec 32 := Scalar.extui v121
  let c0_i32_70 : BitVec 32 := 0#32
  let v123 : BitVec 1 := Scalar.cmpi .slt c8_i32_66 c0_i32_70
  let v124 : BitVec 32 := Scalar.extui v123
  let v125 : BitVec 32 := Scalar.subi v122 v124
  let v126 : BitVec 1 := Scalar.cmpi .ne v120 v125
  let v127 : BitVec 32 := Scalar.remsi v18 c8_i32_66
  let c0_i32_71 : BitVec 32 := 0#32
  let v128 : BitVec 1 := Scalar.cmpi .ne v127 c0_i32_71
  let v129 : BitVec 1 := Scalar.andi v126 v128
  let v115 : BitVec 32 := Scalar.divsi v18 c8_i32_66
  let c1_i32_72 : BitVec 32 := 1#32
  let v130 : BitVec 32 := Scalar.subi v115 c1_i32_72
  let v131 : BitVec 32 := Scalar.select v129 v130 v115
  let v132 : BitVec 32 := Scalar.subi v131 c0_i32_74
  let c1_i32_75 : BitVec 32 := 1#32
  let v134 : BitVec 32 := Scalar.divsi v132 c1_i32_75
  let v135 : BitVec 32 := Scalar.muli v134 c1_i32_75
  let v136 : BitVec 32 := Scalar.addi c0_i32_74 v135
  let c1_i32_76 : BitVec 32 := 1#32
  ⟨c0_i32_74, v136, c1_i32_76⟩
def k0_mult117 (i : grid0.Coords) (k0_t35 : Fin (k0_t35_loop i).trips) : BitVec 32 :=
  let c0_i32_74 : BitVec 32 := 0#32
  let c1_i32_76 : BitVec 32 := 1#32
  let arg15 : BitVec 32 := Scf.iv c0_i32_74 c1_i32_76 k0_t35
  let c8_i32_162 : BitVec 32 := 8#32
  let v274 : BitVec 32 := Scalar.muli arg15 c8_i32_162
  let c0_i32_163 : BitVec 32 := 0#32
  let v275 : BitVec 32 := Scalar.addi v274 c0_i32_163
  let c256_i32_164 : BitVec 32 := 256#32
  let v276 : BitVec 32 := Scalar.muli v275 c256_i32_164
  v276
def k0_off200 (i : grid0.Coords) (k0_t35 : Fin (k0_t35_loop i).trips) (c0_i32_163 : BitVec 32) : Fin 3 → Nat :=
  let c0_165 : Index := 0#32
  let c0_i32_74 : BitVec 32 := 0#32
  let c1_i32_76 : BitVec 32 := 1#32
  let arg15 : BitVec 32 := Scf.iv c0_i32_74 c1_i32_76 k0_t35
  let c8_i32_162 : BitVec 32 := 8#32
  let v274 : BitVec 32 := Scalar.muli arg15 c8_i32_162
  let v275 : BitVec 32 := Scalar.addi v274 c0_i32_163
  let c256_i32_164 : BitVec 32 := 256#32
  let v276 : BitVec 32 := Scalar.muli v275 c256_i32_164
  let v277 : BitVec 32 := v276
  let v278 : Index := Scalar.indexCast v277
  let c0_166 : Index := 0#32
  ![0, v278.toNat, 0]
def k0_off201 (i : grid0.Coords) (k0_t35 : Fin (k0_t35_loop i).trips) (c0_i32_163 : BitVec 32) (c0_i32_168 : BitVec 32) : Fin 2 → Nat :=
  let c0_i32_74 : BitVec 32 := 0#32
  let c1_i32_76 : BitVec 32 := 1#32
  let arg15 : BitVec 32 := Scf.iv c0_i32_74 c1_i32_76 k0_t35
  let c8_i32_162 : BitVec 32 := 8#32
  let v274 : BitVec 32 := Scalar.muli arg15 c8_i32_162
  let v275 : BitVec 32 := Scalar.addi v274 c0_i32_163
  let c256_i32_164 : BitVec 32 := 256#32
  let v276 : BitVec 32 := Scalar.muli v275 c256_i32_164
  let v277 : BitVec 32 := v276
  let v282 : BitVec 32 := Scalar.addi v277 c0_i32_168
  let v283 : Index := Scalar.indexCast v282
  let c0_169 : Index := 0#32
  ![v283.toNat, 0]
def k0_off202 (i : grid0.Coords) (k0_t35 : Fin (k0_t35_loop i).trips) (c0_i32_182 : BitVec 32) : Fin 3 → Nat :=
  let c0_i32_74 : BitVec 32 := 0#32
  let c1_i32_76 : BitVec 32 := 1#32
  let arg15 : BitVec 32 := Scf.iv c0_i32_74 c1_i32_76 k0_t35
  let c8_i32_162 : BitVec 32 := 8#32
  let v274 : BitVec 32 := Scalar.muli arg15 c8_i32_162
  let v328 : BitVec 32 := Scalar.addi v274 c0_i32_182
  let v329 : Index := Scalar.indexCast v328
  let c0_183 : Index := 0#32
  let c0_184 : Index := 0#32
  ![v329.toNat, 0, 0]
def k0_mult118 (i : grid0.Coords) (k0_t35 : Fin (k0_t35_loop i).trips) : BitVec 32 :=
  let c0_i32_74 : BitVec 32 := 0#32
  let c1_i32_76 : BitVec 32 := 1#32
  let arg15 : BitVec 32 := Scf.iv c0_i32_74 c1_i32_76 k0_t35
  let c8_i32_162 : BitVec 32 := 8#32
  let v274 : BitVec 32 := Scalar.muli arg15 c8_i32_162
  let c1_i32_185 : BitVec 32 := 1#32
  let v336 : BitVec 32 := Scalar.addi v274 c1_i32_185
  let c256_i32_186 : BitVec 32 := 256#32
  let v337 : BitVec 32 := Scalar.muli v336 c256_i32_186
  v337
def k0_mult119 (i : grid0.Coords) (k0_t35 : Fin (k0_t35_loop i).trips) : BitVec 32 :=
  let c0_i32_74 : BitVec 32 := 0#32
  let c1_i32_76 : BitVec 32 := 1#32
  let arg15 : BitVec 32 := Scf.iv c0_i32_74 c1_i32_76 k0_t35
  let c8_i32_162 : BitVec 32 := 8#32
  let v274 : BitVec 32 := Scalar.muli arg15 c8_i32_162
  let c2_i32_207 : BitVec 32 := 2#32
  let v398 : BitVec 32 := Scalar.addi v274 c2_i32_207
  let c256_i32_208 : BitVec 32 := 256#32
  let v399 : BitVec 32 := Scalar.muli v398 c256_i32_208
  v399
def k0_mult120 (i : grid0.Coords) (k0_t35 : Fin (k0_t35_loop i).trips) : BitVec 32 :=
  let c0_i32_74 : BitVec 32 := 0#32
  let c1_i32_76 : BitVec 32 := 1#32
  let arg15 : BitVec 32 := Scf.iv c0_i32_74 c1_i32_76 k0_t35
  let c8_i32_162 : BitVec 32 := 8#32
  let v274 : BitVec 32 := Scalar.muli arg15 c8_i32_162
  let c3_i32 : BitVec 32 := 3#32
  let v460 : BitVec 32 := Scalar.addi v274 c3_i32
  let c256_i32_229 : BitVec 32 := 256#32
  let v461 : BitVec 32 := Scalar.muli v460 c256_i32_229
  v461
def k0_mult121 (i : grid0.Coords) (k0_t35 : Fin (k0_t35_loop i).trips) : BitVec 32 :=
  let c0_i32_74 : BitVec 32 := 0#32
  let c1_i32_76 : BitVec 32 := 1#32
  let arg15 : BitVec 32 := Scf.iv c0_i32_74 c1_i32_76 k0_t35
  let c8_i32_162 : BitVec 32 := 8#32
  let v274 : BitVec 32 := Scalar.muli arg15 c8_i32_162
  let c4_i32_250 : BitVec 32 := 4#32
  let v522 : BitVec 32 := Scalar.addi v274 c4_i32_250
  let c256_i32_251 : BitVec 32 := 256#32
  let v523 : BitVec 32 := Scalar.muli v522 c256_i32_251
  v523
def k0_mult122 (i : grid0.Coords) (k0_t35 : Fin (k0_t35_loop i).trips) : BitVec 32 :=
  let c0_i32_74 : BitVec 32 := 0#32
  let c1_i32_76 : BitVec 32 := 1#32
  let arg15 : BitVec 32 := Scf.iv c0_i32_74 c1_i32_76 k0_t35
  let c8_i32_162 : BitVec 32 := 8#32
  let v274 : BitVec 32 := Scalar.muli arg15 c8_i32_162
  let c5_i32 : BitVec 32 := 5#32
  let v584 : BitVec 32 := Scalar.addi v274 c5_i32
  let c256_i32_272 : BitVec 32 := 256#32
  let v585 : BitVec 32 := Scalar.muli v584 c256_i32_272
  v585
def k0_mult123 (i : grid0.Coords) (k0_t35 : Fin (k0_t35_loop i).trips) : BitVec 32 :=
  let c0_i32_74 : BitVec 32 := 0#32
  let c1_i32_76 : BitVec 32 := 1#32
  let arg15 : BitVec 32 := Scf.iv c0_i32_74 c1_i32_76 k0_t35
  let c8_i32_162 : BitVec 32 := 8#32
  let v274 : BitVec 32 := Scalar.muli arg15 c8_i32_162
  let c6_i32 : BitVec 32 := 6#32
  let v646 : BitVec 32 := Scalar.addi v274 c6_i32
  let c256_i32_293 : BitVec 32 := 256#32
  let v647 : BitVec 32 := Scalar.muli v646 c256_i32_293
  v647
def k0_mult124 (i : grid0.Coords) (k0_t35 : Fin (k0_t35_loop i).trips) : BitVec 32 :=
  let c0_i32_74 : BitVec 32 := 0#32
  let c1_i32_76 : BitVec 32 := 1#32
  let arg15 : BitVec 32 := Scf.iv c0_i32_74 c1_i32_76 k0_t35
  let c8_i32_162 : BitVec 32 := 8#32
  let v274 : BitVec 32 := Scalar.muli arg15 c8_i32_162
  let c7_i32 : BitVec 32 := 7#32
  let v708 : BitVec 32 := Scalar.addi v274 c7_i32
  let c256_i32_314 : BitVec 32 := 256#32
  let v709 : BitVec 32 := Scalar.muli v708 c256_i32_314
  v709
@[reducible] def k0_t36_loop (i : grid0.Coords) : Scf.Loop 32 :=
  let c0_i32_74 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_67 : BitVec 32 := 0#32
  let v116 : BitVec 1 := Scalar.cmpi .sgt v18 c0_i32_67
  let v117 : BitVec 32 := Scalar.extui v116
  let c0_i32_68 : BitVec 32 := 0#32
  let v118 : BitVec 1 := Scalar.cmpi .slt v18 c0_i32_68
  let v119 : BitVec 32 := Scalar.extui v118
  let v120 : BitVec 32 := Scalar.subi v117 v119
  let c8_i32_66 : BitVec 32 := 8#32
  let c0_i32_69 : BitVec 32 := 0#32
  let v121 : BitVec 1 := Scalar.cmpi .sgt c8_i32_66 c0_i32_69
  let v122 : BitVec 32 := Scalar.extui v121
  let c0_i32_70 : BitVec 32 := 0#32
  let v123 : BitVec 1 := Scalar.cmpi .slt c8_i32_66 c0_i32_70
  let v124 : BitVec 32 := Scalar.extui v123
  let v125 : BitVec 32 := Scalar.subi v122 v124
  let v126 : BitVec 1 := Scalar.cmpi .ne v120 v125
  let v127 : BitVec 32 := Scalar.remsi v18 c8_i32_66
  let c0_i32_71 : BitVec 32 := 0#32
  let v128 : BitVec 1 := Scalar.cmpi .ne v127 c0_i32_71
  let v129 : BitVec 1 := Scalar.andi v126 v128
  let v115 : BitVec 32 := Scalar.divsi v18 c8_i32_66
  let c1_i32_72 : BitVec 32 := 1#32
  let v130 : BitVec 32 := Scalar.subi v115 c1_i32_72
  let v131 : BitVec 32 := Scalar.select v129 v130 v115
  let v132 : BitVec 32 := Scalar.subi v131 c0_i32_74
  let c1_i32_75 : BitVec 32 := 1#32
  let v134 : BitVec 32 := Scalar.divsi v132 c1_i32_75
  let v135 : BitVec 32 := Scalar.muli v134 c1_i32_75
  let v136 : BitVec 32 := Scalar.addi c0_i32_74 v135
  let v133 : BitVec 32 := Scalar.addi c0_i32_74 v132
  let c1_i32_77 : BitVec 32 := 1#32
  ⟨v136, v133, c1_i32_77⟩
def k0_mult125 (i : grid0.Coords) (k0_t36 : Fin (k0_t36_loop i).trips) : BitVec 32 :=
  let c0_i32_74 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_67 : BitVec 32 := 0#32
  let v116 : BitVec 1 := Scalar.cmpi .sgt v18 c0_i32_67
  let v117 : BitVec 32 := Scalar.extui v116
  let c0_i32_68 : BitVec 32 := 0#32
  let v118 : BitVec 1 := Scalar.cmpi .slt v18 c0_i32_68
  let v119 : BitVec 32 := Scalar.extui v118
  let v120 : BitVec 32 := Scalar.subi v117 v119
  let c8_i32_66 : BitVec 32 := 8#32
  let c0_i32_69 : BitVec 32 := 0#32
  let v121 : BitVec 1 := Scalar.cmpi .sgt c8_i32_66 c0_i32_69
  let v122 : BitVec 32 := Scalar.extui v121
  let c0_i32_70 : BitVec 32 := 0#32
  let v123 : BitVec 1 := Scalar.cmpi .slt c8_i32_66 c0_i32_70
  let v124 : BitVec 32 := Scalar.extui v123
  let v125 : BitVec 32 := Scalar.subi v122 v124
  let v126 : BitVec 1 := Scalar.cmpi .ne v120 v125
  let v127 : BitVec 32 := Scalar.remsi v18 c8_i32_66
  let c0_i32_71 : BitVec 32 := 0#32
  let v128 : BitVec 1 := Scalar.cmpi .ne v127 c0_i32_71
  let v129 : BitVec 1 := Scalar.andi v126 v128
  let v115 : BitVec 32 := Scalar.divsi v18 c8_i32_66
  let c1_i32_72 : BitVec 32 := 1#32
  let v130 : BitVec 32 := Scalar.subi v115 c1_i32_72
  let v131 : BitVec 32 := Scalar.select v129 v130 v115
  let v132 : BitVec 32 := Scalar.subi v131 c0_i32_74
  let c1_i32_75 : BitVec 32 := 1#32
  let v134 : BitVec 32 := Scalar.divsi v132 c1_i32_75
  let v135 : BitVec 32 := Scalar.muli v134 c1_i32_75
  let v136 : BitVec 32 := Scalar.addi c0_i32_74 v135
  let c1_i32_77 : BitVec 32 := 1#32
  let arg15 : BitVec 32 := Scf.iv v136 c1_i32_77 k0_t36
  let c8_i32_162 : BitVec 32 := 8#32
  let v274 : BitVec 32 := Scalar.muli arg15 c8_i32_162
  let c0_i32_163 : BitVec 32 := 0#32
  let v275 : BitVec 32 := Scalar.addi v274 c0_i32_163
  let c256_i32_164 : BitVec 32 := 256#32
  let v276 : BitVec 32 := Scalar.muli v275 c256_i32_164
  v276
def k0_off203 (i : grid0.Coords) (k0_t36 : Fin (k0_t36_loop i).trips) (c0_i32_163 : BitVec 32) : Fin 3 → Nat :=
  let c0_165 : Index := 0#32
  let c0_i32_74 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_67 : BitVec 32 := 0#32
  let v116 : BitVec 1 := Scalar.cmpi .sgt v18 c0_i32_67
  let v117 : BitVec 32 := Scalar.extui v116
  let c0_i32_68 : BitVec 32 := 0#32
  let v118 : BitVec 1 := Scalar.cmpi .slt v18 c0_i32_68
  let v119 : BitVec 32 := Scalar.extui v118
  let v120 : BitVec 32 := Scalar.subi v117 v119
  let c8_i32_66 : BitVec 32 := 8#32
  let c0_i32_69 : BitVec 32 := 0#32
  let v121 : BitVec 1 := Scalar.cmpi .sgt c8_i32_66 c0_i32_69
  let v122 : BitVec 32 := Scalar.extui v121
  let c0_i32_70 : BitVec 32 := 0#32
  let v123 : BitVec 1 := Scalar.cmpi .slt c8_i32_66 c0_i32_70
  let v124 : BitVec 32 := Scalar.extui v123
  let v125 : BitVec 32 := Scalar.subi v122 v124
  let v126 : BitVec 1 := Scalar.cmpi .ne v120 v125
  let v127 : BitVec 32 := Scalar.remsi v18 c8_i32_66
  let c0_i32_71 : BitVec 32 := 0#32
  let v128 : BitVec 1 := Scalar.cmpi .ne v127 c0_i32_71
  let v129 : BitVec 1 := Scalar.andi v126 v128
  let v115 : BitVec 32 := Scalar.divsi v18 c8_i32_66
  let c1_i32_72 : BitVec 32 := 1#32
  let v130 : BitVec 32 := Scalar.subi v115 c1_i32_72
  let v131 : BitVec 32 := Scalar.select v129 v130 v115
  let v132 : BitVec 32 := Scalar.subi v131 c0_i32_74
  let c1_i32_75 : BitVec 32 := 1#32
  let v134 : BitVec 32 := Scalar.divsi v132 c1_i32_75
  let v135 : BitVec 32 := Scalar.muli v134 c1_i32_75
  let v136 : BitVec 32 := Scalar.addi c0_i32_74 v135
  let c1_i32_77 : BitVec 32 := 1#32
  let arg15 : BitVec 32 := Scf.iv v136 c1_i32_77 k0_t36
  let c8_i32_162 : BitVec 32 := 8#32
  let v274 : BitVec 32 := Scalar.muli arg15 c8_i32_162
  let v275 : BitVec 32 := Scalar.addi v274 c0_i32_163
  let c256_i32_164 : BitVec 32 := 256#32
  let v276 : BitVec 32 := Scalar.muli v275 c256_i32_164
  let v277 : BitVec 32 := v276
  let v278 : Index := Scalar.indexCast v277
  let c0_166 : Index := 0#32
  ![0, v278.toNat, 0]
def k0_off204 (i : grid0.Coords) (k0_t36 : Fin (k0_t36_loop i).trips) (c0_i32_163 : BitVec 32) (c0_i32_168 : BitVec 32) : Fin 2 → Nat :=
  let c0_i32_74 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_67 : BitVec 32 := 0#32
  let v116 : BitVec 1 := Scalar.cmpi .sgt v18 c0_i32_67
  let v117 : BitVec 32 := Scalar.extui v116
  let c0_i32_68 : BitVec 32 := 0#32
  let v118 : BitVec 1 := Scalar.cmpi .slt v18 c0_i32_68
  let v119 : BitVec 32 := Scalar.extui v118
  let v120 : BitVec 32 := Scalar.subi v117 v119
  let c8_i32_66 : BitVec 32 := 8#32
  let c0_i32_69 : BitVec 32 := 0#32
  let v121 : BitVec 1 := Scalar.cmpi .sgt c8_i32_66 c0_i32_69
  let v122 : BitVec 32 := Scalar.extui v121
  let c0_i32_70 : BitVec 32 := 0#32
  let v123 : BitVec 1 := Scalar.cmpi .slt c8_i32_66 c0_i32_70
  let v124 : BitVec 32 := Scalar.extui v123
  let v125 : BitVec 32 := Scalar.subi v122 v124
  let v126 : BitVec 1 := Scalar.cmpi .ne v120 v125
  let v127 : BitVec 32 := Scalar.remsi v18 c8_i32_66
  let c0_i32_71 : BitVec 32 := 0#32
  let v128 : BitVec 1 := Scalar.cmpi .ne v127 c0_i32_71
  let v129 : BitVec 1 := Scalar.andi v126 v128
  let v115 : BitVec 32 := Scalar.divsi v18 c8_i32_66
  let c1_i32_72 : BitVec 32 := 1#32
  let v130 : BitVec 32 := Scalar.subi v115 c1_i32_72
  let v131 : BitVec 32 := Scalar.select v129 v130 v115
  let v132 : BitVec 32 := Scalar.subi v131 c0_i32_74
  let c1_i32_75 : BitVec 32 := 1#32
  let v134 : BitVec 32 := Scalar.divsi v132 c1_i32_75
  let v135 : BitVec 32 := Scalar.muli v134 c1_i32_75
  let v136 : BitVec 32 := Scalar.addi c0_i32_74 v135
  let c1_i32_77 : BitVec 32 := 1#32
  let arg15 : BitVec 32 := Scf.iv v136 c1_i32_77 k0_t36
  let c8_i32_162 : BitVec 32 := 8#32
  let v274 : BitVec 32 := Scalar.muli arg15 c8_i32_162
  let v275 : BitVec 32 := Scalar.addi v274 c0_i32_163
  let c256_i32_164 : BitVec 32 := 256#32
  let v276 : BitVec 32 := Scalar.muli v275 c256_i32_164
  let v277 : BitVec 32 := v276
  let v282 : BitVec 32 := Scalar.addi v277 c0_i32_168
  let v283 : Index := Scalar.indexCast v282
  let c0_169 : Index := 0#32
  ![v283.toNat, 0]
def k0_off205 (i : grid0.Coords) (k0_t36 : Fin (k0_t36_loop i).trips) (c0_i32_182 : BitVec 32) : Fin 3 → Nat :=
  let c0_i32_74 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_67 : BitVec 32 := 0#32
  let v116 : BitVec 1 := Scalar.cmpi .sgt v18 c0_i32_67
  let v117 : BitVec 32 := Scalar.extui v116
  let c0_i32_68 : BitVec 32 := 0#32
  let v118 : BitVec 1 := Scalar.cmpi .slt v18 c0_i32_68
  let v119 : BitVec 32 := Scalar.extui v118
  let v120 : BitVec 32 := Scalar.subi v117 v119
  let c8_i32_66 : BitVec 32 := 8#32
  let c0_i32_69 : BitVec 32 := 0#32
  let v121 : BitVec 1 := Scalar.cmpi .sgt c8_i32_66 c0_i32_69
  let v122 : BitVec 32 := Scalar.extui v121
  let c0_i32_70 : BitVec 32 := 0#32
  let v123 : BitVec 1 := Scalar.cmpi .slt c8_i32_66 c0_i32_70
  let v124 : BitVec 32 := Scalar.extui v123
  let v125 : BitVec 32 := Scalar.subi v122 v124
  let v126 : BitVec 1 := Scalar.cmpi .ne v120 v125
  let v127 : BitVec 32 := Scalar.remsi v18 c8_i32_66
  let c0_i32_71 : BitVec 32 := 0#32
  let v128 : BitVec 1 := Scalar.cmpi .ne v127 c0_i32_71
  let v129 : BitVec 1 := Scalar.andi v126 v128
  let v115 : BitVec 32 := Scalar.divsi v18 c8_i32_66
  let c1_i32_72 : BitVec 32 := 1#32
  let v130 : BitVec 32 := Scalar.subi v115 c1_i32_72
  let v131 : BitVec 32 := Scalar.select v129 v130 v115
  let v132 : BitVec 32 := Scalar.subi v131 c0_i32_74
  let c1_i32_75 : BitVec 32 := 1#32
  let v134 : BitVec 32 := Scalar.divsi v132 c1_i32_75
  let v135 : BitVec 32 := Scalar.muli v134 c1_i32_75
  let v136 : BitVec 32 := Scalar.addi c0_i32_74 v135
  let c1_i32_77 : BitVec 32 := 1#32
  let arg15 : BitVec 32 := Scf.iv v136 c1_i32_77 k0_t36
  let c8_i32_162 : BitVec 32 := 8#32
  let v274 : BitVec 32 := Scalar.muli arg15 c8_i32_162
  let v328 : BitVec 32 := Scalar.addi v274 c0_i32_182
  let v329 : Index := Scalar.indexCast v328
  let c0_183 : Index := 0#32
  let c0_184 : Index := 0#32
  ![v329.toNat, 0, 0]
def k0_mult126 (i : grid0.Coords) (k0_t36 : Fin (k0_t36_loop i).trips) : BitVec 32 :=
  let c0_i32_74 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_67 : BitVec 32 := 0#32
  let v116 : BitVec 1 := Scalar.cmpi .sgt v18 c0_i32_67
  let v117 : BitVec 32 := Scalar.extui v116
  let c0_i32_68 : BitVec 32 := 0#32
  let v118 : BitVec 1 := Scalar.cmpi .slt v18 c0_i32_68
  let v119 : BitVec 32 := Scalar.extui v118
  let v120 : BitVec 32 := Scalar.subi v117 v119
  let c8_i32_66 : BitVec 32 := 8#32
  let c0_i32_69 : BitVec 32 := 0#32
  let v121 : BitVec 1 := Scalar.cmpi .sgt c8_i32_66 c0_i32_69
  let v122 : BitVec 32 := Scalar.extui v121
  let c0_i32_70 : BitVec 32 := 0#32
  let v123 : BitVec 1 := Scalar.cmpi .slt c8_i32_66 c0_i32_70
  let v124 : BitVec 32 := Scalar.extui v123
  let v125 : BitVec 32 := Scalar.subi v122 v124
  let v126 : BitVec 1 := Scalar.cmpi .ne v120 v125
  let v127 : BitVec 32 := Scalar.remsi v18 c8_i32_66
  let c0_i32_71 : BitVec 32 := 0#32
  let v128 : BitVec 1 := Scalar.cmpi .ne v127 c0_i32_71
  let v129 : BitVec 1 := Scalar.andi v126 v128
  let v115 : BitVec 32 := Scalar.divsi v18 c8_i32_66
  let c1_i32_72 : BitVec 32 := 1#32
  let v130 : BitVec 32 := Scalar.subi v115 c1_i32_72
  let v131 : BitVec 32 := Scalar.select v129 v130 v115
  let v132 : BitVec 32 := Scalar.subi v131 c0_i32_74
  let c1_i32_75 : BitVec 32 := 1#32
  let v134 : BitVec 32 := Scalar.divsi v132 c1_i32_75
  let v135 : BitVec 32 := Scalar.muli v134 c1_i32_75
  let v136 : BitVec 32 := Scalar.addi c0_i32_74 v135
  let c1_i32_77 : BitVec 32 := 1#32
  let arg15 : BitVec 32 := Scf.iv v136 c1_i32_77 k0_t36
  let c8_i32_162 : BitVec 32 := 8#32
  let v274 : BitVec 32 := Scalar.muli arg15 c8_i32_162
  let c1_i32_185 : BitVec 32 := 1#32
  let v336 : BitVec 32 := Scalar.addi v274 c1_i32_185
  let c256_i32_186 : BitVec 32 := 256#32
  let v337 : BitVec 32 := Scalar.muli v336 c256_i32_186
  v337
def k0_mult127 (i : grid0.Coords) (k0_t36 : Fin (k0_t36_loop i).trips) : BitVec 32 :=
  let c0_i32_74 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_67 : BitVec 32 := 0#32
  let v116 : BitVec 1 := Scalar.cmpi .sgt v18 c0_i32_67
  let v117 : BitVec 32 := Scalar.extui v116
  let c0_i32_68 : BitVec 32 := 0#32
  let v118 : BitVec 1 := Scalar.cmpi .slt v18 c0_i32_68
  let v119 : BitVec 32 := Scalar.extui v118
  let v120 : BitVec 32 := Scalar.subi v117 v119
  let c8_i32_66 : BitVec 32 := 8#32
  let c0_i32_69 : BitVec 32 := 0#32
  let v121 : BitVec 1 := Scalar.cmpi .sgt c8_i32_66 c0_i32_69
  let v122 : BitVec 32 := Scalar.extui v121
  let c0_i32_70 : BitVec 32 := 0#32
  let v123 : BitVec 1 := Scalar.cmpi .slt c8_i32_66 c0_i32_70
  let v124 : BitVec 32 := Scalar.extui v123
  let v125 : BitVec 32 := Scalar.subi v122 v124
  let v126 : BitVec 1 := Scalar.cmpi .ne v120 v125
  let v127 : BitVec 32 := Scalar.remsi v18 c8_i32_66
  let c0_i32_71 : BitVec 32 := 0#32
  let v128 : BitVec 1 := Scalar.cmpi .ne v127 c0_i32_71
  let v129 : BitVec 1 := Scalar.andi v126 v128
  let v115 : BitVec 32 := Scalar.divsi v18 c8_i32_66
  let c1_i32_72 : BitVec 32 := 1#32
  let v130 : BitVec 32 := Scalar.subi v115 c1_i32_72
  let v131 : BitVec 32 := Scalar.select v129 v130 v115
  let v132 : BitVec 32 := Scalar.subi v131 c0_i32_74
  let c1_i32_75 : BitVec 32 := 1#32
  let v134 : BitVec 32 := Scalar.divsi v132 c1_i32_75
  let v135 : BitVec 32 := Scalar.muli v134 c1_i32_75
  let v136 : BitVec 32 := Scalar.addi c0_i32_74 v135
  let c1_i32_77 : BitVec 32 := 1#32
  let arg15 : BitVec 32 := Scf.iv v136 c1_i32_77 k0_t36
  let c8_i32_162 : BitVec 32 := 8#32
  let v274 : BitVec 32 := Scalar.muli arg15 c8_i32_162
  let c2_i32_207 : BitVec 32 := 2#32
  let v398 : BitVec 32 := Scalar.addi v274 c2_i32_207
  let c256_i32_208 : BitVec 32 := 256#32
  let v399 : BitVec 32 := Scalar.muli v398 c256_i32_208
  v399
def k0_mult128 (i : grid0.Coords) (k0_t36 : Fin (k0_t36_loop i).trips) : BitVec 32 :=
  let c0_i32_74 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_67 : BitVec 32 := 0#32
  let v116 : BitVec 1 := Scalar.cmpi .sgt v18 c0_i32_67
  let v117 : BitVec 32 := Scalar.extui v116
  let c0_i32_68 : BitVec 32 := 0#32
  let v118 : BitVec 1 := Scalar.cmpi .slt v18 c0_i32_68
  let v119 : BitVec 32 := Scalar.extui v118
  let v120 : BitVec 32 := Scalar.subi v117 v119
  let c8_i32_66 : BitVec 32 := 8#32
  let c0_i32_69 : BitVec 32 := 0#32
  let v121 : BitVec 1 := Scalar.cmpi .sgt c8_i32_66 c0_i32_69
  let v122 : BitVec 32 := Scalar.extui v121
  let c0_i32_70 : BitVec 32 := 0#32
  let v123 : BitVec 1 := Scalar.cmpi .slt c8_i32_66 c0_i32_70
  let v124 : BitVec 32 := Scalar.extui v123
  let v125 : BitVec 32 := Scalar.subi v122 v124
  let v126 : BitVec 1 := Scalar.cmpi .ne v120 v125
  let v127 : BitVec 32 := Scalar.remsi v18 c8_i32_66
  let c0_i32_71 : BitVec 32 := 0#32
  let v128 : BitVec 1 := Scalar.cmpi .ne v127 c0_i32_71
  let v129 : BitVec 1 := Scalar.andi v126 v128
  let v115 : BitVec 32 := Scalar.divsi v18 c8_i32_66
  let c1_i32_72 : BitVec 32 := 1#32
  let v130 : BitVec 32 := Scalar.subi v115 c1_i32_72
  let v131 : BitVec 32 := Scalar.select v129 v130 v115
  let v132 : BitVec 32 := Scalar.subi v131 c0_i32_74
  let c1_i32_75 : BitVec 32 := 1#32
  let v134 : BitVec 32 := Scalar.divsi v132 c1_i32_75
  let v135 : BitVec 32 := Scalar.muli v134 c1_i32_75
  let v136 : BitVec 32 := Scalar.addi c0_i32_74 v135
  let c1_i32_77 : BitVec 32 := 1#32
  let arg15 : BitVec 32 := Scf.iv v136 c1_i32_77 k0_t36
  let c8_i32_162 : BitVec 32 := 8#32
  let v274 : BitVec 32 := Scalar.muli arg15 c8_i32_162
  let c3_i32 : BitVec 32 := 3#32
  let v460 : BitVec 32 := Scalar.addi v274 c3_i32
  let c256_i32_229 : BitVec 32 := 256#32
  let v461 : BitVec 32 := Scalar.muli v460 c256_i32_229
  v461
def k0_mult129 (i : grid0.Coords) (k0_t36 : Fin (k0_t36_loop i).trips) : BitVec 32 :=
  let c0_i32_74 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_67 : BitVec 32 := 0#32
  let v116 : BitVec 1 := Scalar.cmpi .sgt v18 c0_i32_67
  let v117 : BitVec 32 := Scalar.extui v116
  let c0_i32_68 : BitVec 32 := 0#32
  let v118 : BitVec 1 := Scalar.cmpi .slt v18 c0_i32_68
  let v119 : BitVec 32 := Scalar.extui v118
  let v120 : BitVec 32 := Scalar.subi v117 v119
  let c8_i32_66 : BitVec 32 := 8#32
  let c0_i32_69 : BitVec 32 := 0#32
  let v121 : BitVec 1 := Scalar.cmpi .sgt c8_i32_66 c0_i32_69
  let v122 : BitVec 32 := Scalar.extui v121
  let c0_i32_70 : BitVec 32 := 0#32
  let v123 : BitVec 1 := Scalar.cmpi .slt c8_i32_66 c0_i32_70
  let v124 : BitVec 32 := Scalar.extui v123
  let v125 : BitVec 32 := Scalar.subi v122 v124
  let v126 : BitVec 1 := Scalar.cmpi .ne v120 v125
  let v127 : BitVec 32 := Scalar.remsi v18 c8_i32_66
  let c0_i32_71 : BitVec 32 := 0#32
  let v128 : BitVec 1 := Scalar.cmpi .ne v127 c0_i32_71
  let v129 : BitVec 1 := Scalar.andi v126 v128
  let v115 : BitVec 32 := Scalar.divsi v18 c8_i32_66
  let c1_i32_72 : BitVec 32 := 1#32
  let v130 : BitVec 32 := Scalar.subi v115 c1_i32_72
  let v131 : BitVec 32 := Scalar.select v129 v130 v115
  let v132 : BitVec 32 := Scalar.subi v131 c0_i32_74
  let c1_i32_75 : BitVec 32 := 1#32
  let v134 : BitVec 32 := Scalar.divsi v132 c1_i32_75
  let v135 : BitVec 32 := Scalar.muli v134 c1_i32_75
  let v136 : BitVec 32 := Scalar.addi c0_i32_74 v135
  let c1_i32_77 : BitVec 32 := 1#32
  let arg15 : BitVec 32 := Scf.iv v136 c1_i32_77 k0_t36
  let c8_i32_162 : BitVec 32 := 8#32
  let v274 : BitVec 32 := Scalar.muli arg15 c8_i32_162
  let c4_i32_250 : BitVec 32 := 4#32
  let v522 : BitVec 32 := Scalar.addi v274 c4_i32_250
  let c256_i32_251 : BitVec 32 := 256#32
  let v523 : BitVec 32 := Scalar.muli v522 c256_i32_251
  v523
def k0_mult130 (i : grid0.Coords) (k0_t36 : Fin (k0_t36_loop i).trips) : BitVec 32 :=
  let c0_i32_74 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_67 : BitVec 32 := 0#32
  let v116 : BitVec 1 := Scalar.cmpi .sgt v18 c0_i32_67
  let v117 : BitVec 32 := Scalar.extui v116
  let c0_i32_68 : BitVec 32 := 0#32
  let v118 : BitVec 1 := Scalar.cmpi .slt v18 c0_i32_68
  let v119 : BitVec 32 := Scalar.extui v118
  let v120 : BitVec 32 := Scalar.subi v117 v119
  let c8_i32_66 : BitVec 32 := 8#32
  let c0_i32_69 : BitVec 32 := 0#32
  let v121 : BitVec 1 := Scalar.cmpi .sgt c8_i32_66 c0_i32_69
  let v122 : BitVec 32 := Scalar.extui v121
  let c0_i32_70 : BitVec 32 := 0#32
  let v123 : BitVec 1 := Scalar.cmpi .slt c8_i32_66 c0_i32_70
  let v124 : BitVec 32 := Scalar.extui v123
  let v125 : BitVec 32 := Scalar.subi v122 v124
  let v126 : BitVec 1 := Scalar.cmpi .ne v120 v125
  let v127 : BitVec 32 := Scalar.remsi v18 c8_i32_66
  let c0_i32_71 : BitVec 32 := 0#32
  let v128 : BitVec 1 := Scalar.cmpi .ne v127 c0_i32_71
  let v129 : BitVec 1 := Scalar.andi v126 v128
  let v115 : BitVec 32 := Scalar.divsi v18 c8_i32_66
  let c1_i32_72 : BitVec 32 := 1#32
  let v130 : BitVec 32 := Scalar.subi v115 c1_i32_72
  let v131 : BitVec 32 := Scalar.select v129 v130 v115
  let v132 : BitVec 32 := Scalar.subi v131 c0_i32_74
  let c1_i32_75 : BitVec 32 := 1#32
  let v134 : BitVec 32 := Scalar.divsi v132 c1_i32_75
  let v135 : BitVec 32 := Scalar.muli v134 c1_i32_75
  let v136 : BitVec 32 := Scalar.addi c0_i32_74 v135
  let c1_i32_77 : BitVec 32 := 1#32
  let arg15 : BitVec 32 := Scf.iv v136 c1_i32_77 k0_t36
  let c8_i32_162 : BitVec 32 := 8#32
  let v274 : BitVec 32 := Scalar.muli arg15 c8_i32_162
  let c5_i32 : BitVec 32 := 5#32
  let v584 : BitVec 32 := Scalar.addi v274 c5_i32
  let c256_i32_272 : BitVec 32 := 256#32
  let v585 : BitVec 32 := Scalar.muli v584 c256_i32_272
  v585
def k0_mult131 (i : grid0.Coords) (k0_t36 : Fin (k0_t36_loop i).trips) : BitVec 32 :=
  let c0_i32_74 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_67 : BitVec 32 := 0#32
  let v116 : BitVec 1 := Scalar.cmpi .sgt v18 c0_i32_67
  let v117 : BitVec 32 := Scalar.extui v116
  let c0_i32_68 : BitVec 32 := 0#32
  let v118 : BitVec 1 := Scalar.cmpi .slt v18 c0_i32_68
  let v119 : BitVec 32 := Scalar.extui v118
  let v120 : BitVec 32 := Scalar.subi v117 v119
  let c8_i32_66 : BitVec 32 := 8#32
  let c0_i32_69 : BitVec 32 := 0#32
  let v121 : BitVec 1 := Scalar.cmpi .sgt c8_i32_66 c0_i32_69
  let v122 : BitVec 32 := Scalar.extui v121
  let c0_i32_70 : BitVec 32 := 0#32
  let v123 : BitVec 1 := Scalar.cmpi .slt c8_i32_66 c0_i32_70
  let v124 : BitVec 32 := Scalar.extui v123
  let v125 : BitVec 32 := Scalar.subi v122 v124
  let v126 : BitVec 1 := Scalar.cmpi .ne v120 v125
  let v127 : BitVec 32 := Scalar.remsi v18 c8_i32_66
  let c0_i32_71 : BitVec 32 := 0#32
  let v128 : BitVec 1 := Scalar.cmpi .ne v127 c0_i32_71
  let v129 : BitVec 1 := Scalar.andi v126 v128
  let v115 : BitVec 32 := Scalar.divsi v18 c8_i32_66
  let c1_i32_72 : BitVec 32 := 1#32
  let v130 : BitVec 32 := Scalar.subi v115 c1_i32_72
  let v131 : BitVec 32 := Scalar.select v129 v130 v115
  let v132 : BitVec 32 := Scalar.subi v131 c0_i32_74
  let c1_i32_75 : BitVec 32 := 1#32
  let v134 : BitVec 32 := Scalar.divsi v132 c1_i32_75
  let v135 : BitVec 32 := Scalar.muli v134 c1_i32_75
  let v136 : BitVec 32 := Scalar.addi c0_i32_74 v135
  let c1_i32_77 : BitVec 32 := 1#32
  let arg15 : BitVec 32 := Scf.iv v136 c1_i32_77 k0_t36
  let c8_i32_162 : BitVec 32 := 8#32
  let v274 : BitVec 32 := Scalar.muli arg15 c8_i32_162
  let c6_i32 : BitVec 32 := 6#32
  let v646 : BitVec 32 := Scalar.addi v274 c6_i32
  let c256_i32_293 : BitVec 32 := 256#32
  let v647 : BitVec 32 := Scalar.muli v646 c256_i32_293
  v647
def k0_mult132 (i : grid0.Coords) (k0_t36 : Fin (k0_t36_loop i).trips) : BitVec 32 :=
  let c0_i32_74 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_67 : BitVec 32 := 0#32
  let v116 : BitVec 1 := Scalar.cmpi .sgt v18 c0_i32_67
  let v117 : BitVec 32 := Scalar.extui v116
  let c0_i32_68 : BitVec 32 := 0#32
  let v118 : BitVec 1 := Scalar.cmpi .slt v18 c0_i32_68
  let v119 : BitVec 32 := Scalar.extui v118
  let v120 : BitVec 32 := Scalar.subi v117 v119
  let c8_i32_66 : BitVec 32 := 8#32
  let c0_i32_69 : BitVec 32 := 0#32
  let v121 : BitVec 1 := Scalar.cmpi .sgt c8_i32_66 c0_i32_69
  let v122 : BitVec 32 := Scalar.extui v121
  let c0_i32_70 : BitVec 32 := 0#32
  let v123 : BitVec 1 := Scalar.cmpi .slt c8_i32_66 c0_i32_70
  let v124 : BitVec 32 := Scalar.extui v123
  let v125 : BitVec 32 := Scalar.subi v122 v124
  let v126 : BitVec 1 := Scalar.cmpi .ne v120 v125
  let v127 : BitVec 32 := Scalar.remsi v18 c8_i32_66
  let c0_i32_71 : BitVec 32 := 0#32
  let v128 : BitVec 1 := Scalar.cmpi .ne v127 c0_i32_71
  let v129 : BitVec 1 := Scalar.andi v126 v128
  let v115 : BitVec 32 := Scalar.divsi v18 c8_i32_66
  let c1_i32_72 : BitVec 32 := 1#32
  let v130 : BitVec 32 := Scalar.subi v115 c1_i32_72
  let v131 : BitVec 32 := Scalar.select v129 v130 v115
  let v132 : BitVec 32 := Scalar.subi v131 c0_i32_74
  let c1_i32_75 : BitVec 32 := 1#32
  let v134 : BitVec 32 := Scalar.divsi v132 c1_i32_75
  let v135 : BitVec 32 := Scalar.muli v134 c1_i32_75
  let v136 : BitVec 32 := Scalar.addi c0_i32_74 v135
  let c1_i32_77 : BitVec 32 := 1#32
  let arg15 : BitVec 32 := Scf.iv v136 c1_i32_77 k0_t36
  let c8_i32_162 : BitVec 32 := 8#32
  let v274 : BitVec 32 := Scalar.muli arg15 c8_i32_162
  let c7_i32 : BitVec 32 := 7#32
  let v708 : BitVec 32 := Scalar.addi v274 c7_i32
  let c256_i32_314 : BitVec 32 := 256#32
  let v709 : BitVec 32 := Scalar.muli v708 c256_i32_314
  v709
def k0_cond11 (i : grid0.Coords) : BitVec 1 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c4_i32_78 : BitVec 32 := 4#32
  let v137 : BitVec 32 := Scalar.andi v18 c4_i32_78
  let c0_i32_79 : BitVec 32 := 0#32
  let v138 : BitVec 1 := Scalar.cmpi .ne v137 c0_i32_79
  let v139 : BitVec 32 := Scalar.extui v138
  let c0_i32_80 : BitVec 32 := 0#32
  let v140 : BitVec 1 := Scalar.cmpi .ne v139 c0_i32_80
  v140

def k0_mult133 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let c0_i32_170 : BitVec 32 := 0#32
  let v292 : BitVec 32 := Scalar.addi v291 c0_i32_170
  let c256_i32_171 : BitVec 32 := 256#32
  let v293 : BitVec 32 := Scalar.muli v292 c256_i32_171
  v293
def k0_off206 (i : grid0.Coords) (c0_i32_170 : BitVec 32) : Fin 3 → Nat :=
  let c0_172 : Index := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v292 : BitVec 32 := Scalar.addi v291 c0_i32_170
  let c256_i32_171 : BitVec 32 := 256#32
  let v293 : BitVec 32 := Scalar.muli v292 c256_i32_171
  let v294 : BitVec 32 := v293
  let v295 : Index := Scalar.indexCast v294
  let c0_173 : Index := 0#32
  ![0, v295.toNat, 0]
def k0_off207 (i : grid0.Coords) (c0_i32_170 : BitVec 32) (c0_i32_175 : BitVec 32) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v292 : BitVec 32 := Scalar.addi v291 c0_i32_170
  let c256_i32_171 : BitVec 32 := 256#32
  let v293 : BitVec 32 := Scalar.muli v292 c256_i32_171
  let v294 : BitVec 32 := v293
  let v299 : BitVec 32 := Scalar.addi v294 c0_i32_175
  let v300 : Index := Scalar.indexCast v299
  let c0_176 : Index := 0#32
  ![v300.toNat, 0]
def k0_off208 (i : grid0.Coords) (c0_i32_189 : BitVec 32) : Fin 3 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v345 : BitVec 32 := Scalar.addi v291 c0_i32_189
  let v346 : Index := Scalar.indexCast v345
  let c0_190 : Index := 0#32
  let c0_191 : Index := 0#32
  ![v346.toNat, 0, 0]
def k0_mult134 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let c1_i32_192 : BitVec 32 := 1#32
  let v353 : BitVec 32 := Scalar.addi v291 c1_i32_192
  let c256_i32_193 : BitVec 32 := 256#32
  let v354 : BitVec 32 := Scalar.muli v353 c256_i32_193
  v354
def k0_mult135 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let c2_i32_214 : BitVec 32 := 2#32
  let v415 : BitVec 32 := Scalar.addi v291 c2_i32_214
  let c256_i32_215 : BitVec 32 := 256#32
  let v416 : BitVec 32 := Scalar.muli v415 c256_i32_215
  v416
def k0_mult136 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let c3_i32 : BitVec 32 := 3#32
  let v477 : BitVec 32 := Scalar.addi v291 c3_i32
  let c256_i32_236 : BitVec 32 := 256#32
  let v478 : BitVec 32 := Scalar.muli v477 c256_i32_236
  v478
def k0_cond12 (i : grid0.Coords) : BitVec 1 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c2_i32_89 : BitVec 32 := 2#32
  let v159 : BitVec 32 := Scalar.andi v18 c2_i32_89
  let c0_i32_90 : BitVec 32 := 0#32
  let v160 : BitVec 1 := Scalar.cmpi .ne v159 c0_i32_90
  let v161 : BitVec 32 := Scalar.extui v160
  let c0_i32_91 : BitVec 32 := 0#32
  let v162 : BitVec 1 := Scalar.cmpi .ne v161 c0_i32_91
  v162

def k0_mult137 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_82 : BitVec 32 := 0#32
  let v142 : BitVec 1 := Scalar.cmpi .sgt v18 c0_i32_82
  let v143 : BitVec 32 := Scalar.extui v142
  let c0_i32_83 : BitVec 32 := 0#32
  let v144 : BitVec 1 := Scalar.cmpi .slt v18 c0_i32_83
  let v145 : BitVec 32 := Scalar.extui v144
  let v146 : BitVec 32 := Scalar.subi v143 v145
  let c4_i32_81 : BitVec 32 := 4#32
  let c0_i32_84 : BitVec 32 := 0#32
  let v147 : BitVec 1 := Scalar.cmpi .sgt c4_i32_81 c0_i32_84
  let v148 : BitVec 32 := Scalar.extui v147
  let c0_i32_85 : BitVec 32 := 0#32
  let v149 : BitVec 1 := Scalar.cmpi .slt c4_i32_81 c0_i32_85
  let v150 : BitVec 32 := Scalar.extui v149
  let v151 : BitVec 32 := Scalar.subi v148 v150
  let v152 : BitVec 1 := Scalar.cmpi .ne v146 v151
  let v153 : BitVec 32 := Scalar.remsi v18 c4_i32_81
  let c0_i32_86 : BitVec 32 := 0#32
  let v154 : BitVec 1 := Scalar.cmpi .ne v153 c0_i32_86
  let v155 : BitVec 1 := Scalar.andi v152 v154
  let v141 : BitVec 32 := Scalar.divsi v18 c4_i32_81
  let c1_i32_87 : BitVec 32 := 1#32
  let v156 : BitVec 32 := Scalar.subi v141 c1_i32_87
  let v157 : BitVec 32 := Scalar.select v155 v156 v141
  let c4_i32_88 : BitVec 32 := 4#32
  let v158 : BitVec 32 := Scalar.muli v157 c4_i32_88
  let c0_i32_162 : BitVec 32 := 0#32
  let v274 : BitVec 32 := Scalar.addi v158 c0_i32_162
  let c256_i32_163 : BitVec 32 := 256#32
  let v275 : BitVec 32 := Scalar.muli v274 c256_i32_163
  v275
def k0_off209 (i : grid0.Coords) (c0_i32_162 : BitVec 32) : Fin 3 → Nat :=
  let c0_164 : Index := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_82 : BitVec 32 := 0#32
  let v142 : BitVec 1 := Scalar.cmpi .sgt v18 c0_i32_82
  let v143 : BitVec 32 := Scalar.extui v142
  let c0_i32_83 : BitVec 32 := 0#32
  let v144 : BitVec 1 := Scalar.cmpi .slt v18 c0_i32_83
  let v145 : BitVec 32 := Scalar.extui v144
  let v146 : BitVec 32 := Scalar.subi v143 v145
  let c4_i32_81 : BitVec 32 := 4#32
  let c0_i32_84 : BitVec 32 := 0#32
  let v147 : BitVec 1 := Scalar.cmpi .sgt c4_i32_81 c0_i32_84
  let v148 : BitVec 32 := Scalar.extui v147
  let c0_i32_85 : BitVec 32 := 0#32
  let v149 : BitVec 1 := Scalar.cmpi .slt c4_i32_81 c0_i32_85
  let v150 : BitVec 32 := Scalar.extui v149
  let v151 : BitVec 32 := Scalar.subi v148 v150
  let v152 : BitVec 1 := Scalar.cmpi .ne v146 v151
  let v153 : BitVec 32 := Scalar.remsi v18 c4_i32_81
  let c0_i32_86 : BitVec 32 := 0#32
  let v154 : BitVec 1 := Scalar.cmpi .ne v153 c0_i32_86
  let v155 : BitVec 1 := Scalar.andi v152 v154
  let v141 : BitVec 32 := Scalar.divsi v18 c4_i32_81
  let c1_i32_87 : BitVec 32 := 1#32
  let v156 : BitVec 32 := Scalar.subi v141 c1_i32_87
  let v157 : BitVec 32 := Scalar.select v155 v156 v141
  let c4_i32_88 : BitVec 32 := 4#32
  let v158 : BitVec 32 := Scalar.muli v157 c4_i32_88
  let v274 : BitVec 32 := Scalar.addi v158 c0_i32_162
  let c256_i32_163 : BitVec 32 := 256#32
  let v275 : BitVec 32 := Scalar.muli v274 c256_i32_163
  let v276 : BitVec 32 := v275
  let v277 : Index := Scalar.indexCast v276
  let c0_165 : Index := 0#32
  ![0, v277.toNat, 0]
def k0_off210 (i : grid0.Coords) (c0_i32_162 : BitVec 32) (c0_i32_167 : BitVec 32) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_82 : BitVec 32 := 0#32
  let v142 : BitVec 1 := Scalar.cmpi .sgt v18 c0_i32_82
  let v143 : BitVec 32 := Scalar.extui v142
  let c0_i32_83 : BitVec 32 := 0#32
  let v144 : BitVec 1 := Scalar.cmpi .slt v18 c0_i32_83
  let v145 : BitVec 32 := Scalar.extui v144
  let v146 : BitVec 32 := Scalar.subi v143 v145
  let c4_i32_81 : BitVec 32 := 4#32
  let c0_i32_84 : BitVec 32 := 0#32
  let v147 : BitVec 1 := Scalar.cmpi .sgt c4_i32_81 c0_i32_84
  let v148 : BitVec 32 := Scalar.extui v147
  let c0_i32_85 : BitVec 32 := 0#32
  let v149 : BitVec 1 := Scalar.cmpi .slt c4_i32_81 c0_i32_85
  let v150 : BitVec 32 := Scalar.extui v149
  let v151 : BitVec 32 := Scalar.subi v148 v150
  let v152 : BitVec 1 := Scalar.cmpi .ne v146 v151
  let v153 : BitVec 32 := Scalar.remsi v18 c4_i32_81
  let c0_i32_86 : BitVec 32 := 0#32
  let v154 : BitVec 1 := Scalar.cmpi .ne v153 c0_i32_86
  let v155 : BitVec 1 := Scalar.andi v152 v154
  let v141 : BitVec 32 := Scalar.divsi v18 c4_i32_81
  let c1_i32_87 : BitVec 32 := 1#32
  let v156 : BitVec 32 := Scalar.subi v141 c1_i32_87
  let v157 : BitVec 32 := Scalar.select v155 v156 v141
  let c4_i32_88 : BitVec 32 := 4#32
  let v158 : BitVec 32 := Scalar.muli v157 c4_i32_88
  let v274 : BitVec 32 := Scalar.addi v158 c0_i32_162
  let c256_i32_163 : BitVec 32 := 256#32
  let v275 : BitVec 32 := Scalar.muli v274 c256_i32_163
  let v276 : BitVec 32 := v275
  let v281 : BitVec 32 := Scalar.addi v276 c0_i32_167
  let v282 : Index := Scalar.indexCast v281
  let c0_168 : Index := 0#32
  ![v282.toNat, 0]
def k0_off211 (i : grid0.Coords) (c0_i32_181 : BitVec 32) : Fin 3 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_82 : BitVec 32 := 0#32
  let v142 : BitVec 1 := Scalar.cmpi .sgt v18 c0_i32_82
  let v143 : BitVec 32 := Scalar.extui v142
  let c0_i32_83 : BitVec 32 := 0#32
  let v144 : BitVec 1 := Scalar.cmpi .slt v18 c0_i32_83
  let v145 : BitVec 32 := Scalar.extui v144
  let v146 : BitVec 32 := Scalar.subi v143 v145
  let c4_i32_81 : BitVec 32 := 4#32
  let c0_i32_84 : BitVec 32 := 0#32
  let v147 : BitVec 1 := Scalar.cmpi .sgt c4_i32_81 c0_i32_84
  let v148 : BitVec 32 := Scalar.extui v147
  let c0_i32_85 : BitVec 32 := 0#32
  let v149 : BitVec 1 := Scalar.cmpi .slt c4_i32_81 c0_i32_85
  let v150 : BitVec 32 := Scalar.extui v149
  let v151 : BitVec 32 := Scalar.subi v148 v150
  let v152 : BitVec 1 := Scalar.cmpi .ne v146 v151
  let v153 : BitVec 32 := Scalar.remsi v18 c4_i32_81
  let c0_i32_86 : BitVec 32 := 0#32
  let v154 : BitVec 1 := Scalar.cmpi .ne v153 c0_i32_86
  let v155 : BitVec 1 := Scalar.andi v152 v154
  let v141 : BitVec 32 := Scalar.divsi v18 c4_i32_81
  let c1_i32_87 : BitVec 32 := 1#32
  let v156 : BitVec 32 := Scalar.subi v141 c1_i32_87
  let v157 : BitVec 32 := Scalar.select v155 v156 v141
  let c4_i32_88 : BitVec 32 := 4#32
  let v158 : BitVec 32 := Scalar.muli v157 c4_i32_88
  let v327 : BitVec 32 := Scalar.addi v158 c0_i32_181
  let v328 : Index := Scalar.indexCast v327
  let c0_182 : Index := 0#32
  let c0_183 : Index := 0#32
  ![v328.toNat, 0, 0]
def k0_mult138 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_82 : BitVec 32 := 0#32
  let v142 : BitVec 1 := Scalar.cmpi .sgt v18 c0_i32_82
  let v143 : BitVec 32 := Scalar.extui v142
  let c0_i32_83 : BitVec 32 := 0#32
  let v144 : BitVec 1 := Scalar.cmpi .slt v18 c0_i32_83
  let v145 : BitVec 32 := Scalar.extui v144
  let v146 : BitVec 32 := Scalar.subi v143 v145
  let c4_i32_81 : BitVec 32 := 4#32
  let c0_i32_84 : BitVec 32 := 0#32
  let v147 : BitVec 1 := Scalar.cmpi .sgt c4_i32_81 c0_i32_84
  let v148 : BitVec 32 := Scalar.extui v147
  let c0_i32_85 : BitVec 32 := 0#32
  let v149 : BitVec 1 := Scalar.cmpi .slt c4_i32_81 c0_i32_85
  let v150 : BitVec 32 := Scalar.extui v149
  let v151 : BitVec 32 := Scalar.subi v148 v150
  let v152 : BitVec 1 := Scalar.cmpi .ne v146 v151
  let v153 : BitVec 32 := Scalar.remsi v18 c4_i32_81
  let c0_i32_86 : BitVec 32 := 0#32
  let v154 : BitVec 1 := Scalar.cmpi .ne v153 c0_i32_86
  let v155 : BitVec 1 := Scalar.andi v152 v154
  let v141 : BitVec 32 := Scalar.divsi v18 c4_i32_81
  let c1_i32_87 : BitVec 32 := 1#32
  let v156 : BitVec 32 := Scalar.subi v141 c1_i32_87
  let v157 : BitVec 32 := Scalar.select v155 v156 v141
  let c4_i32_88 : BitVec 32 := 4#32
  let v158 : BitVec 32 := Scalar.muli v157 c4_i32_88
  let c1_i32_184 : BitVec 32 := 1#32
  let v335 : BitVec 32 := Scalar.addi v158 c1_i32_184
  let c256_i32_185 : BitVec 32 := 256#32
  let v336 : BitVec 32 := Scalar.muli v335 c256_i32_185
  v336
def k0_cond13 (i : grid0.Coords) : BitVec 1 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_92 : BitVec 32 := 1#32
  let v163 : BitVec 32 := Scalar.andi v18 c1_i32_92
  let c0_i32_93 : BitVec 32 := 0#32
  let v164 : BitVec 1 := Scalar.cmpi .ne v163 c0_i32_93
  let v165 : BitVec 32 := Scalar.extui v164
  let c0_i32_94 : BitVec 32 := 0#32
  let v166 : BitVec 1 := Scalar.cmpi .ne v165 c0_i32_94
  v166

def k0_mult139 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_163 : BitVec 32 := 0#32
  let v275 : BitVec 32 := Scalar.addi v274 c0_i32_163
  let c256_i32_164 : BitVec 32 := 256#32
  let v276 : BitVec 32 := Scalar.muli v275 c256_i32_164
  v276
def k0_off212 (i : grid0.Coords) : Fin 3 → Nat :=
  let c0_165 : Index := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_163 : BitVec 32 := 0#32
  let v275 : BitVec 32 := Scalar.addi v274 c0_i32_163
  let c256_i32_164 : BitVec 32 := 256#32
  let v276 : BitVec 32 := Scalar.muli v275 c256_i32_164
  let v277 : BitVec 32 := v276
  let v278 : Index := Scalar.indexCast v277
  let c0_166 : Index := 0#32
  ![0, v278.toNat, 0]
def k0_off213 (i : grid0.Coords) (c0_i32_168 : BitVec 32) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_163 : BitVec 32 := 0#32
  let v275 : BitVec 32 := Scalar.addi v274 c0_i32_163
  let c256_i32_164 : BitVec 32 := 256#32
  let v276 : BitVec 32 := Scalar.muli v275 c256_i32_164
  let v277 : BitVec 32 := v276
  let v282 : BitVec 32 := Scalar.addi v277 c0_i32_168
  let v283 : Index := Scalar.indexCast v282
  let c0_169 : Index := 0#32
  ![v283.toNat, 0]
def k0_off214 (i : grid0.Coords) : Fin 3 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_182 : BitVec 32 := 0#32
  let v328 : BitVec 32 := Scalar.addi v274 c0_i32_182
  let v329 : Index := Scalar.indexCast v328
  let c0_183 : Index := 0#32
  let c0_184 : Index := 0#32
  ![v329.toNat, 0, 0]
@[reducible] def k0_t37_loop (i : grid0.Coords) : Scf.Loop 32 :=
  let c0_i32_111 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_104 : BitVec 32 := 0#32
  let v180 : BitVec 1 := Scalar.cmpi .sgt v18 c0_i32_104
  let v181 : BitVec 32 := Scalar.extui v180
  let c0_i32_105 : BitVec 32 := 0#32
  let v182 : BitVec 1 := Scalar.cmpi .slt v18 c0_i32_105
  let v183 : BitVec 32 := Scalar.extui v182
  let v184 : BitVec 32 := Scalar.subi v181 v183
  let c8_i32_103 : BitVec 32 := 8#32
  let c0_i32_106 : BitVec 32 := 0#32
  let v185 : BitVec 1 := Scalar.cmpi .sgt c8_i32_103 c0_i32_106
  let v186 : BitVec 32 := Scalar.extui v185
  let c0_i32_107 : BitVec 32 := 0#32
  let v187 : BitVec 1 := Scalar.cmpi .slt c8_i32_103 c0_i32_107
  let v188 : BitVec 32 := Scalar.extui v187
  let v189 : BitVec 32 := Scalar.subi v186 v188
  let v190 : BitVec 1 := Scalar.cmpi .ne v184 v189
  let v191 : BitVec 32 := Scalar.remsi v18 c8_i32_103
  let c0_i32_108 : BitVec 32 := 0#32
  let v192 : BitVec 1 := Scalar.cmpi .ne v191 c0_i32_108
  let v193 : BitVec 1 := Scalar.andi v190 v192
  let v179 : BitVec 32 := Scalar.divsi v18 c8_i32_103
  let c1_i32_109 : BitVec 32 := 1#32
  let v194 : BitVec 32 := Scalar.subi v179 c1_i32_109
  let v195 : BitVec 32 := Scalar.select v193 v194 v179
  let v196 : BitVec 32 := Scalar.subi v195 c0_i32_111
  let c1_i32_112 : BitVec 32 := 1#32
  let v198 : BitVec 32 := Scalar.divsi v196 c1_i32_112
  let v199 : BitVec 32 := Scalar.muli v198 c1_i32_112
  let v200 : BitVec 32 := Scalar.addi c0_i32_111 v199
  let c1_i32_113 : BitVec 32 := 1#32
  ⟨c0_i32_111, v200, c1_i32_113⟩
def k0_off215 (i : grid0.Coords) (k0_t37 : Fin (k0_t37_loop i).trips) (c0_i32_165 : BitVec 32) : Fin 3 → Nat :=
  let c0_i32_111 : BitVec 32 := 0#32
  let c1_i32_113 : BitVec 32 := 1#32
  let arg15 : BitVec 32 := Scf.iv c0_i32_111 c1_i32_113 k0_t37
  let c8_i32_162 : BitVec 32 := 8#32
  let v274 : BitVec 32 := Scalar.muli arg15 c8_i32_162
  let v276 : BitVec 32 := Scalar.addi v274 c0_i32_165
  let v277 : Index := Scalar.indexCast v276
  let c0_166 : Index := 0#32
  let c0_167 : Index := 0#32
  ![v277.toNat, 0, 0]
def k0_mult140 (i : grid0.Coords) (k0_t37 : Fin (k0_t37_loop i).trips) : BitVec 32 :=
  let c0_i32_111 : BitVec 32 := 0#32
  let c1_i32_113 : BitVec 32 := 1#32
  let arg15 : BitVec 32 := Scf.iv c0_i32_111 c1_i32_113 k0_t37
  let c8_i32_162 : BitVec 32 := 8#32
  let v274 : BitVec 32 := Scalar.muli arg15 c8_i32_162
  let c256_i32_185 : BitVec 32 := 256#32
  let v372 : BitVec 32 := Scalar.muli v274 c256_i32_185
  v372
def k0_off216 (i : grid0.Coords) (k0_t37 : Fin (k0_t37_loop i).trips) : Fin 3 → Nat :=
  let c0_188 : Index := 0#32
  let c0_i32_111 : BitVec 32 := 0#32
  let c1_i32_113 : BitVec 32 := 1#32
  let arg15 : BitVec 32 := Scf.iv c0_i32_111 c1_i32_113 k0_t37
  let c8_i32_162 : BitVec 32 := 8#32
  let v274 : BitVec 32 := Scalar.muli arg15 c8_i32_162
  let c256_i32_185 : BitVec 32 := 256#32
  let v372 : BitVec 32 := Scalar.muli v274 c256_i32_185
  let v373 : BitVec 32 := v372
  let v376 : Index := Scalar.indexCast v373
  let c0_189 : Index := 0#32
  ![0, v376.toNat, 0]
@[reducible] def k0_t38_loop (i : grid0.Coords) : Scf.Loop 32 :=
  let c0_i32_111 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_104 : BitVec 32 := 0#32
  let v180 : BitVec 1 := Scalar.cmpi .sgt v18 c0_i32_104
  let v181 : BitVec 32 := Scalar.extui v180
  let c0_i32_105 : BitVec 32 := 0#32
  let v182 : BitVec 1 := Scalar.cmpi .slt v18 c0_i32_105
  let v183 : BitVec 32 := Scalar.extui v182
  let v184 : BitVec 32 := Scalar.subi v181 v183
  let c8_i32_103 : BitVec 32 := 8#32
  let c0_i32_106 : BitVec 32 := 0#32
  let v185 : BitVec 1 := Scalar.cmpi .sgt c8_i32_103 c0_i32_106
  let v186 : BitVec 32 := Scalar.extui v185
  let c0_i32_107 : BitVec 32 := 0#32
  let v187 : BitVec 1 := Scalar.cmpi .slt c8_i32_103 c0_i32_107
  let v188 : BitVec 32 := Scalar.extui v187
  let v189 : BitVec 32 := Scalar.subi v186 v188
  let v190 : BitVec 1 := Scalar.cmpi .ne v184 v189
  let v191 : BitVec 32 := Scalar.remsi v18 c8_i32_103
  let c0_i32_108 : BitVec 32 := 0#32
  let v192 : BitVec 1 := Scalar.cmpi .ne v191 c0_i32_108
  let v193 : BitVec 1 := Scalar.andi v190 v192
  let v179 : BitVec 32 := Scalar.divsi v18 c8_i32_103
  let c1_i32_109 : BitVec 32 := 1#32
  let v194 : BitVec 32 := Scalar.subi v179 c1_i32_109
  let v195 : BitVec 32 := Scalar.select v193 v194 v179
  let v196 : BitVec 32 := Scalar.subi v195 c0_i32_111
  let c1_i32_112 : BitVec 32 := 1#32
  let v198 : BitVec 32 := Scalar.divsi v196 c1_i32_112
  let v199 : BitVec 32 := Scalar.muli v198 c1_i32_112
  let v200 : BitVec 32 := Scalar.addi c0_i32_111 v199
  let v197 : BitVec 32 := Scalar.addi c0_i32_111 v196
  let c1_i32_114 : BitVec 32 := 1#32
  ⟨v200, v197, c1_i32_114⟩
def k0_off217 (i : grid0.Coords) (k0_t38 : Fin (k0_t38_loop i).trips) (c0_i32_165 : BitVec 32) : Fin 3 → Nat :=
  let c0_i32_111 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_104 : BitVec 32 := 0#32
  let v180 : BitVec 1 := Scalar.cmpi .sgt v18 c0_i32_104
  let v181 : BitVec 32 := Scalar.extui v180
  let c0_i32_105 : BitVec 32 := 0#32
  let v182 : BitVec 1 := Scalar.cmpi .slt v18 c0_i32_105
  let v183 : BitVec 32 := Scalar.extui v182
  let v184 : BitVec 32 := Scalar.subi v181 v183
  let c8_i32_103 : BitVec 32 := 8#32
  let c0_i32_106 : BitVec 32 := 0#32
  let v185 : BitVec 1 := Scalar.cmpi .sgt c8_i32_103 c0_i32_106
  let v186 : BitVec 32 := Scalar.extui v185
  let c0_i32_107 : BitVec 32 := 0#32
  let v187 : BitVec 1 := Scalar.cmpi .slt c8_i32_103 c0_i32_107
  let v188 : BitVec 32 := Scalar.extui v187
  let v189 : BitVec 32 := Scalar.subi v186 v188
  let v190 : BitVec 1 := Scalar.cmpi .ne v184 v189
  let v191 : BitVec 32 := Scalar.remsi v18 c8_i32_103
  let c0_i32_108 : BitVec 32 := 0#32
  let v192 : BitVec 1 := Scalar.cmpi .ne v191 c0_i32_108
  let v193 : BitVec 1 := Scalar.andi v190 v192
  let v179 : BitVec 32 := Scalar.divsi v18 c8_i32_103
  let c1_i32_109 : BitVec 32 := 1#32
  let v194 : BitVec 32 := Scalar.subi v179 c1_i32_109
  let v195 : BitVec 32 := Scalar.select v193 v194 v179
  let v196 : BitVec 32 := Scalar.subi v195 c0_i32_111
  let c1_i32_112 : BitVec 32 := 1#32
  let v198 : BitVec 32 := Scalar.divsi v196 c1_i32_112
  let v199 : BitVec 32 := Scalar.muli v198 c1_i32_112
  let v200 : BitVec 32 := Scalar.addi c0_i32_111 v199
  let c1_i32_114 : BitVec 32 := 1#32
  let arg15 : BitVec 32 := Scf.iv v200 c1_i32_114 k0_t38
  let c8_i32_162 : BitVec 32 := 8#32
  let v274 : BitVec 32 := Scalar.muli arg15 c8_i32_162
  let v276 : BitVec 32 := Scalar.addi v274 c0_i32_165
  let v277 : Index := Scalar.indexCast v276
  let c0_166 : Index := 0#32
  let c0_167 : Index := 0#32
  ![v277.toNat, 0, 0]
def k0_mult141 (i : grid0.Coords) (k0_t38 : Fin (k0_t38_loop i).trips) : BitVec 32 :=
  let c0_i32_111 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_104 : BitVec 32 := 0#32
  let v180 : BitVec 1 := Scalar.cmpi .sgt v18 c0_i32_104
  let v181 : BitVec 32 := Scalar.extui v180
  let c0_i32_105 : BitVec 32 := 0#32
  let v182 : BitVec 1 := Scalar.cmpi .slt v18 c0_i32_105
  let v183 : BitVec 32 := Scalar.extui v182
  let v184 : BitVec 32 := Scalar.subi v181 v183
  let c8_i32_103 : BitVec 32 := 8#32
  let c0_i32_106 : BitVec 32 := 0#32
  let v185 : BitVec 1 := Scalar.cmpi .sgt c8_i32_103 c0_i32_106
  let v186 : BitVec 32 := Scalar.extui v185
  let c0_i32_107 : BitVec 32 := 0#32
  let v187 : BitVec 1 := Scalar.cmpi .slt c8_i32_103 c0_i32_107
  let v188 : BitVec 32 := Scalar.extui v187
  let v189 : BitVec 32 := Scalar.subi v186 v188
  let v190 : BitVec 1 := Scalar.cmpi .ne v184 v189
  let v191 : BitVec 32 := Scalar.remsi v18 c8_i32_103
  let c0_i32_108 : BitVec 32 := 0#32
  let v192 : BitVec 1 := Scalar.cmpi .ne v191 c0_i32_108
  let v193 : BitVec 1 := Scalar.andi v190 v192
  let v179 : BitVec 32 := Scalar.divsi v18 c8_i32_103
  let c1_i32_109 : BitVec 32 := 1#32
  let v194 : BitVec 32 := Scalar.subi v179 c1_i32_109
  let v195 : BitVec 32 := Scalar.select v193 v194 v179
  let v196 : BitVec 32 := Scalar.subi v195 c0_i32_111
  let c1_i32_112 : BitVec 32 := 1#32
  let v198 : BitVec 32 := Scalar.divsi v196 c1_i32_112
  let v199 : BitVec 32 := Scalar.muli v198 c1_i32_112
  let v200 : BitVec 32 := Scalar.addi c0_i32_111 v199
  let c1_i32_114 : BitVec 32 := 1#32
  let arg15 : BitVec 32 := Scf.iv v200 c1_i32_114 k0_t38
  let c8_i32_162 : BitVec 32 := 8#32
  let v274 : BitVec 32 := Scalar.muli arg15 c8_i32_162
  let c256_i32_185 : BitVec 32 := 256#32
  let v372 : BitVec 32 := Scalar.muli v274 c256_i32_185
  v372
def k0_off218 (i : grid0.Coords) (k0_t38 : Fin (k0_t38_loop i).trips) : Fin 3 → Nat :=
  let c0_188 : Index := 0#32
  let c0_i32_111 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_104 : BitVec 32 := 0#32
  let v180 : BitVec 1 := Scalar.cmpi .sgt v18 c0_i32_104
  let v181 : BitVec 32 := Scalar.extui v180
  let c0_i32_105 : BitVec 32 := 0#32
  let v182 : BitVec 1 := Scalar.cmpi .slt v18 c0_i32_105
  let v183 : BitVec 32 := Scalar.extui v182
  let v184 : BitVec 32 := Scalar.subi v181 v183
  let c8_i32_103 : BitVec 32 := 8#32
  let c0_i32_106 : BitVec 32 := 0#32
  let v185 : BitVec 1 := Scalar.cmpi .sgt c8_i32_103 c0_i32_106
  let v186 : BitVec 32 := Scalar.extui v185
  let c0_i32_107 : BitVec 32 := 0#32
  let v187 : BitVec 1 := Scalar.cmpi .slt c8_i32_103 c0_i32_107
  let v188 : BitVec 32 := Scalar.extui v187
  let v189 : BitVec 32 := Scalar.subi v186 v188
  let v190 : BitVec 1 := Scalar.cmpi .ne v184 v189
  let v191 : BitVec 32 := Scalar.remsi v18 c8_i32_103
  let c0_i32_108 : BitVec 32 := 0#32
  let v192 : BitVec 1 := Scalar.cmpi .ne v191 c0_i32_108
  let v193 : BitVec 1 := Scalar.andi v190 v192
  let v179 : BitVec 32 := Scalar.divsi v18 c8_i32_103
  let c1_i32_109 : BitVec 32 := 1#32
  let v194 : BitVec 32 := Scalar.subi v179 c1_i32_109
  let v195 : BitVec 32 := Scalar.select v193 v194 v179
  let v196 : BitVec 32 := Scalar.subi v195 c0_i32_111
  let c1_i32_112 : BitVec 32 := 1#32
  let v198 : BitVec 32 := Scalar.divsi v196 c1_i32_112
  let v199 : BitVec 32 := Scalar.muli v198 c1_i32_112
  let v200 : BitVec 32 := Scalar.addi c0_i32_111 v199
  let c1_i32_114 : BitVec 32 := 1#32
  let arg15 : BitVec 32 := Scf.iv v200 c1_i32_114 k0_t38
  let c8_i32_162 : BitVec 32 := 8#32
  let v274 : BitVec 32 := Scalar.muli arg15 c8_i32_162
  let c256_i32_185 : BitVec 32 := 256#32
  let v372 : BitVec 32 := Scalar.muli v274 c256_i32_185
  let v373 : BitVec 32 := v372
  let v376 : Index := Scalar.indexCast v373
  let c0_189 : Index := 0#32
  ![0, v376.toNat, 0]
def k0_cond14 (i : grid0.Coords) : BitVec 1 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c4_i32_115 : BitVec 32 := 4#32
  let v201 : BitVec 32 := Scalar.andi v18 c4_i32_115
  let c0_i32_116 : BitVec 32 := 0#32
  let v202 : BitVec 1 := Scalar.cmpi .ne v201 c0_i32_116
  let v203 : BitVec 32 := Scalar.extui v202
  let c0_i32_117 : BitVec 32 := 0#32
  let v204 : BitVec 1 := Scalar.cmpi .ne v203 c0_i32_117
  v204

def k0_off219 (i : grid0.Coords) (c0_i32_172 : BitVec 32) : Fin 3 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let v293 : BitVec 32 := Scalar.addi v291 c0_i32_172
  let v294 : Index := Scalar.indexCast v293
  let c0_173 : Index := 0#32
  let c0_174 : Index := 0#32
  ![v294.toNat, 0, 0]
def k0_mult142 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let c256_i32_183 : BitVec 32 := 256#32
  let v341 : BitVec 32 := Scalar.muli v291 c256_i32_183
  v341
def k0_off220 (i : grid0.Coords) : Fin 3 → Nat :=
  let c0_186 : Index := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_163 : BitVec 32 := 0#32
  let v275 : BitVec 1 := Scalar.cmpi .sgt v18 c0_i32_163
  let v276 : BitVec 32 := Scalar.extui v275
  let c0_i32_164 : BitVec 32 := 0#32
  let v277 : BitVec 1 := Scalar.cmpi .slt v18 c0_i32_164
  let v278 : BitVec 32 := Scalar.extui v277
  let v279 : BitVec 32 := Scalar.subi v276 v278
  let c8_i32_162 : BitVec 32 := 8#32
  let c0_i32_165 : BitVec 32 := 0#32
  let v280 : BitVec 1 := Scalar.cmpi .sgt c8_i32_162 c0_i32_165
  let v281 : BitVec 32 := Scalar.extui v280
  let c0_i32_166 : BitVec 32 := 0#32
  let v282 : BitVec 1 := Scalar.cmpi .slt c8_i32_162 c0_i32_166
  let v283 : BitVec 32 := Scalar.extui v282
  let v284 : BitVec 32 := Scalar.subi v281 v283
  let v285 : BitVec 1 := Scalar.cmpi .ne v279 v284
  let v286 : BitVec 32 := Scalar.remsi v18 c8_i32_162
  let c0_i32_167 : BitVec 32 := 0#32
  let v287 : BitVec 1 := Scalar.cmpi .ne v286 c0_i32_167
  let v288 : BitVec 1 := Scalar.andi v285 v287
  let v274 : BitVec 32 := Scalar.divsi v18 c8_i32_162
  let c1_i32_168 : BitVec 32 := 1#32
  let v289 : BitVec 32 := Scalar.subi v274 c1_i32_168
  let v290 : BitVec 32 := Scalar.select v288 v289 v274
  let c8_i32_169 : BitVec 32 := 8#32
  let v291 : BitVec 32 := Scalar.muli v290 c8_i32_169
  let c256_i32_183 : BitVec 32 := 256#32
  let v341 : BitVec 32 := Scalar.muli v291 c256_i32_183
  let v342 : BitVec 32 := v341
  let v345 : Index := Scalar.indexCast v342
  let c0_187 : Index := 0#32
  ![0, v345.toNat, 0]
def k0_cond15 (i : grid0.Coords) : BitVec 1 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c2_i32_126 : BitVec 32 := 2#32
  let v223 : BitVec 32 := Scalar.andi v18 c2_i32_126
  let c0_i32_127 : BitVec 32 := 0#32
  let v224 : BitVec 1 := Scalar.cmpi .ne v223 c0_i32_127
  let v225 : BitVec 32 := Scalar.extui v224
  let c0_i32_128 : BitVec 32 := 0#32
  let v226 : BitVec 1 := Scalar.cmpi .ne v225 c0_i32_128
  v226

def k0_off221 (i : grid0.Coords) (c0_i32_164 : BitVec 32) : Fin 3 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_119 : BitVec 32 := 0#32
  let v206 : BitVec 1 := Scalar.cmpi .sgt v18 c0_i32_119
  let v207 : BitVec 32 := Scalar.extui v206
  let c0_i32_120 : BitVec 32 := 0#32
  let v208 : BitVec 1 := Scalar.cmpi .slt v18 c0_i32_120
  let v209 : BitVec 32 := Scalar.extui v208
  let v210 : BitVec 32 := Scalar.subi v207 v209
  let c4_i32_118 : BitVec 32 := 4#32
  let c0_i32_121 : BitVec 32 := 0#32
  let v211 : BitVec 1 := Scalar.cmpi .sgt c4_i32_118 c0_i32_121
  let v212 : BitVec 32 := Scalar.extui v211
  let c0_i32_122 : BitVec 32 := 0#32
  let v213 : BitVec 1 := Scalar.cmpi .slt c4_i32_118 c0_i32_122
  let v214 : BitVec 32 := Scalar.extui v213
  let v215 : BitVec 32 := Scalar.subi v212 v214
  let v216 : BitVec 1 := Scalar.cmpi .ne v210 v215
  let v217 : BitVec 32 := Scalar.remsi v18 c4_i32_118
  let c0_i32_123 : BitVec 32 := 0#32
  let v218 : BitVec 1 := Scalar.cmpi .ne v217 c0_i32_123
  let v219 : BitVec 1 := Scalar.andi v216 v218
  let v205 : BitVec 32 := Scalar.divsi v18 c4_i32_118
  let c1_i32_124 : BitVec 32 := 1#32
  let v220 : BitVec 32 := Scalar.subi v205 c1_i32_124
  let v221 : BitVec 32 := Scalar.select v219 v220 v205
  let c4_i32_125 : BitVec 32 := 4#32
  let v222 : BitVec 32 := Scalar.muli v221 c4_i32_125
  let v275 : BitVec 32 := Scalar.addi v222 c0_i32_164
  let v276 : Index := Scalar.indexCast v275
  let c0_165 : Index := 0#32
  let c0_166 : Index := 0#32
  ![v276.toNat, 0, 0]
def k0_mult143 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_119 : BitVec 32 := 0#32
  let v206 : BitVec 1 := Scalar.cmpi .sgt v18 c0_i32_119
  let v207 : BitVec 32 := Scalar.extui v206
  let c0_i32_120 : BitVec 32 := 0#32
  let v208 : BitVec 1 := Scalar.cmpi .slt v18 c0_i32_120
  let v209 : BitVec 32 := Scalar.extui v208
  let v210 : BitVec 32 := Scalar.subi v207 v209
  let c4_i32_118 : BitVec 32 := 4#32
  let c0_i32_121 : BitVec 32 := 0#32
  let v211 : BitVec 1 := Scalar.cmpi .sgt c4_i32_118 c0_i32_121
  let v212 : BitVec 32 := Scalar.extui v211
  let c0_i32_122 : BitVec 32 := 0#32
  let v213 : BitVec 1 := Scalar.cmpi .slt c4_i32_118 c0_i32_122
  let v214 : BitVec 32 := Scalar.extui v213
  let v215 : BitVec 32 := Scalar.subi v212 v214
  let v216 : BitVec 1 := Scalar.cmpi .ne v210 v215
  let v217 : BitVec 32 := Scalar.remsi v18 c4_i32_118
  let c0_i32_123 : BitVec 32 := 0#32
  let v218 : BitVec 1 := Scalar.cmpi .ne v217 c0_i32_123
  let v219 : BitVec 1 := Scalar.andi v216 v218
  let v205 : BitVec 32 := Scalar.divsi v18 c4_i32_118
  let c1_i32_124 : BitVec 32 := 1#32
  let v220 : BitVec 32 := Scalar.subi v205 c1_i32_124
  let v221 : BitVec 32 := Scalar.select v219 v220 v205
  let c4_i32_125 : BitVec 32 := 4#32
  let v222 : BitVec 32 := Scalar.muli v221 c4_i32_125
  let c256_i32_170 : BitVec 32 := 256#32
  let v299 : BitVec 32 := Scalar.muli v222 c256_i32_170
  v299
def k0_off222 (i : grid0.Coords) : Fin 3 → Nat :=
  let c0_173 : Index := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c0_i32_119 : BitVec 32 := 0#32
  let v206 : BitVec 1 := Scalar.cmpi .sgt v18 c0_i32_119
  let v207 : BitVec 32 := Scalar.extui v206
  let c0_i32_120 : BitVec 32 := 0#32
  let v208 : BitVec 1 := Scalar.cmpi .slt v18 c0_i32_120
  let v209 : BitVec 32 := Scalar.extui v208
  let v210 : BitVec 32 := Scalar.subi v207 v209
  let c4_i32_118 : BitVec 32 := 4#32
  let c0_i32_121 : BitVec 32 := 0#32
  let v211 : BitVec 1 := Scalar.cmpi .sgt c4_i32_118 c0_i32_121
  let v212 : BitVec 32 := Scalar.extui v211
  let c0_i32_122 : BitVec 32 := 0#32
  let v213 : BitVec 1 := Scalar.cmpi .slt c4_i32_118 c0_i32_122
  let v214 : BitVec 32 := Scalar.extui v213
  let v215 : BitVec 32 := Scalar.subi v212 v214
  let v216 : BitVec 1 := Scalar.cmpi .ne v210 v215
  let v217 : BitVec 32 := Scalar.remsi v18 c4_i32_118
  let c0_i32_123 : BitVec 32 := 0#32
  let v218 : BitVec 1 := Scalar.cmpi .ne v217 c0_i32_123
  let v219 : BitVec 1 := Scalar.andi v216 v218
  let v205 : BitVec 32 := Scalar.divsi v18 c4_i32_118
  let c1_i32_124 : BitVec 32 := 1#32
  let v220 : BitVec 32 := Scalar.subi v205 c1_i32_124
  let v221 : BitVec 32 := Scalar.select v219 v220 v205
  let c4_i32_125 : BitVec 32 := 4#32
  let v222 : BitVec 32 := Scalar.muli v221 c4_i32_125
  let c256_i32_170 : BitVec 32 := 256#32
  let v299 : BitVec 32 := Scalar.muli v222 c256_i32_170
  let v300 : BitVec 32 := v299
  let v303 : Index := Scalar.indexCast v300
  let c0_174 : Index := 0#32
  ![0, v303.toNat, 0]
def k0_cond16 (i : grid0.Coords) : BitVec 1 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_129 : BitVec 32 := 1#32
  let v227 : BitVec 32 := Scalar.andi v18 c1_i32_129
  let c0_i32_130 : BitVec 32 := 0#32
  let v228 : BitVec 1 := Scalar.cmpi .ne v227 c0_i32_130
  let v229 : BitVec 32 := Scalar.extui v228
  let c0_i32_131 : BitVec 32 := 0#32
  let v230 : BitVec 1 := Scalar.cmpi .ne v229 c0_i32_131
  v230

def k0_off223 (i : grid0.Coords) : Fin 3 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c0_i32_165 : BitVec 32 := 0#32
  let v276 : BitVec 32 := Scalar.addi v274 c0_i32_165
  let v277 : Index := Scalar.indexCast v276
  let c0_166 : Index := 0#32
  let c0_167 : Index := 0#32
  ![v277.toNat, 0, 0]
def k0_mult144 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c256_i32_168 : BitVec 32 := 256#32
  let v288 : BitVec 32 := Scalar.muli v274 c256_i32_168
  v288
def k0_off224 (i : grid0.Coords) : Fin 3 → Nat :=
  let c0_171 : Index := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_162 : BitVec 32 := 1#32
  let v274 : BitVec 32 := Scalar.subi v18 c1_i32_162
  let c256_i32_168 : BitVec 32 := 256#32
  let v288 : BitVec 32 := Scalar.muli v274 c256_i32_168
  let v289 : BitVec 32 := v288
  let v292 : Index := Scalar.indexCast v289
  let c0_172 : Index := 0#32
  ![0, v292.toNat, 0]
def cc0_transform_0 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2.lean ====
abbrev S8x4096x1024 : Shape := ⟨3, ![8, 4096, 1024]⟩
abbrev S1x1024 : Shape := ⟨2, ![1, 1024]⟩
abbrev S1x1024x5544 : Shape := ⟨3, ![1, 1024, 5544]⟩
abbrev S1x2x1024 : Shape := ⟨3, ![1, 2, 1024]⟩
abbrev S8x4096x512 : Shape := ⟨3, ![8, 4096, 512]⟩
abbrev S1x512x1024 : Shape := ⟨3, ![1, 512, 1024]⟩
abbrev S1x1024x1024 : Shape := ⟨3, ![1, 1024, 1024]⟩
abbrev S1024 : Shape := ⟨1, ![1024]⟩
abbrev S32768x1024 : Shape := ⟨2, ![32768, 1024]⟩
abbrev S1024x5544 : Shape := ⟨2, ![1024, 5544]⟩
abbrev S1024x512 : Shape := ⟨2, ![1024, 512]⟩
abbrev S1024x64 : Shape := ⟨2, ![1024, 64]⟩
abbrev S1024x256 : Shape := ⟨2, ![1024, 256]⟩
abbrev S1024x32 : Shape := ⟨2, ![1024, 32]⟩
abbrev S1024x8 : Shape := ⟨2, ![1024, 8]⟩
abbrev S1024x1024 : Shape := ⟨2, ![1024, 1024]⟩
abbrev S1024x3072 : Shape := ⟨2, ![1024, 3072]⟩
abbrev S2x1024 : Shape := ⟨2, ![2, 1024]⟩
abbrev S32768x512 : Shape := ⟨2, ![32768, 512]⟩
abbrev S512x1024 : Shape := ⟨2, ![512, 1024]⟩
abbrev S1024x1 : Shape := ⟨2, ![1024, 1]⟩

abbrev nBuf : Space → Nat
  | .hbm => 38
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5544, .f32⟩
  | .hbm, ⟨3, _⟩ => ⟨S1x2x1024, .f32⟩
  | .hbm, ⟨4, _⟩ => ⟨S8x4096x512, .f32⟩
  | .hbm, ⟨5, _⟩ => ⟨S8x4096x512, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1024, .f32⟩
  | .hbm, ⟨10, _⟩ => ⟨S32768x1024, .f32⟩
  | .hbm, ⟨11, _⟩ => ⟨S1024x5544, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S1024x64, .f32⟩
  | .hbm, ⟨18, _⟩ => ⟨S1024x64, .f32⟩
  | .hbm, ⟨19, _⟩ => ⟨S1024x512, .f32⟩
  | .hbm, ⟨20, _⟩ => ⟨S1024x256, .f32⟩
  | .hbm, ⟨21, _⟩ => ⟨S1024x32, .f32⟩
  | .hbm, ⟨22, _⟩ => ⟨S1024x8, .f32⟩
  | .hbm, ⟨23, _⟩ => ⟨S1024x1024, .f32⟩
  | .hbm, ⟨24, _⟩ => ⟨S1024x1024, .f32⟩
  | .hbm, ⟨25, _⟩ => ⟨S1024x3072, .f32⟩
  | .hbm, ⟨26, _⟩ => ⟨S1024x3072, .bf16⟩
  | .hbm, ⟨27, _⟩ => ⟨S2x1024, .f32⟩
  | .hbm, ⟨28, _⟩ => ⟨S32768x512, .f32⟩
  | .hbm, ⟨29, _⟩ => ⟨S32768x512, .f32⟩
  | .hbm, ⟨30, _⟩ => ⟨S512x1024, .f32⟩
  | .hbm, ⟨31, _⟩ => ⟨S512x1024, .bf16⟩
  | .hbm, ⟨32, _⟩ => ⟨S512x1024, .f32⟩
  | .hbm, ⟨33, _⟩ => ⟨S512x1024, .bf16⟩
  | .hbm, ⟨34, _⟩ => ⟨S1024x1024, .f32⟩
  | .hbm, ⟨35, _⟩ => ⟨S1024x1024, .bf16⟩
  | .hbm, ⟨36, _⟩ => ⟨S1x1024, .f32⟩
  | .hbm, ⟨37, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S2x1024, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S8x4096x1024 : Shape := ⟨3, ![8, 4096, 1024]⟩
abbrev S1x1024 : Shape := ⟨2, ![1, 1024]⟩
abbrev S1x1024x5544 : Shape := ⟨3, ![1, 1024, 5544]⟩
abbrev S1x2x1024 : Shape := ⟨3, ![1, 2, 1024]⟩
abbrev S8x4096x512 : Shape := ⟨3, ![8, 4096, 512]⟩
abbrev S1x512x1024 : Shape := ⟨3, ![1, 512, 1024]⟩
abbrev S1x1024x1024 : Shape := ⟨3, ![1, 1024, 1024]⟩
abbrev S1024 : Shape := ⟨1, ![1024]⟩
abbrev S32768x1024 : Shape := ⟨2, ![32768, 1024]⟩
abbrev S32768x512 : Shape := ⟨2, ![32768, 512]⟩
abbrev S_ : Shape := ⟨0, ![]⟩
abbrev S32768 : Shape := ⟨1, ![32768]⟩
abbrev S32768x1 : Shape := ⟨2, ![32768, 1]⟩
abbrev S1024x5544 : Shape := ⟨2, ![1024, 5544]⟩
abbrev S32768x5544 : Shape := ⟨2, ![32768, 5544]⟩
abbrev S32768x64 : Shape := ⟨2, ![32768, 64]⟩
abbrev S32768x256 : Shape := ⟨2, ![32768, 256]⟩
abbrev S32768x32 : Shape := ⟨2, ![32768, 32]⟩
abbrev S32768x8 : Shape := ⟨2, ![32768, 8]⟩
abbrev S1x1x1024 : Shape := ⟨3, ![1, 1, 1024]⟩
abbrev S512x1024 : Shape := ⟨2, ![512, 1024]⟩
abbrev S1024x1024 : Shape := ⟨2, ![1024, 1024]⟩

abbrev nBuf : Space → Nat
  | .hbm => 117
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5544, .f32⟩
  | .hbm, ⟨3, _⟩ => ⟨S1x2x1024, .f32⟩
  | .hbm, ⟨4, _⟩ => ⟨S8x4096x512, .f32⟩
  | .hbm, ⟨5, _⟩ => ⟨S8x4096x512, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1024, .f32⟩
  | .hbm, ⟨10, _⟩ => ⟨S32768x1024, .f32⟩
  | .hbm, ⟨11, _⟩ => ⟨S32768x512, .f32⟩
  | .hbm, ⟨12, _⟩ => ⟨S32768x512, .f32⟩
  | .hbm, ⟨13, _⟩ => ⟨S1024, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S1x1024, .f32⟩
  | .hbm, ⟨28, _⟩ => ⟨S32768x1024, .f32⟩
  | .hbm, ⟨29, _⟩ => ⟨S32768x1024, .f32⟩
  | .hbm, ⟨30, _⟩ => ⟨S1024x5544, .f32⟩
  | .hbm, ⟨31, _⟩ => ⟨S32768x5544, .f32⟩
  | .hbm, ⟨32, _⟩ => ⟨S32768x512, .f32⟩
  | .hbm, ⟨33, _⟩ => ⟨S32768x512, .f32⟩
  | .hbm, ⟨34, _⟩ => ⟨S32768x512, .f32⟩
  | .hbm, ⟨35, _⟩ => ⟨S32768x512, .f32⟩
  | .hbm, ⟨36, _⟩ => ⟨S32768x512, .f32⟩
  | .hbm, ⟨37, _⟩ => ⟨S32768x64, .f32⟩
  | .hbm, ⟨38, _⟩ => ⟨S32768x64, .f32⟩
  | .hbm, ⟨39, _⟩ => ⟨S32768x512, .f32⟩
  | .hbm, ⟨40, _⟩ => ⟨S32768x256, .f32⟩
  | .hbm, ⟨41, _⟩ => ⟨S32768x32, .f32⟩
  | .hbm, ⟨42, _⟩ => ⟨S32768x8, .f32⟩
  | .hbm, ⟨43, _⟩ => ⟨S32768x1024, .f32⟩
  | .hbm, ⟨44, _⟩ => ⟨S32768x1024, .f32⟩
  | .hbm, ⟨45, _⟩ => ⟨S1x1x1024, .f32⟩
  | .hbm, ⟨46, _⟩ => ⟨S1024, .f32⟩
  | .hbm, ⟨47, _⟩ => ⟨S1x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S_, .f32⟩
  | .hbm, ⟨53, _⟩ => ⟨S32768x1024, .f32⟩
  | .hbm, ⟨54, _⟩ => ⟨S32768x1024, .f32⟩
  | .hbm, ⟨55, _⟩ => ⟨S_, .f32⟩
  | .hbm, ⟨56, _⟩ => ⟨S32768x1024, .f32⟩
  | .hbm, ⟨57, _⟩ => ⟨S32768x1024, .f32⟩
  | .hbm, ⟨58, _⟩ => ⟨S1x1x1024, .f32⟩
  | .hbm, ⟨59, _⟩ => ⟨S1024, .f32⟩
  | .hbm, ⟨60, _⟩ => ⟨S1x1024, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S_, .f32⟩
  | .hbm, ⟨66, _⟩ => ⟨S32768x1024, .f32⟩
  | .hbm, ⟨67, _⟩ => ⟨S32768x1024, .f32⟩
  | .hbm, ⟨68, _⟩ => ⟨S_, .f32⟩
  | .hbm, ⟨69, _⟩ => ⟨S32768x1024, .f32⟩
  | .hbm, ⟨70, _⟩ => ⟨S32768x1024, .f32⟩
  | .hbm, ⟨71, _⟩ => ⟨S32768x512, .f32⟩
  | .hbm, ⟨72, _⟩ => ⟨S32768x512, .f32⟩
  | .hbm, ⟨73, _⟩ => ⟨S_, .f32⟩
  | .hbm, ⟨74, _⟩ => ⟨S32768x512, .f32⟩
  | .hbm, ⟨75, _⟩ => ⟨S32768x512, .f32⟩
  | .hbm, ⟨76, _⟩ => ⟨S_, .f32⟩
  | .hbm, ⟨77, _⟩ => ⟨S32768x512, .f32⟩
  | .hbm, ⟨78, _⟩ => ⟨S32768x512, .f32⟩
  | .hbm, ⟨79, _⟩ => ⟨S32768x512, .f32⟩
  | .hbm, ⟨80, _⟩ => ⟨S32768x512, .f32⟩
  | .hbm, ⟨81, _⟩ => ⟨S512x1024, .f32⟩
  | .hbm, ⟨82, _⟩ => ⟨S32768x1024, .f32⟩
  | .hbm, ⟨83, _⟩ => ⟨S32768x1024, .f32⟩
  | .hbm, ⟨84, _⟩ => ⟨S32768x512, .f32⟩
  | .hbm, ⟨85, _⟩ => ⟨S32768x512, .f32⟩
  | .hbm, ⟨86, _⟩ => ⟨S_, .f32⟩
  | .hbm, ⟨87, _⟩ => ⟨S32768x512, .f32⟩
  | .hbm, ⟨88, _⟩ => ⟨S32768x512, .f32⟩
  | .hbm, ⟨89, _⟩ => ⟨S_, .f32⟩
  | .hbm, ⟨90, _⟩ => ⟨S32768x512, .f32⟩
  | .hbm, ⟨91, _⟩ => ⟨S32768x512, .f32⟩
  | .hbm, ⟨92, _⟩ => ⟨S32768x512, .f32⟩
  | .hbm, ⟨93, _⟩ => ⟨S32768x512, .f32⟩
  | .hbm, ⟨94, _⟩ => ⟨S512x1024, .f32⟩
  | .hbm, ⟨95, _⟩ => ⟨S32768x1024, .f32⟩
  | .hbm, ⟨96, _⟩ => ⟨S32768x1024, .f32⟩
  | .hbm, ⟨97, _⟩ => ⟨S32768x1024, .f32⟩
  | .hbm, ⟨98, _⟩ => ⟨S1024x1024, .f32⟩
  | .hbm, ⟨99, _⟩ => ⟨S32768x1024, .f32⟩
  | .hbm, ⟨100, _⟩ => ⟨S32768x1024, .f32⟩
  | .hbm, ⟨101, _⟩ => ⟨S32768x1024, .f32⟩
  | .hbm, ⟨102, _⟩ => ⟨S_, .f32⟩
  | .hbm, ⟨103, _⟩ => ⟨S32768, .f32⟩
  | .hbm, ⟨104, _⟩ => ⟨S32768x1, .f32⟩
  | .hbm, ⟨105, _⟩ => ⟨S_, .f32⟩
  | .hbm, ⟨106, _⟩ => ⟨S32768x1, .f32⟩
  | .hbm, ⟨107, _⟩ => ⟨S32768x1, .f32⟩
  | .hbm, ⟨108, _⟩ => ⟨S_, .f32⟩
  | .hbm, ⟨109, _⟩ => ⟨S32768x1, .f32⟩
  | .hbm, ⟨110, _⟩ => ⟨S32768x1, .f32⟩
  | .hbm, ⟨111, _⟩ => ⟨S32768x1, .f32⟩
  | .hbm, ⟨112, _⟩ => ⟨S32768x1024, .f32⟩
  | .hbm, ⟨113, _⟩ => ⟨S32768x1024, .f32⟩
  | .hbm, ⟨114, _⟩ => ⟨S1x1024, .f32⟩
  | .hbm, ⟨115, _⟩ => ⟨S32768x1024, .f32⟩
  | .hbm, ⟨116, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_2 : Ref sig .tc := ⟨.hbm, 52, rfl⟩
abbrev main_v39 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_4 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_v0 : Ref sig .tc := ⟨.hbm, 84, rfl⟩
abbrev main_call1_v1 : Ref sig .tc := ⟨.hbm, 85, rfl⟩
abbrev main_call1_cst : Ref sig .tc := ⟨.hbm, 86, rfl⟩
abbrev main_call1_v2 : Ref sig .tc := ⟨.hbm, 87, rfl⟩
abbrev main_call1_v3 : Ref sig .tc := ⟨.hbm, 88, rfl⟩
abbrev main_call1_cst_0 : Ref sig .tc := ⟨.hbm, 89, rfl⟩
abbrev main_call1_v4 : Ref sig .tc := ⟨.hbm, 90, rfl⟩
abbrev main_call1_v5 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_6 : Ref sig .tc := ⟨.hbm, 102, rfl⟩
abbrev main_v69 : Ref sig .tc := ⟨.hbm, 103, rfl⟩
abbrev main_v70 : Ref sig .tc := ⟨.hbm, 104, rfl⟩
abbrev main_cst_7 : Ref sig .tc := ⟨.hbm, 105, rfl⟩
abbrev main_v71 : Ref sig .tc := ⟨.hbm, 106, rfl⟩
abbrev main_v72 : Ref sig .tc := ⟨.hbm, 107, rfl⟩
abbrev main_cst_8 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩

abbrev nD : Nat := 1
abbrev τ : Topo := Topo.v7x

variable {F : FTy → Type} [FloatOps F]
-- ==== Kernel3.lean ====
abbrev S8x4096x1024 : Shape := ⟨3, ![8, 4096, 1024]⟩
abbrev S1x1024 : Shape := ⟨2, ![1, 1024]⟩
abbrev S1x1024x5544 : Shape := ⟨3, ![1, 1024, 5544]⟩
abbrev S32768x1024 : Shape := ⟨2, ![32768, 1024]⟩
abbrev S1024x5544 : Shape := ⟨2, ![1024, 5544]⟩
abbrev S1024x512 : Shape := ⟨2, ![1024, 512]⟩
abbrev S1024x64 : Shape := ⟨2, ![1024, 64]⟩
abbrev S1024x256 : Shape := ⟨2, ![1024, 256]⟩
abbrev S1024x32 : Shape := ⟨2, ![1024, 32]⟩
abbrev S1024x8 : Shape := ⟨2, ![1024, 8]⟩
abbrev S1024x1024 : Shape := ⟨2, ![1024, 1024]⟩
abbrev S_ : Shape := ⟨0, ![]⟩
abbrev S1024x88 : Shape := ⟨2, ![1024, 88]⟩
abbrev S1024x2560 : Shape := ⟨2, ![1024, 2560]⟩
abbrev S4096 : Shape := ⟨1, ![4096]⟩
abbrev S4096x1 : Shape := ⟨2, ![4096, 1]⟩
abbrev S8 : Shape := ⟨1, ![8]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S4 : Shape := ⟨1, ![4]⟩
abbrev S1x4 : Shape := ⟨2, ![1, 4]⟩
abbrev S4096x4 : Shape := ⟨2, ![4096, 4]⟩
abbrev S4096x24 : Shape := ⟨2, ![4096, 24]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x512 : Shape := ⟨2, ![4096, 512]⟩
abbrev S256x8x128x128 : Shape := ⟨4, ![256, 8, 128, 128]⟩
abbrev S32768x512 : Shape := ⟨2, ![32768, 512]⟩
abbrev S32768x128 : Shape := ⟨2, ![32768, 128]⟩
abbrev S8x8x128x128 : Shape := ⟨4, ![8, 8, 128, 128]⟩
abbrev S1024x128 : Shape := ⟨2, ![1024, 128]⟩
abbrev S1024 : Shape := ⟨1, ![1024]⟩
abbrev S1024x1 : Shape := ⟨2, ![1024, 1]⟩
abbrev S128x128 : Shape := ⟨2, ![128, 128]⟩
abbrev S1x1x128x128 : Shape := ⟨4, ![1, 1, 128, 128]⟩

abbrev nBuf : Space → Nat
  | .hbm => 90
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5544, .f32⟩
  | .hbm, ⟨3, _⟩ => ⟨S32768x1024, .f32⟩
  | .hbm, ⟨4, _⟩ => ⟨S1024x5544, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x64, .f32⟩
  | .hbm, ⟨11, _⟩ => ⟨S1024x64, .f32⟩
  | .hbm, ⟨12, _⟩ => ⟨S1024x512, .f32⟩
  | .hbm, ⟨13, _⟩ => ⟨S1024x256, .f32⟩
  | .hbm, ⟨14, _⟩ => ⟨S1024x32, .f32⟩
  | .hbm, ⟨15, _⟩ => ⟨S1024x8, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x88, .f32⟩
  | .hbm, ⟨20, _⟩ => ⟨S1024x2560, .f32⟩
  | .hbm, ⟨21, _⟩ => ⟨S1024x2560, .bf16⟩
  | .hbm, ⟨22, _⟩ => ⟨S4096, .f32⟩
  | .hbm, ⟨23, _⟩ => ⟨S4096x1, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S1x8, .f32⟩
  | .hbm, ⟨33, _⟩ => ⟨S4096x8, .f32⟩
  | .hbm, ⟨34, _⟩ => ⟨S4096x8, .f32⟩
  | .hbm, ⟨35, _⟩ => ⟨S4096x8, .f32⟩
  | .hbm, ⟨36, _⟩ => ⟨S4096x8, .f32⟩
  | .hbm, ⟨37, _⟩ => ⟨S4096x8, .f32⟩
  | .hbm, ⟨38, _⟩ => ⟨S_, .f32⟩
  | .hbm, ⟨39, _⟩ => ⟨S4096x48, .f32⟩
  | .hbm, ⟨40, _⟩ => ⟨S4096x64, .f32⟩
  | .hbm, ⟨41, _⟩ => ⟨S4096x8, .f32⟩
  | .hbm, ⟨42, _⟩ => ⟨S_, .f32⟩
  | .hbm, ⟨43, _⟩ => ⟨S4096x48, .f32⟩
  | .hbm, ⟨44, _⟩ => ⟨S4096x48, .f32⟩
  | .hbm, ⟨45, _⟩ => ⟨S4096x64, .f32⟩
  | .hbm, ⟨46, _⟩ => ⟨S1x4096x1x64, .f32⟩
  | .hbm, ⟨47, _⟩ => ⟨S1x4096x2x64, .f32⟩
  | .hbm, ⟨48, _⟩ => ⟨S4096x128, .f32⟩
  | .hbm, ⟨49, _⟩ => ⟨S1x4096x1x64, .f32⟩
  | .hbm, ⟨50, _⟩ => ⟨S1x4096x2x64, .f32⟩
  | .hbm, ⟨51, _⟩ => ⟨S4096x128, .f32⟩
  | .hbm, ⟨52, _⟩ => ⟨S4, .f32⟩
  | .hbm, ⟨53, _⟩ => ⟨S4, .f32⟩
  | .hbm, ⟨54, _⟩ => ⟨S_, .f32⟩
  | .hbm, ⟨55, _⟩ => ⟨S4, .f32⟩
  | .hbm, ⟨56, _⟩ => ⟨S4, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S1x4, .f32⟩
  | .hbm, ⟨61, _⟩ => ⟨S4096x4, .f32⟩
  | .hbm, ⟨62, _⟩ => ⟨S4096x4, .f32⟩
  | .hbm, ⟨63, _⟩ => ⟨S4096x4, .f32⟩
  | .hbm, ⟨64, _⟩ => ⟨S4096x4, .f32⟩
  | .hbm, ⟨65, _⟩ => ⟨S4096x4, .f32⟩
  | .hbm, ⟨66, _⟩ => ⟨S_, .f32⟩
  | .hbm, ⟨67, _⟩ => ⟨S4096x24, .f32⟩
  | .hbm, ⟨68, _⟩ => ⟨S4096x32, .f32⟩
  | .hbm, ⟨69, _⟩ => ⟨S4096x4, .f32⟩
  | .hbm, ⟨70, _⟩ => ⟨S_, .f32⟩
  | .hbm, ⟨71, _⟩ => ⟨S4096x24, .f32⟩
  | .hbm, ⟨72, _⟩ => ⟨S4096x24, .f32⟩
  | .hbm, ⟨73, _⟩ => ⟨S4096x32, .f32⟩
  | .hbm, ⟨74, _⟩ => ⟨S1x4096x1x32, .f32⟩
  | .hbm, ⟨75, _⟩ => ⟨S1x4096x4x32, .f32⟩
  | .hbm, ⟨76, _⟩ => ⟨S4096x128, .f32⟩
  | .hbm, ⟨77, _⟩ => ⟨S1x4096x1x32, .f32⟩
  | .hbm, ⟨78, _⟩ => ⟨S1x4096x4x32, .f32⟩
  | .hbm, ⟨79, _⟩ => ⟨S4096x128, .f32⟩
  | .hbm, ⟨80, _⟩ => ⟨S4096x512, .f32⟩
  | .hbm, ⟨81, _⟩ => ⟨S256x8x128x128, .bf16⟩
  | .hbm, ⟨82, _⟩ => ⟨S32768x512, .bf16⟩
  | .hbm, ⟨83, _⟩ => ⟨S32768x512, .bf16⟩
  | .hbm, ⟨84, _⟩ => ⟨S256x8x128x128, .bf16⟩
  | .hbm, ⟨85, _⟩ => ⟨S256x8x128x128, .bf16⟩
  | .hbm, ⟨86, _⟩ => ⟨S32768x128, .bf16⟩
  | .hbm, ⟨87, _⟩ => ⟨S32768x128, .bf16⟩
  | .hbm, ⟨88, _⟩ => ⟨S32768x128, .bf16⟩
  | .hbm, ⟨89, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2560, .bf16⟩
  | .local _ .vmem, ⟨4, _⟩ => ⟨S1024x512, .f32⟩
  | .local _ .vmem, ⟨5, _⟩ => ⟨S1024x512, .f32⟩
  | .local _ .vmem, ⟨6, _⟩ => ⟨S8x8x128x128, .bf16⟩
  | .local _ .vmem, ⟨7, _⟩ => ⟨S8x8x128x128, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S8x8x128x128, .bf16⟩
  | .local _ .vmem, ⟨13, _⟩ => ⟨S8x8x128x128, .bf16⟩
  | .local _ .vmem, ⟨14, _⟩ => ⟨S8x8x128x128, .bf16⟩
  | .local _ .vmem, ⟨15, _⟩ => ⟨S8x8x128x128, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S1024x128, .bf16⟩
  | .local _ .vmem, ⟨22, _⟩ => ⟨S1024x128, .f32⟩
  | .local _ .vmem, ⟨23, _⟩ => ⟨S1024x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_4 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_6 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_7 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69_0 : Ref sig .tc := ⟨.hbm, 81, rfl⟩
abbrev main_v69_1 : Ref sig .tc := ⟨.hbm, 82, rfl⟩
abbrev main_v69_2 : Ref sig .tc := ⟨.hbm, 83, rfl⟩
abbrev main_v69_3 : Ref sig .tc := ⟨.hbm, 84, rfl⟩
abbrev main_v69_4 : Ref sig .tc := ⟨.hbm, 85, rfl⟩
abbrev main_v69_5 : Ref sig .tc := ⟨.hbm, 86, rfl⟩
abbrev main_v69_6 : Ref sig .tc := ⟨.hbm, 87, rfl⟩
abbrev main_v69_7 : Ref sig .tc := ⟨.hbm, 88, rfl⟩
abbrev main_v69_8 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x8x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x8x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x8x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S8x4096x1024 : Shape := ⟨3, ![8, 4096, 1024]⟩
abbrev S1x1024 : Shape := ⟨2, ![1, 1024]⟩
abbrev S1x1024x5544 : Shape := ⟨3, ![1, 1024, 5544]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x5544 : Shape := ⟨2, ![1024, 5544]⟩
abbrev S8x4096x5544 : Shape := ⟨3, ![8, 4096, 5544]⟩
abbrev S8x4096x512 : Shape := ⟨3, ![8, 4096, 512]⟩
abbrev S8x4096x64 : Shape := ⟨3, ![8, 4096, 64]⟩
abbrev S8x4096x256 : Shape := ⟨3, ![8, 4096, 256]⟩
abbrev S8x4096x32 : Shape := ⟨3, ![8, 4096, 32]⟩
abbrev S8x4096x8 : Shape := ⟨3, ![8, 4096, 8]⟩
abbrev S8x4096x8x64 : Shape := ⟨4, ![8, 4096, 8, 64]⟩
abbrev S8 : Shape := ⟨1, ![8]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S8x4096x8x8 : Shape := ⟨4, ![8, 4096, 8, 8]⟩
abbrev S8x4096x8x48 : Shape := ⟨4, ![8, 4096, 8, 48]⟩
abbrev S8x4096x1x64 : Shape := ⟨4, ![8, 4096, 1, 64]⟩
abbrev S8x4096x1x8 : Shape := ⟨4, ![8, 4096, 1, 8]⟩
abbrev S8x4096x1x48 : Shape := ⟨4, ![8, 4096, 1, 48]⟩
abbrev S8x4096x8x32 : Shape := ⟨4, ![8, 4096, 8, 32]⟩
abbrev S4 : Shape := ⟨1, ![4]⟩
abbrev S1x4 : Shape := ⟨2, ![1, 4]⟩
abbrev S4096x4 : Shape := ⟨2, ![4096, 4]⟩
abbrev S1x4096x1x4 : Shape := ⟨4, ![1, 4096, 1, 4]⟩
abbrev S8x4096x8x4 : Shape := ⟨4, ![8, 4096, 8, 4]⟩
abbrev S8x4096x8x24 : Shape := ⟨4, ![8, 4096, 8, 24]⟩
abbrev S8x4096x1x32 : Shape := ⟨4, ![8, 4096, 1, 32]⟩
abbrev S8x4096x1x4 : Shape := ⟨4, ![8, 4096, 1, 4]⟩
abbrev S8x4096x1x24 : Shape := ⟨4, ![8, 4096, 1, 24]⟩
abbrev S256x128x8x64 : Shape := ⟨4, ![256, 128, 8, 64]⟩
abbrev S256x8x128x64 : Shape := ⟨4, ![256, 8, 128, 64]⟩
abbrev S1x8x1x1 : Shape := ⟨4, ![1, 8, 1, 1]⟩
abbrev S256x8x128x128 : Shape := ⟨4, ![256, 8, 128, 128]⟩
abbrev S8x4096x88 : Shape := ⟨3, ![8, 4096, 88]⟩
abbrev S8x4096x128 : Shape := ⟨3, ![8, 4096, 128]⟩
abbrev S32768x512 : Shape := ⟨2, ![32768, 512]⟩
abbrev S256x128x8x32 : Shape := ⟨4, ![256, 128, 8, 32]⟩
abbrev S256x8x128x32 : Shape := ⟨4, ![256, 8, 128, 32]⟩
abbrev S256x8x128x96 : Shape := ⟨4, ![256, 8, 128, 96]⟩
abbrev S32768x64 : Shape := ⟨2, ![32768, 64]⟩
abbrev S32768x128 : Shape := ⟨2, ![32768, 128]⟩
abbrev S32768x32 : Shape := ⟨2, ![32768, 32]⟩
abbrev S32768x96 : Shape := ⟨2, ![32768, 96]⟩

abbrev nBuf : Space → Nat
  | .hbm => 258
  | .vmem => 0
  | .smem => 0
  | _ => 0

abbrev hbmTy0_0 (i : Nat) : BufTy := match i % 128 with
  | 0 => ⟨S8x4096x1024, .f32⟩
  | 1 => ⟨S1x1024, .f32⟩
  | 2 => ⟨S1x1024x5544, .f32⟩
  | 3 => ⟨S1024, .f32⟩
  | 4 => ⟨S8x4096x1024, .f32⟩
  | 5 => ⟨S_, .f32⟩
  | 6 => ⟨S8x4096, .f32⟩
  | 7 => ⟨S8x4096x1, .f32⟩
  | 8 => ⟨S_, .f32⟩
  | 9 => ⟨S8x4096x1, .f32⟩
  | 10 => ⟨S8x4096x1, .f32⟩
  | 11 => ⟨S_, .f32⟩
  | 12 => ⟨S8x4096x1, .f32⟩
  | 13 => ⟨S8x4096x1, .f32⟩
  | 14 => ⟨S8x4096x1, .f32⟩
  | 15 => ⟨S8x4096x1024, .f32⟩
  | 16 => ⟨S8x4096x1024, .f32⟩
  | 17 => ⟨S1x1x1024, .f32⟩
  | 18 => ⟨S8x4096x1024, .f32⟩
  | 19 => ⟨S8x4096x1024, .f32⟩
  | 20 => ⟨S1024x5544, .f32⟩
  | 21 => ⟨S8x4096x5544, .f32⟩
  | 22 => ⟨S8x4096x512, .f32⟩
  | 23 => ⟨S8x4096x512, .f32⟩
  | 24 => ⟨S8x4096x512, .f32⟩
  | 25 => ⟨S8x4096x512, .f32⟩
  | 26 => ⟨S8x4096x512, .f32⟩
  | 27 => ⟨S8x4096x64, .f32⟩
  | 28 => ⟨S8x4096x64, .f32⟩
  | 29 => ⟨S8x4096x512, .f32⟩
  | 30 => ⟨S8x4096x256, .f32⟩
  | 31 => ⟨S8x4096x32, .f32⟩
  | 32 => ⟨S8x4096x8, .f32⟩
  | 33 => ⟨S8x4096x1024, .f32⟩
  | 34 => ⟨S8x4096x1024, .f32⟩
  | 35 => ⟨S8x4096x8x64, .f32⟩
  | 36 => ⟨S8, .f32⟩
  | 37 => ⟨S8, .f32⟩
  | 38 => ⟨S_, .f32⟩
  | 39 => ⟨S8, .f32⟩
  | 40 => ⟨S8, .f32⟩
  | 41 => ⟨S_, .f32⟩
  | 42 => ⟨S8, .f32⟩
  | 43 => ⟨S8, .f32⟩
  | 44 => ⟨S4096, .f32⟩
  | 45 => ⟨S4096x1, .f32⟩
  | 46 => ⟨S1x8, .f32⟩
  | 47 => ⟨S4096x8, .f32⟩
  | 48 => ⟨S4096x8, .f32⟩
  | 49 => ⟨S4096x8, .f32⟩
  | 50 => ⟨S4096x8, .f32⟩
  | 51 => ⟨S1x4096x1x8, .f32⟩
  | 52 => ⟨S4096x8, .f32⟩
  | 53 => ⟨S1x4096x1x8, .f32⟩
  | 54 => ⟨S8x4096x8x8, .f32⟩
  | 55 => ⟨S8x4096x8x8, .f32⟩
  | 56 => ⟨S8x4096x8x48, .f32⟩
  | 57 => ⟨S8x4096x8x8, .f32⟩
  | 58 => ⟨S8x4096x8x8, .f32⟩
  | 59 => ⟨S8x4096x8x8, .f32⟩
  | 60 => ⟨S8x4096x8x8, .f32⟩
  | 61 => ⟨S8x4096x8x8, .f32⟩
  | 62 => ⟨S8x4096x8x8, .f32⟩
  | 63 => ⟨S8x4096x8x8, .f32⟩
  | 64 => ⟨S8x4096x8x8, .f32⟩
  | 65 => ⟨S8x4096x8x8, .f32⟩
  | 66 => ⟨S8x4096x8x8, .f32⟩
  | 67 => ⟨S8x4096x8x64, .f32⟩
  | 68 => ⟨S8x4096x1x64, .f32⟩
  | 69 => ⟨S8, .f32⟩
  | 70 => ⟨S8, .f32⟩
  | 71 => ⟨S_, .f32⟩
  | 72 => ⟨S8, .f32⟩
  | 73 => ⟨S8, .f32⟩
  | 74 => ⟨S_, .f32⟩
  | 75 => ⟨S8, .f32⟩
  | 76 => ⟨S8, .f32⟩
  | 77 => ⟨S4096, .f32⟩
  | 78 => ⟨S4096x1, .f32⟩
  | 79 => ⟨S1x8, .f32⟩
  | 80 => ⟨S4096x8, .f32⟩
  | 81 => ⟨S4096x8, .f32⟩
  | 82 => ⟨S4096x8, .f32⟩
  | 83 => ⟨S4096x8, .f32⟩
  | 84 => ⟨S1x4096x1x8, .f32⟩
  | 85 => ⟨S4096x8, .f32⟩
  | 86 => ⟨S1x4096x1x8, .f32⟩
  | 87 => ⟨S8x4096x1x8, .f32⟩
  | 88 => ⟨S8x4096x1x8, .f32⟩
  | 89 => ⟨S8x4096x1x48, .f32⟩
  | 90 => ⟨S8x4096x1x8, .f32⟩
  | 91 => ⟨S8x4096x1x8, .f32⟩
  | 92 => ⟨S8x4096x1x8, .f32⟩
  | 93 => ⟨S8x4096x1x8, .f32⟩
  | 94 => ⟨S8x4096x1x8, .f32⟩
  | 95 => ⟨S8x4096x1x8, .f32⟩
  | 96 => ⟨S8x4096x1x8, .f32⟩
  | 97 => ⟨S8x4096x1x8, .f32⟩
  | 98 => ⟨S8x4096x1x8, .f32⟩
  | 99 => ⟨S8x4096x1x8, .f32⟩
  | 100 => ⟨S8x4096x1x64, .f32⟩
  | 101 => ⟨S8x4096x64, .f32⟩
  | 102 => ⟨S8x4096x8x32, .f32⟩
  | 103 => ⟨S4, .f32⟩
  | 104 => ⟨S4, .f32⟩
  | 105 => ⟨S_, .f32⟩
  | 106 => ⟨S4, .f32⟩
  | 107 => ⟨S4, .f32⟩
  | 108 => ⟨S_, .f32⟩
  | 109 => ⟨S4, .f32⟩
  | 110 => ⟨S4, .f32⟩
  | 111 => ⟨S4096, .f32⟩
  | 112 => ⟨S4096x1, .f32⟩
  | 113 => ⟨S1x4, .f32⟩
  | 114 => ⟨S4096x4, .f32⟩
  | 115 => ⟨S4096x4, .f32⟩
  | 116 => ⟨S4096x4, .f32⟩
  | 117 => ⟨S4096x4, .f32⟩
  | 118 => ⟨S1x4096x1x4, .f32⟩
  | 119 => ⟨S4096x4, .f32⟩
  | 120 => ⟨S1x4096x1x4, .f32⟩
  | 121 => ⟨S8x4096x8x4, .f32⟩
  | 122 => ⟨S8x4096x8x4, .f32⟩
  | 123 => ⟨S8x4096x8x24, .f32⟩
  | 124 => ⟨S8x4096x8x4, .f32⟩
  | 125 => ⟨S8x4096x8x4, .f32⟩
  | 126 => ⟨S8x4096x8x4, .f32⟩
  | 127 => ⟨S8x4096x8x4, .f32⟩
  | _ => ⟨S8x4096x1024, .f32⟩

abbrev hbmTy0_1 (i : Nat) : BufTy := match i % 128 with
  | 0 => ⟨S8x4096x8x4, .f32⟩
  | 1 => ⟨S8x4096x8x4, .f32⟩
  | 2 => ⟨S8x4096x8x4, .f32⟩
  | 3 => ⟨S8x4096x8x4, .f32⟩
  | 4 => ⟨S8x4096x8x4, .f32⟩
  | 5 => ⟨S8x4096x8x4, .f32⟩
  | 6 => ⟨S8x4096x8x32, .f32⟩
  | 7 => ⟨S8x4096x1x32, .f32⟩
  | 8 => ⟨S4, .f32⟩
  | 9 => ⟨S4, .f32⟩
  | 10 => ⟨S_, .f32⟩
  | 11 => ⟨S4, .f32⟩
  | 12 => ⟨S4, .f32⟩
  | 13 => ⟨S_, .f32⟩
  | 14 => ⟨S4, .f32⟩
  | 15 => ⟨S4, .f32⟩
  | 16 => ⟨S4096, .f32⟩
  | 17 => ⟨S4096x1, .f32⟩
  | 18 => ⟨S1x4, .f32⟩
  | 19 => ⟨S4096x4, .f32⟩
  | 20 => ⟨S4096x4, .f32⟩
  | 21 => ⟨S4096x4, .f32⟩
  | 22 => ⟨S4096x4, .f32⟩
  | 23 => ⟨S1x4096x1x4, .f32⟩
  | 24 => ⟨S4096x4, .f32⟩
  | 25 => ⟨S1x4096x1x4, .f32⟩
  | 26 => ⟨S8x4096x1x4, .f32⟩
  | 27 => ⟨S8x4096x1x4, .f32⟩
  | 28 => ⟨S8x4096x1x24, .f32⟩
  | 29 => ⟨S8x4096x1x4, .f32⟩
  | 30 => ⟨S8x4096x1x4, .f32⟩
  | 31 => ⟨S8x4096x1x4, .f32⟩
  | 32 => ⟨S8x4096x1x4, .f32⟩
  | 33 => ⟨S8x4096x1x4, .f32⟩
  | 34 => ⟨S8x4096x1x4, .f32⟩
  | 35 => ⟨S8x4096x1x4, .f32⟩
  | 36 => ⟨S8x4096x1x4, .f32⟩
  | 37 => ⟨S8x4096x1x4, .f32⟩
  | 38 => ⟨S8x4096x1x4, .f32⟩
  | 39 => ⟨S8x4096x1x32, .f32⟩
  | 40 => ⟨S8x4096x32, .f32⟩
  | 41 => ⟨S8x4096x8x64, .f32⟩
  | 42 => ⟨S_, .f32⟩
  | 43 => ⟨S8x4096x8x64, .f32⟩
  | 44 => ⟨S8x4096x8x64, .f32⟩
  | 45 => ⟨S256x128x8x64, .f32⟩
  | 46 => ⟨S256x8x128x64, .f32⟩
  | 47 => ⟨S8, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S8, .i32⟩
  | 55 => ⟨S8, .i32⟩
  | 56 => ⟨S_, .i32⟩
  | 57 => ⟨S8, .i32⟩
  | 58 => ⟨S8, .i1⟩
  | 59 => ⟨S_, .i32⟩
  | 60 => ⟨S8, .i32⟩
  | 61 => ⟨S8, .i1⟩
  | 62 => ⟨S_, .i32⟩
  | 63 => ⟨S_, .i1⟩
  | 64 => ⟨S8, .i1⟩
  | 65 => ⟨S8, .i1⟩
  | 66 => ⟨S8, .i1⟩
  | 67 => ⟨S8, .i32⟩
  | 68 => ⟨S8, .i32⟩
  | 69 => ⟨S8, .i32⟩
  | 70 => ⟨S_, .i32⟩
  | 71 => ⟨S8, .i32⟩
  | 72 => ⟨S8, .i1⟩
  | 73 => ⟨S1x8x1x1, .i1⟩
  | 74 => ⟨S_, .f32⟩
  | 75 => ⟨S_, .f32⟩
  | 76 => ⟨S256x8x128x64, .i1⟩
  | 77 => ⟨S256x8x128x64, .f32⟩
  | 78 => ⟨S256x8x128x64, .f32⟩
  | 79 => ⟨S_, .f32⟩
  | 80 => ⟨S_, .f32⟩
  | 81 => ⟨S256x8x128x64, .i1⟩
  | 82 => ⟨S256x8x128x64, .f32⟩
  | 83 => ⟨S256x8x128x64, .f32⟩
  | 84 => ⟨S256x8x128x128, .f32⟩
  | 85 => ⟨S256x8x128x128, .bf16⟩
  | 86 => ⟨S_, .f32⟩
  | 87 => ⟨S8x4096x8, .f32⟩
  | 88 => ⟨S8x4096x8, .f32⟩
  | 89 => ⟨S_, .f32⟩
  | 90 => ⟨S8x4096x88, .f32⟩
  | 91 => ⟨S_, .f32⟩
  | 92 => ⟨S8x4096x32, .f32⟩
  | 93 => ⟨S8x4096x32, .f32⟩
  | 94 => ⟨S8x4096x128, .f32⟩
  | 95 => ⟨S32768x512, .f32⟩
  | 96 => ⟨S32768x512, .bf16⟩
  | 97 => ⟨S32768x512, .f32⟩
  | 98 => ⟨S32768x512, .bf16⟩
  | 99 => ⟨S_, .f32⟩
  | 100 => ⟨S8x4096x8x64, .f32⟩
  | 101 => ⟨S8x4096x8x64, .f32⟩
  | 102 => ⟨S256x128x8x64, .f32⟩
  | 103 => ⟨S256x8x128x64, .f32⟩
  | 104 => ⟨S_, .f32⟩
  | 105 => ⟨S256x8x128x64, .f32⟩
  | 106 => ⟨S256x8x128x128, .f32⟩
  | 107 => ⟨S256x8x128x128, .bf16⟩
  | 108 => ⟨S256x128x8x32, .f32⟩
  | 109 => ⟨S256x8x128x32, .f32⟩
  | 110 => ⟨S_, .f32⟩
  | 111 => ⟨S256x8x128x96, .f32⟩
  | 112 => ⟨S256x8x128x128, .f32⟩
  | 113 => ⟨S256x8x128x128, .bf16⟩
  | 114 => ⟨S32768x64, .f32⟩
  | 115 => ⟨S_, .f32⟩
  | 116 => ⟨S32768x64, .f32⟩
  | 117 => ⟨S32768x128, .f32⟩
  | 118 => ⟨S32768x128, .bf16⟩
  | 119 => ⟨S32768x64, .f32⟩
  | 120 => ⟨S_, .f32⟩
  | 121 => ⟨S32768x64, .f32⟩
  | 122 => ⟨S32768x128, .f32⟩
  | 123 => ⟨S32768x128, .bf16⟩
  | 124 => ⟨S32768x32, .f32⟩
  | 125 => ⟨S_, .f32⟩
  | 126 => ⟨S32768x96, .f32⟩
  | 127 => ⟨S32768x128, .f32⟩
  | _ => ⟨S8x4096x1024, .f32⟩

abbrev hbmTy0_2 (i : Nat) : BufTy := match i % 128 with
  | 0 => ⟨S32768x128, .bf16⟩
  | 1 => ⟨S32768x128, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_cst_4 : Ref sig .tc := ⟨.hbm, 71, rfl⟩
abbrev main_v63 : Ref sig .tc := ⟨.hbm, 72, rfl⟩
abbrev main_v64 : Ref sig .tc := ⟨.hbm, 73, rfl⟩
abbrev main_cst_5 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_cst_6 : Ref sig .tc := ⟨.hbm, 105, rfl⟩
abbrev main_v95 : Ref sig .tc := ⟨.hbm, 106, rfl⟩
abbrev main_v96 : Ref sig .tc := ⟨.hbm, 107, rfl⟩
abbrev main_cst_7 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_cst_8 : Ref sig .tc := ⟨.hbm, 138, rfl⟩
abbrev main_v126 : Ref sig .tc := ⟨.hbm, 139, rfl⟩
abbrev main_v127 : Ref sig .tc := ⟨.hbm, 140, rfl⟩
abbrev main_cst_9 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_cst_10 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_c : Ref sig .tc := ⟨.hbm, 176, rfl⟩
abbrev main_call0_v0 : Ref sig .tc := ⟨.hbm, 177, rfl⟩
abbrev main_call0_c : Ref sig .tc := ⟨.hbm, 178, rfl⟩
abbrev main_call0_v1 : Ref sig .tc := ⟨.hbm, 179, rfl⟩
abbrev main_call0_c_0 : Ref sig .tc := ⟨.hbm, 180, rfl⟩
abbrev main_call0_v2 : Ref sig .tc := ⟨.hbm, 181, rfl⟩
abbrev main_call0_v3 : Ref sig .tc := ⟨.hbm, 182, rfl⟩
abbrev main_call0_v4 : Ref sig .tc := ⟨.hbm, 183, rfl⟩
abbrev main_call0_c_1 : Ref sig .tc := ⟨.hbm, 184, rfl⟩
abbrev main_call0_v5 : Ref sig .tc := ⟨.hbm, 185, rfl⟩
abbrev main_call0_v6 : Ref sig .tc := ⟨.hbm, 186, rfl⟩
abbrev main_call0_c_2 : Ref sig .tc := ⟨.hbm, 187, rfl⟩
abbrev main_call0_v7 : Ref sig .tc := ⟨.hbm, 188, rfl⟩
abbrev main_call0_v8 : Ref sig .tc := ⟨.hbm, 189, rfl⟩
abbrev main_call0_c_3 : Ref sig .tc := ⟨.hbm, 190, rfl⟩
abbrev main_call0_v9 : Ref sig .tc := ⟨.hbm, 191, rfl⟩
abbrev main_call0_v10 : Ref sig .tc := ⟨.hbm, 192, rfl⟩
abbrev main_call0_v11 : Ref sig .tc := ⟨.hbm, 193, rfl⟩
abbrev main_call0_v12 : Ref sig .tc := ⟨.hbm, 194, rfl⟩
abbrev main_call0_v13 : Ref sig .tc := ⟨.hbm, 195, rfl⟩
abbrev main_call0_v14 : Ref sig .tc := ⟨.hbm, 196, rfl⟩
abbrev main_v161 : Ref sig .tc := ⟨.hbm, 197, rfl⟩
abbrev main_c_11 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_cst_12 : Ref sig .tc := ⟨.hbm, 202, rfl⟩
abbrev main_call1_v0 : Ref sig .tc := ⟨.hbm, 203, rfl⟩
abbrev main_call1_v1 : Ref sig .tc := ⟨.hbm, 204, rfl⟩
abbrev main_call1_v2 : Ref sig .tc := ⟨.hbm, 205, rfl⟩
abbrev main_v165 : Ref sig .tc := ⟨.hbm, 206, rfl⟩
abbrev main_cst_13 : Ref sig .tc := ⟨.hbm, 207, rfl⟩
abbrev main_call2_v0 : Ref sig .tc := ⟨.hbm, 208, rfl⟩
abbrev main_call2_v1 : Ref sig .tc := ⟨.hbm, 209, rfl⟩
abbrev main_call2_v2 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_cst_14 : Ref sig .tc := ⟨.hbm, 214, rfl⟩
abbrev main_v169 : Ref sig .tc := ⟨.hbm, 215, rfl⟩
abbrev main_v170 : Ref sig .tc := ⟨.hbm, 216, rfl⟩
abbrev main_cst_15 : Ref sig .tc := ⟨.hbm, 217, rfl⟩
abbrev main_v171 : Ref sig .tc := ⟨.hbm, 218, rfl⟩
abbrev main_cst_16 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_cst_17 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_cst_18 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_cst_19 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_cst_20 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_cst_21 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_cst_22 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩

abbrev nD : Nat := 1
abbrev τ : Topo := Topo.v7x

variable {F : FTy → Type} [FloatOps F]
-- ==== Kernel4.lean ====
abbrev S256x8x128x128 : Shape := ⟨4, ![256, 8, 128, 128]⟩
abbrev S8x4096x512 : Shape := ⟨3, ![8, 4096, 512]⟩
abbrev S5x8x128x640 : Shape := ⟨4, ![5, 8, 128, 640]⟩
abbrev S2x8x128x128 : Shape := ⟨4, ![2, 8, 128, 128]⟩
abbrev S1x4096x512 : Shape := ⟨3, ![1, 4096, 512]⟩
abbrev S1x8x128x640 : Shape := ⟨4, ![1, 8, 128, 640]⟩
abbrev S1x256x512 : Shape := ⟨3, ![1, 256, 512]⟩
abbrev S2x8x128x640 : Shape := ⟨4, ![2, 8, 128, 640]⟩
abbrev S128x128 : Shape := ⟨2, ![128, 128]⟩
abbrev S1x640x128 : Shape := ⟨3, ![1, 640, 128]⟩
abbrev S640x128 : Shape := ⟨2, ![640, 128]⟩
abbrev S1x1x128x128 : Shape := ⟨4, ![1, 1, 128, 128]⟩
abbrev S128x640 : Shape := ⟨2, ![128, 640]⟩
abbrev S1x1x128x640 : Shape := ⟨4, ![1, 1, 128, 640]⟩
abbrev S128 : Shape := ⟨1, ![128]⟩
abbrev S128x1 : Shape := ⟨2, ![128, 1]⟩
abbrev S1x128x128 : Shape := ⟨3, ![1, 128, 128]⟩

abbrev nBuf : Space → Nat
  | .hbm => 5
  | .vmem => 15
  | .smem => 0
  | _ => 0

abbrev bufTy : (tb : Table) → Fin (tcTables nBuf tb) → BufTy
  | .hbm, ⟨0, _⟩ => ⟨S256x8x128x128, .bf16⟩
  | .hbm, ⟨1, _⟩ => ⟨S8x4096x512, .bf16⟩
  | .hbm, ⟨2, _⟩ => ⟨S8x4096x512, .bf16⟩
  | .hbm, ⟨3, _⟩ => ⟨S5x8x128x640, .f32⟩
  | .hbm, ⟨4, _⟩ => ⟨S8x4096x512, .f32⟩
  | .local _ .vmem, ⟨0, _⟩ => ⟨S2x8x128x128, .bf16⟩
  | .local _ .vmem, ⟨1, _⟩ => ⟨S2x8x128x128, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x8x128x640, .f32⟩
  | .local _ .vmem, ⟨7, _⟩ => ⟨S1x8x128x640, .f32⟩
  | .local _ .vmem, ⟨8, _⟩ => ⟨S1x8x128x640, .f32⟩
  | .local _ .vmem, ⟨9, _⟩ => ⟨S1x8x128x640, .f32⟩
  | .local _ .vmem, ⟨10, _⟩ => ⟨S1x256x512, .f32⟩
  | .local _ .vmem, ⟨11, _⟩ => ⟨S1x256x512, .f32⟩
  | .local _ .vmem, ⟨12, _⟩ => ⟨S2x8x128x640, .f32⟩
  | .local _ .vmem, ⟨13, _⟩ => ⟨S2x8x128x640, .bf16⟩
  | .local _ .vmem, ⟨14, _⟩ => ⟨S2x8x128x128, .f32⟩
  | _, _ => ⟨S256x8x128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c2_i32 : BitVec 32 := 2#32
  let v1 : BitVec 32 := Scalar.muli arg1 c2_i32
  let c0_i32 : BitVec 32 := 0#32
  let v2 : BitVec 32 := Scalar.addi v1 c0_i32
  let c128_i32 : BitVec 32 := 128#32
  let v3 : BitVec 32 := Scalar.muli v2 c128_i32
  let c512_i32 : BitVec 32 := 512#32
  let v4 : BitVec 32 := Scalar.subi v3 c512_i32
  let c0_i32_0 : BitVec 32 := 0#32
  let v5 : BitVec 32 := Scalar.maxsi v4 c0_i32_0
  v5
def k0_mult2 (i : grid0.Coords) : BitVec 32 :=
  let arg1 : BitVec 32 := BitVec.ofNat 32 (i 1).val
  let c2_i32_1 : BitVec 32 := 2#32
  let v7 : BitVec 32 := Scalar.muli arg1 c2_i32_1
  let c1_i32 : BitVec 32 := 1#32
  let v8 : BitVec 32 := Scalar.addi v7 c1_i32
  let c128_i32_2 : BitVec 32 := 128#32
  let v9 : BitVec 32 := Scalar.muli v8 c128_i32_2
  let c512_i32_3 : BitVec 32 := 512#32
  let v10 : BitVec 32 := Scalar.subi v9 c512_i32_3
  let c0_i32_4 : BitVec 32 := 0#32
  let v11 : BitVec 32 := Scalar.maxsi v10 c0_i32_4
  v11
def k0_off1 (i : grid0.Coords) (c0_i32 : BitVec 32) : Fin 3 → Nat :=
  let c0 : Index := 0#32
  let arg1 : BitVec 32 := BitVec.ofNat 32 (i 1).val
  let c2_i32 : BitVec 32 := 2#32
  let v1 : BitVec 32 := Scalar.muli arg1 c2_i32
  let v2 : BitVec 32 := Scalar.addi v1 c0_i32
  let c128_i32 : BitVec 32 := 128#32
  let v3 : BitVec 32 := Scalar.muli v2 c128_i32
  let c512_i32 : BitVec 32 := 512#32
  let v4 : BitVec 32 := Scalar.subi v3 c512_i32
  let c0_i32_0 : BitVec 32 := 0#32
  let v5 : BitVec 32 := Scalar.maxsi v4 c0_i32_0
  let v6 : BitVec 32 := v5
  let v13 : Index := Scalar.indexCast v6
  let c0_5 : Index := 0#32
  ![0, v13.toNat, 0]
def k0_off2 (i : grid0.Coords) (c0_i32 : BitVec 32) : Fin 3 → Nat :=
  let c0_32 : Index := 0#32
  let arg1 : BitVec 32 := BitVec.ofNat 32 (i 1).val
  let c2_i32 : BitVec 32 := 2#32
  let v1 : BitVec 32 := Scalar.muli arg1 c2_i32
  let v2 : BitVec 32 := Scalar.addi v1 c0_i32
  let c128_i32 : BitVec 32 := 128#32
  let v3 : BitVec 32 := Scalar.muli v2 c128_i32
  let c512_i32 : BitVec 32 := 512#32
  let v4 : BitVec 32 := Scalar.subi v3 c512_i32
  let c0_i32_0 : BitVec 32 := 0#32
  let v5 : BitVec 32 := Scalar.maxsi v4 c0_i32_0
  let v6 : BitVec 32 := v5
  let v37 : Index := Scalar.indexCast v6
  let c128 : Index := 128#32
  ![0, v37.toNat, 128]
def k0_off3 (i : grid0.Coords) (c0_i32 : BitVec 32) : Fin 3 → Nat :=
  let c0_59 : Index := 0#32
  let arg1 : BitVec 32 := BitVec.ofNat 32 (i 1).val
  let c2_i32 : BitVec 32 := 2#32
  let v1 : BitVec 32 := Scalar.muli arg1 c2_i32
  let v2 : BitVec 32 := Scalar.addi v1 c0_i32
  let c128_i32 : BitVec 32 := 128#32
  let v3 : BitVec 32 := Scalar.muli v2 c128_i32
  let c512_i32 : BitVec 32 := 512#32
  let v4 : BitVec 32 := Scalar.subi v3 c512_i32
  let c0_i32_0 : BitVec 32 := 0#32
  let v5 : BitVec 32 := Scalar.maxsi v4 c0_i32_0
  let v6 : BitVec 32 := v5
  let v61 : Index := Scalar.indexCast v6
  let c256 : Index := 256#32
  ![0, v61.toNat, 256]
def k0_off4 (i : grid0.Coords) (c0_i32 : BitVec 32) : Fin 3 → Nat :=
  let c0_86 : Index := 0#32
  let arg1 : BitVec 32 := BitVec.ofNat 32 (i 1).val
  let c2_i32 : BitVec 32 := 2#32
  let v1 : BitVec 32 := Scalar.muli arg1 c2_i32
  let v2 : BitVec 32 := Scalar.addi v1 c0_i32
  let c128_i32 : BitVec 32 := 128#32
  let v3 : BitVec 32 := Scalar.muli v2 c128_i32
  let c512_i32 : BitVec 32 := 512#32
  let v4 : BitVec 32 := Scalar.subi v3 c512_i32
  let c0_i32_0 : BitVec 32 := 0#32
  let v5 : BitVec 32 := Scalar.maxsi v4 c0_i32_0
  let v6 : BitVec 32 := v5
  let v85 : Index := Scalar.indexCast v6
  let c384 : Index := 384#32
  ![0, v85.toNat, 384]
def cc0_transform_0 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c4_i32 : BitVec 32 := 4#32
  let v1 : BitVec 32 := Scalar.minsi v0 c4_i32
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c4_i32 : BitVec 32 := 4#32
  let v2 : BitVec 32 := Scalar.minsi v1 c4_i32
  let c0_i32 : BitVec 32 := 0#32
  let c0_i32_0 : BitVec 32 := 0#32
  let c0_i32_1 : BitVec 32 := 0#32
  let c0_i32_2 : BitVec 32 := 0#32
  ![v2.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x8x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8x128x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Proof.Safe.lean ====
/-
  Programs that only move data between memrefs a core holds: a program is `Safe` for an assertion `P` when it runs from `P`
  back to `P`, whatever values it reads and writes on the way. One lemma per program form (return, sequence, load, store,
  branch, counted loop); a body built of these forms alone is safe by going through its text once.
-/
module

public import Idealize.ShloMosaic.Lib.Scf
public import Idealize.ShloMosaic.Lib.Tactic
public import Idealize.ShloMosaic.Lib.Exec
public import Idealize.ShloMosaic.Lib.Pipeline.Kit

@[expose] public section

noncomputable section

namespace Cert.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}

local notation "𝕄" => MT nD τ sig Unit Val ℕ U ℕ

/-- The memref `m` of core `c`, held whole at some contents. -/
def Held (c : Dev nD) {sp : Space} {s : Shape} {e : EltTy} (m : Memref sig .tc sp s e) : sProp 𝕄 :=
  iprop(∃ X : s.Idx → Val e, owns (c.tc : Thread nD τ) m fullShare X)

/-- The assertion `P` has the memref `m` in it: it can be taken out at some contents and put back at any. -/
structure Has (c : Dev nD) (P : sProp 𝕄) {sp : Space} {s : Shape} {e : EltTy} (m : Memref sig .tc sp s e) : Prop where
  get : P ⊢ iprop(Held c m ∗ (Held c m -∗ P))

/-- The program runs from `P` to its return with `P` again, whatever it returns. -/
structure Safe (defs : Defs nD τ sig Val Λ) (𝒱 : Variants) (c : Dev nD) (P : sProp 𝕄) {α : Type}
    (p : Prog (TpuEff nD τ sig Val Λ .tc) α) : Prop where
  run : P ⊢ wp frame (wpE defs 𝒱 (c.tc : Thread nD τ) none) Set.univ p (fun _ => P)

variable {defs : Defs nD τ sig Val Λ} {𝒱 : Variants} {c : Dev nD} {P : sProp (MT nD τ sig Unit Val ℕ U ℕ)} {α β : Type}

theorem safe_pure (a : α) : Safe (U := U) defs 𝒱 c P (pure a : Prog (TpuEff nD τ sig Val Λ .tc) α) := by
  constructor
  change _ ⊢ wp frame _ Set.univ (Prog.ret a) _
  rw [wp_ret]
  iintro H; imodintro; iexact H

theorem safe_bind {p : Prog (TpuEff nD τ sig Val Λ .tc) α} {k : α → Prog (TpuEff nD τ sig Val Λ .tc) β}
    (hp : Safe (U := U) defs 𝒱 c P p) (hk : ∀ a, Safe (U := U) defs 𝒱 c P (k a)) : Safe (U := U) defs 𝒱 c P (p >>= k) := by
  constructor
  rw [wp_bind]
  exact hp.run.trans (wp_mono _ _ _ fun a => (hk a).run)

theorem safe_load {sp : CoreSpace} {s : Shape} {e : EltTy} {m : Memref sig .tc sp s e} (hm : Has (τ := τ) (Val := Val) (U := U) c P m)
    {r : LoadRect s} {hl : m.view.LoadsAt r} :
    Safe (U := U) defs 𝒱 c P (Prog.lift (.load m r hl)) := by
  constructor; unfold Prog.lift
  obtain ⟨hm⟩ := hm
  iintro H
  ihave H := hm $$ H
  unfold Held owns
  icases H with ⟨⟨%X, %f, %hf, H⟩, Hk⟩
  iapply (wp_load 𝒱 (c.tc : Thread nD τ) none Set.univ (View.setOn_subset_set _ r.set)) $$ H
  iintro H
  rw [wp_ret]; imodintro
  iapply Hk
  iexists X; iexists f
  isplitr; · ipureintro; exact hf
  iexact H

theorem safe_store {sp : CoreSpace} {s : Shape} {e : EltTy} {m : Memref sig .tc sp s e} (hm : Has (τ := τ) (Val := Val) (U := U) c P m)
    {r : Rect s} {w : r.shape.Idx → Val e} {Mk : Finset r.shape.Idx} {hx : (m.access r).Stores Mk}
    {hM : Mk = Finset.univ ∨ ∀ a, r.stride a = 1} :
    Safe (U := U) defs 𝒱 c P (Prog.lift (.store m r w Mk hx hM)) := by
  constructor; unfold Prog.lift
  obtain ⟨hm⟩ := hm
  iintro H
  ihave H := hm $$ H
  unfold Held owns
  icases H with ⟨⟨%X, %f, %hf, H⟩, Hk⟩
  iapply (wp_store 𝒱 (c.tc : Thread nD τ) none Set.univ (k := fun x => Prog.ret x)
    ((Memref.setOn_access_subset_setOn m r Mk).trans (View.setOn_subset_set _ _))) $$ H
  iintro H
  rw [wp_ret]; imodintro
  iapply Hk
  iexists m.view.read Val ((m.access r).write Val f w Mk); iexists _
  isplitr; · ipureintro; rfl
  iexact H

theorem safe_dite {q : Prop} [Decidable q] {a : q → Prog (TpuEff nD τ sig Val Λ .tc) α} {b : ¬q → Prog (TpuEff nD τ sig Val Λ .tc) α}
    (ha : ∀ h, Safe (U := U) defs 𝒱 c P (a h)) (hb : ∀ h, Safe (U := U) defs 𝒱 c P (b h)) : Safe (U := U) defs 𝒱 c P (if h : q then a h else b h) := by
  split
  · exact ha _
  · exact hb _

theorem safe_for {w : Nat} {σ : Type} (l : Scf.Loop w) (hok : l.OK) (init : σ) {body : Fin l.trips → σ → Prog (TpuEff nD τ sig Val Λ .tc) σ}
    (hb : ∀ k acc, Safe (U := U) defs 𝒱 c P (body k acc)) : Safe (U := U) defs 𝒱 c P (Scf.Loop.for l hok init body) := by
  constructor
  refine BIBase.Entails.trans ?_ (Scf.wp_for frame _ Set.univ l.lb l.ub l.st hok init body (fun _ _ => P) fun k acc => (hb k acc).run)
  iintro H
  isplitl [H]; · iexact H
  iintro %acc H; iexact H

/-! ### Finding a memref in an assertion -/

theorem has_self {sp : Space} {s : Shape} {e : EltTy} {m : Memref sig .tc sp s e} :
    Has (τ := τ) (Val := Val) (U := U) c (Held c m) m := by
  constructor
  iintro H
  isplitl [H]; · iexact H
  iintro H; iexact H

theorem has_left {A B : sProp (MT nD τ sig Unit Val ℕ U ℕ)} {sp : Space} {s : Shape} {e : EltTy} {m : Memref sig .tc sp s e}
    (h : Has c A m) : Has c iprop(A ∗ B) m := by
  obtain ⟨h⟩ := h
  constructor
  iintro ⟨HA, HB⟩
  ihave H := h $$ HA
  icases H with ⟨Hm, Hk⟩
  isplitl [Hm]; · iexact Hm
  iintro Hm
  isplitl [Hm Hk]
  · iapply Hk; iexact Hm
  iexact HB

theorem has_right {A B : sProp (MT nD τ sig Unit Val ℕ U ℕ)} {sp : Space} {s : Shape} {e : EltTy} {m : Memref sig .tc sp s e}
    (h : Has c B m) : Has c iprop(A ∗ B) m := by
  obtain ⟨h⟩ := h
  constructor
  iintro ⟨HA, HB⟩
  ihave H := h $$ HB
  icases H with ⟨Hm, Hk⟩
  isplitl [Hm]; · iexact Hm
  iintro Hm
  isplitl [HA]; · iexact HA
  iapply Hk; iexact Hm

theorem forall_psigma {α : Sort*} {β : α → Sort*} {p : (Σ' a, β a) → Prop} (h : ∀ a b, p ⟨a, b⟩) : ∀ x, p x :=
  fun ⟨a, b⟩ => h a b

end Cert.Safe

end
-- ==== Proof.B578.lean ====
module

public import proofs.«01_k».proof.Proof.Gen.Kernel
public import proofs.«01_k».proof.Proof.Safe

@[expose] public section

set_option maxRecDepth 16384
set_option maxHeartbeats 20000000

noncomputable section

namespace Cert.Proof.AttnB

open Cert.Kernel Cert.Kernel.Gen Cert.Safe
open Idealize.ShloMosaic Idealize.ShloMosaic.TcCoe
open Idealize.SL Idealize.SL.RA Idealize.SL.BI Idealize.SL.Sem

variable {F : FTy → Type} [BitOps F]

variable {U : Type} [URA U] (𝒱 : Variants) (c : Dev nD) (P : sProp (MT nD τ sig Unit (Elt F) ℕ U ℕ)) (i : grid0.Coords)
  (arg2 : Memref sig .tc .vmem S1x8x128x128 .bf16) (harg2 : arg2.IsWhole) (arg3 : Memref sig .tc .vmem S1x8x128x128 .bf16) (harg3 : arg3.IsWhole)
  (arg4 : Memref sig .tc .vmem S1x128x128 .f32) (harg4 : arg4.IsWhole) (arg5 : Memref sig .tc .vmem S1x4096x128 .bf16) (harg5 : arg5.IsWhole)
  (arg6 : Memref sig .tc .vmem S1x4096x128 .bf16) (harg6 : arg6.IsWhole) (arg7 : Memref sig .tc .vmem S1x4096x128 .bf16) (harg7 : arg7.IsWhole)
  (arg8 : Memref sig .tc .vmem S1x128x512 .f32) (harg8 : arg8.IsWhole) (arg9 : Memref sig .tc .vmem S4096x128 .f32) (harg9 : arg9.IsWhole)
  (arg10 : Memref sig .tc .vmem S32x128x128 .i32) (harg10 : arg10.IsWhole) (arg11 : Memref sig .tc .vmem S8x128 .f32) (harg11 : arg11.IsWhole)
  (arg12 : Memref sig .tc .vmem S16x1024x256 .f32) (harg12 : arg12.IsWhole) (arg13 : Memref sig .tc .vmem S1024x128 .f32) (harg13 : arg13.IsWhole)
  (arg14 : Memref sig .tc .vmem S1024x128 .f32) (harg14 : arg14.IsWhole)
  (h2 : Has c P arg2) (h3 : Has c P arg3) (h4 : Has c P arg4) (h5 : Has c P arg5) (h6 : Has c P arg6) (h7 : Has c P arg7) (h8 : Has c P arg8)
  (h9 : Has c P arg9) (h10 : Has c P arg10) (h11 : Has c P arg11) (h12 : Has c P arg12) (h13 : Has c P arg13) (h14 : Has c P arg14)

include h2 h3 h4 h5 h6 h7 h8 h9 h10 h11 h12 h13 h14

theorem s578 (v18 v27 v30 v31 v32 v33) : Safe (U := U) (defs₀ (F := F)) 𝒱 c P (k0_part578 i arg2 harg2 arg3 harg3 arg4 harg4 arg5 harg5 arg6 harg6 arg7 harg7 arg8 harg8 arg9 harg9 arg10 harg10 arg11 harg11 arg12 harg12 arg13 harg13 arg14 harg14 v18 v27 v30 v31 v32 v33) := by
  repeat' first
    | with_reducible apply safe_bind
    | with_reducible apply safe_pure
    | with_reducible apply safe_load
    | with_reducible apply safe_store
    | with_reducible assumption
    | with_reducible apply safe_dite
    | with_reducible apply safe_for
    | with_reducible apply forall_psigma
    | intro _
    | apply safe_bind
    | apply safe_pure
    | apply safe_load
    | apply safe_store
    | apply safe_dite

end Cert.Proof.AttnB
end
-- ==== Proof.B579.lean ====
module

public import proofs.«01_k».proof.Proof.Gen.Kernel
public import proofs.«01_k».proof.Proof.Safe

@[expose] public section

set_option maxRecDepth 16384
set_option maxHeartbeats 20000000

noncomputable section

namespace Cert.Proof.AttnB

open Cert.Kernel Cert.Kernel.Gen Cert.Safe
open Idealize.ShloMosaic Idealize.ShloMosaic.TcCoe
open Idealize.SL Idealize.SL.RA Idealize.SL.BI Idealize.SL.Sem

variable {F : FTy → Type} [BitOps F]

variable {U : Type} [URA U] (𝒱 : Variants) (c : Dev nD) (P : sProp (MT nD τ sig Unit (Elt F) ℕ U ℕ)) (i : grid0.Coords)
  (arg2 : Memref sig .tc .vmem S1x8x128x128 .bf16) (harg2 : arg2.IsWhole) (arg3 : Memref sig .tc .vmem S1x8x128x128 .bf16) (harg3 : arg3.IsWhole)
  (arg4 : Memref sig .tc .vmem S1x128x128 .f32) (harg4 : arg4.IsWhole) (arg5 : Memref sig .tc .vmem S1x4096x128 .bf16) (harg5 : arg5.IsWhole)
  (arg6 : Memref sig .tc .vmem S1x4096x128 .bf16) (harg6 : arg6.IsWhole) (arg7 : Memref sig .tc .vmem S1x4096x128 .bf16) (harg7 : arg7.IsWhole)
  (arg8 : Memref sig .tc .vmem S1x128x512 .f32) (harg8 : arg8.IsWhole) (arg9 : Memref sig .tc .vmem S4096x128 .f32) (harg9 : arg9.IsWhole)
  (arg10 : Memref sig .tc .vmem S32x128x128 .i32) (harg10 : arg10.IsWhole) (arg11 : Memref sig .tc .vmem S8x128 .f32) (harg11 : arg11.IsWhole)
  (arg12 : Memref sig .tc .vmem S16x1024x256 .f32) (harg12 : arg12.IsWhole) (arg13 : Memref sig .tc .vmem S1024x128 .f32) (harg13 : arg13.IsWhole)
  (arg14 : Memref sig .tc .vmem S1024x128 .f32) (harg14 : arg14.IsWhole)
  (h2 : Has c P arg2) (h3 : Has c P arg3) (h4 : Has c P arg4) (h5 : Has c P arg5) (h6 : Has c P arg6) (h7 : Has c P arg7) (h8 : Has c P arg8)
  (h9 : Has c P arg9) (h10 : Has c P arg10) (h11 : Has c P arg11) (h12 : Has c P arg12) (h13 : Has c P arg13) (h14 : Has c P arg14)

include h2 h3 h4 h5 h6 h7 h8 h9 h10 h11 h12 h13 h14

theorem s579 (v0 v18 v27 v30 v31 v41 c4 v68) : Safe (U := U) (defs₀ (F := F)) 𝒱 c P (k0_part579 i arg2 harg2 arg3 harg3 arg4 harg4 arg5 harg5 arg6 harg6 arg7 harg7 arg8 harg8 arg9 harg9 arg10 harg10 arg11 harg11 arg12 harg12 arg13 harg13 arg14 harg14 v0 v18 v27 v30 v31 v41 c4 v68) := by
  repeat' first
    | with_reducible apply safe_bind
    | with_reducible apply safe_pure
    | with_reducible apply safe_load
    | with_reducible apply safe_store
    | with_reducible assumption
    | with_reducible apply safe_dite
    | with_reducible apply safe_for
    | with_reducible apply forall_psigma
    | intro _
    | apply safe_bind
    | apply safe_pure
    | apply safe_load
    | apply safe_store
    | apply safe_dite

end Cert.Proof.AttnB
end
-- ==== Proof.B580.lean ====
module

public import proofs.«01_k».proof.Proof.Gen.Kernel
public import proofs.«01_k».proof.Proof.Safe

@[expose] public section

set_option maxRecDepth 16384
set_option maxHeartbeats 20000000

noncomputable section

namespace Cert.Proof.AttnB

open Cert.Kernel Cert.Kernel.Gen Cert.Safe
open Idealize.ShloMosaic Idealize.ShloMosaic.TcCoe
open Idealize.SL Idealize.SL.RA Idealize.SL.BI Idealize.SL.Sem

variable {F : FTy → Type} [BitOps F]

variable {U : Type} [URA U] (𝒱 : Variants) (c : Dev nD) (P : sProp (MT nD τ sig Unit (Elt F) ℕ U ℕ)) (i : grid0.Coords)
  (arg2 : Memref sig .tc .vmem S1x8x128x128 .bf16) (harg2 : arg2.IsWhole) (arg3 : Memref sig .tc .vmem S1x8x128x128 .bf16) (harg3 : arg3.IsWhole)
  (arg4 : Memref sig .tc .vmem S1x128x128 .f32) (harg4 : arg4.IsWhole) (arg5 : Memref sig .tc .vmem S1x4096x128 .bf16) (harg5 : arg5.IsWhole)
  (arg6 : Memref sig .tc .vmem S1x4096x128 .bf16) (harg6 : arg6.IsWhole) (arg7 : Memref sig .tc .vmem S1x4096x128 .bf16) (harg7 : arg7.IsWhole)
  (arg8 : Memref sig .tc .vmem S1x128x512 .f32) (harg8 : arg8.IsWhole) (arg9 : Memref sig .tc .vmem S4096x128 .f32) (harg9 : arg9.IsWhole)
  (arg10 : Memref sig .tc .vmem S32x128x128 .i32) (harg10 : arg10.IsWhole) (arg11 : Memref sig .tc .vmem S8x128 .f32) (harg11 : arg11.IsWhole)
  (arg12 : Memref sig .tc .vmem S16x1024x256 .f32) (harg12 : arg12.IsWhole) (arg13 : Memref sig .tc .vmem S1024x128 .f32) (harg13 : arg13.IsWhole)
  (arg14 : Memref sig .tc .vmem S1024x128 .f32) (harg14 : arg14.IsWhole)
  (h2 : Has c P arg2) (h3 : Has c P arg3) (h4 : Has c P arg4) (h5 : Has c P arg5) (h6 : Has c P arg6) (h7 : Has c P arg7) (h8 : Has c P arg8)
  (h9 : Has c P arg9) (h10 : Has c P arg10) (h11 : Has c P arg11) (h12 : Has c P arg12) (h13 : Has c P arg13) (h14 : Has c P arg14)

include h2 h3 h4 h5 h6 h7 h8 h9 h10 h11 h12 h13 h14

theorem s580 (v18 v24 v31 v102) : Safe (U := U) (defs₀ (F := F)) 𝒱 c P (k0_part580 i arg2 harg2 arg3 harg3 arg4 harg4 arg5 harg5 arg6 harg6 arg7 harg7 arg8 harg8 arg9 harg9 arg10 harg10 arg11 harg11 arg12 harg12 arg13 harg13 arg14 harg14 v18 v24 v31 v102) := by
  repeat' first
    | with_reducible apply safe_bind
    | with_reducible apply safe_pure
    | with_reducible apply safe_load
    | with_reducible apply safe_store
    | with_reducible assumption
    | with_reducible apply safe_dite
    | with_reducible apply safe_for
    | with_reducible apply forall_psigma
    | intro _
    | apply safe_bind
    | apply safe_pure
    | apply safe_load
    | apply safe_store
    | apply safe_dite

end Cert.Proof.AttnB
end
-- ==== Proof.B581.lean ====
module

public import proofs.«01_k».proof.Proof.Gen.Kernel
public import proofs.«01_k».proof.Proof.Safe

@[expose] public section

set_option maxRecDepth 16384
set_option maxHeartbeats 20000000

noncomputable section

namespace Cert.Proof.AttnB

open Cert.Kernel Cert.Kernel.Gen Cert.Safe
open Idealize.ShloMosaic Idealize.ShloMosaic.TcCoe
open Idealize.SL Idealize.SL.RA Idealize.SL.BI Idealize.SL.Sem

variable {F : FTy → Type} [BitOps F]

variable {U : Type} [URA U] (𝒱 : Variants) (c : Dev nD) (P : sProp (MT nD τ sig Unit (Elt F) ℕ U ℕ)) (i : grid0.Coords)
  (arg2 : Memref sig .tc .vmem S1x8x128x128 .bf16) (harg2 : arg2.IsWhole) (arg3 : Memref sig .tc .vmem S1x8x128x128 .bf16) (harg3 : arg3.IsWhole)
  (arg4 : Memref sig .tc .vmem S1x128x128 .f32) (harg4 : arg4.IsWhole) (arg5 : Memref sig .tc .vmem S1x4096x128 .bf16) (harg5 : arg5.IsWhole)
  (arg6 : Memref sig .tc .vmem S1x4096x128 .bf16) (harg6 : arg6.IsWhole) (arg7 : Memref sig .tc .vmem S1x4096x128 .bf16) (harg7 : arg7.IsWhole)
  (arg8 : Memref sig .tc .vmem S1x128x512 .f32) (harg8 : arg8.IsWhole) (arg9 : Memref sig .tc .vmem S4096x128 .f32) (harg9 : arg9.IsWhole)
  (arg10 : Memref sig .tc .vmem S32x128x128 .i32) (harg10 : arg10.IsWhole) (arg11 : Memref sig .tc .vmem S8x128 .f32) (harg11 : arg11.IsWhole)
  (arg12 : Memref sig .tc .vmem S16x1024x256 .f32) (harg12 : arg12.IsWhole) (arg13 : Memref sig .tc .vmem S1024x128 .f32) (harg13 : arg13.IsWhole)
  (arg14 : Memref sig .tc .vmem S1024x128 .f32) (harg14 : arg14.IsWhole)
  (h2 : Has c P arg2) (h3 : Has c P arg3) (h4 : Has c P arg4) (h5 : Has c P arg5) (h6 : Has c P arg6) (h7 : Has c P arg7) (h8 : Has c P arg8)
  (h9 : Has c P arg9) (h10 : Has c P arg10) (h11 : Has c P arg11) (h12 : Has c P arg12) (h13 : Has c P arg13) (h14 : Has c P arg14)

include h2 h3 h4 h5 h6 h7 h8 h9 h10 h11 h12 h13 h14

theorem s581 (v18 v24 v107 v109 v110 v136 c1) : Safe (U := U) (defs₀ (F := F)) 𝒱 c P (k0_part581 i arg2 harg2 arg3 harg3 arg4 harg4 arg5 harg5 arg6 harg6 arg7 harg7 arg8 harg8 arg9 harg9 arg10 harg10 arg11 harg11 arg12 harg12 arg13 harg13 arg14 harg14 v18 v24 v107 v109 v110 v136 c1) := by
  repeat' first
    | with_reducible apply safe_bind
    | with_reducible apply safe_pure
    | with_reducible apply safe_load
    | with_reducible apply safe_store
    | with_reducible assumption
    | with_reducible apply safe_dite
    | with_reducible apply safe_for
    | with_reducible apply forall_psigma
    | intro _
    | apply safe_bind
    | apply safe_pure
    | apply safe_load
    | apply safe_store
    | apply safe_dite

end Cert.Proof.AttnB
end
-- ==== Proof.BBody.lean ====
module

public import proofs.«01_k».proof.Proof.Gen.Kernel
public import proofs.«01_k».proof.Proof.B578
public import proofs.«01_k».proof.Proof.B579
public import proofs.«01_k».proof.Proof.B580
public import proofs.«01_k».proof.Proof.B581

@[expose] public section

set_option maxRecDepth 16384
set_option maxHeartbeats 20000000

noncomputable section

namespace Cert.Proof.AttnB

open Cert.Kernel Cert.Kernel.Gen Cert.Safe
open Idealize.ShloMosaic Idealize.ShloMosaic.TcCoe
open Idealize.SL Idealize.SL.RA Idealize.SL.BI Idealize.SL.Sem

variable {F : FTy → Type} [BitOps F]

variable {U : Type} [URA U] (𝒱 : Variants) (c : Dev nD) (P : sProp (MT nD τ sig Unit (Elt F) ℕ U ℕ)) (i : grid0.Coords)
  (arg2 : Memref sig .tc .vmem S1x8x128x128 .bf16) (harg2 : arg2.IsWhole) (arg3 : Memref sig .tc .vmem S1x8x128x128 .bf16) (harg3 : arg3.IsWhole)
  (arg4 : Memref sig .tc .vmem S1x128x128 .f32) (harg4 : arg4.IsWhole) (arg5 : Memref sig .tc .vmem S1x4096x128 .bf16) (harg5 : arg5.IsWhole)
  (arg6 : Memref sig .tc .vmem S1x4096x128 .bf16) (harg6 : arg6.IsWhole) (arg7 : Memref sig .tc .vmem S1x4096x128 .bf16) (harg7 : arg7.IsWhole)
  (arg8 : Memref sig .tc .vmem S1x128x512 .f32) (harg8 : arg8.IsWhole) (arg9 : Memref sig .tc .vmem S4096x128 .f32) (harg9 : arg9.IsWhole)
  (arg10 : Memref sig .tc .vmem S32x128x128 .i32) (harg10 : arg10.IsWhole) (arg11 : Memref sig .tc .vmem S8x128 .f32) (harg11 : arg11.IsWhole)
  (arg12 : Memref sig .tc .vmem S16x1024x256 .f32) (harg12 : arg12.IsWhole) (arg13 : Memref sig .tc .vmem S1024x128 .f32) (harg13 : arg13.IsWhole)
  (arg14 : Memref sig .tc .vmem S1024x128 .f32) (harg14 : arg14.IsWhole)
  (h2 : Has c P arg2) (h3 : Has c P arg3) (h4 : Has c P arg4) (h5 : Has c P arg5) (h6 : Has c P arg6) (h7 : Has c P arg7) (h8 : Has c P arg8)
  (h9 : Has c P arg9) (h10 : Has c P arg10) (h11 : Has c P arg11) (h12 : Has c P arg12) (h13 : Has c P arg13) (h14 : Has c P arg14)

include h2 h3 h4 h5 h6 h7 h8 h9 h10 h11 h12 h13 h14

theorem safe_body : Safe (U := U) (defs₀ (F := F)) 𝒱 c P (cc0_attn_b i arg2 harg2 arg3 harg3 arg4 harg4 arg5 harg5 arg6 harg6 arg7 harg7 arg8 harg8 arg9 harg9 arg10 harg10 arg11 harg11 arg12 harg12 arg13 harg13 arg14 harg14) := by
  repeat' first
    | with_reducible apply s578
    | with_reducible apply s579
    | with_reducible apply s580
    | with_reducible apply s581
    | with_reducible apply safe_bind
    | with_reducible apply safe_pure
    | with_reducible apply safe_load
    | with_reducible apply safe_store
    | with_reducible assumption
    | with_reducible apply safe_dite
    | with_reducible apply safe_for
    | with_reducible apply forall_psigma
    | intro _
    | apply safe_bind
    | apply safe_pure
    | apply safe_load
    | apply safe_store
    | apply safe_dite

end Cert.Proof.AttnB
end
-- ==== Proof.AttnRun.lean ====
/-
  The attention-B call runs, leaves its arguments as they were, and every counter is back at zero. Nothing is said of what it
  computes: each staging buffer and each scratch buffer is held at some contents before and after every grid point.
-/
module

public import proofs.«01_k».proof.Defs
public import proofs.«01_k».proof.Proof.BBody
public import proofs.«01_k».proof.Proof.Gen.Kernel.Launch
public import proofs.«01_k».proof.Proof.Gen.Kernel.Points
public import proofs.«01_k».proof.Proof.Gen.Kernel.Frame

@[expose] public section

set_option maxRecDepth 16384

noncomputable section

namespace Cert.Proof.AttnB

open Cert.Kernel Cert.Kernel.Gen Cert.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [BitOps F]

/-- No operation of the body needs a bound on its calls. -/
abbrev 𝒱₀ : Variants := Variants.none

/-- The call's proof data: the arrays as launched, and a body that may leave anything in its staging buffers. -/
def rdat (m : (ℓ : Loc nD τ sig) → Buf (Elt F) ℓ) (c : Dev nD) : RDat τ (Elt F) Unit ℕ (UR sig nD τ) ℕ cfg0 c where
  A w := Gen.V m c (Pipeline.arrRef spec0 w)
  after _ _ _ _ := True
  Φ _ := Pipeline.ΦA spec0 c
  q _ := fullShare
  owed _ := 0

/-- The buffers the body works in at point `t`: the seven windows' staging buffers and the six scratch buffers. -/
abbrev bufs (c : Dev nD) (t : Fin cfg0.N) : sProp (MT nD τ sig Unit (Elt F) ℕ (UR sig nD τ) ℕ) :=
  iprop(Held c (st0_0 t) ∗ Held c (st0_1 t) ∗ Held c (st0_2 t) ∗ Held c (st0_3 t) ∗ Held c (st0_4 t) ∗ Held c (st0_5 t) ∗ Held c (st0_6 t)
    ∗ Held c (Memref.whole cc0_scratch0) ∗ Held c (Memref.whole cc0_scratch1) ∗ Held c (Memref.whole cc0_scratch2)
    ∗ Held c (Memref.whole cc0_scratch3) ∗ Held c (Memref.whole cc0_scratch4) ∗ Held c (Memref.whole cc0_scratch5))

theorem safe_bodyAt (c : Dev nD) (t : Fin cfg0.N) :
    Safe (U := UR sig nD τ) (defs₀ (F := F)) 𝒱₀ c (bufs c t) (bodyAt0 (F := F) t) := by
  unfold bodyAt0
  apply safe_body
  all_goals repeat' first
    | exact has_self
    | exact has_left has_self
    | apply has_right

theorem defs₀_row (t : Fin cfg0.N) : defs₀ (F := F) .tc cfg0.body (cfg0.bodyArgs t (cfg0.slots t)) = bodyAt0 t := by
  unfold defs₀; rw [Defs.onTc_tc]

theorem held_whole (c : Dev nD) (b : Ref sig .tc) :
    (Held c (Memref.whole b) : sProp (MT nD τ sig Unit (Elt F) ℕ (UR sig nD τ) ℕ))
      = iprop(∃ f : Buf (Elt F) ((c : Thread nD τ).loc b), ((c : Thread nD τ).loc b) ↦{fullShare} f) := by
  unfold Held
  exact congrArg _ (funext fun f => owns_whole (c : Thread nD τ) b fullShare f)

theorem scratch_back (m : (ℓ : Loc nD τ sig) → Buf (Elt F) ℓ) (c : Dev nD) (t : Fin (cfg0.N + 1)) :
    iprop((Held c (Memref.whole cc0_scratch0) ∗ Held c (Memref.whole cc0_scratch1) ∗ Held c (Memref.whole cc0_scratch2)
      ∗ Held c (Memref.whole cc0_scratch3) ∗ Held c (Memref.whole cc0_scratch4) ∗ Held c (Memref.whole cc0_scratch5))
      ∗ ∃ r, prngReg c r) ⊢ (rdat m c).Φ t := by
  show _ ⊢ Pipeline.ΦA spec0 c
  unfold Pipeline.ΦA
  rw [scopedRest0_eq]
  simp only [← held_whole]
  iintro H; iexact H

theorem body_obligation (m : (ℓ : Loc nD τ sig) → Buf (Elt F) ℓ) (c : Dev nD) : (rdat m c).BodyObligation (defs₀ (F := F)) 𝒱₀ () Set.univ := by
  intro t Y _
  rw [defs₀_row, bigSep_W0, bigSep_W0]
  have hb := (safe_bodyAt (F := F) c t).run
  show iprop(Pipeline.ΦA spec0 c ∗ _) ⊢ _
  unfold Pipeline.ΦA
  rw [scopedRest0_eq]
  simp only [← held_whole]
  iintro ⟨⟨⟨S0, S1, S2, S3, S4, S5⟩, HG⟩, HO, H0, H1, H2, H3, H4, H5, H6⟩
  iapply (wp_wand_r _ _ _)
  isplitl [S0 S1 S2 S3 S4 S5 H0 H1 H2 H3 H4 H5 H6]
  · iapply hb
    unfold bufs
    isplitl [H0]; · unfold Held; iexists (Y 0); iexact H0
    isplitl [H1]; · unfold Held; iexists (Y 1); iexact H1
    isplitl [H2]; · unfold Held; iexists (Y 2); iexact H2
    isplitl [H3]; · unfold Held; iexists (Y 3); iexact H3
    isplitl [H4]; · unfold Held; iexists (Y 4); iexact H4
    isplitl [H5]; · unfold Held; iexists (Y 5); iexact H5
    isplitl [H6]; · unfold Held; iexists (Y 6); iexact H6
    isplitl [S0]; · iexact S0
    isplitl [S1]; · iexact S1
    isplitl [S2]; · iexact S2
    isplitl [S3]; · iexact S3
    isplitl [S4]; · iexact S4
    iexact S5
  iintro %_ ⟨H0, H1, H2, H3, H4, H5, H6, S0, S1, S2, S3, S4, S5⟩
  isplitl [S0 S1 S2 S3 S4 S5 HG]
  · iapply (scratch_back m c t.succ)
    isplitl [S0 S1 S2 S3 S4 S5]
    · isplitl [S0]; · iexact S0
      isplitl [S1]; · iexact S1
      isplitl [S2]; · iexact S2
      isplitl [S3]; · iexact S3
      isplitl [S4]; · iexact S4
      iexact S5
    iexact HG
  isplitl [HO]; · iexact HO
  isplitl [H0]; · unfold Held; icases H0 with ⟨%X, H⟩; iexists X; isplitr; (· ipureintro; trivial); iexact H
  isplitl [H1]; · unfold Held; icases H1 with ⟨%X, H⟩; iexists X; isplitr; (· ipureintro; trivial); iexact H
  isplitl [H2]; · unfold Held; icases H2 with ⟨%X, H⟩; iexists X; isplitr; (· ipureintro; trivial); iexact H
  isplitl [H3]; · unfold Held; icases H3 with ⟨%X, H⟩; iexists X; isplitr; (· ipureintro; trivial); iexact H
  isplitl [H4]; · unfold Held; icases H4 with ⟨%X, H⟩; iexists X; isplitr; (· ipureintro; trivial); iexact H
  isplitl [H5]; · unfold Held; icases H5 with ⟨%X, H⟩; iexists X; isplitr; (· ipureintro; trivial); iexact H
  unfold Held; icases H6 with ⟨%X, H⟩; iexists X; isplitr; (· ipureintro; trivial); iexact H

theorem rdat_share (m : (ℓ : Loc nD τ sig) → Buf (Elt F) ℓ) (c : Dev nD) (w : Fin cfg0.W) : (rdat m c).share w = fullShare := by
  unfold RDat.share; split <;> rfl

/-- The call terminates, each argument array ends as launched, and every counter reads zero. -/
theorem run_main (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.RDat.θ_run_frame cfgs 0 Gen.launch0 defs₀ 𝒱₀ (rdat m) m ρ main (body_obligation m) (rdat_share m) (fun _ _ => rfl)
    (Gen.V m) (Gen.hmain m 𝒱₀) (fun _ _ => rfl) (fun _ _ => rfl) _ fun r h =>
    ⟨fun c => ⟨h.1.arr_in c 0 rfl, h.1.arr_in c 1 rfl, h.1.arr_in c 2 rfl, h.1.arr_in c 3 rfl, h.1.arr_in c 4 rfl, h.1.arr_in c 5 rfl⟩, h.2⟩

theorem frame_kernel : Cert.quiescent_Kernel := fun m ρ _ => run_main (F := Bits) m ρ

end Cert.Proof.AttnB

end
-- ==== Proof.OutRow.lean ====
/-
  One row of the layer's output, as a function on extended reals: the mathematics both programs are read down to.
-/
module

public import Idealize.ShloMosaic.Lib.Pointwise

@[expose] public section

noncomputable section

namespace Cert.Proof.Out

open Idealize.ShloMosaic

/-- The reciprocal root mean square of a row of 1024 entries, with the layer's epsilon. -/
def invRms (x : Fin 1024 → EReal) : EReal :=
  Ideal.rsqrt (Ideal.div (∑ k, x k * x k) (Ideal.ofBits FTy.f32 1149239296#32) + Ideal.ofBits FTy.f32 897988541#32)

/-- A row normalized to unit root mean square, times the gain. -/
def rmsRow (x g : Fin 1024 → EReal) (k : Fin 1024) : EReal := x k * invRms x * g k

/-- The logistic function. -/
def sigm (z : EReal) : EReal := Ideal.div 1 (1 + Ideal.exp (-z))

/-- A row times a matrix, at one column. -/
def rowMul {n w : Nat} (x : Fin n → EReal) (W : Fin n → Fin w → EReal) (j : Fin w) : EReal := ∑ k, x k * W k j

/-- One gated branch at one column: the branch's mixer output times its SiLU gate, through the branch's weights, times the
    merge gate. -/
def branch (xn : Fin 1024 → EReal) (wg : Fin 1024 → Fin 512 → EReal) (wz : Fin 1024 → Fin 1024 → EReal) (b : Fin 1024 → EReal)
    (y : Fin 512 → EReal) (w : Fin 512 → Fin 1024 → EReal) (j : Fin 1024) : EReal :=
  sigm (rowMul xn wz j + b j) * rowMul (fun i => y i * (rowMul xn wg i * sigm (rowMul xn wg i))) w j

/-- The residual row: the input row plus the merged branches through the output weights. -/
def residual (x g : Fin 1024 → EReal) (wga wgb : Fin 1024 → Fin 512 → EReal) (wza wzb : Fin 1024 → Fin 1024 → EReal)
    (ba bb : Fin 1024 → EReal) (ya yb : Fin 512 → EReal) (wa wb : Fin 512 → Fin 1024 → EReal) (wo : Fin 1024 → Fin 1024 → EReal)
    (k : Fin 1024) : EReal :=
  x k + rowMul (fun j => branch (rmsRow x g) wga wza ba ya wa j + branch (rmsRow x g) wgb wzb bb yb wb j) wo k

/-- The output row: the residual row, normalized with the final gain. -/
def outRow (x g : Fin 1024 → EReal) (wga wgb : Fin 1024 → Fin 512 → EReal) (wza wzb : Fin 1024 → Fin 1024 → EReal)
    (ba bb : Fin 1024 → EReal) (ya yb : Fin 512 → EReal) (wa wb : Fin 512 → Fin 1024 → EReal) (wo : Fin 1024 → Fin 1024 → EReal)
    (fg : Fin 1024 → EReal) : Fin 1024 → EReal :=
  rmsRow (residual x g wga wgb wza wzb ba bb ya yb wa wb wo) fg

/-- Equal rows and weights give equal output rows. -/
theorem outRow_congr {x x' : Fin 1024 → EReal} {g g' : Fin 1024 → EReal} {wga wga' : Fin 1024 → Fin 512 → EReal} {wgb wgb' : Fin 1024 → Fin 512 → EReal} {wza wza' : Fin 1024 → Fin 1024 → EReal} {wzb wzb' : Fin 1024 → Fin 1024 → EReal} {ba ba' : Fin 1024 → EReal} {bb bb' : Fin 1024 → EReal} {ya ya' : Fin 512 → EReal} {yb yb' : Fin 512 → EReal} {wa wa' : Fin 512 → Fin 1024 → EReal} {wb wb' : Fin 512 → Fin 1024 → EReal} {wo wo' : Fin 1024 → Fin 1024 → EReal} {fg fg' : Fin 1024 → EReal}
    (hx : ∀ i, x i = x' i) (hg : ∀ i, g i = g' i) (hwga : ∀ i j, wga i j = wga' i j) (hwgb : ∀ i j, wgb i j = wgb' i j) (hwza : ∀ i j, wza i j = wza' i j) (hwzb : ∀ i j, wzb i j = wzb' i j) (hba : ∀ i, ba i = ba' i) (hbb : ∀ i, bb i = bb' i) (hya : ∀ i, ya i = ya' i) (hyb : ∀ i, yb i = yb' i) (hwa : ∀ i j, wa i j = wa' i j) (hwb : ∀ i j, wb i j = wb' i j) (hwo : ∀ i j, wo i j = wo' i j) (hfg : ∀ i, fg i = fg' i) (k : Fin 1024) :
    outRow x g wga wgb wza wzb ba bb ya yb wa wb wo fg k = outRow x' g' wga' wgb' wza' wzb' ba' bb' ya' yb' wa' wb' wo' fg' k := by
  obtain rfl : x = x' := funext hx
  obtain rfl : g = g' := funext hg
  obtain rfl : wga = wga' := funext fun i => funext (hwga i)
  obtain rfl : wgb = wgb' := funext fun i => funext (hwgb i)
  obtain rfl : wza = wza' := funext fun i => funext (hwza i)
  obtain rfl : wzb = wzb' := funext fun i => funext (hwzb i)
  obtain rfl : ba = ba' := funext hba
  obtain rfl : bb = bb' := funext hbb
  obtain rfl : ya = ya' := funext hya
  obtain rfl : yb = yb' := funext hyb
  obtain rfl : wa = wa' := funext fun i => funext (hwa i)
  obtain rfl : wb = wb' := funext fun i => funext (hwb i)
  obtain rfl : wo = wo' := funext fun i => funext (hwo i)
  obtain rfl : fg = fg' := funext hfg
  rfl

end Cert.Proof.Out

end
-- ==== Proof.OutBlock.lean ====
/-
  One row of the block a grid point of the output call writes, read off the body's operations.
-/
module

public import proofs.«01_k».proof.Proof.Gen.Kernel2Ideal.Value
public import proofs.«01_k».proof.Proof.OutRow
public import Idealize.ShloMosaic.Lib.Pipeline.Value

@[expose] public section

noncomputable section

namespace Cert.Proof.Out

open Cert.Kernel2Ideal Cert.Kernel2Ideal.Gen
open Idealize.ShloMosaic Idealize.ShloMosaic.TcCoe

theorem hz : (![0, 0] : Fin 2 → Nat) = fun _ => 0 := funext fun a => by fin_cases a <;> rfl

/-- The body's result at row `r`, column `k` of the block is the output row of row `r` of its input blocks. -/
theorem block_apply (x0 : Vec Ideal S1024x1024 .f32) (x1 : Vec Ideal S1x1024 .f32) (x2 : Vec Ideal S1024x3072 .bf16) (x3 : Vec Ideal S2x1024 .f32)
    (x4 : Vec Ideal S1024x512 .f32) (x5 : Vec Ideal S1024x512 .f32) (x6 : Vec Ideal S512x1024 .bf16) (x7 : Vec Ideal S512x1024 .bf16)
    (x8 : Vec Ideal S1024x1024 .bf16) (x9 : Vec Ideal S1x1024 .f32) (r k : Fin 1024) :
    out0_10 x0 x1 x2 x3 x4 x5 x6 x7 x8 x9 (ix2 r k)
      = outRow (fun k => x0 (ix2 r k)) (fun k => x1 (ix2 0 k))
          (fun k j => x2 (ix2 k ⟨j, by omega⟩)) (fun k j => x2 (ix2 k ⟨512 + j, by omega⟩))
          (fun k j => x2 (ix2 k ⟨1024 + j, by omega⟩)) (fun k j => x2 (ix2 k ⟨2048 + j, by omega⟩))
          (fun j => x3 (ix2 0 j)) (fun j => x3 (ix2 1 j)) (fun j => x4 (ix2 r j)) (fun j => x5 (ix2 r j))
          (fun i j => x6 (ix2 i j)) (fun i j => x7 (ix2 i j)) (fun i j => x8 (ix2 i j)) (fun j => x9 (ix2 0 j)) k := by
  unfold out0_10 k0_pay9
  rw [View.canon_unit_zero hz]
  pointwise [k0_pay1, k0_pay2, k0_pay3, k0_pay4, k0_pay5, k0_pay6, k0_pay7, k0_pay8]
  simp only [zero_sub]
  rfl

end Cert.Proof.Out

end
-- ==== Proof.OutKernel.lean ====
/-
  The output call's result array after its run, row by row: each row is the output row of the host arrays' rows.
-/
module

public import proofs.«01_k».proof.Proof.OutBlock

@[expose] public section

set_option maxRecDepth 16384

noncomputable section

namespace Cert.Proof.Out

open Cert.Kernel2Ideal Cert.Kernel2Ideal.Gen
open Idealize.ShloMosaic Idealize.ShloMosaic.TcCoe
open Idealize.ShloMosaic.Pipeline (Dat)

/-! ### Host operations, index by index -/

theorem cast_rows (x : FVec Ideal S8x4096x1024 .f32) (r : Fin 32768) (k : Fin 1024) :
    (shapeCast S32768x1024 x shapeCasts_S8x4096x1024_S32768x1024 : FVec Ideal _ _) (ix2 r k) = x (ix3 ⟨r / 4096, by omega⟩ ⟨r % 4096, by omega⟩ k) := by
  pointwise

theorem cast_half (x : FVec Ideal S8x4096x512 .f32) (r : Fin 32768) (k : Fin 512) :
    (shapeCast S32768x512 x shapeCasts_S8x4096x512_S32768x512 : FVec Ideal _ _) (ix2 r k) = x (ix3 ⟨r / 4096, by omega⟩ ⟨r % 4096, by omega⟩ k) := by
  pointwise

theorem cast_bias (x : FVec Ideal S1x2x1024 .f32) (a : Fin 2) (k : Fin 1024) :
    (shapeCast S2x1024 x shapeCasts_S1x2x1024_S2x1024 : FVec Ideal _ _) (ix2 a k) = x (ix3 0 a k) := by
  pointwise

theorem cast_wab (x : FVec Ideal S1x512x1024 .f32) (i : Fin 512) (j : Fin 1024) :
    (truncf .bf16 (shapeCast S512x1024 x shapeCasts_S1x512x1024_S512x1024 : FVec Ideal S512x1024 .f32) bitsLt_bf16_f32 : FVec Ideal _ _) (ix2 i j) = x (ix3 0 i j) := by
  pointwise

theorem cast_wo (x : FVec Ideal S1x1024x1024 .f32) (i : Fin 1024) (j : Fin 1024) :
    (truncf .bf16 (shapeCast S1024x1024 x shapeCasts_S1x1024x1024_S1024x1024 : FVec Ideal S1024x1024 .f32) bitsLt_bf16_f32 : FVec Ideal _ _) (ix2 i j) = x (ix3 0 i j) := by
  pointwise

theorem cast_fg (x : FVec Ideal S1024 .f32) (j : Fin 1024) :
    (shapeCast S1x1024 x shapeCasts_S1024_S1x1024 : FVec Ideal _ _) (ix2 0 j) = x (ix1 j) := by
  pointwise

/-- The output call's input weights: four column ranges of the layer's, side by side. -/
def w2 (x : FVec Ideal S1x1024x5544 .f32) : FVec Ideal S1024x3072 .bf16 := truncf .bf16 (concatenate S1024x3072 1
    [⟨S1024x512, (extractStridedSlice S1024x512 ![0, 1536] (shapeCast S1024x5544 x shapeCasts_S1x1024x5544_S1024x5544) slices_S1024x5544_S1024x512_0_1536 : FVec Ideal S1024x512 .f32)⟩,
     ⟨S1024x512, (extractStridedSlice S1024x512 ![0, 2688] (shapeCast S1024x5544 x shapeCasts_S1x1024x5544_S1024x5544) slices_S1024x5544_S1024x512_0_2688 : FVec Ideal S1024x512 .f32)⟩,
     ⟨S1024x1024, (extractStridedSlice S1024x1024 ![0, 3496] (shapeCast S1024x5544 x shapeCasts_S1x1024x5544_S1024x5544) slices_S1024x5544_S1024x1024_0_3496 : FVec Ideal S1024x1024 .f32)⟩,
     ⟨S1024x1024, (extractStridedSlice S1024x1024 ![0, 4520] (shapeCast S1024x5544 x shapeCasts_S1x1024x5544_S1024x5544) slices_S1024x5544_S1024x1024_0_4520 : FVec Ideal S1024x1024 .f32)⟩]
    concatenates_S1024x512_S1024x512_S1024x1024_S1024x1024_S1024x3072_d1 : FVec Ideal S1024x3072 .f32) bitsLt_bf16_f32

theorem w2_ga (x : FVec Ideal S1x1024x5544 .f32) (k : Fin 1024) (j : Fin 512) : w2 x (ix2 k ⟨j, by omega⟩) = x (ix3 0 k ⟨1536 + j, by omega⟩) := by
  unfold w2; pointwise

theorem w2_gb (x : FVec Ideal S1x1024x5544 .f32) (k : Fin 1024) (j : Fin 512) : w2 x (ix2 k ⟨512 + j, by omega⟩) = x (ix3 0 k ⟨2688 + j, by omega⟩) := by
  unfold w2; pointwise

theorem w2_za (x : FVec Ideal S1x1024x5544 .f32) (k : Fin 1024) (j : Fin 1024) : w2 x (ix2 k ⟨1024 + j, by omega⟩) = x (ix3 0 k ⟨3496 + j, by omega⟩) := by
  unfold w2; pointwise
  rw [dif_neg (by omega), dif_neg (by omega), dif_pos (by omega)]
  congr 2; exact Fin.ext (by show 3496 + (1024 + j.val - 512 - 512) = 3496 + j.val; omega)

theorem w2_zb (x : FVec Ideal S1x1024x5544 .f32) (k : Fin 1024) (j : Fin 1024) : w2 x (ix2 k ⟨2048 + j, by omega⟩) = x (ix3 0 k ⟨4520 + j, by omega⟩) := by
  unfold w2; pointwise
  rw [dif_neg (by omega), dif_neg (by omega), dif_neg (by omega)]
  congr 2; exact Fin.ext (by show 4520 + (2048 + j.val - 512 - 512 - 1024) = 4520 + j.val; omega)

variable (m : (ℓ : Loc nD τ sig) → Buf (Elt Ideal) ℓ) (c : Dev nD)

/-! ### Where a grid point's blocks lie in the arrays -/

/-- Where the three row windows and the output window stand at point `t`: at block `t` of the rows. -/
theorem rows_at (t : Fin cfg0.N) :
    (win0_0.index t 0 = t.val ∧ win0_0.index t 1 = 0) ∧ (win0_4.index t 0 = t.val ∧ win0_4.index t 1 = 0)
      ∧ (win0_5.index t 0 = t.val ∧ win0_5.index t 1 = 0) ∧ (win0_10.index t 0 = t.val ∧ win0_10.index t 1 = 0) :=
  (by decide +kernel : ∀ t : Fin grid0.N,
    (win0_0.index t 0 = t.val ∧ win0_0.index t 1 = 0) ∧ (win0_4.index t 0 = t.val ∧ win0_4.index t 1 = 0)
      ∧ (win0_5.index t 0 = t.val ∧ win0_5.index t 1 = 0) ∧ (win0_10.index t 0 = t.val ∧ win0_10.index t 1 = 0)) t

/-- Row `r` of block `t`, as a row of the whole array. -/
abbrev rowOf (t : Fin cfg0.N) (r : Fin 1024) : Fin 32768 := ⟨t.val * 1024 + r.val, by have h : cfg0.N = 32 := N_0; omega⟩

theorem blk0_apply (t : Fin cfg0.N) (r k : Fin 1024) : iblk m c 0 t (ix2 r k) = V m c main_v0 (ix2 (rowOf t r) k) := by
  show V m c main_v0 ((win0_0.rect t).emb (ix2 r k)) = _
  refine congrArg _ (Shape.idx_ext₂ ?_ ?_)
  · rw [win0_0.rect_emb_val t _ 0, (rows_at t).1.1]; rfl
  · rw [win0_0.rect_emb_val t _ 1, (rows_at t).1.2]; simp

theorem blk4_apply (t : Fin cfg0.N) (r : Fin 1024) (k : Fin 512) : iblk m c 4 t (ix2 r k) = V m c main_v18 (ix2 (rowOf t r) k) := by
  show V m c main_v18 ((win0_4.rect t).emb (ix2 r k)) = _
  refine congrArg _ (Shape.idx_ext₂ ?_ ?_)
  · rw [win0_4.rect_emb_val t _ 0, (rows_at t).2.1.1]; rfl
  · rw [win0_4.rect_emb_val t _ 1, (rows_at t).2.1.2]; simp

theorem blk5_apply (t : Fin cfg0.N) (r : Fin 1024) (k : Fin 512) : iblk m c 5 t (ix2 r k) = V m c main_v19 (ix2 (rowOf t r) k) := by
  show V m c main_v19 ((win0_5.rect t).emb (ix2 r k)) = _
  refine congrArg _ (Shape.idx_ext₂ ?_ ?_)
  · rw [win0_5.rect_emb_val t _ 0, (rows_at t).2.2.1.1]; rfl
  · rw [win0_5.rect_emb_val t _ 1, (rows_at t).2.2.1.2]; simp

/-- The windows over a whole array stand at its start at every point. -/
theorem fixed_at (t : Fin cfg0.N) :
    (∀ a, win0_1.index t a = 0) ∧ (∀ a, win0_2.index t a = 0) ∧ (∀ a, win0_3.index t a = 0) ∧ (∀ a, win0_6.index t a = 0)
      ∧ (∀ a, win0_7.index t a = 0) ∧ (∀ a, win0_8.index t a = 0) ∧ (∀ a, win0_9.index t a = 0) :=
  (by decide +kernel : ∀ t : Fin grid0.N,
    (∀ a, win0_1.index t a = 0) ∧ (∀ a, win0_2.index t a = 0) ∧ (∀ a, win0_3.index t a = 0) ∧ (∀ a, win0_6.index t a = 0)
      ∧ (∀ a, win0_7.index t a = 0) ∧ (∀ a, win0_8.index t a = 0) ∧ (∀ a, win0_9.index t a = 0)) t

theorem blk1_eq (t : Fin cfg0.N) : iblk m c 1 t = V m c main_arg1 := by
  funext y
  show V m c main_arg1 ((win0_1.rect t).emb y) = _
  exact congrArg _ (funext fun a => Fin.ext (win0_1.rect_emb_val_of_index_zero t a ((fixed_at t).1 a) y))

theorem blk2_eq (t : Fin cfg0.N) : iblk m c 2 t = V m c main_v16 := by
  funext y
  show V m c main_v16 ((win0_2.rect t).emb y) = _
  exact congrArg _ (funext fun a => Fin.ext (win0_2.rect_emb_val_of_index_zero t a ((fixed_at t).2.1 a) y))

theorem blk3_eq (t : Fin cfg0.N) : iblk m c 3 t = V m c main_v17 := by
  funext y
  show V m c main_v17 ((win0_3.rect t).emb y) = _
  exact congrArg _ (funext fun a => Fin.ext (win0_3.rect_emb_val_of_index_zero t a ((fixed_at t).2.2.1 a) y))

theorem blk6_eq (t : Fin cfg0.N) : iblk m c 6 t = V m c main_v21 := by
  funext y
  show V m c main_v21 ((win0_6.rect t).emb y) = _
  exact congrArg _ (funext fun a => Fin.ext (win0_6.rect_emb_val_of_index_zero t a ((fixed_at t).2.2.2.1 a) y))

theorem blk7_eq (t : Fin cfg0.N) : iblk m c 7 t = V m c main_v23 := by
  funext y
  show V m c main_v23 ((win0_7.rect t).emb y) = _
  exact congrArg _ (funext fun a => Fin.ext (win0_7.rect_emb_val_of_index_zero t a ((fixed_at t).2.2.2.2.1 a) y))

theorem blk8_eq (t : Fin cfg0.N) : iblk m c 8 t = V m c main_v25 := by
  funext y
  show V m c main_v25 ((win0_8.rect t).emb y) = _
  exact congrArg _ (funext fun a => Fin.ext (win0_8.rect_emb_val_of_index_zero t a ((fixed_at t).2.2.2.2.2.1 a) y))

theorem blk9_eq (t : Fin cfg0.N) : iblk m c 9 t = V m c main_v26 := by
  funext y
  show V m c main_v26 ((win0_9.rect t).emb y) = _
  exact congrArg _ (funext fun a => Fin.ext (win0_9.rect_emb_val_of_index_zero t a ((fixed_at t).2.2.2.2.2.2 a) y))

/-! ### What the host operations before the call leave in the arrays it reads -/

theorem V_rows : V m c main_v0 = shapeCast S32768x1024 (m (c, main_arg0)) shapeCasts_S8x4096x1024_S32768x1024 := by
  simp only [V, hostOps0]; after_results_simp <;> rfl

theorem V_bias : V m c main_v17 = shapeCast S2x1024 (m (c, main_arg3)) shapeCasts_S1x2x1024_S2x1024 := by
  simp only [V, hostOps0]; after_results_simp <;> rfl

theorem V_ya : V m c main_v18 = shapeCast S32768x512 (m (c, main_arg4)) shapeCasts_S8x4096x512_S32768x512 := by
  simp only [V, hostOps0]; after_results_simp <;> rfl

theorem V_yb : V m c main_v19 = shapeCast S32768x512 (m (c, main_arg5)) shapeCasts_S8x4096x512_S32768x512 := by
  simp only [V, hostOps0]; after_results_simp <;> rfl

theorem V_wa : V m c main_v21 = truncf .bf16 (shapeCast S512x1024 (m (c, main_arg6)) shapeCasts_S1x512x1024_S512x1024 : FVec Ideal S512x1024 .f32) bitsLt_bf16_f32 := by
  simp only [V, hostOps0]; after_results_simp <;> rfl

theorem V_wb : V m c main_v23 = truncf .bf16 (shapeCast S512x1024 (m (c, main_arg7)) shapeCasts_S1x512x1024_S512x1024 : FVec Ideal S512x1024 .f32) bitsLt_bf16_f32 := by
  simp only [V, hostOps0]; after_results_simp <;> rfl

theorem V_wo : V m c main_v25 = truncf .bf16 (shapeCast S1024x1024 (m (c, main_arg8)) shapeCasts_S1x1024x1024_S1024x1024 : FVec Ideal S1024x1024 .f32) bitsLt_bf16_f32 := by
  simp only [V, hostOps0]; after_results_simp <;> rfl

theorem V_fg : V m c main_v26 = shapeCast S1x1024 (m (c, main_arg9)) shapeCasts_S1024_S1x1024 := by
  simp only [V, hostOps0]; after_results_simp <;> rfl

theorem V_w2 : V m c main_v16 = w2 (m (c, main_arg2)) := by
  simp only [V, hostOps0]; after_results_simp <;> rfl

end Cert.Proof.Out

end
-- ==== Proof.OutRef.lean ====
/-
  The reference's result, row by row: each row is the output row of the arguments' rows.
-/
module

public import proofs.«01_k».proof.Proof.Gen.Reference2Ideal.Run
public import proofs.«01_k».proof.Proof.OutRow

@[expose] public section

set_option maxRecDepth 16384

noncomputable section

namespace Cert.Proof.Out

open Cert.Reference2Ideal Cert.Reference2Ideal.Gen
open Idealize.ShloMosaic Idealize.ShloMosaic.TcCoe

/-! ### The reference's stages, as functions of its arguments -/

variable (x : FVec Ideal S8x4096x1024 .f32) (g : FVec Ideal S1x1024 .f32) (w : FVec Ideal S1x1024x5544 .f32)
  (b : FVec Ideal S1x2x1024 .f32) (ya yb : FVec Ideal S8x4096x512 .f32) (wa wb : FVec Ideal S1x512x1024 .f32)
  (wo : FVec Ideal S1x1024x1024 .f32) (fg : FVec Ideal S1024 .f32)

/-- The input's rows. -/
def rRows : FVec Ideal S32768x1024 .f32 := shapeCast _ x shapeCasts_S8x4096x1024_S32768x1024

/-- Rows normalized to unit root mean square, times a gain. -/
def rNorm (v : FVec Ideal S32768x1024 .f32) (gain : FVec Ideal S1024 .f32) : FVec Ideal S32768x1024 .f32 :=
  mulf (mulf v (broadcastInDim S32768x1024 ![0, 1] bcast_S32768x1_S32768x1024_0_1 (Host.rsqrt (addf
      (Host.divf (broadcastInDim S32768x1 ![0] bcast_S32768_S32768x1_0
          (Host.reduceAdd (mulf v v) (constant S_ .f32 0x00000000#32) reducesTo_S32768x1024_S32768_d1 h_S_))
        (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 gain))

/-- The normalized rows through the input weights. -/
def rProj : FVec Ideal S32768x5544 .f32 :=
  Host.dotGeneral dot_S32768x1024_S1024x5544_S32768x5544_1_0_0_1_n_n none (rNorm (rRows x) (shapeCast _ g shapeCasts_S1x1024_S1024))
    (shapeCast _ w shapeCasts_S1x1024x5544_S1024x5544)

/-- A merge gate: the logistic function of gate rows plus a bias. -/
def rGate (z : FVec Ideal S32768x1024 .f32) (bias : FVec Ideal S1024 .f32) : FVec Ideal S32768x1024 .f32 :=
  Host.divf (broadcastInDim S32768x1024 ![] bcast_S_S32768x1024 (constant S_ .f32 0x3F800000#32))
    (addf (broadcastInDim S32768x1024 ![] bcast_S_S32768x1024 (constant S_ .f32 0x3F800000#32))
      (Host.exp (Host.negf (addf z (broadcastInDim S32768x1024 ![0, 1] bcast_S1x1024_S32768x1024_0_1
        (broadcastInDim S1x1024 ![1] bcast_S1024_S1x1024_1 bias))))))

/-- A branch: its rows times the SiLU of its gate rows, through its weights. -/
def rBranch (y gt : FVec Ideal S32768x512 .f32) (u : FVec Ideal S512x1024 .f32) : FVec Ideal S32768x1024 .f32 :=
  Host.dotGeneral dot_S32768x512_S512x1024_S32768x1024_1_0_0_1_n_n none
    (mulf y (mulf gt (Host.divf (broadcastInDim S32768x512 ![] bcast_S_S32768x512 (constant S_ .f32 0x3F800000#32))
      (addf (broadcastInDim S32768x512 ![] bcast_S_S32768x512 (constant S_ .f32 0x3F800000#32)) (Host.exp (Host.negf gt)))))) u

/-- The two gated branches, added. -/
def rMerge : FVec Ideal S32768x1024 .f32 :=
  addf
    (mulf (rGate (extractStridedSlice S32768x1024 ![0, 3496] (rProj x g w) slices_S32768x5544_S32768x1024_0_3496)
        (shapeCast _ (extractStridedSlice S1x1x1024 ![0, 0, 0] b slices_S1x2x1024_S1x1x1024_0_0_0) shapeCasts_S1x1x1024_S1024))
      (rBranch (shapeCast _ ya shapeCasts_S8x4096x512_S32768x512)
        (extractStridedSlice S32768x512 ![0, 1536] (rProj x g w) slices_S32768x5544_S32768x512_0_1536)
        (shapeCast _ wa shapeCasts_S1x512x1024_S512x1024)))
    (mulf (rGate (extractStridedSlice S32768x1024 ![0, 4520] (rProj x g w) slices_S32768x5544_S32768x1024_0_4520)
        (shapeCast _ (extractStridedSlice S1x1x1024 ![0, 1, 0] b slices_S1x2x1024_S1x1x1024_0_1_0) shapeCasts_S1x1x1024_S1024))
      (rBranch (shapeCast _ yb shapeCasts_S8x4096x512_S32768x512)
        (extractStridedSlice S32768x512 ![0, 2688] (rProj x g w) slices_S32768x5544_S32768x512_0_2688)
        (shapeCast _ wb shapeCasts_S1x512x1024_S512x1024)))

/-- The residual rows. -/
def rRes : FVec Ideal S32768x1024 .f32 :=
  addf (rRows x) (Host.dotGeneral dot_S32768x1024_S1024x1024_S32768x1024_1_0_0_1_n_n none (rMerge x g w b ya yb wa wb)
    (shapeCast _ wo shapeCasts_S1x1024x1024_S1024x1024))

/-! ### The stages, index by index -/

theorem rRows_apply (r : Fin 32768) (k : Fin 1024) :
    rRows x (ix2 r k) = x (ix3 ⟨r / 4096, by omega⟩ ⟨r % 4096, by omega⟩ k) := by
  unfold rRows; pointwise

theorem rNorm_apply (v : FVec Ideal S32768x1024 .f32) (gain : FVec Ideal S1024 .f32) (r : Fin 32768) (k : Fin 1024) :
    rNorm v gain (ix2 r k) = rmsRow (fun k => v (ix2 r k)) (fun k => gain (ix1 k)) k := by
  unfold rNorm; pointwise; rfl

theorem rProj_apply (r : Fin 32768) (j : Fin 5544) :
    rProj x g w (ix2 r j)
      = rowMul (rmsRow (fun k => rRows x (ix2 r k)) (fun k => g (ix2 0 k))) (fun k j => w (ix3 0 k j)) j := by
  unfold rProj; pointwise; simp only [rNorm_apply]; pointwise; rfl

theorem rGate_apply (z : FVec Ideal S32768x1024 .f32) (bias : FVec Ideal S1024 .f32) (r : Fin 32768) (j : Fin 1024) :
    rGate z bias (ix2 r j) = sigm (z (ix2 r j) + bias (ix1 j)) := by
  unfold rGate; pointwise; rfl

theorem rBranch_apply (y gt : FVec Ideal S32768x512 .f32) (u : FVec Ideal S512x1024 .f32) (r : Fin 32768) (j : Fin 1024) :
    rBranch y gt u (ix2 r j)
      = rowMul (fun i => y (ix2 r i) * (gt (ix2 r i) * sigm (gt (ix2 r i)))) (fun i j => u (ix2 i j)) j := by
  unfold rBranch; pointwise; rfl

theorem rMerge_apply (r : Fin 32768) (j : Fin 1024) :
    rMerge x g w b ya yb wa wb (ix2 r j)
      = branch (rmsRow (fun k => rRows x (ix2 r k)) (fun k => g (ix2 0 k))) (fun k j => w (ix3 0 k ⟨1536 + j, by omega⟩))
          (fun k j => w (ix3 0 k ⟨3496 + j, by omega⟩)) (fun j => b (ix3 0 0 j))
          (fun j => ya (ix3 ⟨r / 4096, by omega⟩ ⟨r % 4096, by omega⟩ j)) (fun i j => wa (ix3 0 i j)) j
        + branch (rmsRow (fun k => rRows x (ix2 r k)) (fun k => g (ix2 0 k))) (fun k j => w (ix3 0 k ⟨2688 + j, by omega⟩))
          (fun k j => w (ix3 0 k ⟨4520 + j, by omega⟩)) (fun j => b (ix3 0 1 j))
          (fun j => yb (ix3 ⟨r / 4096, by omega⟩ ⟨r % 4096, by omega⟩ j)) (fun i j => wb (ix3 0 i j)) j := by
  unfold rMerge; pointwise; simp only [rGate_apply, rBranch_apply]; pointwise; simp only [rProj_apply]; rfl

theorem rRes_apply (r : Fin 32768) (k : Fin 1024) :
    rRes x g w b ya yb wa wb wo (ix2 r k)
      = residual (fun k => rRows x (ix2 r k)) (fun k => g (ix2 0 k))
          (fun k j => w (ix3 0 k ⟨1536 + j, by omega⟩)) (fun k j => w (ix3 0 k ⟨2688 + j, by omega⟩))
          (fun k j => w (ix3 0 k ⟨3496 + j, by omega⟩)) (fun k j => w (ix3 0 k ⟨4520 + j, by omega⟩))
          (fun j => b (ix3 0 0 j)) (fun j => b (ix3 0 1 j))
          (fun j => ya (ix3 ⟨r / 4096, by omega⟩ ⟨r % 4096, by omega⟩ j))
          (fun j => yb (ix3 ⟨r / 4096, by omega⟩ ⟨r % 4096, by omega⟩ j))
          (fun i j => wa (ix3 0 i j)) (fun i j => wb (ix3 0 i j)) (fun i j => wo (ix3 0 i j)) k := by
  unfold rRes; pointwise; simp only [rMerge_apply]; rfl

/-- The reference's result at row `r`, column `k`, of arguments `x` to `fg`. -/
theorem ref_apply (r : Fin 32768) (k : Fin 1024) :
    rNorm (rRes x g w b ya yb wa wb wo) fg (ix2 r k)
      = outRow (fun k => x (ix3 ⟨r / 4096, by omega⟩ ⟨r % 4096, by omega⟩ k)) (fun k => g (ix2 0 k))
          (fun k j => w (ix3 0 k ⟨1536 + j, by omega⟩)) (fun k j => w (ix3 0 k ⟨2688 + j, by omega⟩))
          (fun k j => w (ix3 0 k ⟨3496 + j, by omega⟩)) (fun k j => w (ix3 0 k ⟨4520 + j, by omega⟩))
          (fun j => b (ix3 0 0 j)) (fun j => b (ix3 0 1 j))
          (fun j => ya (ix3 ⟨r / 4096, by omega⟩ ⟨r % 4096, by omega⟩ j))
          (fun j => yb (ix3 ⟨r / 4096, by omega⟩ ⟨r % 4096, by omega⟩ j))
          (fun i j => wa (ix3 0 i j)) (fun i j => wb (ix3 0 i j)) (fun i j => wo (ix3 0 i j)) (fun j => fg (ix1 j)) k := by
  rw [rNorm_apply]; simp only [rRes_apply, rRows_apply]; rfl

/-- The reference's result is the stages' composition, at its arguments. -/
theorem ref_eq (m : (ℓ : Loc nD τ sig) → Buf (Elt Ideal) ℓ) (c : Dev nD) :
    Cert.Reference2Ideal.Value.res_out0 m c
      = rNorm (rRes (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)))
        (m ((c.tc : Thread nD τ).loc main_arg9)) := by
  unfold Cert.Reference2Ideal.Value.res_out0 Cert.Reference2Ideal.Value.res_main_v80
  rfl

end Cert.Proof.Out

end
-- ==== Proof.OutClaim.lean ====
/-
  The output call and the reference compute the same array: both hold, at every row and column, the output row of the
  arguments' rows.
-/
module

public import proofs.«01_k».proof.Defs
public import proofs.«01_k».proof.Proof.OutKernel
public import proofs.«01_k».proof.Proof.OutRef
public import proofs.«01_k».proof.Proof.Gen.Kernel2Ideal
public import Idealize.ShloMosaic.Lib.Pipeline.ValueKit.Geometry
public import proofs.«01_k».proof.Proof.Gen.Reference2Ideal

@[expose] public section

set_option maxRecDepth 16384

noncomputable section

namespace Cert.Proof.Out

open Cert.Kernel2Ideal Cert.Kernel2Ideal.Gen
open Idealize.ShloMosaic Idealize.ShloMosaic.TcCoe
open Idealize.SL.Sem
open Idealize.ShloMosaic.Pipeline (Dat)

/-- The grid point's block of the output array, at row `r`, column `k` of the block. -/
theorem emb10 (t : Fin cfg0.N) (r k : Fin 1024) : (win0_10.rect t).emb (ix2 r k) = ix2 (rowOf t r) k := by
  refine Shape.idx_ext₂ ?_ ?_
  · rw [win0_10.rect_emb_val t _ 0, (rows_at t).2.2.2.1]; rfl
  · rw [win0_10.rect_emb_val t _ 1, (rows_at t).2.2.2.2]; simp

/-- What the body leaves at point `t`, at row `r` of the block, is the reference's result there. -/
theorem block_row (m : (ℓ : Loc nD τ sig) → Buf (Elt Ideal) ℓ) (c : Dev nD) (t : Fin cfg0.N) (r k : Fin 1024) :
    out0_10 (iblk m c 0 t) (iblk m c 1 t) (iblk m c 2 t) (iblk m c 3 t) (iblk m c 4 t) (iblk m c 5 t) (iblk m c 6 t)
        (iblk m c 7 t) (iblk m c 8 t) (iblk m c 9 t) (ix2 r k)
      = rNorm (rRes (m (c, main_arg0)) (m (c, main_arg1)) (m (c, main_arg2)) (m (c, main_arg3)) (m (c, main_arg4)) (m (c, main_arg5))
          (m (c, main_arg6)) (m (c, main_arg7)) (m (c, main_arg8))) (m (c, main_arg9)) (ix2 (rowOf t r) k) := by
  refine (block_apply _ _ _ _ _ _ _ _ _ _ r k).trans (Eq.trans (outRow_congr ?_ ?_ ?_ ?_ ?_ ?_ ?_ ?_ ?_ ?_ ?_ ?_ ?_ ?_ k)
    (ref_apply _ _ _ _ _ _ _ _ _ _ (rowOf t r) k).symm)
  · exact fun k => (blk0_apply m c t r k).trans ((congrFun (V_rows m c) _).trans (cast_rows _ _ k))
  · exact fun k => (congrFun (blk1_eq m c t) _)
  · exact fun k j => (congrFun ((blk2_eq m c t).trans (V_w2 m c)) _).trans (w2_ga _ k j)
  · exact fun k j => (congrFun ((blk2_eq m c t).trans (V_w2 m c)) _).trans (w2_gb _ k j)
  · exact fun k j => (congrFun ((blk2_eq m c t).trans (V_w2 m c)) _).trans (w2_za _ k j)
  · exact fun k j => (congrFun ((blk2_eq m c t).trans (V_w2 m c)) _).trans (w2_zb _ k j)
  · exact fun j => (congrFun ((blk3_eq m c t).trans (V_bias m c)) _).trans (cast_bias _ 0 j)
  · exact fun j => (congrFun ((blk3_eq m c t).trans (V_bias m c)) _).trans (cast_bias _ 1 j)
  · exact fun k => (blk4_apply m c t r k).trans ((congrFun (V_ya m c) _).trans (cast_half _ _ k))
  · exact fun k => (blk5_apply m c t r k).trans ((congrFun (V_yb m c) _).trans (cast_half _ _ k))
  · exact fun i j => (congrFun ((blk6_eq m c t).trans (V_wa m c)) _).trans (cast_wab _ i j)
  · exact fun i j => (congrFun ((blk7_eq m c t).trans (V_wb m c)) _).trans (cast_wab _ i j)
  · exact fun i j => (congrFun ((blk8_eq m c t).trans (V_wo m c)) _).trans (cast_wo _ i j)
  · exact fun j => (congrFun ((blk9_eq m c t).trans (V_fg m c)) _).trans (cast_fg _ j)

/-- The output array after the run is the reference's result, at the kernel's arguments. -/
theorem final_eq (m : (ℓ : Loc nD τ sig) → Buf (Elt Ideal) ℓ) (c : Dev nD) :
    (dats m 0 c).arrAt 10 cfg0.N
      = rNorm (rRes (m (c, main_arg0)) (m (c, main_arg1)) (m (c, main_arg2)) (m (c, main_arg3)) (m (c, main_arg4)) (m (c, main_arg5))
          (m (c, main_arg6)) (m (c, main_arg7)) (m (c, main_arg8))) (m (c, main_arg9)) := by
  refine (dats m 0 c).arrAt_eq_of_covers 10 _ (by decide +kernel) fun t hf y => ?_
  show (dats m 0 c).after 10 t y = _
  rw [after0_10]
  obtain ⟨r, k, rfl⟩ : ∃ r k : Fin 1024, y = ix2 r k := ⟨y 0, y 1, Shape.idx_ext₂ rfl rfl⟩
  exact (block_row m c t r k).trans (congrArg _ (emb10 t r k).symm)

theorem algebraic : Cert.algebraic_Kernel2Ideal_Reference2Ideal := by
  intro m g m' g' _ hargs
  refine ⟨fun c => (dats m 0 c).arrAt 10 cfg0.N, Cert.Kernel2Ideal.Value.run_blocks m g, ?_⟩
  refine (θ_run _ _ _).mono (fun r h c => ⟨(h c).1.trans ?_, (h c).2⟩) (Cert.Reference2Ideal.Value.run m' g')
  obtain ⟨h0, h1, h2, h3, h4, h5, h6, h7, h8, h9⟩ := hargs c
  refine (ref_eq m' c).trans ?_
  rw [h0, h1, h2, h3, h4, h5, h6, h7, h8, h9]
  exact (final_eq m c).symm

end Cert.Proof.Out

end
-- ==== Proof.ProjRow.lean ====
/-
  One row of the projections, as functions on extended reals: the mathematics both programs are read down to.
-/
module

public import proofs.«01_k».proof.Proof.OutRow

@[expose] public section

noncomputable section

namespace Cert.Proof.Proj

open Idealize.ShloMosaic

/-- Lane `l` of a head turned on its first `2 * half` lanes by the angles' cosines and sines, the other lanes kept. -/
def ropeAt (half : Nat) (cos sin x : Nat → EReal) (l : Nat) : EReal :=
  if l < half then x l * cos l - x (l + half) * sin l
  else if l < 2 * half then x l * cos (l - half) + x (l - half) * sin (l - half) else x l

/-- An eighth, as both programs write it. -/
abbrev e8 : EReal := Ideal.ofBits FTy.f32 0x3E000000#32

/-- A sixteenth, as both programs write it. -/
abbrev e16 : EReal := Ideal.ofBits FTy.f32 0x3D800000#32

/-- Branch A's query of head `h` at lane `l`: the head's 64 lanes in the half of its parity. -/
def qA (p : Nat → EReal) (h l : Nat) : EReal := if l / 64 = h % 2 then p (64 * h + l % 64) * e8 else 0

/-- Branch B's query of head `h` at lane `l`. -/
def qB (p cos sin : Nat → EReal) (h l : Nat) : EReal :=
  if l < 64 then ropeAt 8 cos sin (fun d => p (2048 + 64 * h + d)) l * e8 else 0

/-- The indexer's query of head `h` at lane `l`. -/
def qI (p cos sin : Nat → EReal) (h l : Nat) : EReal :=
  if l < 32 then ropeAt 4 cos sin (fun d => p (3200 + 32 * h + d)) l else 0

/-- Branch B's key at lane `l`. -/
def kB (p cos sin : Nat → EReal) (l : Nat) : EReal := if l < 64 then ropeAt 8 cos sin (fun d => p (2560 + d)) l else 0

/-- Branch B's value at lane `l`. -/
def vB (p : Nat → EReal) (l : Nat) : EReal := if l < 64 then p (2624 + l) else 1

/-- The indexer's key at lane `l`. -/
def kI (p cos sin : Nat → EReal) (l : Nat) : EReal := if l < 32 then ropeAt 4 cos sin (fun d => p (3456 + d)) l else 0

/-- The indexer's head weights in the first lanes and its key in the last, both scaled. -/
def wI (p cos sin : Nat → EReal) (l : Nat) : EReal :=
  if l < 8 then p (3488 + l) * e16 else if l < 96 then 0 else ropeAt 4 cos sin (fun d => p (3456 + d)) (l - 96) * e16

/-- The cosine table's entry at a lane: a head is `per` lanes wide. -/
def tabC (half per : Nat) (cos : Nat → EReal) (l : Nat) : EReal :=
  if l % per < half then cos (l % per) else if l % per < 2 * half then cos (l % per - half) else 1

/-- The sine table's entry at a lane. -/
def tabS (half per : Nat) (sin : Nat → EReal) (l : Nat) : EReal :=
  if l % per < half then -sin (l % per) else if l % per < 2 * half then sin (l % per - half) else 0

/-- Column `j` of the layer's weights at row `k`, zero past the last column. -/
def wcol (w : Fin 1024 → Fin 5544 → EReal) (k : Fin 1024) (j : Nat) : EReal := if h : j < 5544 then w k ⟨j, h⟩ else 0

/-- Column `j` of the normalized row's projection, zero past the last column. -/
def projAt (x g : Fin 1024 → EReal) (w : Fin 1024 → Fin 5544 → EReal) (j : Nat) : EReal :=
  ∑ k, Out.rmsRow x g k * wcol w k j

theorem projAt_of_le (x g : Fin 1024 → EReal) (w : Fin 1024 → Fin 5544 → EReal) (j : Nat) (h : 5544 ≤ j) : projAt x g w j = 0 :=
  Finset.sum_eq_zero fun k _ => by rw [wcol, dif_neg (by omega), mul_zero]

theorem projAt_of_lt (x g : Fin 1024 → EReal) (w : Fin 1024 → Fin 5544 → EReal) (j : Nat) (h : j < 5544) :
    projAt x g w j = Out.rowMul (Out.rmsRow x g) w ⟨j, h⟩ :=
  Finset.sum_congr rfl fun k _ => by rw [wcol, dif_pos h]

/-- The layer's column that stands in column `e` of the call's weights, a column past the last one where none does. -/
def colOf (e : Nat) : Nat :=
  if e < 1536 then e else if e < 2048 then e + 512 else if e < 2304 then e + 1152 else if e < 2432 then e + 256
  else if e < 2472 then e + 1024 else 6000

/-- A slice's lane turned by the table's entries at the lane is the head's lane turned: `y` is what the lane is paired with. -/
theorem turn_eq (half per : Nat) (cos sin x : Nat → EReal) (l : Nat) (y : EReal) (h1 : l % per < half → y = x (l + half))
    (h2 : half ≤ l % per → l % per < 2 * half → y = x (l - half)) :
    x l * tabC half per cos l + y * tabS half per sin l = ropeAt half cos sin (fun d => x (l - l % per + d)) (l % per) := by
  have e : l - l % per + l % per = l := Nat.sub_add_cancel (Nat.mod_le _ _)
  by_cases a : l % per < half
  · simp only [tabC, tabS, ropeAt, if_pos a]
    rw [h1 a, ← Nat.add_assoc, e, mul_neg, sub_eq_add_neg]
  · by_cases b : l % per < 2 * half
    · simp only [tabC, tabS, ropeAt, if_neg a, if_pos b]
      rw [h2 (by omega) b, e, show l - l % per + (l % per - half) = l - half by omega]
    · simp only [tabC, tabS, ropeAt, if_neg a, if_neg b, mul_one, mul_zero, add_zero, e]

end Cert.Proof.Proj

end
-- ==== Proof.ProjBody.lean ====
/-
  The blocks a grid point of the projection call writes, in terms of its projection and its rotation tables: the stores of
  each query window put one head's rows after the other, and every head is one masked slice of the projection.
-/
module

public import proofs.«01_k».proof.Proof.Gen.Kernel3Ideal.Value
public import Idealize.ShloMosaic.Lib.Pointwise
public import proofs.«01_k».proof.Proof.ProjRow
public import Idealize.ShloMosaic.Lib.Pipeline.Value

@[expose] public section

set_option maxRecDepth 16384

noncomputable section

namespace Cert.Proof.Proj

open Cert.Kernel3Ideal Cert.Kernel3Ideal.Gen
open Idealize.ShloMosaic Idealize.ShloMosaic.TcCoe

/-- The lane's number at every lane of a 1024-row block. -/
def lane : IVec S1024x128 32 := iota .tc S1024x128 32 [1] iota_S1024x128_d1_w32

/-- The lanes of the 64-lane group `r`. -/
def group64 (r : BitVec 32) : IVec S1024x128 1 :=
  cmpi .eq
    (select
      (andi
        (cmpi .ne
          (subi (extui 32 (cmpi .sgt lane (broadcast S1024x128 0#32)) natLt_1_32) (extui 32 (cmpi .slt lane (broadcast S1024x128 0#32)) natLt_1_32))
          (broadcast S1024x128 (Scalar.subi (Scalar.extui (Scalar.cmpi .sgt 64#32 0#32)) (Scalar.extui (Scalar.cmpi .slt 64#32 0#32)))))
        (cmpi .ne (remsi lane (broadcast S1024x128 64#32)) (broadcast S1024x128 0#32)))
      (subi (divsi lane (broadcast S1024x128 64#32)) (broadcast S1024x128 1#32))
      (divsi lane (broadcast S1024x128 64#32)))
    (broadcast S1024x128 r)

/-- The lanes whose number is below `h` modulo `n`. -/
def below (n h : BitVec 32) : IVec S1024x128 1 :=
  let n' : BitVec 32 := Scalar.select (Scalar.cmpi .eq n 0#32) 1#32 n
  let q : IVec S1024x128 32 := remsi lane (broadcast S1024x128 n')
  cmpi .slt
    (select
      (andi
        (xori (cmpi .slt q (broadcast S1024x128 0#32)) (broadcastTo S1024x128 (broadcast S1024x128 (Scalar.cmpi .slt n' 0#32)) broadcasts_S1024x128_S1024x128))
        (cmpi .ne q (broadcast S1024x128 0#32)))
      (addi q (broadcast S1024x128 n')) q)
    (broadcast S1024x128 h)

/-- A slice of 128 lanes turned by the tables: `up` brings the second half's lanes to the first, `dn` the first's to the
    second. -/
def turn (n up dn : BitVec 32) (x c s : FVec Ideal S1024x128 .f32) : FVec Ideal S1024x128 .f32 :=
  addf (mulf x c) (mulf (select (below n dn) (dynamicRotate 1 up none x rotates_S1024x128_d1) (dynamicRotate 1 dn none x rotates_S1024x128_d1)) s)

/-- The value `z` in all lanes from `n` on. -/
def firstLanes (n : BitVec 32) (x : FVec Ideal S1024x128 .f32) (z : Ideal .f32) : FVec Ideal S1024x128 .f32 :=
  select (cmpi .slt lane (broadcast S1024x128 n)) x (broadcast S1024x128 z)

/-- The heads' own lanes of branch A's queries, two heads to a slice. -/
def cutA (p : FVec Ideal S1024x2560 .f32) : Nat → FVec Ideal S1024x128 .f32
  | 0 => extractStridedSlice S1024x128 ![0, 0] p slices_S1024x2560_o0_0_S1024x128
  | 1 => extractStridedSlice S1024x128 ![0, 128] p slices_S1024x2560_o0_128_S1024x128
  | 2 => extractStridedSlice S1024x128 ![0, 256] p slices_S1024x2560_o0_256_S1024x128
  | _ => extractStridedSlice S1024x128 ![0, 384] p slices_S1024x2560_o0_384_S1024x128

/-- Branch B's queries, two heads to a slice. -/
def cutB (p : FVec Ideal S1024x2560 .f32) : Nat → FVec Ideal S1024x128 .f32
  | 0 => extractStridedSlice S1024x128 ![0, 1536] p slices_S1024x2560_o0_1536_S1024x128
  | 1 => extractStridedSlice S1024x128 ![0, 1664] p slices_S1024x2560_o0_1664_S1024x128
  | 2 => extractStridedSlice S1024x128 ![0, 1792] p slices_S1024x2560_o0_1792_S1024x128
  | _ => extractStridedSlice S1024x128 ![0, 1920] p slices_S1024x2560_o0_1920_S1024x128

/-- The indexer's queries, four heads to a slice. -/
def cutI (p : FVec Ideal S1024x2560 .f32) : Nat → FVec Ideal S1024x128 .f32
  | 0 => extractStridedSlice S1024x128 ![0, 2048] p slices_S1024x2560_o0_2048_S1024x128
  | _ => extractStridedSlice S1024x128 ![0, 2176] p slices_S1024x2560_o0_2176_S1024x128

/-- A slice with the head's lanes brought to the front: heads two to a slice. -/
def front2 (x : FVec Ideal S1024x128 .f32) : Nat → FVec Ideal S1024x128 .f32
  | 0 => x
  | _ => dynamicRotate 1 64#32 none x rotates_S1024x128_d1

/-- A slice with the head's lanes brought to the front: heads four to a slice. -/
def front4 (x : FVec Ideal S1024x128 .f32) : Nat → FVec Ideal S1024x128 .f32
  | 0 => x
  | 1 => dynamicRotate 1 96#32 none x rotates_S1024x128_d1
  | 2 => dynamicRotate 1 64#32 none x rotates_S1024x128_d1
  | _ => dynamicRotate 1 32#32 none x rotates_S1024x128_d1

/-- An eighth, the scale of branch A's and branch B's queries. -/
abbrev eighth : Ideal .f32 := Scalar.ofBits .f32 0x3E000000#32

/-- Head `h` of branch A's queries. -/
def headA (p : FVec Ideal S1024x2560 .f32) (h : Nat) : FVec Ideal S1024x128 .bf16 :=
  truncf .bf16 (select (group64 (BitVec.ofNat 32 (h % 2))) (mulf (cutA p (h / 2)) (broadcast S1024x128 eighth))
    (broadcast S1024x128 (Scalar.ofBits .f32 0x00000000#32))) bitsLt_bf16_f32

/-- Head `h` of branch B's queries. -/
def headB (p : FVec Ideal S1024x2560 .f32) (c s : FVec Ideal S1024x128 .f32) (h : Nat) : FVec Ideal S1024x128 .bf16 :=
  truncf .bf16 (firstLanes 64#32 (front2 (mulf (turn 16#32 120#32 8#32 (cutB p (h / 2)) c s) (broadcast S1024x128 eighth)) (h % 2))
    (Scalar.ofBits .f32 0x00000000#32)) bitsLt_bf16_f32

/-- Head `h` of the indexer's queries. -/
def headI (p : FVec Ideal S1024x2560 .f32) (c s : FVec Ideal S1024x128 .f32) (h : Nat) : FVec Ideal S1024x128 .bf16 :=
  truncf .bf16 (firstLanes 32#32 (front4 (turn 8#32 124#32 4#32 (cutI p (h / 4)) c s) (h % 4))
    (Scalar.ofBits .f32 0x00000000#32)) bitsLt_bf16_f32

/-- Branch B's key and value, the key turned. -/
def pairB (p : FVec Ideal S1024x2560 .f32) (c s : FVec Ideal S1024x128 .f32) : FVec Ideal S1024x128 .f32 :=
  turn 16#32 120#32 8#32 (extractStridedSlice S1024x128 ![0, 2304] p slices_S1024x2560_o0_2304_S1024x128)
    (firstLanes 64#32 c (Scalar.ofBits .f32 0x3F800000#32)) (firstLanes 64#32 s (Scalar.ofBits .f32 0x00000000#32))

/-- The indexer's key and head weights, the key turned. -/
def pairI (p : FVec Ideal S1024x2560 .f32) (c s : FVec Ideal S1024x128 .f32) : FVec Ideal S1024x128 .f32 :=
  turn 8#32 124#32 4#32 (extractStridedSlice S1024x128 ![0, 2432] p slices_S1024x2560_o0_2432_S1024x128)
    (firstLanes 32#32 c (Scalar.ofBits .f32 0x3F800000#32)) (firstLanes 32#32 s (Scalar.ofBits .f32 0x00000000#32))

/-- Branch B's key rows. -/
def keyB (p : FVec Ideal S1024x2560 .f32) (c s : FVec Ideal S1024x128 .f32) : FVec Ideal S1024x128 .bf16 :=
  truncf .bf16 (firstLanes 64#32 (pairB p c s) (Scalar.ofBits .f32 0x00000000#32)) bitsLt_bf16_f32

/-- Branch B's value rows. -/
def valB (p : FVec Ideal S1024x2560 .f32) (c s : FVec Ideal S1024x128 .f32) : FVec Ideal S1024x128 .bf16 :=
  truncf .bf16 (firstLanes 64#32 (dynamicRotate 1 64#32 none (pairB p c s) rotates_S1024x128_d1) (Scalar.ofBits .f32 0x3F800000#32)) bitsLt_bf16_f32

/-- The indexer's key rows. -/
def keyI (p : FVec Ideal S1024x2560 .f32) (c s : FVec Ideal S1024x128 .f32) : FVec Ideal S1024x128 .bf16 :=
  truncf .bf16 (firstLanes 32#32 (pairI p c s) (Scalar.ofBits .f32 0x00000000#32)) bitsLt_bf16_f32

/-- The indexer's head weights, and its key behind them, scaled. -/
def wgtI (p : FVec Ideal S1024x2560 .f32) (c s : FVec Ideal S1024x128 .f32) : FVec Ideal S1024x128 .f32 :=
  mulf (dynamicRotate 1 96#32 none (pairI p c s) rotates_S1024x128_d1) (broadcast S1024x128 (Scalar.ofBits .f32 0x3D800000#32))

/-! ### The stores of a query window -/

/-- The box of head `h`, block `j` of 128 rows. -/
abbrev box (h j : Nat) (hh : h < 8) (hj : j < 8) : Rect S8x8x128x128 :=
  Rect.unit (s := S8x8x128x128) ![j, h, 0, 0] S1x1x128x128.size (by
    intro a; fin_cases a
    · show j + 1 ≤ 8; omega
    · show h + 1 ≤ 8; omega
    · show 0 + 128 ≤ 128; omega
    · show 0 + 128 ≤ 128; omega)

theorem slices_rows (j : Nat) (hj : j < 8) : S1024x128.Slices ![128 * j, 0] S128x128 := by
  interval_cases j <;> decide

/-- The first `n` of a query window's stores, the last first: head by head, block by block. -/
def stores (W : Nat → FVec Ideal S1024x128 .bf16) : Nat → List (View.Piece (Elt Ideal) S8x8x128x128 .bf16)
  | 0 => []
  | n + 1 => ⟨box (n / 8 % 8) (n % 8) (Nat.mod_lt _ (by decide)) (Nat.mod_lt _ (by decide)),
      shapeCast S1x1x128x128 (extractStridedSlice S128x128 ![128 * (n % 8), 0] (W (n / 8 % 8)) (slices_rows _ (Nat.mod_lt _ (by decide))))
        shapeCasts_S128x128_S1x1x128x128⟩ :: stores W n

variable (x0 : Vec Ideal S1024x1024 .f32) (x1 : Vec Ideal S1x1024 .f32) (x2 : Vec Ideal S1024x2560 .bf16) (x3 : Vec Ideal S1024x512 .f32)

theorem out4_stores : out0_4 x0 x1 x2 x3 = View.canon (stores (headA (k0_pay291 x0 x1 x2 x3)) 64) := rfl

theorem out7_stores : out0_7 x0 x1 x2 x3 = View.canon (stores (headB (k0_pay291 x0 x1 x2 x3) (k0_pay315 x0 x1 x2 x3) (k0_pay316 x0 x1 x2 x3)) 64) := rfl

theorem out8_stores : out0_8 x0 x1 x2 x3 = View.canon (stores (headI (k0_pay291 x0 x1 x2 x3) (k0_pay317 x0 x1 x2 x3) (k0_pay318 x0 x1 x2 x3)) 64) := rfl

/-- A store's entry is the head's, at the row of the block it is stored for. -/
theorem store_at (W : Nat → FVec Ideal S1024x128 .bf16) (h j : Nat) (hh : h < 8) (hj : j < 8) (x : S1x1x128x128.Idx) :
    (shapeCast S1x1x128x128 (extractStridedSlice S128x128 ![128 * j, 0] (W h) (slices_rows j hj)) shapeCasts_S128x128_S1x1x128x128 : FVec Ideal _ .bf16) x
      = W h (ix2 ⟨128 * j + (x 2).val, by have : (x 2).val < 128 := (x 2).isLt; omega⟩ (x 3)) := by
  pointwise

/-- What the stores leave, head by head. -/
theorem stores_apply (W : Nat → FVec Ideal S1024x128 .bf16) (y : S8x8x128x128.Idx) (hy : ∃ p ∈ stores W 64, y ∈ p.1.set) :
    View.canon (stores W 64) y
      = W (y 1).val (ix2 ⟨128 * (y 0).val + (y 2).val, by have h0 : (y 0).val < 8 := (y 0).isLt; have h2 : (y 2).val < 128 := (y 2).isLt; omega⟩ (y 3)) := by
  refine View.canon_apply_of_pieces (fun y => W (y 1).val (ix2 ⟨128 * (y 0).val + (y 2).val, by have h0 : (y 0).val < 8 := (y 0).isLt; have h2 : (y 2).val < 128 := (y 2).isLt; omega⟩ (y 3))) _ ?_ y hy
  generalize 64 = n
  induction n with
  | zero => exact fun p hp => nomatch hp
  | succ n ih =>
    intro p hp x
    rcases List.mem_cons.mp hp with rfl | hp
    · refine (store_at W _ _ (Nat.mod_lt _ (by decide)) (Nat.mod_lt _ (by decide)) x).trans ?_
      have h0 : (x 0).val = 0 := Nat.lt_one_iff.mp (x 0).isLt
      have h1 : (x 1).val = 0 := Nat.lt_one_iff.mp (x 1).isLt
      show _ = W (n / 8 % 8 + 1 * (x 1).val) (ix2 ⟨128 * (n % 8 + 1 * (x 0).val) + (0 + 1 * (x 2).val), _⟩ ⟨0 + 1 * (x 3).val, _⟩)
      simp only [h0, h1, Nat.mul_zero, Nat.add_zero, Nat.zero_add, Nat.one_mul]
      rfl
    · exact ih p hp x

theorem out4_apply (j h : Fin 8) (r l : Fin 128) :
    out0_4 x0 x1 x2 x3 (ix4 j h r l) = headA (k0_pay291 x0 x1 x2 x3) h.val (ix2 ⟨128 * j.val + r.val, by omega⟩ l) :=
  (congrFun (out4_stores x0 x1 x2 x3) _).trans (stores_apply _ _ (cover0_4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _))

theorem out7_apply (j h : Fin 8) (r l : Fin 128) :
    out0_7 x0 x1 x2 x3 (ix4 j h r l)
      = headB (k0_pay291 x0 x1 x2 x3) (k0_pay315 x0 x1 x2 x3) (k0_pay316 x0 x1 x2 x3) h.val (ix2 ⟨128 * j.val + r.val, by omega⟩ l) :=
  (congrFun (out7_stores x0 x1 x2 x3) _).trans (stores_apply _ _ (cover0_4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _))

theorem out8_apply (j h : Fin 8) (r l : Fin 128) :
    out0_8 x0 x1 x2 x3 (ix4 j h r l)
      = headI (k0_pay291 x0 x1 x2 x3) (k0_pay317 x0 x1 x2 x3) (k0_pay318 x0 x1 x2 x3) h.val (ix2 ⟨128 * j.val + r.val, by omega⟩ l) :=
  (congrFun (out8_stores x0 x1 x2 x3) _).trans (stores_apply _ _ (cover0_4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _))

/-! ### The other windows -/

theorem hz : (![0, 0] : Fin 2 → Nat) = fun _ => 0 := funext fun a => by fin_cases a <;> rfl

theorem out9_eq : out0_9 x0 x1 x2 x3 = keyB (k0_pay291 x0 x1 x2 x3) (k0_pay315 x0 x1 x2 x3) (k0_pay316 x0 x1 x2 x3) := by
  unfold out0_9; rw [View.canon_unit_zero hz]; rfl

theorem out10_eq : out0_10 x0 x1 x2 x3 = valB (k0_pay291 x0 x1 x2 x3) (k0_pay315 x0 x1 x2 x3) (k0_pay316 x0 x1 x2 x3) := by
  unfold out0_10; rw [View.canon_unit_zero hz]; rfl

theorem out11_eq : out0_11 x0 x1 x2 x3 = keyI (k0_pay291 x0 x1 x2 x3) (k0_pay317 x0 x1 x2 x3) (k0_pay318 x0 x1 x2 x3) := by
  unfold out0_11; rw [View.canon_unit_zero hz]; rfl

theorem out12_eq : out0_12 x0 x1 x2 x3 = wgtI (k0_pay291 x0 x1 x2 x3) (k0_pay317 x0 x1 x2 x3) (k0_pay318 x0 x1 x2 x3) := by
  unfold out0_12; rw [View.canon_unit_zero hz]; rfl

theorem out5_apply (i : Fin 1024) (l : Fin 512) :
    out0_5 x0 x1 x2 x3 (ix2 i l) = k0_pay291 x0 x1 x2 x3 (ix2 i ⟨512 + l.val, by omega⟩) := by
  unfold out0_5; rw [View.canon_unit_zero hz]; pointwise [k0_pay96]

theorem out6_apply (i : Fin 1024) (l : Fin 512) :
    out0_6 x0 x1 x2 x3 (ix2 i l) = k0_pay291 x0 x1 x2 x3 (ix2 i ⟨1024 + l.val, by omega⟩) := by
  unfold out0_6; rw [View.canon_unit_zero hz]; pointwise [k0_pay97]

/-! ### The projection and the tables -/

/-- The block's projection, at row `i`, column `e`. -/
theorem proj_apply (i : Fin 1024) (e : Fin 2560) :
    k0_pay291 x0 x1 x2 x3 (ix2 i e) = Out.rowMul (Out.rmsRow (fun k => x0 (ix2 i k)) (fun k => x1 (ix2 0 k))) (fun k j => x2 (ix2 k j)) e := by
  unfold k0_pay291
  rw [View.ld_unit_zero hz, View.ld_unit_zero hz, View.ld_unit_zero hz]
  pointwise [k0_pay2]
  rfl

theorem tab0_apply (i : Fin 1024) (l : Fin 128) : k0_pay315 x0 x1 x2 x3 (ix2 i l) = x3 (ix2 i ⟨l.val, by omega⟩) := by
  unfold k0_pay315 k0_pay98; pointwise

theorem tab1_apply (i : Fin 1024) (l : Fin 128) : k0_pay316 x0 x1 x2 x3 (ix2 i l) = x3 (ix2 i ⟨128 + l.val, by omega⟩) := by
  unfold k0_pay316 k0_pay99; pointwise

theorem tab2_apply (i : Fin 1024) (l : Fin 128) : k0_pay317 x0 x1 x2 x3 (ix2 i l) = x3 (ix2 i ⟨256 + l.val, by omega⟩) := by
  unfold k0_pay317 k0_pay100; pointwise

theorem tab3_apply (i : Fin 1024) (l : Fin 128) : k0_pay318 x0 x1 x2 x3 (ix2 i l) = x3 (ix2 i ⟨384 + l.val, by omega⟩) := by
  unfold k0_pay318 k0_pay101; pointwise

/-! ### The masks -/

theorem group64_at (r : Fin 2) (i : Fin 1024) (l : Fin 128) :
    group64 (BitVec.ofNat 32 r.val) (ix2 i l) = if l.val / 64 = r.val then 1#1 else 0#1 := by
  show group64 (BitVec.ofNat 32 r.val) (ix2 0 l) = _
  revert r l; decide +kernel

theorem below16_at (i : Fin 1024) (l : Fin 128) : below 16#32 8#32 (ix2 i l) = if l.val % 16 < 8 then 1#1 else 0#1 := by
  show below 16#32 8#32 (ix2 0 l) = _
  revert l; decide +kernel

theorem below8_at (i : Fin 1024) (l : Fin 128) : below 8#32 4#32 (ix2 i l) = if l.val % 8 < 4 then 1#1 else 0#1 := by
  show below 8#32 4#32 (ix2 0 l) = _
  revert l; decide +kernel

theorem lanes64_at (i : Fin 1024) (l : Fin 128) : cmpi .slt lane (broadcast S1024x128 64#32) (ix2 i l) = if l.val < 64 then 1#1 else 0#1 := by
  show cmpi .slt lane (broadcast S1024x128 64#32) (ix2 0 l) = _
  revert l; decide +kernel

theorem lanes32_at (i : Fin 1024) (l : Fin 128) : cmpi .slt lane (broadcast S1024x128 32#32) (ix2 i l) = if l.val < 32 then 1#1 else 0#1 := by
  show cmpi .slt lane (broadcast S1024x128 32#32) (ix2 0 l) = _
  revert l; decide +kernel

end Cert.Proof.Proj

end
-- ==== Proof.ProjHead.lean ====
/-
  The heads and the keys of a grid point of the projection call, row by row: at each lane, the row's projection at the
  head's own column, turned by the angles.
-/
module

public import proofs.«01_k».proof.Proof.ProjBody
public import Idealize.ShloMosaic.Lib.KernelVsHost

@[expose] public section

set_option maxRecDepth 16384

noncomputable section

namespace Cert.Proof.Proj

open Cert.Kernel3Ideal Cert.Kernel3Ideal.Gen
open Idealize.ShloMosaic Idealize.ShloMosaic.TcCoe

/-- A select on a mask that one condition states is that condition's choice. -/
theorem select_of {P : Prop} [Decidable P] {b : BitVec 1} (h : b = if P then 1#1 else 0#1) (x y : EReal) :
    Scalar.select b x y = if P then x else y := by
  subst h; by_cases hP : P
  · rw [if_pos hP, if_pos hP]; rfl
  · rw [if_neg hP, if_neg hP]; rfl

/-- Two choices on one condition, with equal values where it holds and where not. -/
theorem if_congr_of' {P : Prop} [Decidable P] {a a' b b' : EReal} (h : P → a = a') (hb : b = b') : (if P then a else b) = if P then a' else b' := by
  by_cases hP : P
  · rw [if_pos hP, if_pos hP, h hP]
  · rw [if_neg hP, if_neg hP, hb]

/-- A choice between a value and a word zero. -/
theorem if_congr_of {P : Prop} [Decidable P] {a a' b : EReal} (h : P → a = a') : (if P then a else b) = if P then a' else b :=
  if_congr_of' h rfl

/-- A rotated block at a lane. -/
theorem rot_at (n : BitVec 32) (k : Nat) (hk : 128 - n.toNat % 128 = k) (x : FVec Ideal S1024x128 .f32) (i : Fin 1024) (l : Fin 128) :
    dynamicRotate 1 n none x rotates_S1024x128_d1 (ix2 i l) = x (ix2 i ⟨(l.val + k) % 128, Nat.mod_lt _ (by decide)⟩) :=
  dynamicRotate_apply (1 : Fin 2) n x _ _ _ (by
    intro b
    match b with
    | ⟨0, _⟩ => rfl
    | ⟨1, _⟩ =>
      show (l.val + k) % 128 = (l.val + 128 - n.toNat % 128) % 128
      have := Nat.mod_lt n.toNat (show 0 < 128 by decide); congr 1; omega)

theorem cutA_at (p : FVec Ideal S1024x2560 .f32) (g : Fin 4) (i : Fin 1024) (l : Fin 128) :
    cutA p g.val (ix2 i l) = p (ix2 i ⟨128 * g.val + l.val, by omega⟩) := by
  fin_cases g <;> pointwise [cutA]

theorem cutB_at (p : FVec Ideal S1024x2560 .f32) (g : Fin 4) (i : Fin 1024) (l : Fin 128) :
    cutB p g.val (ix2 i l) = p (ix2 i ⟨1536 + 128 * g.val + l.val, by omega⟩) := by
  fin_cases g <;> pointwise [cutB]

theorem cutI_at (p : FVec Ideal S1024x2560 .f32) (g : Fin 2) (i : Fin 1024) (l : Fin 128) :
    cutI p g.val (ix2 i l) = p (ix2 i ⟨2048 + 128 * g.val + l.val, by omega⟩) := by
  fin_cases g <;> pointwise [cutI]

section Turn
variable (x c s : FVec Ideal S1024x128 .f32) (i : Fin 1024) (l : Fin 128) (xs cos sin : Nat → EReal)

theorem turn16_row (hx : ∀ l : Fin 128, x (ix2 i l) = xs l.val) (hc : c (ix2 i l) = tabC 8 64 cos l.val) (hs : s (ix2 i l) = tabS 8 64 sin l.val) :
    turn 16#32 120#32 8#32 x c s (ix2 i l) = ropeAt 8 cos sin (fun d => xs (l.val - l.val % 64 + d)) (l.val % 64) := by
  show x (ix2 i l) * c (ix2 i l) + Scalar.select (below 16#32 8#32 (ix2 i l)) (dynamicRotate 1 120#32 none x rotates_S1024x128_d1 (ix2 i l))
    (dynamicRotate 1 8#32 none x rotates_S1024x128_d1 (ix2 i l)) * s (ix2 i l) = _
  rw [select_of (below16_at i l), rot_at 120#32 8 (by decide), rot_at 8#32 120 (by decide), hx, hx, hx, hc, hs]
  refine turn_eq 8 64 cos sin xs l.val _ (fun h => ?_) (fun h h' => ?_)
  · rw [if_pos (by omega)]; congr 1; show (l.val + 8) % 128 = l.val + 8; omega
  · rw [if_neg (by omega)]; congr 1; show (l.val + 120) % 128 = l.val - 8; omega

theorem turn8_row (hx : ∀ l : Fin 128, x (ix2 i l) = xs l.val) (hc : c (ix2 i l) = tabC 4 32 cos l.val) (hs : s (ix2 i l) = tabS 4 32 sin l.val) :
    turn 8#32 124#32 4#32 x c s (ix2 i l) = ropeAt 4 cos sin (fun d => xs (l.val - l.val % 32 + d)) (l.val % 32) := by
  show x (ix2 i l) * c (ix2 i l) + Scalar.select (below 8#32 4#32 (ix2 i l)) (dynamicRotate 1 124#32 none x rotates_S1024x128_d1 (ix2 i l))
    (dynamicRotate 1 4#32 none x rotates_S1024x128_d1 (ix2 i l)) * s (ix2 i l) = _
  rw [select_of (below8_at i l), rot_at 124#32 4 (by decide), rot_at 4#32 124 (by decide), hx, hx, hx, hc, hs]
  refine turn_eq 4 32 cos sin xs l.val _ (fun h => ?_) (fun h h' => ?_)
  · rw [if_pos (by omega)]; congr 1; show (l.val + 4) % 128 = l.val + 4; omega
  · rw [if_neg (by omega)]; congr 1; show (l.val + 124) % 128 = l.val - 4; omega

/-- Where the tables say one and zero, a lane is kept. -/
theorem turn_kept (n up dn : BitVec 32) (hc : c (ix2 i l) = 1) (hs : s (ix2 i l) = 0) : turn n up dn x c s (ix2 i l) = x (ix2 i l) := by
  show x (ix2 i l) * c (ix2 i l) + _ * s (ix2 i l) = _
  rw [hc, hs, mul_one, mul_zero, add_zero]

theorem first64_at (z : EReal) : firstLanes 64#32 x z (ix2 i l) = if l.val < 64 then x (ix2 i l) else z :=
  select_of (lanes64_at i l) _ _

theorem first32_at (z : EReal) : firstLanes 32#32 x z (ix2 i l) = if l.val < 32 then x (ix2 i l) else z :=
  select_of (lanes32_at i l) _ _

theorem front2_at (r : Fin 2) (h : l.val < 64) : front2 x r.val (ix2 i l) = x (ix2 i ⟨l.val + 64 * r.val, by omega⟩) := by
  fin_cases r
  · rfl
  · refine (rot_at 64#32 64 (by decide) x i l).trans ?_
    congr 2; exact Fin.ext (Nat.mod_eq_of_lt (by omega))

theorem front4_at (r : Fin 4) (h : l.val < 32) : front4 x r.val (ix2 i l) = x (ix2 i ⟨l.val + 32 * r.val, by omega⟩) := by
  fin_cases r
  · rfl
  · refine (rot_at 96#32 32 (by decide) x i l).trans ?_
    congr 2; exact Fin.ext (Nat.mod_eq_of_lt (by omega))
  · refine (rot_at 64#32 64 (by decide) x i l).trans ?_
    congr 2; exact Fin.ext (Nat.mod_eq_of_lt (by omega))
  · refine (rot_at 32#32 96 (by decide) x i l).trans ?_
    congr 2; exact Fin.ext (Nat.mod_eq_of_lt (by omega))

end Turn

section Heads
variable (p : FVec Ideal S1024x2560 .f32) (c s : FVec Ideal S1024x128 .f32) (i : Fin 1024) (q cos sin : Nat → EReal)
variable (hp : ∀ e : Fin 2560, p (ix2 i e) = q (colOf e.val))

include hp

theorem headA_row (h : Fin 8) (l : Fin 128) : headA p h.val (ix2 i l) = qA q h.val l.val := by
  show Scalar.select (group64 (BitVec.ofNat 32 (h.val % 2)) (ix2 i l)) (cutA p (h.val / 2) (ix2 i l) * e8) (Ideal.ofBits FTy.f32 0#32) = _
  rw [select_of (group64_at ⟨h.val % 2, Nat.mod_lt _ (by decide)⟩ i l), cutA_at p ⟨h.val / 2, by omega⟩, hp]
  refine if_congr_of' (P := l.val / 64 = h.val % 2) (fun hl => ?_) Ideal.ofBits_zero_f32
  rw [colOf, if_pos (show 128 * (h.val / 2) + l.val < 1536 by omega)]
  congr 2; show 128 * (h.val / 2) + l.val = 64 * h.val + l.val % 64; omega

variable (hc : ∀ l : Fin 128, c (ix2 i l) = tabC 8 64 cos l.val) (hs : ∀ l : Fin 128, s (ix2 i l) = tabS 8 64 sin l.val)
variable (hc' : ∀ l : Fin 128, c (ix2 i l) = tabC 4 32 cos l.val) (hs' : ∀ l : Fin 128, s (ix2 i l) = tabS 4 32 sin l.val)

include hc hs in
theorem headB_row (h : Fin 8) (l : Fin 128) : headB p c s h.val (ix2 i l) = qB q cos sin h.val l.val := by
  refine (first64_at _ i l _).trans ?_
  refine if_congr_of' (P := l.val < 64) (fun hl => ?_) Ideal.ofBits_zero_f32
  refine (front2_at _ i l ⟨h.val % 2, Nat.mod_lt _ (by decide)⟩ hl).trans ?_
  show turn 16#32 120#32 8#32 (cutB p (h.val / 2)) c s (ix2 i ⟨l.val + 64 * (h.val % 2), _⟩) * e8 = _
  rw [turn16_row _ c s i _ (fun e => q (2048 + 128 * (h.val / 2) + e)) cos sin (fun l => ?_) (hc _) (hs _)]
  · rw [show (l.val + 64 * (h.val % 2)) % 64 = l.val by omega, show l.val + 64 * (h.val % 2) - l.val = 64 * (h.val % 2) by omega]
    congr 2; funext d; congr 1; omega
  · rw [cutB_at p ⟨h.val / 2, by omega⟩, hp]
    congr 1; show colOf (1536 + 128 * (h.val / 2) + l.val) = _
    rw [colOf, if_neg (by omega), if_pos (by omega)]; omega

include hc' hs' in
theorem headI_row (h : Fin 8) (l : Fin 128) : headI p c s h.val (ix2 i l) = qI q cos sin h.val l.val := by
  refine (first32_at _ i l _).trans ?_
  refine if_congr_of' (P := l.val < 32) (fun hl => ?_) Ideal.ofBits_zero_f32
  refine (front4_at _ i l ⟨h.val % 4, Nat.mod_lt _ (by decide)⟩ hl).trans ?_
  rw [turn8_row _ c s i _ (fun e => q (3200 + 128 * (h.val / 4) + e)) cos sin (fun l => ?_) (hc' _) (hs' _)]
  · show ropeAt 4 cos sin (fun d => q (3200 + 128 * (h.val / 4) + (l.val + 32 * (h.val % 4) - (l.val + 32 * (h.val % 4)) % 32 + d))) ((l.val + 32 * (h.val % 4)) % 32) = _
    rw [show (l.val + 32 * (h.val % 4)) % 32 = l.val by omega, show l.val + 32 * (h.val % 4) - l.val = 32 * (h.val % 4) by omega]
    congr 1; funext d; congr 1; omega
  · rw [cutI_at p ⟨h.val / 4, by omega⟩, hp]
    congr 1; show colOf (2048 + 128 * (h.val / 4) + l.val) = _
    rw [colOf, if_neg (by omega), if_neg (by omega), if_pos (by omega)]; omega

include hc hs in
/-- Branch B's key and value side by side: the key's lanes turned, the value's kept. -/
theorem pairB_row (l : Fin 128) :
    pairB p c s (ix2 i l) = if l.val < 64 then ropeAt 8 cos sin (fun d => q (2560 + d)) l.val else q (2624 + (l.val - 64)) := by
  have hx : ∀ l : Fin 128, extractStridedSlice S1024x128 ![0, 2304] p slices_S1024x2560_o0_2304_S1024x128 (ix2 i l) = q (2560 + l.val) := fun l => by
    pointwise
    rw [hp]; congr 1; show colOf (2304 + l.val) = _
    rw [colOf, if_neg (by omega), if_neg (by omega), if_neg (by omega), if_pos (by omega)]; omega
  by_cases h : l.val < 64
  · rw [if_pos h]
    refine (turn16_row _ _ _ i l (fun e => q (2560 + e)) cos sin hx ?_ ?_).trans ?_
    · exact (first64_at _ i l _).trans ((if_pos h).trans (hc l))
    · exact (first64_at _ i l _).trans ((if_pos h).trans (hs l))
    · rw [Nat.mod_eq_of_lt h, Nat.sub_self]; simp only [Nat.zero_add]
  · rw [if_neg h]
    refine (turn_kept _ _ _ i l _ _ _ ?_ ?_).trans ?_
    · exact (first64_at _ i l _).trans ((if_neg h).trans Ideal.ofBits_one_f32)
    · exact (first64_at _ i l _).trans ((if_neg h).trans Ideal.ofBits_zero_f32)
    · rw [hx]; congr 1; omega

include hc' hs' in
/-- The indexer's key and head weights side by side: the key's lanes turned, the weights' kept, zeros behind them. -/
theorem pairI_row (hq : q 6000 = 0) (l : Fin 128) :
    pairI p c s (ix2 i l) = if l.val < 32 then ropeAt 4 cos sin (fun d => q (3456 + d)) l.val else if l.val < 40 then q (3488 + (l.val - 32)) else 0 := by
  have hx : ∀ l : Fin 128, extractStridedSlice S1024x128 ![0, 2432] p slices_S1024x2560_o0_2432_S1024x128 (ix2 i l)
      = if l.val < 40 then q (3456 + l.val) else 0 := fun l => by
    pointwise
    rw [hp]; show q (colOf (2432 + l.val)) = _
    rw [colOf, if_neg (by omega), if_neg (by omega), if_neg (by omega), if_neg (by omega)]
    by_cases h : l.val < 40
    · rw [if_pos (by omega), if_pos h]; congr 1; omega
    · rw [if_neg (by omega), if_neg h, hq]
  by_cases h : l.val < 32
  · rw [if_pos h]
    refine (turn8_row _ _ _ i l (fun e => if e < 40 then q (3456 + e) else 0) cos sin hx ?_ ?_).trans ?_
    · exact (first32_at _ i l _).trans ((if_pos h).trans (hc' l))
    · exact (first32_at _ i l _).trans ((if_pos h).trans (hs' l))
    · rw [Nat.mod_eq_of_lt h, Nat.sub_self]; simp only [Nat.zero_add, ropeAt]
      rw [if_pos (show l.val < 40 by omega), if_pos (show l.val - 4 < 40 by omega)]
      refine if_congr_of fun h4 => ?_
      rw [if_pos (show l.val + 4 < 40 by omega)]
  · rw [if_neg h]
    refine (turn_kept _ _ _ i l _ _ _ ?_ ?_).trans ?_
    · exact (first32_at _ i l _).trans ((if_neg h).trans Ideal.ofBits_one_f32)
    · exact (first32_at _ i l _).trans ((if_neg h).trans Ideal.ofBits_zero_f32)
    · rw [hx]; exact if_congr_of fun _ => by congr 1; omega

include hc hs in
theorem keyB_row (l : Fin 128) : keyB p c s (ix2 i l) = kB q cos sin l.val := by
  refine (first64_at _ i l _).trans ?_
  refine (if_congr_of' (fun hl => ?_) Ideal.ofBits_zero_f32)
  rw [pairB_row p c s i q cos sin hp hc hs, if_pos hl]

include hc hs in
theorem valB_row (l : Fin 128) : valB p c s (ix2 i l) = vB q l.val := by
  refine (first64_at _ i l _).trans ?_
  refine (if_congr_of' (fun hl => ?_) Ideal.ofBits_one_f32)
  rw [rot_at 64#32 64 (by decide), pairB_row p c s i q cos sin hp hc hs, if_neg (by show ¬ (l.val + 64) % 128 < 64; omega)]
  congr 1; show 2624 + ((l.val + 64) % 128 - 64) = _; omega

include hc' hs' in
theorem keyI_row (hq : q 6000 = 0) (l : Fin 128) : keyI p c s (ix2 i l) = kI q cos sin l.val := by
  refine (first32_at _ i l _).trans ?_
  refine (if_congr_of' (fun hl => ?_) Ideal.ofBits_zero_f32)
  rw [pairI_row p c s i q cos sin hp hc' hs' hq, if_pos hl]

include hc' hs' in
theorem wgtI_row (hq : q 6000 = 0) (l : Fin 128) : wgtI p c s (ix2 i l) = wI q cos sin l.val := by
  show dynamicRotate 1 96#32 none (pairI p c s) rotates_S1024x128_d1 (ix2 i l) * e16 = _
  rw [rot_at 96#32 32 (by decide), pairI_row p c s i q cos sin hp hc' hs' hq]
  show (if (l.val + 32) % 128 < 32 then ropeAt 4 cos sin (fun d => q (3456 + d)) ((l.val + 32) % 128)
    else if (l.val + 32) % 128 < 40 then q (3488 + ((l.val + 32) % 128 - 32)) else 0) * e16 = _
  by_cases h8 : l.val < 8
  · rw [wI, if_pos h8, if_neg (by omega), if_pos (by omega)]; congr 2; omega
  · by_cases h96 : l.val < 96
    · rw [wI, if_neg h8, if_pos h96, if_neg (by omega), if_neg (by omega), zero_mul]
    · rw [wI, if_neg h8, if_neg h96, if_pos (by omega), show (l.val + 32) % 128 = l.val - 96 by omega]

end Heads

end Cert.Proof.Proj

end
-- ==== Proof.ProjHost.lean ====
/-
  The arrays the projection call's host code prepares: the weights' columns put side by side, and the tables of the angles'
  cosines and sines.
-/
module

public import proofs.«01_k».proof.Proof.ProjHead

@[expose] public section

set_option maxRecDepth 16384

noncomputable section

namespace Cert.Proof.Proj

open Cert.Kernel3Ideal Cert.Kernel3Ideal.Gen
open Idealize.ShloMosaic Idealize.ShloMosaic.TcCoe

/-- The angle of pair `i` at position `s`, of as many pairs as the constant `n` writes. -/
def angAt (n : BitVec 32) (s i : Nat) : EReal :=
  FloatOps.sitofp (F := Ideal) FTy.f32 (BitVec.ofNat 32 s) * Ideal.pow (Ideal.ofBits FTy.f32 0x48F42400#32)
    (Ideal.div (-FloatOps.sitofp (F := Ideal) FTy.f32 (BitVec.ofNat 32 i)) (Ideal.ofBits FTy.f32 n))

/-- The cosines at position `s`. -/
def cosAt (n : BitVec 32) (s i : Nat) : EReal := Ideal.cos (angAt n s i)

/-- The sines at position `s`. -/
def sinAt (n : BitVec 32) (s i : Nat) : EReal := Ideal.sin (angAt n s i)

/-- The positions, as a column. -/
def pos : FVec Ideal S4096x1 .f32 := broadcastInDim S4096x1 ![0] bcast_S4096_S4096x1_0 (sitofp .f32 (iotaInDim S4096 32 0) : FVec Ideal S4096 .f32)

/-- The angles of the eight pairs at every position. -/
def angQ : FVec Ideal S4096x8 .f32 :=
  mulf (broadcastInDim S4096x8 ![0, 1] bcast_S4096x1_S4096x8_0_1 pos)
    (broadcastInDim S4096x8 ![0, 1] bcast_S1x8_S4096x8_0_1 (broadcastInDim S1x8 ![1] bcast_S8_S1x8_1
      (Host.powf (broadcastInDim S8 ![] bcast_S_S8 (constant S_ .f32 0x48F42400#32))
        (Host.divf (Host.negf (sitofp .f32 (iotaInDim S8 32 0))) (broadcastInDim S8 ![] bcast_S_S8 (constant S_ .f32 0x41000000#32))) : FVec Ideal S8 .f32)))

/-- The angles of the indexer's four pairs at every position. -/
def angI : FVec Ideal S4096x4 .f32 :=
  mulf (broadcastInDim S4096x4 ![0, 1] bcast_S4096x1_S4096x4_0_1 pos)
    (broadcastInDim S4096x4 ![0, 1] bcast_S1x4_S4096x4_0_1 (broadcastInDim S1x4 ![1] bcast_S4_S1x4_1
      (Host.powf (broadcastInDim S4 ![] bcast_S_S4 (constant S_ .f32 0x48F42400#32))
        (Host.divf (Host.negf (sitofp .f32 (iotaInDim S4 32 0))) (broadcastInDim S4 ![] bcast_S_S4 (constant S_ .f32 0x40800000#32))) : FVec Ideal S4 .f32)))

theorem angQ_at (s : Fin 4096) (i : Fin 8) : angQ (ix2 s i) = angAt 0x41000000#32 s i := by
  pointwise [angQ, pos]; rfl

theorem angI_at (s : Fin 4096) (i : Fin 4) : angI (ix2 s i) = angAt 0x40800000#32 s i := by
  pointwise [angI, pos]; rfl

/-- A row of ones past the turned lanes. -/
def oneQ : FVec Ideal S4096x48 .f32 := broadcastInDim S4096x48 ![] bcast_S_S4096x48 (constant S_ .f32 0x3F800000#32)

/-- The same for the indexer. -/
def oneI : FVec Ideal S4096x24 .f32 := broadcastInDim S4096x24 ![] bcast_S_S4096x24 (constant S_ .f32 0x3F800000#32)

/-- One head's row, repeated over 128 lanes. -/
def tileQ (v : FVec Ideal S4096x64 .f32) : FVec Ideal S4096x128 .f32 :=
  shapeCast S4096x128 (broadcastInDim S1x4096x2x64 ![0, 1, 2, 3] bcast_S1x4096x1x64_S1x4096x2x64_0_1_2_3
    (shapeCast S1x4096x1x64 v shapeCasts_S4096x64_S1x4096x1x64 : FVec Ideal S1x4096x1x64 .f32) : FVec Ideal S1x4096x2x64 .f32) shapeCasts_S1x4096x2x64_S4096x128

/-- One indexer head's row, repeated over 128 lanes. -/
def tileI (v : FVec Ideal S4096x32 .f32) : FVec Ideal S4096x128 .f32 :=
  shapeCast S4096x128 (broadcastInDim S1x4096x4x32 ![0, 1, 2, 3] bcast_S1x4096x1x32_S1x4096x4x32_0_1_2_3
    (shapeCast S1x4096x1x32 v shapeCasts_S4096x32_S1x4096x1x32 : FVec Ideal S1x4096x1x32 .f32) : FVec Ideal S1x4096x4x32 .f32) shapeCasts_S1x4096x4x32_S4096x128

/-- Three ranges of lanes of one head, side by side. -/
def rowQ (a b : FVec Ideal S4096x8 .f32) (d : FVec Ideal S4096x48 .f32) : FVec Ideal S4096x64 .f32 :=
  concatenate S4096x64 1 [⟨S4096x8, a⟩, ⟨S4096x8, b⟩, ⟨S4096x48, d⟩] concatenates_S4096x8_S4096x8_S4096x48_S4096x64_d1

/-- Three ranges of lanes of one indexer head, side by side. -/
def rowI (a b : FVec Ideal S4096x4 .f32) (d : FVec Ideal S4096x24 .f32) : FVec Ideal S4096x32 .f32 :=
  concatenate S4096x32 1 [⟨S4096x4, a⟩, ⟨S4096x4, b⟩, ⟨S4096x24, d⟩] concatenates_S4096x4_S4096x4_S4096x24_S4096x32_d1

/-- The four tables, side by side. -/
def tabArr : FVec Ideal S4096x512 .f32 := concatenate S4096x512 1
  [⟨S4096x128, tileQ (rowQ (Host.cos angQ) (Host.cos angQ) oneQ)⟩,
   ⟨S4096x128, tileQ (rowQ (Host.negf (Host.sin angQ)) (Host.sin angQ)
      (mulf (broadcastInDim S4096x48 ![] bcast_S_S4096x48 (constant S_ .f32 0x00000000#32)) oneQ))⟩,
   ⟨S4096x128, tileI (rowI (Host.cos angI) (Host.cos angI) oneI)⟩,
   ⟨S4096x128, tileI (rowI (Host.negf (Host.sin angI)) (Host.sin angI)
      (mulf (broadcastInDim S4096x24 ![] bcast_S_S4096x24 (constant S_ .f32 0x00000000#32)) oneI))⟩]
  concatenates_S4096x128_S4096x128_S4096x128_S4096x128_S4096x512_d1

theorem tileQ_at (v : FVec Ideal S4096x64 .f32) (s : Fin 4096) (l : Fin 128) : tileQ v (ix2 s l) = v (ix2 s ⟨l % 64, Nat.mod_lt _ (by omega)⟩) := by
  pointwise [tileQ]

theorem tileI_at (v : FVec Ideal S4096x32 .f32) (s : Fin 4096) (l : Fin 128) : tileI v (ix2 s l) = v (ix2 s ⟨l % 32, Nat.mod_lt _ (by omega)⟩) := by
  pointwise [tileI]

/-- A row of three ranges, two of them as wide as `half`: `a'`, `b'` and `z` are the ranges' entries. -/
theorem rowQ_at (a b : FVec Ideal S4096x8 .f32) (d : FVec Ideal S4096x48 .f32) (s : Fin 4096) (l : Fin 64) (a' b' : Nat → EReal) (z : EReal)
    (ha : ∀ i : Fin 8, a (ix2 s i) = a' i) (hb : ∀ i : Fin 8, b (ix2 s i) = b' i) (hd : ∀ i : Fin 48, d (ix2 s i) = z) :
    rowQ a b d (ix2 s l) = if l.val < 8 then a' l else if l.val < 2 * 8 then b' (l - 8) else z := by
  pointwise [rowQ]
  split
  · exact ha _
  · rename_i h
    split <;> rename_i h'
    · exact (hb _).trans (if_pos (by omega)).symm
    · exact (hd _).trans (if_neg (by omega)).symm

theorem rowI_at (a b : FVec Ideal S4096x4 .f32) (d : FVec Ideal S4096x24 .f32) (s : Fin 4096) (l : Fin 32) (a' b' : Nat → EReal) (z : EReal)
    (ha : ∀ i : Fin 4, a (ix2 s i) = a' i) (hb : ∀ i : Fin 4, b (ix2 s i) = b' i) (hd : ∀ i : Fin 24, d (ix2 s i) = z) :
    rowI a b d (ix2 s l) = if l.val < 4 then a' l else if l.val < 2 * 4 then b' (l - 4) else z := by
  pointwise [rowI]
  split
  · exact ha _
  · rename_i h
    split <;> rename_i h'
    · exact (hb _).trans (if_pos (by omega)).symm
    · exact (hd _).trans (if_neg (by omega)).symm

theorem cosQ_at (s : Fin 4096) (i : Fin 8) : Host.cos angQ (ix2 s i) = cosAt 0x41000000#32 s i := by
  pointwise; rw [angQ_at]; rfl

theorem sinQ_at (s : Fin 4096) (i : Fin 8) : Host.sin angQ (ix2 s i) = sinAt 0x41000000#32 s i := by
  pointwise; rw [angQ_at]; rfl

theorem negQ_at (s : Fin 4096) (i : Fin 8) : Host.negf (Host.sin angQ) (ix2 s i) = -sinAt 0x41000000#32 s i := by
  pointwise; rw [angQ_at]; rfl

theorem cosI_at (s : Fin 4096) (i : Fin 4) : Host.cos angI (ix2 s i) = cosAt 0x40800000#32 s i := by
  pointwise; rw [angI_at]; rfl

theorem sinI_at (s : Fin 4096) (i : Fin 4) : Host.sin angI (ix2 s i) = sinAt 0x40800000#32 s i := by
  pointwise; rw [angI_at]; rfl

theorem negI_at (s : Fin 4096) (i : Fin 4) : Host.negf (Host.sin angI) (ix2 s i) = -sinAt 0x40800000#32 s i := by
  pointwise; rw [angI_at]; rfl

theorem tabCQ (s : Fin 4096) (l : Fin 128) : tabArr (ix2 s ⟨l, by omega⟩) = tabC 8 64 (cosAt 0x41000000#32 s) l := by
  refine (?_ : _ = tileQ (rowQ (Host.cos angQ) (Host.cos angQ) oneQ) (ix2 s l)).trans
    ((tileQ_at _ s l).trans (rowQ_at _ _ _ s _ _ _ 1 (cosQ_at s) (cosQ_at s) fun i => by pointwise [oneQ]))
  unfold tabArr; pointwise

theorem tabSQ (s : Fin 4096) (l : Fin 128) : tabArr (ix2 s ⟨128 + l, by omega⟩) = tabS 8 64 (sinAt 0x41000000#32 s) l := by
  refine (?_ : _ = tileQ (rowQ (Host.negf (Host.sin angQ)) (Host.sin angQ)
      (mulf (broadcastInDim S4096x48 ![] bcast_S_S4096x48 (constant S_ .f32 0x00000000#32)) oneQ)) (ix2 s l)).trans
    ((tileQ_at _ s l).trans (rowQ_at _ _ _ s _ (fun i => -sinAt 0x41000000#32 s i) _ 0 (negQ_at s) (sinQ_at s) fun i => by pointwise [oneQ]))
  unfold tabArr; pointwise

theorem tabCI (s : Fin 4096) (l : Fin 128) : tabArr (ix2 s ⟨256 + l, by omega⟩) = tabC 4 32 (cosAt 0x40800000#32 s) l := by
  refine (?_ : _ = tileI (rowI (Host.cos angI) (Host.cos angI) oneI) (ix2 s l)).trans
    ((tileI_at _ s l).trans (rowI_at _ _ _ s _ _ _ 1 (cosI_at s) (cosI_at s) fun i => by pointwise [oneI]))
  unfold tabArr; pointwise
  rw [dif_neg (by omega), dif_neg (by omega), dif_pos (by omega)]
  congr 2; exact Fin.ext (by show 256 + l.val - 128 - 128 = l.val; omega)

theorem tabSI (s : Fin 4096) (l : Fin 128) : tabArr (ix2 s ⟨384 + l, by omega⟩) = tabS 4 32 (sinAt 0x40800000#32 s) l := by
  refine (?_ : _ = tileI (rowI (Host.negf (Host.sin angI)) (Host.sin angI)
      (mulf (broadcastInDim S4096x24 ![] bcast_S_S4096x24 (constant S_ .f32 0x00000000#32)) oneI)) (ix2 s l)).trans
    ((tileI_at _ s l).trans (rowI_at _ _ _ s _ (fun i => -sinAt 0x40800000#32 s i) _ 0 (negI_at s) (sinI_at s) fun i => by pointwise [oneI]))
  unfold tabArr; pointwise
  rw [dif_neg (by omega), dif_neg (by omega), dif_neg (by omega)]
  congr 2; exact Fin.ext (by show 384 + l.val - 128 - 128 - 128 = l.val; omega)

/-- The call's weights: the columns of the layer's weights the call takes, side by side, and zeros. -/
def w1 (x : FVec Ideal S1x1024x5544 .f32) : FVec Ideal S1024x2560 .bf16 :=
  let w : FVec Ideal S1024x5544 .f32 := shapeCast S1024x5544 x shapeCasts_S1x1024x5544_S1024x5544
  truncf .bf16 (concatenate S1024x2560 1
    [⟨S1024x512, (extractStridedSlice S1024x512 ![0, 0] w slices_S1024x5544_S1024x512_0_0 : FVec Ideal S1024x512 .f32)⟩,
     ⟨S1024x512, (extractStridedSlice S1024x512 ![0, 512] w slices_S1024x5544_S1024x512_0_512 : FVec Ideal S1024x512 .f32)⟩,
     ⟨S1024x512, (extractStridedSlice S1024x512 ![0, 1024] w slices_S1024x5544_S1024x512_0_1024 : FVec Ideal S1024x512 .f32)⟩,
     ⟨S1024x512, (extractStridedSlice S1024x512 ![0, 2048] w slices_S1024x5544_S1024x512_0_2048 : FVec Ideal S1024x512 .f32)⟩,
     ⟨S1024x256, (extractStridedSlice S1024x256 ![0, 3200] w slices_S1024x5544_S1024x256_0_3200 : FVec Ideal S1024x256 .f32)⟩,
     ⟨S1024x64, (extractStridedSlice S1024x64 ![0, 2560] w slices_S1024x5544_S1024x64_0_2560 : FVec Ideal S1024x64 .f32)⟩,
     ⟨S1024x64, (extractStridedSlice S1024x64 ![0, 2624] w slices_S1024x5544_S1024x64_0_2624 : FVec Ideal S1024x64 .f32)⟩,
     ⟨S1024x32, (extractStridedSlice S1024x32 ![0, 3456] w slices_S1024x5544_S1024x32_0_3456 : FVec Ideal S1024x32 .f32)⟩,
     ⟨S1024x8, (extractStridedSlice S1024x8 ![0, 3488] w slices_S1024x5544_S1024x8_0_3488 : FVec Ideal S1024x8 .f32)⟩,
     ⟨S1024x88, (broadcastInDim S1024x88 ![] bcast_S_S1024x88 (constant S_ .f32 0x00000000#32) : FVec Ideal S1024x88 .f32)⟩]
    concatenates_S1024x512_S1024x512_S1024x512_S1024x512_S1024x256_S1024x64_S1024x64_S1024x32_S1024x8_S1024x88_S1024x2560_d1 : FVec Ideal S1024x2560 .f32) bitsLt_bf16_f32

theorem w1_at (x : FVec Ideal S1x1024x5544 .f32) (k : Fin 1024) (e : Fin 2560) : w1 x (ix2 k e) = wcol (fun k j => x (ix3 0 k j)) k (colOf e) := by
  have key : ∀ (j : Nat) (h : j < 5544), j = colOf e → x (ix3 0 k ⟨j, h⟩) = wcol (fun k j => x (ix3 0 k j)) k (colOf e) := by
    intro j h hj; rw [← hj, wcol, dif_pos h]
  unfold w1; pointwise
  repeat' split
  all_goals first
    | (refine key _ _ ?_; unfold colOf; split_ifs <;> omega)
    | (unfold wcol; rw [dif_neg]; unfold colOf; split_ifs <;> omega)

end Cert.Proof.Proj

end
-- ==== Proof.ProjArr.lean ====
/-
  The projection call's nine result arrays, index by index, as functions of the layer's arguments.
-/
module

public import proofs.«01_k».proof.Proof.ProjHost

@[expose] public section

noncomputable section

namespace Cert.Proof.Proj

open Cert.Kernel3Ideal
open Idealize.ShloMosaic Idealize.ShloMosaic.TcCoe

variable (x : FVec Ideal S8x4096x1024 .f32) (g : FVec Ideal S1x1024 .f32) (w : FVec Ideal S1x1024x5544 .f32)

/-- The projection of the normalized row at batch `b`, position `s`. -/
def qAt (b : Fin 8) (s : Fin 4096) : Nat → EReal :=
  projAt (fun k => x (ix3 b s k)) (fun k => g (ix2 0 k)) (fun k j => w (ix3 0 k j))

/-- The batch a row of the 32768 lies in. -/
abbrev batchOf (R : Fin 32768) : Fin 8 := ⟨R.val / 4096, by omega⟩

/-- The position a row of the 32768 lies at. -/
abbrev posOf (R : Fin 32768) : Fin 4096 := ⟨R.val % 4096, by omega⟩

/-- The row of position `r` in block `b` of 128 positions. -/
abbrev rowIn (b : Fin 256) (r : Fin 128) : Fin 32768 := ⟨128 * b.val + r.val, by omega⟩

/-- The projection of row `R`. -/
abbrev qRow (R : Fin 32768) : Nat → EReal := qAt x g w (batchOf R) (posOf R)

/-- The cosines and sines of a row's position: for the heads' eight pairs and for the indexer's four. -/
abbrev cosQ (R : Fin 32768) : Nat → EReal := cosAt 0x41000000#32 (posOf R).val
@[inherit_doc cosQ] abbrev sinQ (R : Fin 32768) : Nat → EReal := sinAt 0x41000000#32 (posOf R).val
@[inherit_doc cosQ] abbrev cosI (R : Fin 32768) : Nat → EReal := cosAt 0x40800000#32 (posOf R).val
@[inherit_doc cosQ] abbrev sinI (R : Fin 32768) : Nat → EReal := sinAt 0x40800000#32 (posOf R).val

/-- Branch A's queries. -/
def arrQA : FVec Ideal S256x8x128x128 .bf16 := fun y => qA (qRow x g w (rowIn (y 0) (y 2))) (y 1).val (y 3).val

/-- Branch A's keys. -/
def arrKA : FVec Ideal S32768x512 .bf16 := fun y => qRow x g w (y 0) (512 + (y 1).val)

/-- Branch A's values. -/
def arrVA : FVec Ideal S32768x512 .bf16 := fun y => qRow x g w (y 0) (1024 + (y 1).val)

/-- Branch B's queries. -/
def arrQB : FVec Ideal S256x8x128x128 .bf16 := fun y =>
  qB (qRow x g w (rowIn (y 0) (y 2))) (cosQ (rowIn (y 0) (y 2))) (sinQ (rowIn (y 0) (y 2))) (y 1).val (y 3).val

/-- The indexer's queries. -/
def arrQI : FVec Ideal S256x8x128x128 .bf16 := fun y =>
  qI (qRow x g w (rowIn (y 0) (y 2))) (cosI (rowIn (y 0) (y 2))) (sinI (rowIn (y 0) (y 2))) (y 1).val (y 3).val

/-- Branch B's keys. -/
def arrKB : FVec Ideal S32768x128 .bf16 := fun y => kB (qRow x g w (y 0)) (cosQ (y 0)) (sinQ (y 0)) (y 1).val

/-- Branch B's values. -/
def arrVB : FVec Ideal S32768x128 .bf16 := fun y => vB (qRow x g w (y 0)) (y 1).val

/-- The indexer's keys. -/
def arrKI : FVec Ideal S32768x128 .bf16 := fun y => kI (qRow x g w (y 0)) (cosI (y 0)) (sinI (y 0)) (y 1).val

/-- The indexer's head weights, with its keys scaled. -/
def arrWI : FVec Ideal S32768x128 .f32 := fun y => wI (qRow x g w (y 0)) (cosI (y 0)) (sinI (y 0)) (y 1).val

end Cert.Proof.Proj

end
-- ==== Proof.ProjKernel.lean ====
/-
  The projection call's nine result arrays after its run: each holds the layer's projection, laid out, at every index.
-/
module

public import proofs.«01_k».proof.Proof.ProjArr
public import Idealize.ShloMosaic.Lib.Pipeline.ValueKit.Geometry

@[expose] public section

set_option maxRecDepth 16384

noncomputable section

namespace Cert.Proof.Proj

open Cert.Kernel3Ideal Cert.Kernel3Ideal.Gen
open Idealize.ShloMosaic Idealize.ShloMosaic.TcCoe
open Idealize.ShloMosaic.Pipeline (Dat)

variable (m : (ℓ : Loc nD τ sig) → Buf (Elt Ideal) ℓ) (c : Dev nD)

/-! ### What the host operations before the call leave in the arrays it reads -/

theorem V_rows : V m c main_v0 = shapeCast S32768x1024 (m (c, main_arg0)) shapeCasts_S8x4096x1024_S32768x1024 := by
  simp only [V, hostOps0]; after_results_simp <;> rfl

theorem V_w1 : V m c main_v17 = w1 (m (c, main_arg2)) := by
  simp only [V, hostOps0]; after_results_simp <;> rfl

theorem V_tab : V m c main_v68 = tabArr := by
  simp only [V, hostOps0]; after_results_simp <;> rfl

theorem cast_rows (x : FVec Ideal S8x4096x1024 .f32) (r : Fin 32768) (k : Fin 1024) :
    (shapeCast S32768x1024 x shapeCasts_S8x4096x1024_S32768x1024 : FVec Ideal _ _) (ix2 r k) = x (ix3 (batchOf r) (posOf r) k) := by
  pointwise

/-! ### Where a grid point's blocks lie in the arrays -/

/-- The block of 1024 rows grid point `t` works on. -/
abbrev blkOf (t : Nat) : Nat := t % 8 * 4 + t / 8

/-- The input windows' positions at point `t`. -/
theorem in_at (t : Fin cfg0.N) :
    (win0_0.index t 0 = blkOf t ∧ win0_0.index t 1 = 0) ∧ (∀ a, win0_1.index t a = 0) ∧ (∀ a, win0_2.index t a = 0)
      ∧ win0_3.index t 0 = t.val / 8 ∧ win0_3.index t 1 = 0 :=
  (by decide +kernel : ∀ t : Fin grid0.N,
    (win0_0.index t 0 = blkOf t ∧ win0_0.index t 1 = 0) ∧ (∀ a, win0_1.index t a = 0) ∧ (∀ a, win0_2.index t a = 0)
      ∧ win0_3.index t 0 = t.val / 8 ∧ win0_3.index t 1 = 0) t

/-- The query windows' positions at point `t`. -/
theorem heads_at (t : Fin cfg0.N) :
    (win0_4.index t 0 = blkOf t ∧ win0_4.index t 1 = 0 ∧ win0_4.index t 2 = 0 ∧ win0_4.index t 3 = 0)
      ∧ (win0_7.index t 0 = blkOf t ∧ win0_7.index t 1 = 0 ∧ win0_7.index t 2 = 0 ∧ win0_7.index t 3 = 0)
      ∧ (win0_8.index t 0 = blkOf t ∧ win0_8.index t 1 = 0 ∧ win0_8.index t 2 = 0 ∧ win0_8.index t 3 = 0) :=
  (by decide +kernel : ∀ t : Fin grid0.N,
    (win0_4.index t 0 = blkOf t ∧ win0_4.index t 1 = 0 ∧ win0_4.index t 2 = 0 ∧ win0_4.index t 3 = 0)
      ∧ (win0_7.index t 0 = blkOf t ∧ win0_7.index t 1 = 0 ∧ win0_7.index t 2 = 0 ∧ win0_7.index t 3 = 0)
      ∧ (win0_8.index t 0 = blkOf t ∧ win0_8.index t 1 = 0 ∧ win0_8.index t 2 = 0 ∧ win0_8.index t 3 = 0)) t

/-- The row windows' positions at point `t`. -/
theorem outs_at (t : Fin cfg0.N) :
    (win0_5.index t 0 = blkOf t ∧ win0_5.index t 1 = 0) ∧ (win0_6.index t 0 = blkOf t ∧ win0_6.index t 1 = 0)
      ∧ (win0_9.index t 0 = blkOf t ∧ win0_9.index t 1 = 0) ∧ (win0_10.index t 0 = blkOf t ∧ win0_10.index t 1 = 0)
      ∧ (win0_11.index t 0 = blkOf t ∧ win0_11.index t 1 = 0) ∧ (win0_12.index t 0 = blkOf t ∧ win0_12.index t 1 = 0) :=
  (by decide +kernel : ∀ t : Fin grid0.N,
    (win0_5.index t 0 = blkOf t ∧ win0_5.index t 1 = 0) ∧ (win0_6.index t 0 = blkOf t ∧ win0_6.index t 1 = 0)
      ∧ (win0_9.index t 0 = blkOf t ∧ win0_9.index t 1 = 0) ∧ (win0_10.index t 0 = blkOf t ∧ win0_10.index t 1 = 0)
      ∧ (win0_11.index t 0 = blkOf t ∧ win0_11.index t 1 = 0) ∧ (win0_12.index t 0 = blkOf t ∧ win0_12.index t 1 = 0)) t

theorem t_lt (t : Fin cfg0.N) : t.val < 32 := by have h : cfg0.N = 32 := N_0; omega

theorem blk_lt (t : Fin cfg0.N) : blkOf t < 32 := by have h := t_lt t; show t.val % 8 * 4 + t.val / 8 < 32; omega

/-- Row `i` of point `t`'s block, as a row of the whole array. -/
abbrev rowOf (t : Fin cfg0.N) (i : Fin 1024) : Fin 32768 := ⟨blkOf t * 1024 + i.val, by have h := blk_lt t; omega⟩

theorem blk0_apply (t : Fin cfg0.N) (i k : Fin 1024) : iblk m c 0 t (ix2 i k) = V m c main_v0 (ix2 (rowOf t i) k) := by
  show V m c main_v0 ((win0_0.rect t).emb (ix2 i k)) = _
  refine congrArg _ (Shape.idx_ext₂ ?_ ?_)
  · rw [win0_0.rect_emb_val t _ 0, (in_at t).1.1]; rfl
  · rw [win0_0.rect_emb_val t _ 1, (in_at t).1.2]; simp

theorem blk1_eq (t : Fin cfg0.N) : iblk m c 1 t = V m c main_arg1 := by
  funext y
  show V m c main_arg1 ((win0_1.rect t).emb y) = _
  exact congrArg _ (funext fun a => Fin.ext (win0_1.rect_emb_val_of_index_zero t a ((in_at t).2.1 a) y))

theorem blk2_eq (t : Fin cfg0.N) : iblk m c 2 t = V m c main_v17 := by
  funext y
  show V m c main_v17 ((win0_2.rect t).emb y) = _
  exact congrArg _ (funext fun a => Fin.ext (win0_2.rect_emb_val_of_index_zero t a ((in_at t).2.2.1 a) y))

theorem blk3_apply (t : Fin cfg0.N) (i : Fin 1024) (l : Fin 512) : iblk m c 3 t (ix2 i l) = V m c main_v68 (ix2 (posOf (rowOf t i)) l) := by
  show V m c main_v68 ((win0_3.rect t).emb (ix2 i l)) = _
  refine congrArg _ (Shape.idx_ext₂ ?_ ?_)
  · rw [win0_3.rect_emb_val t _ 0, (in_at t).2.2.2.1]
    have h := t_lt t
    show t.val / 8 * 1024 + i.val = (blkOf t * 1024 + i.val) % 4096
    show t.val / 8 * 1024 + i.val = ((t.val % 8 * 4 + t.val / 8) * 1024 + i.val) % 4096
    omega
  · rw [win0_3.rect_emb_val t _ 1, (in_at t).2.2.2.2]; simp

/-! ### The projection and the tables at a row of the block -/

/-- The arguments, as arrays. -/
abbrev aX : FVec Ideal S8x4096x1024 .f32 := m (c, main_arg0)
@[inherit_doc aX] abbrev aG : FVec Ideal S1x1024 .f32 := m (c, main_arg1)
@[inherit_doc aX] abbrev aW : FVec Ideal S1x1024x5544 .f32 := m (c, main_arg2)

theorem proj_of (x x' g g' : Fin 1024 → EReal) (w : Fin 1024 → Fin 5544 → EReal) (w' : Fin 1024 → Fin 2560 → EReal) (hx : ∀ k, x k = x' k)
    (hg : ∀ k, g k = g' k) (hw : ∀ k e, w' k e = wcol w k (colOf e.val)) (e : Fin 2560) :
    Out.rowMul (Out.rmsRow x g) w' e = projAt x' g' w (colOf e.val) := by
  obtain rfl := funext hx
  obtain rfl := funext hg
  exact Finset.sum_congr rfl fun k _ => congrArg (Out.rmsRow x g k * ·) (hw k e)

theorem proj_row (t : Fin cfg0.N) (i : Fin 1024) (e : Fin 2560) :
    k0_pay291 (iblk m c 0 t) (iblk m c 1 t) (iblk m c 2 t) (iblk m c 3 t) (ix2 i e) = qRow (aX m c) (aG m c) (aW m c) (rowOf t i) (colOf e.val) := by
  refine (proj_apply _ _ _ _ i e).trans (proj_of _ _ _ _ _ _ ?_ ?_ ?_ e)
  · exact fun k => (blk0_apply m c t i k).trans ((congrFun (V_rows m c) _).trans (cast_rows _ _ k))
  · exact fun k => congrFun (blk1_eq m c t) _
  · exact fun k e => (congrFun ((blk2_eq m c t).trans (V_w1 m c)) _).trans (w1_at _ k e)

variable (t : Fin cfg0.N) (i : Fin 1024) (l : Fin 128)

theorem tab0_row : k0_pay315 (iblk m c 0 t) (iblk m c 1 t) (iblk m c 2 t) (iblk m c 3 t) (ix2 i l) = tabC 8 64 (cosQ (rowOf t i)) l.val :=
  (tab0_apply _ _ _ _ i l).trans ((blk3_apply m c t i _).trans ((congrFun (V_tab m c) _).trans (tabCQ _ l)))

theorem tab1_row : k0_pay316 (iblk m c 0 t) (iblk m c 1 t) (iblk m c 2 t) (iblk m c 3 t) (ix2 i l) = tabS 8 64 (sinQ (rowOf t i)) l.val :=
  (tab1_apply _ _ _ _ i l).trans ((blk3_apply m c t i _).trans ((congrFun (V_tab m c) _).trans (tabSQ _ l)))

theorem tab2_row : k0_pay317 (iblk m c 0 t) (iblk m c 1 t) (iblk m c 2 t) (iblk m c 3 t) (ix2 i l) = tabC 4 32 (cosI (rowOf t i)) l.val :=
  (tab2_apply _ _ _ _ i l).trans ((blk3_apply m c t i _).trans ((congrFun (V_tab m c) _).trans (tabCI _ l)))

theorem tab3_row : k0_pay318 (iblk m c 0 t) (iblk m c 1 t) (iblk m c 2 t) (iblk m c 3 t) (ix2 i l) = tabS 4 32 (sinI (rowOf t i)) l.val :=
  (tab3_apply _ _ _ _ i l).trans ((blk3_apply m c t i _).trans ((congrFun (V_tab m c) _).trans (tabSI _ l)))

theorem past_row : qRow (aX m c) (aG m c) (aW m c) (rowOf t i) 6000 = 0 := projAt_of_le _ _ _ _ (by decide)

/-! ### What the body leaves at a row of its blocks -/

theorem block_ka (l : Fin 512) :
    out0_5 (iblk m c 0 t) (iblk m c 1 t) (iblk m c 2 t) (iblk m c 3 t) (ix2 i l) = arrKA (aX m c) (aG m c) (aW m c) (ix2 (rowOf t i) l) := by
  refine (out5_apply _ _ _ _ i l).trans ((proj_row m c t i _).trans ?_)
  exact congrArg (qRow (aX m c) (aG m c) (aW m c) (rowOf t i)) (if_pos (by show 512 + l.val < 1536; omega))

theorem block_va (l : Fin 512) :
    out0_6 (iblk m c 0 t) (iblk m c 1 t) (iblk m c 2 t) (iblk m c 3 t) (ix2 i l) = arrVA (aX m c) (aG m c) (aW m c) (ix2 (rowOf t i) l) := by
  refine (out6_apply _ _ _ _ i l).trans ((proj_row m c t i _).trans ?_)
  exact congrArg (qRow (aX m c) (aG m c) (aW m c) (rowOf t i)) (if_pos (by show 1024 + l.val < 1536; omega))

theorem block_kb : out0_9 (iblk m c 0 t) (iblk m c 1 t) (iblk m c 2 t) (iblk m c 3 t) (ix2 i l) = arrKB (aX m c) (aG m c) (aW m c) (ix2 (rowOf t i) l) :=
  (congrFun (out9_eq _ _ _ _) _).trans (keyB_row _ _ _ i _ _ _ (proj_row m c t i) (tab0_row m c t i) (tab1_row m c t i) l)

theorem block_vb : out0_10 (iblk m c 0 t) (iblk m c 1 t) (iblk m c 2 t) (iblk m c 3 t) (ix2 i l) = arrVB (aX m c) (aG m c) (aW m c) (ix2 (rowOf t i) l) :=
  (congrFun (out10_eq _ _ _ _) _).trans (valB_row _ _ _ i _ _ _ (proj_row m c t i) (tab0_row m c t i) (tab1_row m c t i) l)

theorem block_ki : out0_11 (iblk m c 0 t) (iblk m c 1 t) (iblk m c 2 t) (iblk m c 3 t) (ix2 i l) = arrKI (aX m c) (aG m c) (aW m c) (ix2 (rowOf t i) l) :=
  (congrFun (out11_eq _ _ _ _) _).trans (keyI_row _ _ _ i _ _ _ (proj_row m c t i) (tab2_row m c t i) (tab3_row m c t i) (past_row m c t i) l)

theorem block_wi : out0_12 (iblk m c 0 t) (iblk m c 1 t) (iblk m c 2 t) (iblk m c 3 t) (ix2 i l) = arrWI (aX m c) (aG m c) (aW m c) (ix2 (rowOf t i) l) :=
  (congrFun (out12_eq _ _ _ _) _).trans (wgtI_row _ _ _ i _ _ _ (proj_row m c t i) (tab2_row m c t i) (tab3_row m c t i) (past_row m c t i) l)

/-- Block `j` of 128 positions of point `t`'s rows, as a block of the whole array. -/
abbrev headOf (t : Fin cfg0.N) (j : Fin 8) : Fin 256 := ⟨blkOf t * 8 + j.val, by have h := blk_lt t; omega⟩

theorem rowIn_headOf (j : Fin 8) (r : Fin 128) : rowIn (headOf t j) r = rowOf t ⟨128 * j.val + r.val, by omega⟩ :=
  Fin.ext (by show 128 * (blkOf t * 8 + j.val) + r.val = blkOf t * 1024 + (128 * j.val + r.val); omega)

variable (j h : Fin 8) (r : Fin 128)

theorem block_qa : out0_4 (iblk m c 0 t) (iblk m c 1 t) (iblk m c 2 t) (iblk m c 3 t) (ix4 j h r l)
    = arrQA (aX m c) (aG m c) (aW m c) (ix4 (headOf t j) h r l) := by
  refine (out4_apply _ _ _ _ j h r l).trans ((headA_row _ _ _ (proj_row m c t _) h l).trans ?_)
  rw [← rowIn_headOf]; rfl

theorem block_qb : out0_7 (iblk m c 0 t) (iblk m c 1 t) (iblk m c 2 t) (iblk m c 3 t) (ix4 j h r l)
    = arrQB (aX m c) (aG m c) (aW m c) (ix4 (headOf t j) h r l) := by
  refine (out7_apply _ _ _ _ j h r l).trans ((headB_row _ _ _ _ _ _ _ (proj_row m c t _) (tab0_row m c t _) (tab1_row m c t _) h l).trans ?_)
  rw [← rowIn_headOf]; rfl

theorem block_qi : out0_8 (iblk m c 0 t) (iblk m c 1 t) (iblk m c 2 t) (iblk m c 3 t) (ix4 j h r l)
    = arrQI (aX m c) (aG m c) (aW m c) (ix4 (headOf t j) h r l) := by
  refine (out8_apply _ _ _ _ j h r l).trans ((headI_row _ _ _ _ _ _ _ (proj_row m c t _) (tab2_row m c t _) (tab3_row m c t _) h l).trans ?_)
  rw [← rowIn_headOf]; rfl

/-! ### Where the blocks' indices lie in the arrays -/

theorem idx_ext₄ {n : Fin 4 → Nat} {y z : (⟨4, n⟩ : Shape).Idx} (h0 : (y 0).val = (z 0).val) (h1 : (y 1).val = (z 1).val)
    (h2 : (y 2).val = (z 2).val) (h3 : (y 3).val = (z 3).val) : y = z := by
  funext a
  match a with
  | ⟨0, _⟩ => exact Fin.ext h0
  | ⟨1, _⟩ => exact Fin.ext h1
  | ⟨2, _⟩ => exact Fin.ext h2
  | ⟨3, _⟩ => exact Fin.ext h3

theorem emb5 (l : Fin 512) : (win0_5.rect t).emb (ix2 i l) = ix2 (rowOf t i) l := by
  refine Shape.idx_ext₂ ?_ ?_
  · rw [win0_5.rect_emb_val t _ 0, (outs_at t).1.1]; rfl
  · rw [win0_5.rect_emb_val t _ 1, (outs_at t).1.2]; simp

theorem emb6 (l : Fin 512) : (win0_6.rect t).emb (ix2 i l) = ix2 (rowOf t i) l := by
  refine Shape.idx_ext₂ ?_ ?_
  · rw [win0_6.rect_emb_val t _ 0, (outs_at t).2.1.1]; rfl
  · rw [win0_6.rect_emb_val t _ 1, (outs_at t).2.1.2]; simp

theorem emb9 (l : Fin 128) : (win0_9.rect t).emb (ix2 i l) = ix2 (rowOf t i) l := by
  refine Shape.idx_ext₂ ?_ ?_
  · rw [win0_9.rect_emb_val t _ 0, (outs_at t).2.2.1.1]; rfl
  · rw [win0_9.rect_emb_val t _ 1, (outs_at t).2.2.1.2]; simp

theorem emb10 (l : Fin 128) : (win0_10.rect t).emb (ix2 i l) = ix2 (rowOf t i) l := by
  refine Shape.idx_ext₂ ?_ ?_
  · rw [win0_10.rect_emb_val t _ 0, (outs_at t).2.2.2.1.1]; rfl
  · rw [win0_10.rect_emb_val t _ 1, (outs_at t).2.2.2.1.2]; simp

theorem emb11 (l : Fin 128) : (win0_11.rect t).emb (ix2 i l) = ix2 (rowOf t i) l := by
  refine Shape.idx_ext₂ ?_ ?_
  · rw [win0_11.rect_emb_val t _ 0, (outs_at t).2.2.2.2.1.1]; rfl
  · rw [win0_11.rect_emb_val t _ 1, (outs_at t).2.2.2.2.1.2]; simp

theorem emb12 (l : Fin 128) : (win0_12.rect t).emb (ix2 i l) = ix2 (rowOf t i) l := by
  refine Shape.idx_ext₂ ?_ ?_
  · rw [win0_12.rect_emb_val t _ 0, (outs_at t).2.2.2.2.2.1]; rfl
  · rw [win0_12.rect_emb_val t _ 1, (outs_at t).2.2.2.2.2.2]; simp

theorem emb4 : (win0_4.rect t).emb (ix4 j h r l) = ix4 (headOf t j) h r l := by
  refine idx_ext₄ ?_ ?_ ?_ ?_
  · rw [win0_4.rect_emb_val t _ 0, (heads_at t).1.1]; rfl
  · rw [win0_4.rect_emb_val t _ 1, (heads_at t).1.2.1]; simp
  · rw [win0_4.rect_emb_val t _ 2, (heads_at t).1.2.2.1]; simp
  · rw [win0_4.rect_emb_val t _ 3, (heads_at t).1.2.2.2]; simp

theorem emb7 : (win0_7.rect t).emb (ix4 j h r l) = ix4 (headOf t j) h r l := by
  refine idx_ext₄ ?_ ?_ ?_ ?_
  · rw [win0_7.rect_emb_val t _ 0, (heads_at t).2.1.1]; rfl
  · rw [win0_7.rect_emb_val t _ 1, (heads_at t).2.1.2.1]; simp
  · rw [win0_7.rect_emb_val t _ 2, (heads_at t).2.1.2.2.1]; simp
  · rw [win0_7.rect_emb_val t _ 3, (heads_at t).2.1.2.2.2]; simp

theorem emb8 : (win0_8.rect t).emb (ix4 j h r l) = ix4 (headOf t j) h r l := by
  refine idx_ext₄ ?_ ?_ ?_ ?_
  · rw [win0_8.rect_emb_val t _ 0, (heads_at t).2.2.1]; rfl
  · rw [win0_8.rect_emb_val t _ 1, (heads_at t).2.2.2.1]; simp
  · rw [win0_8.rect_emb_val t _ 2, (heads_at t).2.2.2.2.1]; simp
  · rw [win0_8.rect_emb_val t _ 3, (heads_at t).2.2.2.2.2]; simp

/-! ### The nine arrays after the run -/

theorem final_ka : (dats m 0 c).arrAt 5 cfg0.N = arrKA (aX m c) (aG m c) (aW m c) := by
  refine (dats m 0 c).arrAt_eq_of_covers 5 _ (by decide +kernel) fun t hf y => ?_
  show (dats m 0 c).after 5 t y = _
  rw [after0_5]
  obtain ⟨i, l, rfl⟩ : ∃ (i : Fin 1024) (l : Fin 512), y = ix2 i l := ⟨y 0, y 1, Shape.idx_ext₂ rfl rfl⟩
  exact (block_ka m c t i l).trans (congrArg (arrKA (aX m c) (aG m c) (aW m c)) (emb5 t i l).symm)

theorem final_va : (dats m 0 c).arrAt 6 cfg0.N = arrVA (aX m c) (aG m c) (aW m c) := by
  refine (dats m 0 c).arrAt_eq_of_covers 6 _ (by decide +kernel) fun t hf y => ?_
  show (dats m 0 c).after 6 t y = _
  rw [after0_6]
  obtain ⟨i, l, rfl⟩ : ∃ (i : Fin 1024) (l : Fin 512), y = ix2 i l := ⟨y 0, y 1, Shape.idx_ext₂ rfl rfl⟩
  exact (block_va m c t i l).trans (congrArg (arrVA (aX m c) (aG m c) (aW m c)) (emb6 t i l).symm)

theorem final_kb : (dats m 0 c).arrAt 9 cfg0.N = arrKB (aX m c) (aG m c) (aW m c) := by
  refine (dats m 0 c).arrAt_eq_of_covers 9 _ (by decide +kernel) fun t hf y => ?_
  show (dats m 0 c).after 9 t y = _
  rw [after0_9]
  obtain ⟨i, l, rfl⟩ : ∃ (i : Fin 1024) (l : Fin 128), y = ix2 i l := ⟨y 0, y 1, Shape.idx_ext₂ rfl rfl⟩
  exact (block_kb m c t i l).trans (congrArg (arrKB (aX m c) (aG m c) (aW m c)) (emb9 t i l).symm)

theorem final_vb : (dats m 0 c).arrAt 10 cfg0.N = arrVB (aX m c) (aG m c) (aW m c) := by
  refine (dats m 0 c).arrAt_eq_of_covers 10 _ (by decide +kernel) fun t hf y => ?_
  show (dats m 0 c).after 10 t y = _
  rw [after0_10]
  obtain ⟨i, l, rfl⟩ : ∃ (i : Fin 1024) (l : Fin 128), y = ix2 i l := ⟨y 0, y 1, Shape.idx_ext₂ rfl rfl⟩
  exact (block_vb m c t i l).trans (congrArg (arrVB (aX m c) (aG m c) (aW m c)) (emb10 t i l).symm)

theorem final_ki : (dats m 0 c).arrAt 11 cfg0.N = arrKI (aX m c) (aG m c) (aW m c) := by
  refine (dats m 0 c).arrAt_eq_of_covers 11 _ (by decide +kernel) fun t hf y => ?_
  show (dats m 0 c).after 11 t y = _
  rw [after0_11]
  obtain ⟨i, l, rfl⟩ : ∃ (i : Fin 1024) (l : Fin 128), y = ix2 i l := ⟨y 0, y 1, Shape.idx_ext₂ rfl rfl⟩
  exact (block_ki m c t i l).trans (congrArg (arrKI (aX m c) (aG m c) (aW m c)) (emb11 t i l).symm)

theorem final_wi : (dats m 0 c).arrAt 12 cfg0.N = arrWI (aX m c) (aG m c) (aW m c) := by
  refine (dats m 0 c).arrAt_eq_of_covers 12 _ (by decide +kernel) fun t hf y => ?_
  show (dats m 0 c).after 12 t y = _
  rw [after0_12]
  obtain ⟨i, l, rfl⟩ : ∃ (i : Fin 1024) (l : Fin 128), y = ix2 i l := ⟨y 0, y 1, Shape.idx_ext₂ rfl rfl⟩
  exact (block_wi m c t i l).trans (congrArg (arrWI (aX m c) (aG m c) (aW m c)) (emb12 t i l).symm)

theorem final_qa : (dats m 0 c).arrAt 4 cfg0.N = arrQA (aX m c) (aG m c) (aW m c) := by
  refine (dats m 0 c).arrAt_eq_of_covers 4 _ (by decide +kernel) fun t hf y => ?_
  show (dats m 0 c).after 4 t y = _
  rw [after0_4]
  obtain ⟨j, h, r, l, rfl⟩ : ∃ (j h : Fin 8) (r l : Fin 128), y = ix4 j h r l := ⟨y 0, y 1, y 2, y 3, eq_ix4 y⟩
  exact (block_qa m c t l j h r).trans (congrArg (arrQA (aX m c) (aG m c) (aW m c)) (emb4 t l j h r).symm)

theorem final_qb : (dats m 0 c).arrAt 7 cfg0.N = arrQB (aX m c) (aG m c) (aW m c) := by
  refine (dats m 0 c).arrAt_eq_of_covers 7 _ (by decide +kernel) fun t hf y => ?_
  show (dats m 0 c).after 7 t y = _
  rw [after0_7]
  obtain ⟨j, h, r, l, rfl⟩ : ∃ (j h : Fin 8) (r l : Fin 128), y = ix4 j h r l := ⟨y 0, y 1, y 2, y 3, eq_ix4 y⟩
  exact (block_qb m c t l j h r).trans (congrArg (arrQB (aX m c) (aG m c) (aW m c)) (emb7 t l j h r).symm)

theorem final_qi : (dats m 0 c).arrAt 8 cfg0.N = arrQI (aX m c) (aG m c) (aW m c) := by
  refine (dats m 0 c).arrAt_eq_of_covers 8 _ (by decide +kernel) fun t hf y => ?_
  show (dats m 0 c).after 8 t y = _
  rw [after0_8]
  obtain ⟨j, h, r, l, rfl⟩ : ∃ (j h : Fin 8) (r l : Fin 128), y = ix4 j h r l := ⟨y 0, y 1, y 2, y 3, eq_ix4 y⟩
  exact (block_qi m c t l j h r).trans (congrArg (arrQI (aX m c) (aG m c) (aW m c)) (emb8 t l j h r).symm)

end Cert.Proof.Proj

end
-- ==== Proof.ProjRef.lean ====
/-
  The reference's nine arrays, index by index: each holds the layer's projection, laid out.
-/
module

public import proofs.«01_k».proof.Proof.ProjArr
public import proofs.«01_k».proof.Proof.Gen.Reference3Ideal.Run

@[expose] public section

set_option maxRecDepth 16384

noncomputable section

namespace Cert.Proof.Proj

open Cert.Reference3Ideal Cert.Reference3Ideal.Gen
open Idealize.ShloMosaic Idealize.ShloMosaic.TcCoe

variable (x : FVec Ideal S8x4096x1024 .f32) (g : FVec Ideal S1x1024 .f32) (w : FVec Ideal S1x1024x5544 .f32)

/-! ### The projection -/

/-- Rows normalized to unit root mean square, times the gain. -/
def rNorm : FVec Ideal S8x4096x1024 .f32 :=
  mulf (mulf x (broadcastInDim S8x4096x1024 ![0, 1, 2] bcast_S8x4096x1_S8x4096x1024_0_1_2 (Host.rsqrt (addf
      (Host.divf (broadcastInDim S8x4096x1 ![0, 1] bcast_S8x4096_S8x4096x1_0_1
          (Host.reduceAdd (mulf x x) (constant S_ .f32 0x00000000#32) reducesTo_S8x4096x1024_S8x4096_d2 h_S_))
        (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2
      (broadcastInDim S1x1x1024 ![2] bcast_S1024_S1x1x1024_2 (shapeCast _ g shapeCasts_S1x1024_S1024)))

/-- The normalized rows through the layer's weights. -/
def rProj : FVec Ideal S8x4096x5544 .f32 :=
  Host.dotGeneral dot_S8x4096x1024_S1024x5544_S8x4096x5544_2_0_01_1_n_n none (rNorm x g) (shapeCast _ w shapeCasts_S1x1024x5544_S1024x5544)

theorem rNorm_at (b : Fin 8) (s : Fin 4096) (k : Fin 1024) :
    rNorm x g (ix3 b s k) = Out.rmsRow (fun k => x (ix3 b s k)) (fun k => g (ix2 0 k)) k := by
  unfold rNorm; pointwise; rfl

theorem rProj_at (b : Fin 8) (s : Fin 4096) (j : Fin 5544) : rProj x g w (ix3 b s j) = qAt x g w b s j.val := by
  rw [qAt, projAt_of_lt _ _ _ _ j.isLt]
  unfold rProj; pointwise; simp only [rNorm_at]; pointwise; rfl

theorem rope_ite (half : Nat) (cos sin y : Nat → EReal) (l : Nat) :
    (if _h : l < half then y l * cos l - y (half + l) * sin l
      else if _h : l - half < half then y (half + (l - half)) * cos (l - half) + y (l - half) * sin (l - half) else y (2 * half + (l - half - half)))
      = ropeAt half cos sin y l := by
  unfold ropeAt
  by_cases a : l < half
  · rw [dif_pos a, if_pos a, Nat.add_comm half l]
  · by_cases b : l - half < half
    · rw [dif_neg a, dif_pos b, if_neg a, if_pos (by omega), show half + (l - half) = l by omega]
    · rw [dif_neg a, dif_neg b, if_neg a, if_neg (by omega), show 2 * half + (l - half - half) = l by omega]

/-! ### The first lanes of each head turned by the position's angles -/

/-- The queries of eight heads, turned. -/
def ropeHQ (v : FVec Ideal S8x4096x8x64 .f32) : FVec Ideal S8x4096x8x64 .f32 :=
  let a : FVec Ideal S8x4096x8x8 .f32 := extractStridedSlice S8x4096x8x8 ![0, 0, 0, 0] v slices_S8x4096x8x64_S8x4096x8x8_0_0_0_0
  let b : FVec Ideal S8x4096x8x8 .f32 := extractStridedSlice S8x4096x8x8 ![0, 0, 0, 8] v slices_S8x4096x8x64_S8x4096x8x8_0_0_0_8
  let cs : FVec Ideal S8x4096x8x8 .f32 := broadcastInDim S8x4096x8x8 ![0, 1, 2, 3] bcast_S1x4096x1x8_S8x4096x8x8_0_1_2_3 (broadcastInDim S1x4096x1x8 ![1, 3] bcast_S4096x8_S1x4096x1x8_1_3 (Host.cos angQ))
  let sn : FVec Ideal S8x4096x8x8 .f32 := broadcastInDim S8x4096x8x8 ![0, 1, 2, 3] bcast_S1x4096x1x8_S8x4096x8x8_0_1_2_3 (broadcastInDim S1x4096x1x8 ![1, 3] bcast_S4096x8_S1x4096x1x8_1_3 (Host.sin angQ))
  concatenate S8x4096x8x64 3 [⟨S8x4096x8x8, subf (mulf a cs) (mulf b sn)⟩, ⟨S8x4096x8x8, addf (mulf b cs) (mulf a sn)⟩,
    ⟨S8x4096x8x48, extractStridedSlice S8x4096x8x48 ![0, 0, 0, 16] v slices_S8x4096x8x64_S8x4096x8x48_0_0_0_16⟩] concatenates_S8x4096x8x8_S8x4096x8x8_S8x4096x8x48_S8x4096x8x64_d3

theorem ropeHQ_at (v : FVec Ideal S8x4096x8x64 .f32) (b : Fin 8) (s : Fin 4096) (h : Fin 8) (y : Nat → EReal) (hv : ∀ d : Fin 64, v (ix4 b s h d) = y d.val) (l : Fin 64) :
    ropeHQ v (ix4 b s h l) = ropeAt 8 (cosAt 0x41000000#32 s.val) (sinAt 0x41000000#32 s.val) y l.val := by
  unfold ropeHQ; pointwise; simp only [angQ_at, hv]
  exact rope_ite 8 (cosAt 0x41000000#32 s.val) (sinAt 0x41000000#32 s.val) y l.val

/-- The keys, turned. -/
def ropeKQ (v : FVec Ideal S8x4096x1x64 .f32) : FVec Ideal S8x4096x1x64 .f32 :=
  let a : FVec Ideal S8x4096x1x8 .f32 := extractStridedSlice S8x4096x1x8 ![0, 0, 0, 0] v slices_S8x4096x1x64_S8x4096x1x8_0_0_0_0
  let b : FVec Ideal S8x4096x1x8 .f32 := extractStridedSlice S8x4096x1x8 ![0, 0, 0, 8] v slices_S8x4096x1x64_S8x4096x1x8_0_0_0_8
  let cs : FVec Ideal S8x4096x1x8 .f32 := broadcastInDim S8x4096x1x8 ![0, 1, 2, 3] bcast_S1x4096x1x8_S8x4096x1x8_0_1_2_3 (broadcastInDim S1x4096x1x8 ![1, 3] bcast_S4096x8_S1x4096x1x8_1_3 (Host.cos angQ))
  let sn : FVec Ideal S8x4096x1x8 .f32 := broadcastInDim S8x4096x1x8 ![0, 1, 2, 3] bcast_S1x4096x1x8_S8x4096x1x8_0_1_2_3 (broadcastInDim S1x4096x1x8 ![1, 3] bcast_S4096x8_S1x4096x1x8_1_3 (Host.sin angQ))
  concatenate S8x4096x1x64 3 [⟨S8x4096x1x8, subf (mulf a cs) (mulf b sn)⟩, ⟨S8x4096x1x8, addf (mulf b cs) (mulf a sn)⟩,
    ⟨S8x4096x1x48, extractStridedSlice S8x4096x1x48 ![0, 0, 0, 16] v slices_S8x4096x1x64_S8x4096x1x48_0_0_0_16⟩] concatenates_S8x4096x1x8_S8x4096x1x8_S8x4096x1x48_S8x4096x1x64_d3

theorem ropeKQ_at (v : FVec Ideal S8x4096x1x64 .f32) (b : Fin 8) (s : Fin 4096) (y : Nat → EReal) (hv : ∀ d : Fin 64, v (ix4 b s 0 d) = y d.val) (l : Fin 64) :
    ropeKQ v (ix4 b s 0 l) = ropeAt 8 (cosAt 0x41000000#32 s.val) (sinAt 0x41000000#32 s.val) y l.val := by
  unfold ropeKQ; pointwise; simp only [angQ_at, hv]
  exact rope_ite 8 (cosAt 0x41000000#32 s.val) (sinAt 0x41000000#32 s.val) y l.val

/-- The indexer's queries of eight heads, turned. -/
def ropeHI (v : FVec Ideal S8x4096x8x32 .f32) : FVec Ideal S8x4096x8x32 .f32 :=
  let a : FVec Ideal S8x4096x8x4 .f32 := extractStridedSlice S8x4096x8x4 ![0, 0, 0, 0] v slices_S8x4096x8x32_S8x4096x8x4_0_0_0_0
  let b : FVec Ideal S8x4096x8x4 .f32 := extractStridedSlice S8x4096x8x4 ![0, 0, 0, 4] v slices_S8x4096x8x32_S8x4096x8x4_0_0_0_4
  let cs : FVec Ideal S8x4096x8x4 .f32 := broadcastInDim S8x4096x8x4 ![0, 1, 2, 3] bcast_S1x4096x1x4_S8x4096x8x4_0_1_2_3 (broadcastInDim S1x4096x1x4 ![1, 3] bcast_S4096x4_S1x4096x1x4_1_3 (Host.cos angI))
  let sn : FVec Ideal S8x4096x8x4 .f32 := broadcastInDim S8x4096x8x4 ![0, 1, 2, 3] bcast_S1x4096x1x4_S8x4096x8x4_0_1_2_3 (broadcastInDim S1x4096x1x4 ![1, 3] bcast_S4096x4_S1x4096x1x4_1_3 (Host.sin angI))
  concatenate S8x4096x8x32 3 [⟨S8x4096x8x4, subf (mulf a cs) (mulf b sn)⟩, ⟨S8x4096x8x4, addf (mulf b cs) (mulf a sn)⟩,
    ⟨S8x4096x8x24, extractStridedSlice S8x4096x8x24 ![0, 0, 0, 8] v slices_S8x4096x8x32_S8x4096x8x24_0_0_0_8⟩] concatenates_S8x4096x8x4_S8x4096x8x4_S8x4096x8x24_S8x4096x8x32_d3

theorem ropeHI_at (v : FVec Ideal S8x4096x8x32 .f32) (b : Fin 8) (s : Fin 4096) (h : Fin 8) (y : Nat → EReal) (hv : ∀ d : Fin 32, v (ix4 b s h d) = y d.val) (l : Fin 32) :
    ropeHI v (ix4 b s h l) = ropeAt 4 (cosAt 0x40800000#32 s.val) (sinAt 0x40800000#32 s.val) y l.val := by
  unfold ropeHI; pointwise; simp only [angI_at, hv]
  exact rope_ite 4 (cosAt 0x40800000#32 s.val) (sinAt 0x40800000#32 s.val) y l.val

/-- The indexer's keys, turned. -/
def ropeKI (v : FVec Ideal S8x4096x1x32 .f32) : FVec Ideal S8x4096x1x32 .f32 :=
  let a : FVec Ideal S8x4096x1x4 .f32 := extractStridedSlice S8x4096x1x4 ![0, 0, 0, 0] v slices_S8x4096x1x32_S8x4096x1x4_0_0_0_0
  let b : FVec Ideal S8x4096x1x4 .f32 := extractStridedSlice S8x4096x1x4 ![0, 0, 0, 4] v slices_S8x4096x1x32_S8x4096x1x4_0_0_0_4
  let cs : FVec Ideal S8x4096x1x4 .f32 := broadcastInDim S8x4096x1x4 ![0, 1, 2, 3] bcast_S1x4096x1x4_S8x4096x1x4_0_1_2_3 (broadcastInDim S1x4096x1x4 ![1, 3] bcast_S4096x4_S1x4096x1x4_1_3 (Host.cos angI))
  let sn : FVec Ideal S8x4096x1x4 .f32 := broadcastInDim S8x4096x1x4 ![0, 1, 2, 3] bcast_S1x4096x1x4_S8x4096x1x4_0_1_2_3 (broadcastInDim S1x4096x1x4 ![1, 3] bcast_S4096x4_S1x4096x1x4_1_3 (Host.sin angI))
  concatenate S8x4096x1x32 3 [⟨S8x4096x1x4, subf (mulf a cs) (mulf b sn)⟩, ⟨S8x4096x1x4, addf (mulf b cs) (mulf a sn)⟩,
    ⟨S8x4096x1x24, extractStridedSlice S8x4096x1x24 ![0, 0, 0, 8] v slices_S8x4096x1x32_S8x4096x1x24_0_0_0_8⟩] concatenates_S8x4096x1x4_S8x4096x1x4_S8x4096x1x24_S8x4096x1x32_d3

theorem ropeKI_at (v : FVec Ideal S8x4096x1x32 .f32) (b : Fin 8) (s : Fin 4096) (y : Nat → EReal) (hv : ∀ d : Fin 32, v (ix4 b s 0 d) = y d.val) (l : Fin 32) :
    ropeKI v (ix4 b s 0 l) = ropeAt 4 (cosAt 0x40800000#32 s.val) (sinAt 0x40800000#32 s.val) y l.val := by
  unfold ropeKI; pointwise; simp only [angI_at, hv]
  exact rope_ite 4 (cosAt 0x40800000#32 s.val) (sinAt 0x40800000#32 s.val) y l.val

/-! ### The layouts -/

/-- Heads of 64 lanes, in blocks of 128 positions. -/
def heads64 (v : FVec Ideal S8x4096x8x64 .f32) : FVec Ideal S256x8x128x64 .f32 :=
  transpose S256x8x128x64 [0, 2, 1, 3] (shapeCast S256x128x8x64 v shapeCasts_S8x4096x8x64_S256x128x8x64) transposes_S256x128x8x64_S256x8x128x64_0_2_1_3

/-- Heads of 32 lanes, in blocks of 128 positions. -/
def heads32 (v : FVec Ideal S8x4096x8x32 .f32) : FVec Ideal S256x8x128x32 .f32 :=
  transpose S256x8x128x32 [0, 2, 1, 3] (shapeCast S256x128x8x32 v shapeCasts_S8x4096x8x32_S256x128x8x32) transposes_S256x128x8x32_S256x8x128x32_0_2_1_3

theorem heads64_at (v : FVec Ideal S8x4096x8x64 .f32) (B : Fin 256) (h : Fin 8) (r : Fin 128) (l : Fin 64) :
    heads64 v (ix4 B h r l) = v (ix4 (batchOf (rowIn B r)) (posOf (rowIn B r)) h l) := by
  pointwise [heads64]
  congr 2
  · exact Fin.ext (by show B.val / 32 = (128 * B.val + r.val) / 4096; omega)
  · exact Fin.ext (by show B.val % 32 * 128 + r.val = (128 * B.val + r.val) % 4096; omega)

theorem heads32_at (v : FVec Ideal S8x4096x8x32 .f32) (B : Fin 256) (h : Fin 8) (r : Fin 128) (l : Fin 32) :
    heads32 v (ix4 B h r l) = v (ix4 (batchOf (rowIn B r)) (posOf (rowIn B r)) h l) := by
  pointwise [heads32]
  congr 2
  · exact Fin.ext (by show B.val / 32 = (128 * B.val + r.val) / 4096; omega)
  · exact Fin.ext (by show B.val % 32 * 128 + r.val = (128 * B.val + r.val) % 4096; omega)

/-! ### The results -/

/-- Whether a head's number is even, as the remainder of a division by two with the divisor's sign. -/
def rEven : IVec S1x8x1x1 1 :=
  let two : IVec S_ 32 := select (cmpi .eq (constantI S_ 32 2#32) (constantI S_ 32 0#32)) (constantI S_ 32 1#32) (constantI S_ 32 2#32)
  let rem : IVec S8 32 := Host.remsi (iotaInDim S8 32 0) (broadcastInDim S8 ![] bcast_S_S8 two)
  let zero : IVec S8 32 := broadcastInDim S8 ![] bcast_S_S8 (constantI S_ 32 0#32)
  broadcastInDim S1x8x1x1 ![1] bcast_S8_S1x8x1x1_1 (cmpi .eq (select (andi (cmpi .ne (cmpi .slt rem zero)
      (broadcastInDim S8 ![] bcast_S_S8 (cmpi .slt two (constantI S_ 32 0#32)))) (cmpi .ne rem zero))
    (addi rem (broadcastInDim S8 ![] bcast_S_S8 two)) rem) zero)

theorem rEven_at (h : Fin 8) : rEven (ix4 0 h 0 0) = if h.val % 2 = 0 then 1#1 else 0#1 := by
  revert h; decide +kernel

/-- Branch A's keys. -/
def rKA : FVec Ideal S32768x512 .bf16 :=
  truncf .bf16 (shapeCast S32768x512 (extractStridedSlice S8x4096x512 ![0, 0, 512] (rProj x g w) slices_S8x4096x5544_S8x4096x512_0_0_512 : FVec Ideal S8x4096x512 .f32) shapeCasts_S8x4096x512_S32768x512 : FVec Ideal S32768x512 .f32) bitsLt_bf16_f32

theorem rKA_eq : rKA x g w = arrKA x g w := by
  funext y
  obtain ⟨R, l, rfl⟩ : ∃ (R : Fin 32768) (l : Fin 512), y = ix2 R l := ⟨y 0, y 1, Shape.idx_ext₂ rfl rfl⟩
  show _ = qRow x g w R (512 + l.val)
  unfold rKA; pointwise
  exact rProj_at x g w _ _ _

/-- Branch A's values. -/
def rVA : FVec Ideal S32768x512 .bf16 :=
  truncf .bf16 (shapeCast S32768x512 (extractStridedSlice S8x4096x512 ![0, 0, 1024] (rProj x g w) slices_S8x4096x5544_S8x4096x512_0_0_1024 : FVec Ideal S8x4096x512 .f32) shapeCasts_S8x4096x512_S32768x512 : FVec Ideal S32768x512 .f32) bitsLt_bf16_f32

theorem rVA_eq : rVA x g w = arrVA x g w := by
  funext y
  obtain ⟨R, l, rfl⟩ : ∃ (R : Fin 32768) (l : Fin 512), y = ix2 R l := ⟨y 0, y 1, Shape.idx_ext₂ rfl rfl⟩
  show _ = qRow x g w R (1024 + l.val)
  unfold rVA; pointwise
  exact rProj_at x g w _ _ _

/-- Branch A's scaled queries. -/
def rQ0 : FVec Ideal S256x8x128x64 .f32 :=
  heads64 (mulf (shapeCast S8x4096x8x64 (extractStridedSlice S8x4096x512 ![0, 0, 0] (rProj x g w) slices_S8x4096x5544_S8x4096x512_0_0_0 : FVec Ideal S8x4096x512 .f32) shapeCasts_S8x4096x512_S8x4096x8x64) (broadcastInDim S8x4096x8x64 ![] bcast_S_S8x4096x8x64 (constant S_ .f32 0x3E000000#32) : FVec Ideal S8x4096x8x64 .f32))

theorem rQ0_at (B : Fin 256) (h : Fin 8) (r : Fin 128) (l : Fin 64) :
    rQ0 x g w (ix4 B h r l) = qRow x g w (rowIn B r) (64 * h.val + l.val) * e8 := by
  unfold rQ0; rw [heads64_at]; pointwise; rw [rProj_at]
  show qAt x g w (batchOf (rowIn B r)) (posOf (rowIn B r)) (h.val * 64 + l.val) * e8 = _
  rw [Nat.mul_comm h.val 64]

/-- Branch A's queries: an even head in the first lanes, an odd one in the last. -/
def rQA : FVec Ideal S256x8x128x128 .bf16 :=
  truncf .bf16 (concatenate S256x8x128x128 3 [⟨S256x8x128x64, select (broadcastInDim S256x8x128x64 ![0, 1, 2, 3] bcast_S1x8x1x1_S256x8x128x64_0_1_2_3 rEven) (rQ0 x g w) (broadcastInDim S256x8x128x64 ![] bcast_S_S256x8x128x64 (constant S_ .f32 0x00000000#32) : FVec Ideal S256x8x128x64 .f32)⟩,
    ⟨S256x8x128x64, select (broadcastInDim S256x8x128x64 ![0, 1, 2, 3] bcast_S1x8x1x1_S256x8x128x64_0_1_2_3 rEven) (broadcastInDim S256x8x128x64 ![] bcast_S_S256x8x128x64 (constant S_ .f32 0x00000000#32) : FVec Ideal S256x8x128x64 .f32) (rQ0 x g w)⟩] concatenates_S256x8x128x64_S256x8x128x64_S256x8x128x128_d3 : FVec Ideal S256x8x128x128 .f32) bitsLt_bf16_f32

theorem rQA_eq : rQA x g w = arrQA x g w := by
  funext y
  obtain ⟨B, h, r, l, rfl⟩ : ∃ (B : Fin 256) (h : Fin 8) (r l : Fin 128), y = ix4 B h r l := ⟨y 0, y 1, y 2, y 3, eq_ix4 y⟩
  show _ = qA (qRow x g w (rowIn B r)) h.val l.val
  unfold rQA; pointwise; simp only [rEven_at, rQ0_at]
  unfold qA
  rcases Nat.mod_two_eq_zero_or_one h.val with a | a <;> by_cases b : l.val < 64 <;> simp only [a, b, if_true, if_false, dif_pos, dif_neg, not_false_eq_true, one_ne_zero]
  · rw [if_pos (by omega), show l.val % 64 = l.val by omega]; rfl
  · rw [if_neg (by omega)]; rfl
  · rw [if_neg (by omega)]; rfl
  · rw [if_pos (by omega), show l.val % 64 = l.val - 64 by omega]; rfl

/-- Branch B's queries. -/
def rQB : FVec Ideal S256x8x128x128 .bf16 :=
  truncf .bf16 (concatenate S256x8x128x128 3 [⟨S256x8x128x64, heads64 (mulf (ropeHQ (shapeCast S8x4096x8x64 (extractStridedSlice S8x4096x512 ![0, 0, 2048] (rProj x g w) slices_S8x4096x5544_S8x4096x512_0_0_2048 : FVec Ideal S8x4096x512 .f32) shapeCasts_S8x4096x512_S8x4096x8x64)) (broadcastInDim S8x4096x8x64 ![] bcast_S_S8x4096x8x64 (constant S_ .f32 0x3E000000#32) : FVec Ideal S8x4096x8x64 .f32))⟩,
    ⟨S256x8x128x64, (broadcastInDim S256x8x128x64 ![] bcast_S_S256x8x128x64 (constant S_ .f32 0x00000000#32) : FVec Ideal S256x8x128x64 .f32)⟩] concatenates_S256x8x128x64_S256x8x128x64_S256x8x128x128_d3 : FVec Ideal S256x8x128x128 .f32) bitsLt_bf16_f32

theorem rQB_eq : rQB x g w = arrQB x g w := by
  funext y
  obtain ⟨B, h, r, l, rfl⟩ : ∃ (B : Fin 256) (h : Fin 8) (r l : Fin 128), y = ix4 B h r l := ⟨y 0, y 1, y 2, y 3, eq_ix4 y⟩
  show _ = qB (qRow x g w (rowIn B r)) (cosQ (rowIn B r)) (sinQ (rowIn B r)) h.val l.val
  unfold rQB; pointwise; simp only [heads64_at]; pointwise
  split
  · rename_i a
    refine Eq.trans (congrArg (· * e8) (ropeHQ_at _ _ _ h (fun d => qRow x g w (rowIn B r) (2048 + 64 * h.val + d)) (fun d => by
      pointwise; rw [rProj_at]; show qAt x g w _ _ (2048 + (h.val * 64 + d.val)) = _; congr 1; omega) ⟨l.val, a⟩)) (if_pos a).symm
  · rename_i a; exact (if_neg a).symm

/-- The indexer's queries. -/
def rQI : FVec Ideal S256x8x128x128 .bf16 :=
  truncf .bf16 (concatenate S256x8x128x128 3 [⟨S256x8x128x32, heads32 (ropeHI (shapeCast S8x4096x8x32 (extractStridedSlice S8x4096x256 ![0, 0, 3200] (rProj x g w) slices_S8x4096x5544_S8x4096x256_0_0_3200 : FVec Ideal S8x4096x256 .f32) shapeCasts_S8x4096x256_S8x4096x8x32))⟩,
    ⟨S256x8x128x96, (broadcastInDim S256x8x128x96 ![] bcast_S_S256x8x128x96 (constant S_ .f32 0x00000000#32) : FVec Ideal S256x8x128x96 .f32)⟩] concatenates_S256x8x128x32_S256x8x128x96_S256x8x128x128_d3 : FVec Ideal S256x8x128x128 .f32) bitsLt_bf16_f32

theorem rQI_eq : rQI x g w = arrQI x g w := by
  funext y
  obtain ⟨B, h, r, l, rfl⟩ : ∃ (B : Fin 256) (h : Fin 8) (r l : Fin 128), y = ix4 B h r l := ⟨y 0, y 1, y 2, y 3, eq_ix4 y⟩
  show _ = qI (qRow x g w (rowIn B r)) (cosI (rowIn B r)) (sinI (rowIn B r)) h.val l.val
  unfold rQI; pointwise; simp only [heads32_at]; pointwise
  split
  · rename_i a
    refine Eq.trans (ropeHI_at _ _ _ h (fun d => qRow x g w (rowIn B r) (3200 + 32 * h.val + d)) (fun d => by
      pointwise; rw [rProj_at]; show qAt x g w _ _ (3200 + (h.val * 32 + d.val)) = _; congr 1; omega) ⟨l.val, a⟩) (if_pos a).symm
  · rename_i a; exact (if_neg a).symm

/-- Branch B's keys. -/
def rKB : FVec Ideal S32768x128 .bf16 :=
  truncf .bf16 (concatenate S32768x128 1 [⟨S32768x64, shapeCast S32768x64 (shapeCast S8x4096x64 (ropeKQ (broadcastInDim S8x4096x1x64 ![0, 1, 3] bcast_S8x4096x64_S8x4096x1x64_0_1_3 (extractStridedSlice S8x4096x64 ![0, 0, 2560] (rProj x g w) slices_S8x4096x5544_S8x4096x64_0_0_2560 : FVec Ideal S8x4096x64 .f32)))
      shapeCasts_S8x4096x1x64_S8x4096x64 : FVec Ideal S8x4096x64 .f32) shapeCasts_S8x4096x64_S32768x64⟩,
    ⟨S32768x64, (broadcastInDim S32768x64 ![] bcast_S_S32768x64 (constant S_ .f32 0x00000000#32) : FVec Ideal S32768x64 .f32)⟩] concatenates_S32768x64_S32768x64_S32768x128_d1 : FVec Ideal S32768x128 .f32) bitsLt_bf16_f32

theorem rKB_eq : rKB x g w = arrKB x g w := by
  funext y
  obtain ⟨R, l, rfl⟩ : ∃ (R : Fin 32768) (l : Fin 128), y = ix2 R l := ⟨y 0, y 1, Shape.idx_ext₂ rfl rfl⟩
  show _ = kB (qRow x g w R) (cosQ R) (sinQ R) l.val
  unfold rKB; pointwise
  split
  · rename_i a
    exact (ropeKQ_at _ _ _ (fun d => qRow x g w R (2560 + d)) (fun d => by pointwise; exact rProj_at x g w _ _ _) ⟨l.val, a⟩).trans
      (if_pos a).symm
  · rename_i a; exact (if_neg a).symm

/-- Branch B's values, and ones. -/
def rVB : FVec Ideal S32768x128 .bf16 :=
  truncf .bf16 (concatenate S32768x128 1 [⟨S32768x64, shapeCast S32768x64 (extractStridedSlice S8x4096x64 ![0, 0, 2624] (rProj x g w) slices_S8x4096x5544_S8x4096x64_0_0_2624 : FVec Ideal S8x4096x64 .f32) shapeCasts_S8x4096x64_S32768x64⟩,
    ⟨S32768x64, (broadcastInDim S32768x64 ![] bcast_S_S32768x64 (constant S_ .f32 0x3F800000#32) : FVec Ideal S32768x64 .f32)⟩] concatenates_S32768x64_S32768x64_S32768x128_d1 : FVec Ideal S32768x128 .f32) bitsLt_bf16_f32

theorem rVB_eq : rVB x g w = arrVB x g w := by
  funext y
  obtain ⟨R, l, rfl⟩ : ∃ (R : Fin 32768) (l : Fin 128), y = ix2 R l := ⟨y 0, y 1, Shape.idx_ext₂ rfl rfl⟩
  show _ = vB (qRow x g w R) l.val
  unfold rVB; pointwise
  split
  · rename_i a; exact (rProj_at x g w _ _ _).trans (if_pos a).symm
  · rename_i a; exact (if_neg a).symm

/-- The indexer's keys, turned. -/
def rK1 : FVec Ideal S8x4096x32 .f32 :=
  shapeCast S8x4096x32 (ropeKI (broadcastInDim S8x4096x1x32 ![0, 1, 3] bcast_S8x4096x32_S8x4096x1x32_0_1_3 (extractStridedSlice S8x4096x32 ![0, 0, 3456] (rProj x g w) slices_S8x4096x5544_S8x4096x32_0_0_3456 : FVec Ideal S8x4096x32 .f32))) shapeCasts_S8x4096x1x32_S8x4096x32

theorem rK1_at (b : Fin 8) (s : Fin 4096) (l : Fin 32) :
    rK1 x g w (ix3 b s l) = ropeAt 4 (cosAt 0x40800000#32 s.val) (sinAt 0x40800000#32 s.val) (fun d => qAt x g w b s (3456 + d)) l.val := by
  unfold rK1; pointwise
  exact ropeKI_at _ b s _ (fun d => by pointwise; exact rProj_at x g w _ _ _) l

/-- The indexer's keys. -/
def rKI : FVec Ideal S32768x128 .bf16 :=
  truncf .bf16 (concatenate S32768x128 1 [⟨S32768x32, shapeCast S32768x32 (rK1 x g w) shapeCasts_S8x4096x32_S32768x32⟩,
    ⟨S32768x96, (broadcastInDim S32768x96 ![] bcast_S_S32768x96 (constant S_ .f32 0x00000000#32) : FVec Ideal S32768x96 .f32)⟩] concatenates_S32768x32_S32768x96_S32768x128_d1 : FVec Ideal S32768x128 .f32) bitsLt_bf16_f32

theorem rKI_eq : rKI x g w = arrKI x g w := by
  funext y
  obtain ⟨R, l, rfl⟩ : ∃ (R : Fin 32768) (l : Fin 128), y = ix2 R l := ⟨y 0, y 1, Shape.idx_ext₂ rfl rfl⟩
  show _ = kI (qRow x g w R) (cosI R) (sinI R) l.val
  unfold rKI; pointwise; simp only [rK1_at]
  split
  · rename_i a; exact (if_pos a).symm
  · rename_i a; exact (if_neg a).symm

/-- The indexer's head weights and keys, scaled, with zeros between. -/
def rWI : FVec Ideal S32768x128 .f32 :=
  shapeCast S32768x128 (concatenate S8x4096x128 2 [⟨S8x4096x8, mulf (extractStridedSlice S8x4096x8 ![0, 0, 3488] (rProj x g w) slices_S8x4096x5544_S8x4096x8_0_0_3488 : FVec Ideal S8x4096x8 .f32) (broadcastInDim S8x4096x8 ![] bcast_S_S8x4096x8 (constant S_ .f32 0x3D800000#32) : FVec Ideal S8x4096x8 .f32)⟩,
    ⟨S8x4096x88, (broadcastInDim S8x4096x88 ![] bcast_S_S8x4096x88 (constant S_ .f32 0x00000000#32) : FVec Ideal S8x4096x88 .f32)⟩,
    ⟨S8x4096x32, mulf (rK1 x g w) (broadcastInDim S8x4096x32 ![] bcast_S_S8x4096x32 (constant S_ .f32 0x3D800000#32) : FVec Ideal S8x4096x32 .f32)⟩] concatenates_S8x4096x8_S8x4096x88_S8x4096x32_S8x4096x128_d2 : FVec Ideal S8x4096x128 .f32) shapeCasts_S8x4096x128_S32768x128

theorem rWI_eq : rWI x g w = arrWI x g w := by
  funext y
  obtain ⟨R, l, rfl⟩ : ∃ (R : Fin 32768) (l : Fin 128), y = ix2 R l := ⟨y 0, y 1, Shape.idx_ext₂ rfl rfl⟩
  show _ = wI (qRow x g w R) (cosI R) (sinI R) l.val
  unfold rWI; pointwise; simp only [rK1_at, rProj_at]
  split
  · rename_i a; exact (if_pos a).symm
  · rename_i a
    refine Eq.trans ?_ (if_neg a).symm
    split
    · rename_i b; exact (if_pos (by omega)).symm
    · rename_i b
      refine Eq.trans ?_ (if_neg (by omega)).symm
      exact congrArg (· * e16) (congrArg (ropeAt 4 (cosI R) (sinI R) (fun d => qRow x g w R (3456 + d))) (show l.val - 8 - 88 = l.val - 96 by omega))

end Cert.Proof.Proj

end
-- ==== Proof.ProjRun.lean ====
/-
  The run of the projections' reference: each result is its stage's array of the arguments.
-/
module

public import proofs.«01_k».proof.Proof.ProjRef

@[expose] public section

set_option maxRecDepth 16384

noncomputable section

namespace Cert.Proof.Proj

open Cert.Reference3Ideal Cert.Reference3Ideal.Gen Cert.Reference3Ideal.Value
open Idealize.ShloMosaic Idealize.ShloMosaic.TcCoe
open Idealize.SL.Sem Idealize.ShloMosaic.StableHlo

/-! The reference's intermediate terms are the stages. -/

variable (V : Valuation τ sig (Elt Ideal))

theorem res_15 : res_main_v15 V = rProj (V (Proc.devRef .tc main_arg0)) (V (Proc.devRef .tc main_arg1)) (V (Proc.devRef .tc main_arg2)) := by
  unfold res_main_v15
  rfl

theorem res_41 : res_main_v41 V = angQ := by
  unfold res_main_v41
  rfl

theorem res_72 : res_main_v72 V = angQ := by
  unfold res_main_v72
  rfl

theorem res_104 : res_main_v104 V = angI := by
  unfold res_main_v104
  rfl

theorem res_135 : res_main_v135 V = angI := by
  unfold res_main_v135
  rfl

theorem res_159 : res_main_v159 V = rQ0 (V (Proc.devRef .tc main_arg0)) (V (Proc.devRef .tc main_arg1)) (V (Proc.devRef .tc main_arg2)) := by
  unfold res_main_v159
  rfl

theorem res_164 : res_main_v164 V = rEven := by
  unfold res_main_v164
  rfl

theorem res_154 : res_main_v154 V = rK1 (V (Proc.devRef .tc main_arg0)) (V (Proc.devRef .tc main_arg1)) (V (Proc.devRef .tc main_arg2)) := by
  unfold res_main_v154
  rfl

/-- Each result of the run as a stage's array. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v168) = rQA (m ((c.tc : Thread nD τ).loc main_arg0)) (m ((c.tc : Thread nD τ).loc main_arg1)) (m ((c.tc : Thread nD τ).loc main_arg2))
      ∧ r.2.mem ((c.tc : Thread nD τ).loc main_v176) = rKA (m ((c.tc : Thread nD τ).loc main_arg0)) (m ((c.tc : Thread nD τ).loc main_arg1)) (m ((c.tc : Thread nD τ).loc main_arg2))
      ∧ r.2.mem ((c.tc : Thread nD τ).loc main_v178) = rVA (m ((c.tc : Thread nD τ).loc main_arg0)) (m ((c.tc : Thread nD τ).loc main_arg1)) (m ((c.tc : Thread nD τ).loc main_arg2))
      ∧ r.2.mem ((c.tc : Thread nD τ).loc main_v185) = rQB (m ((c.tc : Thread nD τ).loc main_arg0)) (m ((c.tc : Thread nD τ).loc main_arg1)) (m ((c.tc : Thread nD τ).loc main_arg2))
      ∧ r.2.mem ((c.tc : Thread nD τ).loc main_v190) = rQI (m ((c.tc : Thread nD τ).loc main_arg0)) (m ((c.tc : Thread nD τ).loc main_arg1)) (m ((c.tc : Thread nD τ).loc main_arg2))
      ∧ r.2.mem ((c.tc : Thread nD τ).loc main_v194) = rKB (m ((c.tc : Thread nD τ).loc main_arg0)) (m ((c.tc : Thread nD τ).loc main_arg1)) (m ((c.tc : Thread nD τ).loc main_arg2))
      ∧ r.2.mem ((c.tc : Thread nD τ).loc main_v198) = rVB (m ((c.tc : Thread nD τ).loc main_arg0)) (m ((c.tc : Thread nD τ).loc main_arg1)) (m ((c.tc : Thread nD τ).loc main_arg2))
      ∧ r.2.mem ((c.tc : Thread nD τ).loc main_v202) = rKI (m ((c.tc : Thread nD τ).loc main_arg0)) (m ((c.tc : Thread nD τ).loc main_arg1)) (m ((c.tc : Thread nD τ).loc main_arg2))
      ∧ r.2.mem ((c.tc : Thread nD τ).loc main_v203) = rWI (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ?_) (run m ρ)
  obtain ⟨k0, k1, k2, k3, k4, k5, k6, k7, k8, rest⟩ := h c
  rw [res_164, res_159] at k0
  rw [res_15] at k1 k2 k6
  rw [res_15, res_154] at k8
  rw [res_154] at k7
  unfold res_main_v46 res_main_v43 res_main_v47 res_main_v45 res_main_v29 at k3
  rw [res_15, res_41] at k3
  unfold res_main_v109 res_main_v106 res_main_v110 res_main_v108 res_main_v92 at k4
  rw [res_15, res_104] at k4
  unfold res_main_v77 res_main_v74 res_main_v78 res_main_v76 res_main_v60 at k5
  rw [res_15, res_72] at k5
  exact ⟨k0, k1, k2, k3, k4, k5, k6, k7, k8, rest⟩

end Cert.Proof.Proj

end
-- ==== Proof.ProjClaim.lean ====
/-
  The projection call and the reference compute the same nine arrays.
-/
module

public import proofs.«01_k».proof.Defs
public import proofs.«01_k».proof.Proof.ProjKernel
public import proofs.«01_k».proof.Proof.ProjRun
public import proofs.«01_k».proof.Proof.Gen.Kernel3Ideal
public import proofs.«01_k».proof.Proof.Gen.Reference3Ideal

@[expose] public section

set_option maxRecDepth 16384

noncomputable section

namespace Cert.Proof.Proj

open Cert.Kernel3Ideal Cert.Kernel3Ideal.Gen
open Idealize.ShloMosaic Idealize.ShloMosaic.TcCoe
open Idealize.SL.Sem

/-- Each array of the kernel's run, of the arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v69_0) = arrQA (aX m c) (aG m c) (aW m c)
      ∧ r.2.mem ((c.tc : Thread nD τ).loc main_v69_1) = arrKA (aX m c) (aG m c) (aW m c)
      ∧ r.2.mem ((c.tc : Thread nD τ).loc main_v69_2) = arrVA (aX m c) (aG m c) (aW m c)
      ∧ r.2.mem ((c.tc : Thread nD τ).loc main_v69_3) = arrQB (aX m c) (aG m c) (aW m c)
      ∧ r.2.mem ((c.tc : Thread nD τ).loc main_v69_4) = arrQI (aX m c) (aG m c) (aW m c)
      ∧ r.2.mem ((c.tc : Thread nD τ).loc main_v69_5) = arrKB (aX m c) (aG m c) (aW m c)
      ∧ r.2.mem ((c.tc : Thread nD τ).loc main_v69_6) = arrVB (aX m c) (aG m c) (aW m c)
      ∧ r.2.mem ((c.tc : Thread nD τ).loc main_v69_7) = arrKI (aX m c) (aG m c) (aW m c)
      ∧ r.2.mem ((c.tc : Thread nD τ).loc main_v69_8) = arrWI (aX m c) (aG m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ?_) (Cert.Kernel3Ideal.Value.run_blocks m ρ)
  obtain ⟨k0, k1, k2, k3, k4, k5, k6, k7, k8, rest⟩ := h c
  exact ⟨k0.trans (final_qa m c), k1.trans (final_ka m c), k2.trans (final_va m c), k3.trans (final_qb m c), k4.trans (final_qi m c), k5.trans (final_kb m c), k6.trans (final_vb m c), k7.trans (final_ki m c), k8.trans (final_wi m c), rest⟩

theorem algebraic : Cert.algebraic_Kernel3Ideal_Reference3Ideal := by
  intro m g m' g' _ hargs
  refine ⟨fun c => arrQA (aX m c) (aG m c) (aW m c),
    fun c => arrKA (aX m c) (aG m c) (aW m c),
    fun c => arrVA (aX m c) (aG m c) (aW m c),
    fun c => arrQB (aX m c) (aG m c) (aW m c),
    fun c => arrQI (aX m c) (aG m c) (aW m c),
    fun c => arrKB (aX m c) (aG m c) (aW m c),
    fun c => arrVB (aX m c) (aG m c) (aW m c),
    fun c => arrKI (aX m c) (aG m c) (aW m c),
    fun c => arrWI (aX m c) (aG m c) (aW m c),
    kernel_run m g, ?_⟩
  refine (θ_run _ _ _).mono (fun r h c => ?_) (ref_run m' g')
  obtain ⟨h0, h1, h2⟩ := hargs c
  obtain ⟨k0, k1, k2, k3, k4, k5, k6, k7, k8, rest⟩ := h c
  rw [h0, h1, h2] at k0 k1 k2 k3 k4 k5 k6 k7 k8
  exact ⟨k0.trans (rQA_eq _ _ _), k1.trans (rKA_eq _ _ _), k2.trans (rVA_eq _ _ _), k3.trans (rQB_eq _ _ _), k4.trans (rQI_eq _ _ _), k5.trans (rKB_eq _ _ _), k6.trans (rVB_eq _ _ _), k7.trans (rKI_eq _ _ _), k8.trans (rWI_eq _ _ _), rest⟩

end Cert.Proof.Proj

end
-- ==== Proof.lean ====
/-
  The certificate: the attention calls' frames, and the frames and values of the output call and of the projection call
  against the layer's last and first stages written plainly.
-/
module

public import proofs.«01_k».proof.Defs
public import proofs.«01_k».proof.Proof.AttnRun
public import proofs.«01_k».proof.Proof.OutClaim
public import proofs.«01_k».proof.Proof.ProjClaim
public import proofs.«01_k».proof.Proof.Gen.Kernel
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel4
public import proofs.«01_k».proof.Proof.Gen.Kernel4.Frame
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import Idealize.ShloMosaic.Adequacy
public import Idealize.ShloMosaic.Init

@[expose] public section

noncomputable section

namespace Cert.Proof

open Idealize.ShloMosaic Idealize.SL.Sem

/-- The reference's frame: its run keeps the arguments, and it has no counters. -/
theorem frame_reference2 : Cert.quiescent_Reference2Ideal := fun m ρ _ =>
  (θ_run _ _ _).mono (fun r h => ⟨fun c => (h c).2, sem_eq_zero_of_no_sems (by decide) r.2⟩)
    (Cert.Reference2Ideal.Value.run (F := Ideal) m ρ)

@[inherit_doc frame_reference2] theorem frame_reference3 : Cert.quiescent_Reference3Ideal := fun m ρ _ =>
  (θ_run _ _ _).mono (fun r h => ⟨fun c => (h c).2.2.2.2.2.2.2.2.2, sem_eq_zero_of_no_sems (by decide) r.2⟩)
    (Proj.ref_run m ρ)

theorem claim : Cert.Claim :=
  ⟨Cert.Kernel.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts,
    AttnB.frame_kernel, fun m ρ _ => Cert.Kernel2.Gen.frame m ρ, fun m ρ _ => Cert.Kernel2Ideal.Gen.frame m ρ,
    frame_reference2, fun m ρ _ => Cert.Kernel3.Gen.frame m ρ, fun m ρ _ => Cert.Kernel3Ideal.Gen.frame m ρ, frame_reference3,
    fun m ρ _ => Cert.Kernel4.Gen.frame m ρ, trivial, Out.algebraic, trivial, Proj.algebraic⟩

end Cert.Proof

end
